-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_name_tokens [hPre_indices_name_tokens : Cert.Pre_indices_name_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_indices_name_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_name_tokens [hPre_indices_name_tokens : Cert.Pre_indices_name_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_name_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Stage3 (m : (ℓ : Loc Cert.Stage3.nD Cert.Stage3.τ Cert.Stage3.sig) → Buf (Elt Bits) ℓ) : Prop :=
  True

def Pre_Stage3Ideal (m : (ℓ : Loc Cert.Stage3Ideal.nD Cert.Stage3Ideal.τ Cert.Stage3Ideal.sig) → Buf (Elt Ideal) ℓ) : Prop :=
  True

def Pre_StageRef3Ideal (m : (ℓ : Loc Cert.StageRef3Ideal.nD Cert.StageRef3Ideal.τ Cert.StageRef3Ideal.sig) → Buf (Elt Ideal) ℓ) : Prop :=
  True

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectRefIdeal (m : (ℓ : Loc Cert.SelectRefIdeal.nD Cert.SelectRefIdeal.τ Cert.SelectRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_indices_name_tokens [hKernelIdeal : Cert.KernelIdeal.Facts] [hPre_indices_name_tokens : Cert.Pre_indices_name_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_name_tokens m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_indices_name_tokens [hReferenceIdeal : Cert.ReferenceIdeal.Facts] [hPre_indices_name_tokens : Cert.Pre_indices_name_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_name_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Stage3 [hStage3 : Cert.Stage3.Facts] : Prop :=
  ∀ (m : (ℓ : Loc Cert.Stage3.nD Cert.Stage3.τ Cert.Stage3.sig) → Buf (Elt Bits) ℓ) (g : Dev Cert.Stage3.nD → PrngReg), Pre_Stage3 m →
    θ_run (Cert.Stage3.defs (F := Bits)) (onTc (τ := Cert.Stage3.τ) (Cert.Stage3.main (F := Bits))) ⟨m, fun _ => 0, g⟩ (fun r => (∀ c : Dev Cert.Stage3.nD,
      r.2.mem ((c.tc : Thread Cert.Stage3.nD Cert.Stage3.τ).loc Cert.Stage3.main_arg0) = m ((c.tc : Thread Cert.Stage3.nD Cert.Stage3.τ).loc Cert.Stage3.main_arg0)
      ∧ r.2.mem ((c.tc : Thread Cert.Stage3.nD Cert.Stage3.τ).loc Cert.Stage3.main_arg1) = m ((c.tc : Thread Cert.Stage3.nD Cert.Stage3.τ).loc Cert.Stage3.main_arg1))
      ∧ r.2.sem = fun _ => 0)

def quiescent_Stage3Ideal [hStage3Ideal : Cert.Stage3Ideal.Facts] : Prop :=
  ∀ (m : (ℓ : Loc Cert.Stage3Ideal.nD Cert.Stage3Ideal.τ Cert.Stage3Ideal.sig) → Buf (Elt Ideal) ℓ) (g : Dev Cert.Stage3Ideal.nD → PrngReg), Pre_Stage3Ideal m →
    θ_run (Cert.Stage3Ideal.defs (F := Ideal)) (onTc (τ := Cert.Stage3Ideal.τ) (Cert.Stage3Ideal.main (F := Ideal))) ⟨m, fun _ => 0, g⟩ (fun r => (∀ c : Dev Cert.Stage3Ideal.nD,
      r.2.mem ((c.tc : Thread Cert.Stage3Ideal.nD Cert.Stage3Ideal.τ).loc Cert.Stage3Ideal.main_arg0) = m ((c.tc : Thread Cert.Stage3Ideal.nD Cert.Stage3Ideal.τ).loc Cert.Stage3Ideal.main_arg0)
      ∧ r.2.mem ((c.tc : Thread Cert.Stage3Ideal.nD Cert.Stage3Ideal.τ).loc Cert.Stage3Ideal.main_arg1) = m ((c.tc : Thread Cert.Stage3Ideal.nD Cert.Stage3Ideal.τ).loc Cert.Stage3Ideal.main_arg1))
      ∧ r.2.sem = fun _ => 0)

def quiescent_StageRef3Ideal [hStageRef3Ideal : Cert.StageRef3Ideal.Facts] : Prop :=
  ∀ (m : (ℓ : Loc Cert.StageRef3Ideal.nD Cert.StageRef3Ideal.τ Cert.StageRef3Ideal.sig) → Buf (Elt Ideal) ℓ) (g : Dev Cert.StageRef3Ideal.nD → PrngReg), Pre_StageRef3Ideal m →
    θ_run (Cert.StageRef3Ideal.defs (F := Ideal)) (onTc (τ := Cert.StageRef3Ideal.τ) (Cert.StageRef3Ideal.main (F := Ideal))) ⟨m, fun _ => 0, g⟩ (fun r => (∀ c : Dev Cert.StageRef3Ideal.nD,
      r.2.mem ((c.tc : Thread Cert.StageRef3Ideal.nD Cert.StageRef3Ideal.τ).loc Cert.StageRef3Ideal.main_arg0) = m ((c.tc : Thread Cert.StageRef3Ideal.nD Cert.StageRef3Ideal.τ).loc Cert.StageRef3Ideal.main_arg0)
      ∧ r.2.mem ((c.tc : Thread Cert.StageRef3Ideal.nD Cert.StageRef3Ideal.τ).loc Cert.StageRef3Ideal.main_arg1) = m ((c.tc : Thread Cert.StageRef3Ideal.nD Cert.StageRef3Ideal.τ).loc Cert.StageRef3Ideal.main_arg1))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectRefIdeal [hSelectRefIdeal : Cert.SelectRefIdeal.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0))
      ∧ r.2.sem = fun _ => 0)

def preserves_Kernel_KernelIdeal : Prop :=
  True

def algebraic_KernelIdeal_ReferenceIdeal_pre_indices_name_tokens [hKernelIdeal : Cert.KernelIdeal.Facts] [hReferenceIdeal : Cert.ReferenceIdeal.Facts] [hPre_indices_name_tokens : Cert.Pre_indices_name_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_name_tokens m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Stage3_Stage3Ideal : Prop :=
  True

def algebraic_Stage3Ideal_StageRef3Ideal [hStage3Ideal : Cert.Stage3Ideal.Facts] [hStageRef3Ideal : Cert.StageRef3Ideal.Facts] : Prop :=
  ∀ (m : (ℓ : Loc Cert.Stage3Ideal.nD Cert.Stage3Ideal.τ Cert.Stage3Ideal.sig) → Buf (Elt Ideal) ℓ) (g : Dev Cert.Stage3Ideal.nD → PrngReg)
    (m' : (ℓ : Loc Cert.StageRef3Ideal.nD Cert.StageRef3Ideal.τ Cert.StageRef3Ideal.sig) → Buf (Elt Ideal) ℓ) (g' : Dev Cert.StageRef3Ideal.nD → PrngReg), Pre_Stage3Ideal m →
    (∀ c : Dev Cert.Stage3Ideal.nD,
      m' ((c.tc : Thread Cert.StageRef3Ideal.nD Cert.StageRef3Ideal.τ).loc Cert.StageRef3Ideal.main_arg0) = m ((c.tc : Thread Cert.Stage3Ideal.nD Cert.Stage3Ideal.τ).loc Cert.Stage3Ideal.main_arg0)
      ∧ m' ((c.tc : Thread Cert.StageRef3Ideal.nD Cert.StageRef3Ideal.τ).loc Cert.StageRef3Ideal.main_arg1) = m ((c.tc : Thread Cert.Stage3Ideal.nD Cert.Stage3Ideal.τ).loc Cert.Stage3Ideal.main_arg1)) →
    ∃ (v0 : (c : Dev Cert.Stage3Ideal.nD) → Buf (Elt Ideal) ((c.tc : Thread Cert.Stage3Ideal.nD Cert.Stage3Ideal.τ).loc Cert.Stage3Ideal.main_v7)),
      θ_run (Cert.Stage3Ideal.defs (F := Ideal)) (onTc (τ := Cert.Stage3Ideal.τ) (Cert.Stage3Ideal.main (F := Ideal))) ⟨m, fun _ => 0, g⟩ (fun r => ∀ c : Dev Cert.Stage3Ideal.nD,
          r.2.mem ((c.tc : Thread Cert.Stage3Ideal.nD Cert.Stage3Ideal.τ).loc Cert.Stage3Ideal.main_v7) = v0 c
          ∧ r.2.mem ((c.tc : Thread Cert.Stage3Ideal.nD Cert.Stage3Ideal.τ).loc Cert.Stage3Ideal.main_arg0) = m ((c.tc : Thread Cert.Stage3Ideal.nD Cert.Stage3Ideal.τ).loc Cert.Stage3Ideal.main_arg0)
          ∧ r.2.mem ((c.tc : Thread Cert.Stage3Ideal.nD Cert.Stage3Ideal.τ).loc Cert.Stage3Ideal.main_arg1) = m ((c.tc : Thread Cert.Stage3Ideal.nD Cert.Stage3Ideal.τ).loc Cert.Stage3Ideal.main_arg1))
      ∧ θ_run (Cert.StageRef3Ideal.defs (F := Ideal)) (onTc (τ := Cert.StageRef3Ideal.τ) (Cert.StageRef3Ideal.main (F := Ideal))) ⟨m', fun _ => 0, g'⟩ (fun r => ∀ c : Dev Cert.StageRef3Ideal.nD,
          r.2.mem ((c.tc : Thread Cert.StageRef3Ideal.nD Cert.StageRef3Ideal.τ).loc Cert.StageRef3Ideal.main_v8) = v0 c
          ∧ r.2.mem ((c.tc : Thread Cert.StageRef3Ideal.nD Cert.StageRef3Ideal.τ).loc Cert.StageRef3Ideal.main_arg0) = m' ((c.tc : Thread Cert.StageRef3Ideal.nD Cert.StageRef3Ideal.τ).loc Cert.StageRef3Ideal.main_arg0)
          ∧ r.2.mem ((c.tc : Thread Cert.StageRef3Ideal.nD Cert.StageRef3Ideal.τ).loc Cert.StageRef3Ideal.main_arg1) = m' ((c.tc : Thread Cert.StageRef3Ideal.nD Cert.StageRef3Ideal.τ).loc Cert.StageRef3Ideal.main_arg1))

def preserves_Select_SelectIdeal : Prop :=
  True

def algebraic_SelectIdeal_SelectRefIdeal [hSelectIdeal : Cert.SelectIdeal.Facts] [hSelectRefIdeal : Cert.SelectRefIdeal.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectRefIdeal.nD Cert.SelectRefIdeal.τ Cert.SelectRefIdeal.sig) → Buf (Elt Ideal) ℓ) (g' : Dev Cert.SelectRefIdeal.nD → PrngReg), Pre_SelectIdeal m →
    (∀ c : Dev Cert.SelectIdeal.nD,
      m' ((c.tc : Thread Cert.SelectRefIdeal.nD Cert.SelectRefIdeal.τ).loc Cert.SelectRefIdeal.main_arg0) = m ((c.tc : Thread Cert.SelectIdeal.nD Cert.SelectIdeal.τ).loc Cert.SelectIdeal.main_arg0)) →
    ∃ (v0 : (c : Dev Cert.SelectIdeal.nD) → Buf (Elt Ideal) ((c.tc : Thread Cert.SelectIdeal.nD Cert.SelectIdeal.τ).loc Cert.SelectIdeal.main_v123)) (v1 : (c : Dev Cert.SelectIdeal.nD) → Buf (Elt Ideal) ((c.tc : Thread Cert.SelectIdeal.nD Cert.SelectIdeal.τ).loc Cert.SelectIdeal.main_v112)) (v2 : (c : Dev Cert.SelectIdeal.nD) → Buf (Elt Ideal) ((c.tc : Thread Cert.SelectIdeal.nD Cert.SelectIdeal.τ).loc Cert.SelectIdeal.main_v114)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v123) = v0 c
          ∧ r.2.mem ((c.tc : Thread Cert.SelectIdeal.nD Cert.SelectIdeal.τ).loc Cert.SelectIdeal.main_v112) = v1 c
          ∧ r.2.mem ((c.tc : Thread Cert.SelectIdeal.nD Cert.SelectIdeal.τ).loc Cert.SelectIdeal.main_v114) = v2 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ θ_run (Cert.SelectRefIdeal.defs (F := Ideal)) (onTc (τ := Cert.SelectRefIdeal.τ) (Cert.SelectRefIdeal.main (F := Ideal))) ⟨m', fun _ => 0, g'⟩ (fun r => ∀ c : Dev Cert.SelectRefIdeal.nD,
          r.2.mem ((c.tc : Thread Cert.SelectRefIdeal.nD Cert.SelectRefIdeal.τ).loc Cert.SelectRefIdeal.main_v129) = v0 c
          ∧ r.2.mem ((c.tc : Thread Cert.SelectRefIdeal.nD Cert.SelectRefIdeal.τ).loc Cert.SelectRefIdeal.main_v118) = v1 c
          ∧ r.2.mem ((c.tc : Thread Cert.SelectRefIdeal.nD Cert.SelectRefIdeal.τ).loc Cert.SelectRefIdeal.main_v120) = v2 c
          ∧ r.2.mem ((c.tc : Thread Cert.SelectRefIdeal.nD Cert.SelectRefIdeal.τ).loc Cert.SelectRefIdeal.main_arg0) = m' ((c.tc : Thread Cert.SelectRefIdeal.nD Cert.SelectRefIdeal.τ).loc Cert.SelectRefIdeal.main_arg0))

def Claim : Prop :=
  ∃ (hKernel : Cert.Kernel.Facts) (hKernelIdeal : Cert.KernelIdeal.Facts) (hReferenceIdeal : Cert.ReferenceIdeal.Facts) (hStage3 : Cert.Stage3.Facts) (hStage3Ideal : Cert.Stage3Ideal.Facts) (hStageRef3Ideal : Cert.StageRef3Ideal.Facts) (hSelect : Cert.Select.Facts) (hSelectIdeal : Cert.SelectIdeal.Facts) (hSelectRefIdeal : Cert.SelectRefIdeal.Facts) (hPre_indices_name_tokens : Cert.Pre_indices_name_tokens.Facts),
    quiescent_Kernel (hKernel := hKernel)
    ∧ quiescent_KernelIdeal (hKernelIdeal := hKernelIdeal)
    ∧ quiescent_KernelIdeal_pre_indices_name_tokens (hKernelIdeal := hKernelIdeal) (hPre_indices_name_tokens := hPre_indices_name_tokens)
    ∧ quiescent_ReferenceIdeal (hReferenceIdeal := hReferenceIdeal)
    ∧ quiescent_ReferenceIdeal_pre_indices_name_tokens (hReferenceIdeal := hReferenceIdeal) (hPre_indices_name_tokens := hPre_indices_name_tokens)
    ∧ quiescent_Stage3 (hStage3 := hStage3)
    ∧ quiescent_Stage3Ideal (hStage3Ideal := hStage3Ideal)
    ∧ quiescent_StageRef3Ideal (hStageRef3Ideal := hStageRef3Ideal)
    ∧ quiescent_Select (hSelect := hSelect)
    ∧ quiescent_SelectIdeal (hSelectIdeal := hSelectIdeal)
    ∧ quiescent_SelectRefIdeal (hSelectRefIdeal := hSelectRefIdeal)
    ∧ preserves_Kernel_KernelIdeal
    ∧ algebraic_KernelIdeal_ReferenceIdeal_pre_indices_name_tokens (hKernelIdeal := hKernelIdeal) (hReferenceIdeal := hReferenceIdeal) (hPre_indices_name_tokens := hPre_indices_name_tokens)
    ∧ preserves_Stage3_Stage3Ideal
    ∧ algebraic_Stage3Ideal_StageRef3Ideal (hStage3Ideal := hStage3Ideal) (hStageRef3Ideal := hStageRef3Ideal)
    ∧ preserves_Select_SelectIdeal
    ∧ algebraic_SelectIdeal_SelectRefIdeal (hSelectIdeal := hSelectIdeal) (hSelectRefIdeal := hSelectRefIdeal)
-- ==== Pre_indices_name_tokens.lean ====
abbrev S64x577x768 : Shape := ⟨3, ![64, 577, 768]⟩
abbrev S64x58x518 : Shape := ⟨3, ![64, 58, 518]⟩
abbrev S64x518 : Shape := ⟨2, ![64, 518]⟩
abbrev S64x58 : Shape := ⟨2, ![64, 58]⟩
abbrev S_ : Shape := ⟨0, ![]⟩
abbrev S64x576 : Shape := ⟨2, ![64, 576]⟩

class Facts : Prop where
  bcast_S_S64x518 : S_.BroadcastsInDim S64x518 (![] : Fin 0 → Fin S64x518.rank)
  bcast_S_S64x58 : S_.BroadcastsInDim S64x58 (![] : Fin 0 → Fin S64x58.rank)
  concatenates_S64x518_S64x58_S64x576_d1 : Shape.Concatenates [S64x518, S64x58] S64x576 1

variable [Facts]

def fn {F : FTy → Type} [FloatOps F] (main_arg0 : FVec F S64x577x768 .f32) (main_arg1 : FVec F S64x58x518 .f32) (main_arg2 : IVec S64x518 32) (main_arg3 : IVec S64x58 32) : IVec S64x576 1 :=
  let main_c : IVec S_ 32 := constantI S_ 32 0#32
  let main_v0 : IVec S64x518 32 := broadcastInDim S64x518 ![] bcast_S_S64x518 main_c
  let main_v1 : IVec S64x518 1 := cmpi .sge main_arg2 main_v0
  let main_c_0 : IVec S_ 32 := constantI S_ 32 576#32
  let main_v2 : IVec S64x518 32 := broadcastInDim S64x518 ![] bcast_S_S64x518 main_c_0
  let main_v3 : IVec S64x518 1 := cmpi .slt main_arg2 main_v2
  let main_v4 : IVec S64x518 1 := andi main_v1 main_v3
  let main_c_1 : IVec S_ 32 := constantI S_ 32 0#32
  let main_v5 : IVec S64x58 32 := broadcastInDim S64x58 ![] bcast_S_S64x58 main_c_1
  let main_v6 : IVec S64x58 1 := cmpi .sge main_arg3 main_v5
  let main_c_2 : IVec S_ 32 := constantI S_ 32 576#32
  let main_v7 : IVec S64x58 32 := broadcastInDim S64x58 ![] bcast_S_S64x58 main_c_2
  let main_v8 : IVec S64x58 1 := cmpi .slt main_arg3 main_v7
  let main_v9 : IVec S64x58 1 := andi main_v6 main_v8
  let main_v10 : IVec S64x576 1 := (fun a b => concatenate S64x576 1 [⟨S64x518, a⟩, ⟨S64x58, b⟩] concatenates_S64x518_S64x58_S64x576_d1) main_v4 main_v9
  main_v10
-- ==== Kernel.lean ====
abbrev S64x577x768 : Shape := ⟨3, ![64, 577, 768]⟩
abbrev S64x58x518 : Shape := ⟨3, ![64, 58, 518]⟩
abbrev S64x518 : Shape := ⟨2, ![64, 518]⟩
abbrev S64x58 : Shape := ⟨2, ![64, 58]⟩
abbrev S64x1x518 : Shape := ⟨3, ![64, 1, 518]⟩
abbrev S64x1x58 : Shape := ⟨3, ![64, 1, 58]⟩
abbrev S64x519x768 : Shape := ⟨3, ![64, 519, 768]⟩
abbrev S1x577x768 : Shape := ⟨3, ![1, 577, 768]⟩
abbrev S1x58x518 : Shape := ⟨3, ![1, 58, 518]⟩
abbrev S1x1x518 : Shape := ⟨3, ![1, 1, 518]⟩
abbrev S1x1x58 : Shape := ⟨3, ![1, 1, 58]⟩
abbrev S1x519x768 : Shape := ⟨3, ![1, 519, 768]⟩
abbrev S577x768 : Shape := ⟨2, ![577, 768]⟩
abbrev S58x518 : Shape := ⟨2, ![58, 518]⟩
abbrev S1x518 : Shape := ⟨2, ![1, 518]⟩
abbrev S58 : Shape := ⟨1, ![58]⟩
abbrev S58x1 : Shape := ⟨2, ![58, 1]⟩
abbrev S1x58 : Shape := ⟨2, ![1, 58]⟩
abbrev S58x58 : Shape := ⟨2, ![58, 58]⟩
abbrev S519x1 : Shape := ⟨2, ![519, 1]⟩
abbrev S1x577 : Shape := ⟨2, ![1, 577]⟩
abbrev S519x518 : Shape := ⟨2, ![519, 518]⟩
abbrev S519 : Shape := ⟨1, ![519]⟩
abbrev S519x577 : Shape := ⟨2, ![519, 577]⟩
abbrev S519x58 : Shape := ⟨2, ![519, 58]⟩
abbrev S58x577 : Shape := ⟨2, ![58, 577]⟩
abbrev S519x768 : Shape := ⟨2, ![519, 768]⟩

abbrev nBuf : Space → Nat
  | .hbm => 8
  | .vmem => 12
  | .smem => 0
  | _ => 0

abbrev bufTy : (tb : Table) → Fin (tcTables nBuf tb) → BufTy
  | .hbm, ⟨0, _⟩ => ⟨S64x577x768, .f32⟩
  | .hbm, ⟨1, _⟩ => ⟨S64x58x518, .f32⟩
  | .hbm, ⟨2, _⟩ => ⟨S64x518, .i32⟩
  | .hbm, ⟨3, _⟩ => ⟨S64x58, .i32⟩
  | .hbm, ⟨4, _⟩ => ⟨S64x1x518, .i32⟩
  | .hbm, ⟨5, _⟩ => ⟨S64x1x58, .i32⟩
  | .hbm, ⟨6, _⟩ => ⟨S64x519x768, .f32⟩
  | .hbm, ⟨7, _⟩ => ⟨S64x519x768, .i32⟩
  | .local _ .vmem, ⟨0, _⟩ => ⟨S1x577x768, .f32⟩
  | .local _ .vmem, ⟨1, _⟩ => ⟨S1x577x768, .f32⟩
  | .local _ .vmem, ⟨2, _⟩ => ⟨S1x58x518, .f32⟩
  | .local _ .vmem, ⟨3, _⟩ => ⟨S1x58x518, .f32⟩
  | .local _ .vmem, ⟨4, _⟩ => ⟨S1x1x518, .i32⟩
  | .local _ .vmem, ⟨5, _⟩ => ⟨S1x1x518, .i32⟩
  | .local _ .vmem, ⟨6, _⟩ => ⟨S1x1x58, .i32⟩
  | .local _ .vmem, ⟨7, _⟩ => ⟨S1x1x58, .i32⟩
  | .local _ .vmem, ⟨8, _⟩ => ⟨S1x519x768, .f32⟩
  | .local _ .vmem, ⟨9, _⟩ => ⟨S1x519x768, .f32⟩
  | .local _ .vmem, ⟨10, _⟩ => ⟨S1x519x768, .i32⟩
  | .local _ .vmem, ⟨11, _⟩ => ⟨S1x519x768, .i32⟩
  | _, _ => ⟨S64x577x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x577x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x58x518 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x518 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x58 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x519x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x519x768 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S64x577x768 : Shape := ⟨3, ![64, 577, 768]⟩
abbrev S64x58x518 : Shape := ⟨3, ![64, 58, 518]⟩
abbrev S64x518 : Shape := ⟨2, ![64, 518]⟩
abbrev S64x58 : Shape := ⟨2, ![64, 58]⟩
abbrev S64x1x768 : Shape := ⟨3, ![64, 1, 768]⟩
abbrev S64x576x768 : Shape := ⟨3, ![64, 576, 768]⟩
abbrev S64x518x1 : Shape := ⟨3, ![64, 518, 1]⟩
abbrev S_ : Shape := ⟨0, ![]⟩
abbrev S1 : Shape := ⟨1, ![1]⟩
abbrev S1x1x1 : Shape := ⟨3, ![1, 1, 1]⟩
abbrev S64x518x768 : Shape := ⟨3, ![64, 518, 768]⟩
abbrev S64x58x1 : Shape := ⟨3, ![64, 58, 1]⟩
abbrev S64x58x768 : Shape := ⟨3, ![64, 58, 768]⟩
abbrev S64 : Shape := ⟨1, ![64]⟩
abbrev S64x1 : Shape := ⟨2, ![64, 1]⟩
abbrev S64x58x2 : Shape := ⟨3, ![64, 58, 2]⟩
abbrev S64x519x768 : Shape := ⟨3, ![64, 519, 768]⟩
abbrev S64x519 : Shape := ⟨2, ![64, 519]⟩
abbrev S64x519x1 : Shape := ⟨3, ![64, 519, 1]⟩

abbrev nBuf : Space → Nat
  | .hbm => 112
  | .vmem => 0
  | .smem => 0
  | _ => 0

abbrev bufTy : (tb : Table) → Fin (tcTables nBuf tb) → BufTy
  | .hbm, ⟨0, _⟩ => ⟨S64x577x768, .f32⟩
  | .hbm, ⟨1, _⟩ => ⟨S64x58x518, .f32⟩
  | .hbm, ⟨2, _⟩ => ⟨S64x518, .i32⟩
  | .hbm, ⟨3, _⟩ => ⟨S64x58, .i32⟩
  | .hbm, ⟨4, _⟩ => ⟨S64x1x768, .f32⟩
  | .hbm, ⟨5, _⟩ => ⟨S64x576x768, .f32⟩
  | .hbm, ⟨6, _⟩ => ⟨S64x518x1, .i32⟩
  | .hbm, ⟨7, _⟩ => ⟨S_, .i32⟩
  | .hbm, ⟨8, _⟩ => ⟨S64x518x1, .i32⟩
  | .hbm, ⟨9, _⟩ => ⟨S64x518x1, .i1⟩
  | .hbm, ⟨10, _⟩ => ⟨S_, .i32⟩
  | .hbm, ⟨11, _⟩ => ⟨S64x518x1, .i32⟩
  | .hbm, ⟨12, _⟩ => ⟨S64x518x1, .i32⟩
  | .hbm, ⟨13, _⟩ => ⟨S64x518x1, .i32⟩
  | .hbm, ⟨14, _⟩ => ⟨S1, .i32⟩
  | .hbm, ⟨15, _⟩ => ⟨S_, .i32⟩
  | .hbm, ⟨16, _⟩ => ⟨S64x518x1, .i32⟩
  | .hbm, ⟨17, _⟩ => ⟨S64x518x1, .i1⟩
  | .hbm, ⟨18, _⟩ => ⟨S1x1x1, .i32⟩
  | .hbm, ⟨19, _⟩ => ⟨S64x518x1, .i32⟩
  | .hbm, ⟨20, _⟩ => ⟨S64x518x1, .i1⟩
  | .hbm, ⟨21, _⟩ => ⟨S64x518x1, .i1⟩
  | .hbm, ⟨22, _⟩ => ⟨S_, .i1⟩
  | .hbm, ⟨23, _⟩ => ⟨S64x518, .i1⟩
  | .hbm, ⟨24, _⟩ => ⟨S64x518x768, .f32⟩
  | .hbm, ⟨25, _⟩ => ⟨S64x518x768, .i1⟩
  | .hbm, ⟨26, _⟩ => ⟨S_, .f32⟩
  | .hbm, ⟨27, _⟩ => ⟨S64x518x768, .f32⟩
  | .hbm, ⟨28, _⟩ => ⟨S64x518x768, .f32⟩
  | .hbm, ⟨29, _⟩ => ⟨S64x58x1, .i32⟩
  | .hbm, ⟨30, _⟩ => ⟨S_, .i32⟩
  | .hbm, ⟨31, _⟩ => ⟨S64x58x1, .i32⟩
  | .hbm, ⟨32, _⟩ => ⟨S64x58x1, .i1⟩
  | .hbm, ⟨33, _⟩ => ⟨S_, .i32⟩
  | .hbm, ⟨34, _⟩ => ⟨S64x58x1, .i32⟩
  | .hbm, ⟨35, _⟩ => ⟨S64x58x1, .i32⟩
  | .hbm, ⟨36, _⟩ => ⟨S64x58x1, .i32⟩
  | .hbm, ⟨37, _⟩ => ⟨S1, .i32⟩
  | .hbm, ⟨38, _⟩ => ⟨S_, .i32⟩
  | .hbm, ⟨39, _⟩ => ⟨S64x58x1, .i32⟩
  | .hbm, ⟨40, _⟩ => ⟨S64x58x1, .i1⟩
  | .hbm, ⟨41, _⟩ => ⟨S1x1x1, .i32⟩
  | .hbm, ⟨42, _⟩ => ⟨S64x58x1, .i32⟩
  | .hbm, ⟨43, _⟩ => ⟨S64x58x1, .i1⟩
  | .hbm, ⟨44, _⟩ => ⟨S64x58x1, .i1⟩
  | .hbm, ⟨45, _⟩ => ⟨S_, .i1⟩
  | .hbm, ⟨46, _⟩ => ⟨S64x58, .i1⟩
  | .hbm, ⟨47, _⟩ => ⟨S64x58x768, .f32⟩
  | .hbm, ⟨48, _⟩ => ⟨S64x58x768, .i1⟩
  | .hbm, ⟨49, _⟩ => ⟨S_, .f32⟩
  | .hbm, ⟨50, _⟩ => ⟨S64x58x768, .f32⟩
  | .hbm, ⟨51, _⟩ => ⟨S64x58x768, .f32⟩
  | .hbm, ⟨52, _⟩ => ⟨S64x58x518, .i32⟩
  | .hbm, ⟨53, _⟩ => ⟨S_, .f32⟩
  | .hbm, ⟨54, _⟩ => ⟨S_, .i32⟩
  | .hbm, ⟨55, _⟩ => ⟨S64x58, .f32⟩
  | .hbm, ⟨56, _⟩ => ⟨S64x58, .i32⟩
  | .hbm, ⟨57, _⟩ => ⟨S64, .i32⟩
  | .hbm, ⟨58, _⟩ => ⟨S64x1, .i32⟩
  | .hbm, ⟨59, _⟩ => ⟨S64x58, .i32⟩
  | .hbm, ⟨60, _⟩ => ⟨S_, .i32⟩
  | .hbm, ⟨61, _⟩ => ⟨S64x58, .i32⟩
  | .hbm, ⟨62, _⟩ => ⟨S64x58, .i1⟩
  | .hbm, ⟨63, _⟩ => ⟨S_, .i32⟩
  | .hbm, ⟨64, _⟩ => ⟨S64x58, .i32⟩
  | .hbm, ⟨65, _⟩ => ⟨S64x58, .i32⟩
  | .hbm, ⟨66, _⟩ => ⟨S64x58, .i32⟩
  | .hbm, ⟨67, _⟩ => ⟨S_, .i32⟩
  | .hbm, ⟨68, _⟩ => ⟨S64x58, .i32⟩
  | .hbm, ⟨69, _⟩ => ⟨S64x58, .i1⟩
  | .hbm, ⟨70, _⟩ => ⟨S_, .i32⟩
  | .hbm, ⟨71, _⟩ => ⟨S64x58, .i32⟩
  | .hbm, ⟨72, _⟩ => ⟨S64x58, .i32⟩
  | .hbm, ⟨73, _⟩ => ⟨S64x58, .i32⟩
  | .hbm, ⟨74, _⟩ => ⟨S64x58x1, .i32⟩
  | .hbm, ⟨75, _⟩ => ⟨S64x58x1, .i32⟩
  | .hbm, ⟨76, _⟩ => ⟨S64x58x2, .i32⟩
  | .hbm, ⟨77, _⟩ => ⟨S64x518x768, .f32⟩
  | .hbm, ⟨78, _⟩ => ⟨S_, .f32⟩
  | .hbm, ⟨79, _⟩ => ⟨S64x518, .f32⟩
  | .hbm, ⟨80, _⟩ => ⟨S_, .f32⟩
  | .hbm, ⟨81, _⟩ => ⟨S64x58, .f32⟩
  | .hbm, ⟨82, _⟩ => ⟨S_, .i32⟩
  | .hbm, ⟨83, _⟩ => ⟨S64x58, .i32⟩
  | .hbm, ⟨84, _⟩ => ⟨S64x58, .i1⟩
  | .hbm, ⟨85, _⟩ => ⟨S_, .i32⟩
  | .hbm, ⟨86, _⟩ => ⟨S64x58, .i32⟩
  | .hbm, ⟨87, _⟩ => ⟨S64x58, .i32⟩
  | .hbm, ⟨88, _⟩ => ⟨S64x58, .i32⟩
  | .hbm, ⟨89, _⟩ => ⟨S_, .i32⟩
  | .hbm, ⟨90, _⟩ => ⟨S64x58, .i32⟩
  | .hbm, ⟨91, _⟩ => ⟨S64x58, .i1⟩
  | .hbm, ⟨92, _⟩ => ⟨S_, .i32⟩
  | .hbm, ⟨93, _⟩ => ⟨S64x58, .i32⟩
  | .hbm, ⟨94, _⟩ => ⟨S64x58, .i32⟩
  | .hbm, ⟨95, _⟩ => ⟨S64x58, .i32⟩
  | .hbm, ⟨96, _⟩ => ⟨S64x58x1, .i32⟩
  | .hbm, ⟨97, _⟩ => ⟨S64x58x1, .i32⟩
  | .hbm, ⟨98, _⟩ => ⟨S64x58x2, .i32⟩
  | .hbm, ⟨99, _⟩ => ⟨S64x518, .f32⟩
  | .hbm, ⟨100, _⟩ => ⟨S64x518x1, .f32⟩
  | .hbm, ⟨101, _⟩ => ⟨S64x518x768, .f32⟩
  | .hbm, ⟨102, _⟩ => ⟨S64x518x768, .f32⟩
  | .hbm, ⟨103, _⟩ => ⟨S64x519x768, .f32⟩
  | .hbm, ⟨104, _⟩ => ⟨S_, .i32⟩
  | .hbm, ⟨105, _⟩ => ⟨S64x1, .i32⟩
  | .hbm, ⟨106, _⟩ => ⟨S_, .i32⟩
  | .hbm, ⟨107, _⟩ => ⟨S64x518, .i32⟩
  | .hbm, ⟨108, _⟩ => ⟨S64x518, .i32⟩
  | .hbm, ⟨109, _⟩ => ⟨S64x519, .i32⟩
  | .hbm, ⟨110, _⟩ => ⟨S64x519x1, .i32⟩
  | .hbm, ⟨111, _⟩ => ⟨S64x519x768, .i32⟩
  | _, _ => ⟨S64x577x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_c_2 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_c_3 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v5 : Ref sig .tc := ⟨.hbm, 51, rfl⟩
abbrev main_call2_v0 : Ref sig .tc := ⟨.hbm, 52, rfl⟩
abbrev main_call2_cst : Ref sig .tc := ⟨.hbm, 53, rfl⟩
abbrev main_call2_c : Ref sig .tc := ⟨.hbm, 54, rfl⟩
abbrev main_call2_v1_0 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_c : Ref sig .tc := ⟨.hbm, 60, rfl⟩
abbrev main_v10 : Ref sig .tc := ⟨.hbm, 61, rfl⟩
abbrev main_v11 : Ref sig .tc := ⟨.hbm, 62, rfl⟩
abbrev main_c_0 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_c_1 : Ref sig .tc := ⟨.hbm, 67, rfl⟩
abbrev main_v15 : Ref sig .tc := ⟨.hbm, 68, rfl⟩
abbrev main_v16 : Ref sig .tc := ⟨.hbm, 69, rfl⟩
abbrev main_c_2 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_cst : Ref sig .tc := ⟨.hbm, 78, rfl⟩
abbrev main_v24 : Ref sig .tc := ⟨.hbm, 79, rfl⟩
abbrev main_cst_3 : Ref sig .tc := ⟨.hbm, 80, rfl⟩
abbrev main_v25 : Ref sig .tc := ⟨.hbm, 81, rfl⟩
abbrev main_c_4 : Ref sig .tc := ⟨.hbm, 82, rfl⟩
abbrev main_v26 : Ref sig .tc := ⟨.hbm, 83, rfl⟩
abbrev main_v27 : Ref sig .tc := ⟨.hbm, 84, rfl⟩
abbrev main_c_5 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_c_6 : Ref sig .tc := ⟨.hbm, 89, rfl⟩
abbrev main_v31 : Ref sig .tc := ⟨.hbm, 90, rfl⟩
abbrev main_v32 : Ref sig .tc := ⟨.hbm, 91, rfl⟩
abbrev main_c_7 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_c_8 : Ref sig .tc := ⟨.hbm, 104, rfl⟩
abbrev main_v44 : Ref sig .tc := ⟨.hbm, 105, rfl⟩
abbrev main_c_9 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩

abbrev nD : Nat := 1
abbrev τ : Topo := Topo.v7x

variable {F : FTy → Type} [FloatOps F]
-- ==== Stage3.lean ====
abbrev S64x288x768 : Shape := ⟨3, ![64, 288, 768]⟩
abbrev S_ : Shape := ⟨0, ![]⟩
abbrev S64x288 : Shape := ⟨2, ![64, 288]⟩
abbrev S64x288x1 : Shape := ⟨3, ![64, 288, 1]⟩
abbrev S64x288x288 : Shape := ⟨3, ![64, 288, 288]⟩
abbrev S1x512 : Shape := ⟨2, ![1, 512]⟩
abbrev S64x224 : Shape := ⟨2, ![64, 224]⟩
abbrev S64x512 : Shape := ⟨2, ![64, 512]⟩

abbrev nBuf : Space → Nat
  | .hbm => 18
  | .vmem => 2
  | .smem => 0
  | _ => 0

abbrev bufTy : (tb : Table) → Fin (tcTables nBuf tb) → BufTy
  | .hbm, ⟨0, _⟩ => ⟨S64x288x768, .f32⟩
  | .hbm, ⟨1, _⟩ => ⟨S64x288x768, .f32⟩
  | .hbm, ⟨2, _⟩ => ⟨S64x288x768, .f32⟩
  | .hbm, ⟨3, _⟩ => ⟨S_, .f32⟩
  | .hbm, ⟨4, _⟩ => ⟨S64x288, .f32⟩
  | .hbm, ⟨5, _⟩ => ⟨S64x288x1, .f32⟩
  | .hbm, ⟨6, _⟩ => ⟨S64x288x1, .f32⟩
  | .hbm, ⟨7, _⟩ => ⟨S64x288x768, .f32⟩
  | .hbm, ⟨8, _⟩ => ⟨S64x288x768, .f32⟩
  | .hbm, ⟨9, _⟩ => ⟨S64x288x768, .f32⟩
  | .hbm, ⟨10, _⟩ => ⟨S_, .f32⟩
  | .hbm, ⟨11, _⟩ => ⟨S64x288, .f32⟩
  | .hbm, ⟨12, _⟩ => ⟨S64x288x1, .f32⟩
  | .hbm, ⟨13, _⟩ => ⟨S64x288x1, .f32⟩
  | .hbm, ⟨14, _⟩ => ⟨S64x288x768, .f32⟩
  | .hbm, ⟨15, _⟩ => ⟨S64x288x768, .f32⟩
  | .hbm, ⟨16, _⟩ => ⟨S64x288x288, .f32⟩
  | .hbm, ⟨17, _⟩ => ⟨S64x288, .i32⟩
  | .local _ .vmem, ⟨0, _⟩ => ⟨S64x288x288, .f32⟩
  | .local _ .vmem, ⟨1, _⟩ => ⟨S64x288, .i32⟩
  | _, _ => ⟨S64x288x768, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c45_i32 : BitVec 32 := 45#32
  let v9 : BitVec 32 := Scalar.addi c0_i32 c45_i32
  let c1_i32_3 : BitVec 32 := 1#32
  ⟨c0_i32, v9, c1_i32_3⟩
abbrev stage0_0 : Fin 1 → Memref sig .tc .vmem S64x288x288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x288 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== StageRef3Ideal.lean ====
abbrev S64x288x768 : Shape := ⟨3, ![64, 288, 768]⟩
abbrev S_ : Shape := ⟨0, ![]⟩
abbrev S64x288 : Shape := ⟨2, ![64, 288]⟩
abbrev S64x288x1 : Shape := ⟨3, ![64, 288, 1]⟩
abbrev S64x288x288 : Shape := ⟨3, ![64, 288, 288]⟩

abbrev nBuf : Space → Nat
  | .hbm => 22
  | .vmem => 0
  | .smem => 0
  | _ => 0

abbrev bufTy : (tb : Table) → Fin (tcTables nBuf tb) → BufTy
  | .hbm, ⟨0, _⟩ => ⟨S64x288x768, .f32⟩
  | .hbm, ⟨1, _⟩ => ⟨S64x288x768, .f32⟩
  | .hbm, ⟨2, _⟩ => ⟨S64x288x768, .f32⟩
  | .hbm, ⟨3, _⟩ => ⟨S_, .f32⟩
  | .hbm, ⟨4, _⟩ => ⟨S64x288, .f32⟩
  | .hbm, ⟨5, _⟩ => ⟨S64x288x1, .f32⟩
  | .hbm, ⟨6, _⟩ => ⟨S64x288x1, .f32⟩
  | .hbm, ⟨7, _⟩ => ⟨S64x288x768, .f32⟩
  | .hbm, ⟨8, _⟩ => ⟨S64x288x768, .f32⟩
  | .hbm, ⟨9, _⟩ => ⟨S64x288x768, .f32⟩
  | .hbm, ⟨10, _⟩ => ⟨S_, .f32⟩
  | .hbm, ⟨11, _⟩ => ⟨S64x288, .f32⟩
  | .hbm, ⟨12, _⟩ => ⟨S64x288x1, .f32⟩
  | .hbm, ⟨13, _⟩ => ⟨S64x288x1, .f32⟩
  | .hbm, ⟨14, _⟩ => ⟨S64x288x768, .f32⟩
  | .hbm, ⟨15, _⟩ => ⟨S64x288x768, .f32⟩
  | .hbm, ⟨16, _⟩ => ⟨S64x288x288, .f32⟩
  | .hbm, ⟨17, _⟩ => ⟨S_, .f32⟩
  | .hbm, ⟨18, _⟩ => ⟨S64x288, .f32⟩
  | .hbm, ⟨19, _⟩ => ⟨S64x288, .i32⟩
  | .hbm, ⟨20, _⟩ => ⟨S64x288, .f32⟩
  | .hbm, ⟨21, _⟩ => ⟨S64x288, .i32⟩
  | _, _ => ⟨S64x288x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_call2_v0 : Ref sig .tc := ⟨.hbm, 19, rfl⟩
abbrev main_call2_v1_0 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Select.lean ====
abbrev S64x577x768 : Shape := ⟨3, ![64, 577, 768]⟩
abbrev S144 : Shape := ⟨1, ![144]⟩
abbrev S432 : Shape := ⟨1, ![432]⟩
abbrev S64x576x768 : Shape := ⟨3, ![64, 576, 768]⟩
abbrev S1x144 : Shape := ⟨2, ![1, 144]⟩
abbrev S64x144 : Shape := ⟨2, ![64, 144]⟩
abbrev S1x432 : Shape := ⟨2, ![1, 432]⟩
abbrev S64x432 : Shape := ⟨2, ![64, 432]⟩
abbrev S64x144x1 : Shape := ⟨3, ![64, 144, 1]⟩
abbrev S_ : Shape := ⟨0, ![]⟩
abbrev S1 : Shape := ⟨1, ![1]⟩
abbrev S1x1x1 : Shape := ⟨3, ![1, 1, 1]⟩
abbrev S64x144x768 : Shape := ⟨3, ![64, 144, 768]⟩
abbrev S64x432x1 : Shape := ⟨3, ![64, 432, 1]⟩
abbrev S64x432x768 : Shape := ⟨3, ![64, 432, 768]⟩
abbrev S64x432x144 : Shape := ⟨3, ![64, 432, 144]⟩
abbrev S1x512 : Shape := ⟨2, ![1, 512]⟩
abbrev S64x80 : Shape := ⟨2, ![64, 80]⟩
abbrev S64x512 : Shape := ⟨2, ![64, 512]⟩
abbrev S64x72 : Shape := ⟨2, ![64, 72]⟩
abbrev S64x360 : Shape := ⟨2, ![64, 360]⟩
abbrev S64x72x1 : Shape := ⟨3, ![64, 72, 1]⟩
abbrev S64x72x768 : Shape := ⟨3, ![64, 72, 768]⟩
abbrev S64x216 : Shape := ⟨2, ![64, 216]⟩
abbrev S64x216x768 : Shape := ⟨3, ![64, 216, 768]⟩
abbrev S64x360x1 : Shape := ⟨3, ![64, 360, 1]⟩
abbrev S64x360x768 : Shape := ⟨3, ![64, 360, 768]⟩
abbrev S64x216x1 : Shape := ⟨3, ![64, 216, 1]⟩
abbrev S64x360x216 : Shape := ⟨3, ![64, 360, 216]⟩
abbrev S64x152 : Shape := ⟨2, ![64, 152]⟩
abbrev S64x288 : Shape := ⟨2, ![64, 288]⟩
abbrev S64x288x768 : Shape := ⟨3, ![64, 288, 768]⟩
abbrev S64x288x1 : Shape := ⟨3, ![64, 288, 1]⟩
abbrev S64x288x288 : Shape := ⟨3, ![64, 288, 288]⟩
abbrev S64x224 : Shape := ⟨2, ![64, 224]⟩
abbrev S64x216x360 : Shape := ⟨3, ![64, 216, 360]⟩
abbrev S64x296 : Shape := ⟨2, ![64, 296]⟩
abbrev S64x144x432 : Shape := ⟨3, ![64, 144, 432]⟩
abbrev S64x368 : Shape := ⟨2, ![64, 368]⟩
abbrev S64x43 : Shape := ⟨2, ![64, 43]⟩
abbrev S64x101 : Shape := ⟨2, ![64, 101]⟩
abbrev S64x43x1 : Shape := ⟨3, ![64, 43, 1]⟩
abbrev S64x43x768 : Shape := ⟨3, ![64, 43, 768]⟩
abbrev S64x475 : Shape := ⟨2, ![64, 475]⟩
abbrev S64x475x768 : Shape := ⟨3, ![64, 475, 768]⟩
abbrev S64x101x1 : Shape := ⟨3, ![64, 101, 1]⟩
abbrev S64x101x768 : Shape := ⟨3, ![64, 101, 768]⟩
abbrev S64x475x1 : Shape := ⟨3, ![64, 475, 1]⟩
abbrev S64x101x475 : Shape := ⟨3, ![64, 101, 475]⟩
abbrev S64x411 : Shape := ⟨2, ![64, 411]⟩
abbrev S64x58 : Shape := ⟨2, ![64, 58]⟩
abbrev S64x518 : Shape := ⟨2, ![64, 518]⟩
abbrev S64x518x768 : Shape := ⟨3, ![64, 518, 768]⟩
abbrev S64x58x1 : Shape := ⟨3, ![64, 58, 1]⟩
abbrev S64x58x768 : Shape := ⟨3, ![64, 58, 768]⟩
abbrev S64x518x1 : Shape := ⟨3, ![64, 518, 1]⟩
abbrev S64x58x518 : Shape := ⟨3, ![64, 58, 518]⟩

abbrev nBuf : Space → Nat
  | .hbm => 729
  | .vmem => 12
  | .smem => 0
  | _ => 0

abbrev hbmTy0_0 (i : Nat) : BufTy := match i % 128 with
  | 0 => ⟨S64x577x768, .f32⟩
  | 1 => ⟨S144, .i32⟩
  | 2 => ⟨S432, .i32⟩
  | 3 => ⟨S64x576x768, .f32⟩
  | 4 => ⟨S1x144, .i32⟩
  | 5 => ⟨S64x144, .i32⟩
  | 6 => ⟨S1x432, .i32⟩
  | 7 => ⟨S64x432, .i32⟩
  | 8 => ⟨S64x144x1, .i32⟩
  | 9 => ⟨S_, .i32⟩
  | 10 => ⟨S64x144x1, .i32⟩
  | 11 => ⟨S64x144x1, .i1⟩
  | 12 => ⟨S_, .i32⟩
  | 13 => ⟨S64x144x1, .i32⟩
  | 14 => ⟨S64x144x1, .i32⟩
  | 15 => ⟨S64x144x1, .i32⟩
  | 16 => ⟨S1, .i32⟩
  | 17 => ⟨S_, .i32⟩
  | 18 => ⟨S64x144x1, .i32⟩
  | 19 => ⟨S64x144x1, .i1⟩
  | 20 => ⟨S1x1x1, .i32⟩
  | 21 => ⟨S64x144x1, .i32⟩
  | 22 => ⟨S64x144x1, .i1⟩
  | 23 => ⟨S64x144x1, .i1⟩
  | 24 => ⟨S_, .i1⟩
  | 25 => ⟨S64x144, .i1⟩
  | 26 => ⟨S64x144x768, .f32⟩
  | 27 => ⟨S64x144x768, .i1⟩
  | 28 => ⟨S_, .f32⟩
  | 29 => ⟨S64x144x768, .f32⟩
  | 30 => ⟨S64x144x768, .f32⟩
  | 31 => ⟨S64x432x1, .i32⟩
  | 32 => ⟨S_, .i32⟩
  | 33 => ⟨S64x432x1, .i32⟩
  | 34 => ⟨S64x432x1, .i1⟩
  | 35 => ⟨S_, .i32⟩
  | 36 => ⟨S64x432x1, .i32⟩
  | 37 => ⟨S64x432x1, .i32⟩
  | 38 => ⟨S64x432x1, .i32⟩
  | 39 => ⟨S1, .i32⟩
  | 40 => ⟨S_, .i32⟩
  | 41 => ⟨S64x432x1, .i32⟩
  | 42 => ⟨S64x432x1, .i1⟩
  | 43 => ⟨S1x1x1, .i32⟩
  | 44 => ⟨S64x432x1, .i32⟩
  | 45 => ⟨S64x432x1, .i1⟩
  | 46 => ⟨S64x432x1, .i1⟩
  | 47 => ⟨S_, .i1⟩
  | 48 => ⟨S64x432, .i1⟩
  | 49 => ⟨S64x432x768, .f32⟩
  | 50 => ⟨S64x432x768, .i1⟩
  | 51 => ⟨S_, .f32⟩
  | 52 => ⟨S64x432x768, .f32⟩
  | 53 => ⟨S64x432x768, .f32⟩
  | 54 => ⟨S64x144x768, .f32⟩
  | 55 => ⟨S_, .f32⟩
  | 56 => ⟨S64x144, .f32⟩
  | 57 => ⟨S64x144x1, .f32⟩
  | 58 => ⟨S64x144x1, .f32⟩
  | 59 => ⟨S64x144x768, .f32⟩
  | 60 => ⟨S64x144x768, .f32⟩
  | 61 => ⟨S64x432x768, .f32⟩
  | 62 => ⟨S_, .f32⟩
  | 63 => ⟨S64x432, .f32⟩
  | 64 => ⟨S64x432x1, .f32⟩
  | 65 => ⟨S64x432x1, .f32⟩
  | 66 => ⟨S64x432x768, .f32⟩
  | 67 => ⟨S64x432x768, .f32⟩
  | 68 => ⟨S64x432x144, .f32⟩
  | 69 => ⟨S64x432, .i32⟩
  | 70 => ⟨S64x72, .i32⟩
  | 71 => ⟨S64x360, .i32⟩
  | 72 => ⟨S_, .i32⟩
  | 73 => ⟨S64x72, .i32⟩
  | 74 => ⟨S64x72, .i1⟩
  | 75 => ⟨S_, .i32⟩
  | 76 => ⟨S64x72, .i32⟩
  | 77 => ⟨S64x72, .i32⟩
  | 78 => ⟨S64x72, .i32⟩
  | 79 => ⟨S64x72x1, .i32⟩
  | 80 => ⟨S1, .i32⟩
  | 81 => ⟨S_, .i32⟩
  | 82 => ⟨S64x72x1, .i32⟩
  | 83 => ⟨S64x72x1, .i1⟩
  | 84 => ⟨S1x1x1, .i32⟩
  | 85 => ⟨S64x72x1, .i32⟩
  | 86 => ⟨S64x72x1, .i1⟩
  | 87 => ⟨S64x72x1, .i1⟩
  | 88 => ⟨S_, .i1⟩
  | 89 => ⟨S64x72, .i1⟩
  | 90 => ⟨S64x72, .i32⟩
  | 91 => ⟨S_, .i32⟩
  | 92 => ⟨S64x72, .i32⟩
  | 93 => ⟨S64x72, .i32⟩
  | 94 => ⟨S64x72x1, .i32⟩
  | 95 => ⟨S_, .i32⟩
  | 96 => ⟨S64x72x1, .i32⟩
  | 97 => ⟨S64x72x1, .i1⟩
  | 98 => ⟨S_, .i32⟩
  | 99 => ⟨S64x72x1, .i32⟩
  | 100 => ⟨S64x72x1, .i32⟩
  | 101 => ⟨S64x72x1, .i32⟩
  | 102 => ⟨S1, .i32⟩
  | 103 => ⟨S_, .i32⟩
  | 104 => ⟨S64x72x1, .i32⟩
  | 105 => ⟨S64x72x1, .i1⟩
  | 106 => ⟨S1x1x1, .i32⟩
  | 107 => ⟨S64x72x1, .i32⟩
  | 108 => ⟨S64x72x1, .i1⟩
  | 109 => ⟨S64x72x1, .i1⟩
  | 110 => ⟨S_, .i1⟩
  | 111 => ⟨S64x72, .i1⟩
  | 112 => ⟨S64x72x768, .f32⟩
  | 113 => ⟨S64x72x768, .i1⟩
  | 114 => ⟨S_, .f32⟩
  | 115 => ⟨S64x72x768, .f32⟩
  | 116 => ⟨S64x72x768, .f32⟩
  | 117 => ⟨S64x216, .i32⟩
  | 118 => ⟨S64x216x768, .f32⟩
  | 119 => ⟨S_, .i32⟩
  | 120 => ⟨S64x360, .i32⟩
  | 121 => ⟨S64x360, .i1⟩
  | 122 => ⟨S_, .i32⟩
  | 123 => ⟨S64x360, .i32⟩
  | 124 => ⟨S64x360, .i32⟩
  | 125 => ⟨S64x360, .i32⟩
  | 126 => ⟨S64x360x1, .i32⟩
  | 127 => ⟨S1, .i32⟩
  | _ => ⟨S64x577x768, .f32⟩

abbrev hbmTy0_1 (i : Nat) : BufTy := match i % 128 with
  | 0 => ⟨S_, .i32⟩
  | 1 => ⟨S64x360x1, .i32⟩
  | 2 => ⟨S64x360x1, .i1⟩
  | 3 => ⟨S1x1x1, .i32⟩
  | 4 => ⟨S64x360x1, .i32⟩
  | 5 => ⟨S64x360x1, .i1⟩
  | 6 => ⟨S64x360x1, .i1⟩
  | 7 => ⟨S_, .i1⟩
  | 8 => ⟨S64x360, .i1⟩
  | 9 => ⟨S64x360, .i32⟩
  | 10 => ⟨S_, .i32⟩
  | 11 => ⟨S64x360, .i32⟩
  | 12 => ⟨S64x360, .i32⟩
  | 13 => ⟨S64x360x1, .i32⟩
  | 14 => ⟨S_, .i32⟩
  | 15 => ⟨S64x360x1, .i32⟩
  | 16 => ⟨S64x360x1, .i1⟩
  | 17 => ⟨S_, .i32⟩
  | 18 => ⟨S64x360x1, .i32⟩
  | 19 => ⟨S64x360x1, .i32⟩
  | 20 => ⟨S64x360x1, .i32⟩
  | 21 => ⟨S1, .i32⟩
  | 22 => ⟨S_, .i32⟩
  | 23 => ⟨S64x360x1, .i32⟩
  | 24 => ⟨S64x360x1, .i1⟩
  | 25 => ⟨S1x1x1, .i32⟩
  | 26 => ⟨S64x360x1, .i32⟩
  | 27 => ⟨S64x360x1, .i1⟩
  | 28 => ⟨S64x360x1, .i1⟩
  | 29 => ⟨S_, .i1⟩
  | 30 => ⟨S64x360, .i1⟩
  | 31 => ⟨S64x360x768, .f32⟩
  | 32 => ⟨S64x360x768, .i1⟩
  | 33 => ⟨S_, .f32⟩
  | 34 => ⟨S64x360x768, .f32⟩
  | 35 => ⟨S64x360x768, .f32⟩
  | 36 => ⟨S64x216x768, .f32⟩
  | 37 => ⟨S_, .f32⟩
  | 38 => ⟨S64x216, .f32⟩
  | 39 => ⟨S64x216x1, .f32⟩
  | 40 => ⟨S64x216x1, .f32⟩
  | 41 => ⟨S64x216x768, .f32⟩
  | 42 => ⟨S64x216x768, .f32⟩
  | 43 => ⟨S64x360x768, .f32⟩
  | 44 => ⟨S_, .f32⟩
  | 45 => ⟨S64x360, .f32⟩
  | 46 => ⟨S64x360x1, .f32⟩
  | 47 => ⟨S64x360x1, .f32⟩
  | 48 => ⟨S64x360x768, .f32⟩
  | 49 => ⟨S64x360x768, .f32⟩
  | 50 => ⟨S64x360x216, .f32⟩
  | 51 => ⟨S64x360, .i32⟩
  | 52 => ⟨S64x72, .i32⟩
  | 53 => ⟨S64x288, .i32⟩
  | 54 => ⟨S_, .i32⟩
  | 55 => ⟨S64x72, .i32⟩
  | 56 => ⟨S64x72, .i1⟩
  | 57 => ⟨S_, .i32⟩
  | 58 => ⟨S64x72, .i32⟩
  | 59 => ⟨S64x72, .i32⟩
  | 60 => ⟨S64x72, .i32⟩
  | 61 => ⟨S64x72x1, .i32⟩
  | 62 => ⟨S1, .i32⟩
  | 63 => ⟨S_, .i32⟩
  | 64 => ⟨S64x72x1, .i32⟩
  | 65 => ⟨S64x72x1, .i1⟩
  | 66 => ⟨S1x1x1, .i32⟩
  | 67 => ⟨S64x72x1, .i32⟩
  | 68 => ⟨S64x72x1, .i1⟩
  | 69 => ⟨S64x72x1, .i1⟩
  | 70 => ⟨S_, .i1⟩
  | 71 => ⟨S64x72, .i1⟩
  | 72 => ⟨S64x72, .i32⟩
  | 73 => ⟨S_, .i32⟩
  | 74 => ⟨S64x72, .i32⟩
  | 75 => ⟨S64x72, .i32⟩
  | 76 => ⟨S64x72x1, .i32⟩
  | 77 => ⟨S_, .i32⟩
  | 78 => ⟨S64x72x1, .i32⟩
  | 79 => ⟨S64x72x1, .i1⟩
  | 80 => ⟨S_, .i32⟩
  | 81 => ⟨S64x72x1, .i32⟩
  | 82 => ⟨S64x72x1, .i32⟩
  | 83 => ⟨S64x72x1, .i32⟩
  | 84 => ⟨S1, .i32⟩
  | 85 => ⟨S_, .i32⟩
  | 86 => ⟨S64x72x1, .i32⟩
  | 87 => ⟨S64x72x1, .i1⟩
  | 88 => ⟨S1x1x1, .i32⟩
  | 89 => ⟨S64x72x1, .i32⟩
  | 90 => ⟨S64x72x1, .i1⟩
  | 91 => ⟨S64x72x1, .i1⟩
  | 92 => ⟨S_, .i1⟩
  | 93 => ⟨S64x72, .i1⟩
  | 94 => ⟨S64x72x768, .f32⟩
  | 95 => ⟨S64x72x768, .i1⟩
  | 96 => ⟨S_, .f32⟩
  | 97 => ⟨S64x72x768, .f32⟩
  | 98 => ⟨S64x72x768, .f32⟩
  | 99 => ⟨S64x288, .i32⟩
  | 100 => ⟨S64x288x768, .f32⟩
  | 101 => ⟨S_, .i32⟩
  | 102 => ⟨S64x288, .i32⟩
  | 103 => ⟨S64x288, .i1⟩
  | 104 => ⟨S_, .i32⟩
  | 105 => ⟨S64x288, .i32⟩
  | 106 => ⟨S64x288, .i32⟩
  | 107 => ⟨S64x288, .i32⟩
  | 108 => ⟨S64x288x1, .i32⟩
  | 109 => ⟨S1, .i32⟩
  | 110 => ⟨S_, .i32⟩
  | 111 => ⟨S64x288x1, .i32⟩
  | 112 => ⟨S64x288x1, .i1⟩
  | 113 => ⟨S1x1x1, .i32⟩
  | 114 => ⟨S64x288x1, .i32⟩
  | 115 => ⟨S64x288x1, .i1⟩
  | 116 => ⟨S64x288x1, .i1⟩
  | 117 => ⟨S_, .i1⟩
  | 118 => ⟨S64x288, .i1⟩
  | 119 => ⟨S64x288, .i32⟩
  | 120 => ⟨S_, .i32⟩
  | 121 => ⟨S64x288, .i32⟩
  | 122 => ⟨S64x288, .i32⟩
  | 123 => ⟨S64x288x1, .i32⟩
  | 124 => ⟨S_, .i32⟩
  | 125 => ⟨S64x288x1, .i32⟩
  | 126 => ⟨S64x288x1, .i1⟩
  | 127 => ⟨S_, .i32⟩
  | _ => ⟨S64x577x768, .f32⟩

abbrev hbmTy0_2 (i : Nat) : BufTy := match i % 128 with
  | 0 => ⟨S64x288x1, .i32⟩
  | 1 => ⟨S64x288x1, .i32⟩
  | 2 => ⟨S64x288x1, .i32⟩
  | 3 => ⟨S1, .i32⟩
  | 4 => ⟨S_, .i32⟩
  | 5 => ⟨S64x288x1, .i32⟩
  | 6 => ⟨S64x288x1, .i1⟩
  | 7 => ⟨S1x1x1, .i32⟩
  | 8 => ⟨S64x288x1, .i32⟩
  | 9 => ⟨S64x288x1, .i1⟩
  | 10 => ⟨S64x288x1, .i1⟩
  | 11 => ⟨S_, .i1⟩
  | 12 => ⟨S64x288, .i1⟩
  | 13 => ⟨S64x288x768, .f32⟩
  | 14 => ⟨S64x288x768, .i1⟩
  | 15 => ⟨S_, .f32⟩
  | 16 => ⟨S64x288x768, .f32⟩
  | 17 => ⟨S64x288x768, .f32⟩
  | 18 => ⟨S64x288x768, .f32⟩
  | 19 => ⟨S_, .f32⟩
  | 20 => ⟨S64x288, .f32⟩
  | 21 => ⟨S64x288x1, .f32⟩
  | 22 => ⟨S64x288x1, .f32⟩
  | 23 => ⟨S64x288x768, .f32⟩
  | 24 => ⟨S64x288x768, .f32⟩
  | 25 => ⟨S64x288x768, .f32⟩
  | 26 => ⟨S_, .f32⟩
  | 27 => ⟨S64x288, .f32⟩
  | 28 => ⟨S64x288x1, .f32⟩
  | 29 => ⟨S64x288x1, .f32⟩
  | 30 => ⟨S64x288x768, .f32⟩
  | 31 => ⟨S64x288x768, .f32⟩
  | 32 => ⟨S64x288x288, .f32⟩
  | 33 => ⟨S64x288, .i32⟩
  | 34 => ⟨S64x72, .i32⟩
  | 35 => ⟨S64x216, .i32⟩
  | 36 => ⟨S_, .i32⟩
  | 37 => ⟨S64x72, .i32⟩
  | 38 => ⟨S64x72, .i1⟩
  | 39 => ⟨S_, .i32⟩
  | 40 => ⟨S64x72, .i32⟩
  | 41 => ⟨S64x72, .i32⟩
  | 42 => ⟨S64x72, .i32⟩
  | 43 => ⟨S64x72x1, .i32⟩
  | 44 => ⟨S1, .i32⟩
  | 45 => ⟨S_, .i32⟩
  | 46 => ⟨S64x72x1, .i32⟩
  | 47 => ⟨S64x72x1, .i1⟩
  | 48 => ⟨S1x1x1, .i32⟩
  | 49 => ⟨S64x72x1, .i32⟩
  | 50 => ⟨S64x72x1, .i1⟩
  | 51 => ⟨S64x72x1, .i1⟩
  | 52 => ⟨S_, .i1⟩
  | 53 => ⟨S64x72, .i1⟩
  | 54 => ⟨S64x72, .i32⟩
  | 55 => ⟨S_, .i32⟩
  | 56 => ⟨S64x72, .i32⟩
  | 57 => ⟨S64x72, .i32⟩
  | 58 => ⟨S64x72x1, .i32⟩
  | 59 => ⟨S_, .i32⟩
  | 60 => ⟨S64x72x1, .i32⟩
  | 61 => ⟨S64x72x1, .i1⟩
  | 62 => ⟨S_, .i32⟩
  | 63 => ⟨S64x72x1, .i32⟩
  | 64 => ⟨S64x72x1, .i32⟩
  | 65 => ⟨S64x72x1, .i32⟩
  | 66 => ⟨S1, .i32⟩
  | 67 => ⟨S_, .i32⟩
  | 68 => ⟨S64x72x1, .i32⟩
  | 69 => ⟨S64x72x1, .i1⟩
  | 70 => ⟨S1x1x1, .i32⟩
  | 71 => ⟨S64x72x1, .i32⟩
  | 72 => ⟨S64x72x1, .i1⟩
  | 73 => ⟨S64x72x1, .i1⟩
  | 74 => ⟨S_, .i1⟩
  | 75 => ⟨S64x72, .i1⟩
  | 76 => ⟨S64x72x768, .f32⟩
  | 77 => ⟨S64x72x768, .i1⟩
  | 78 => ⟨S_, .f32⟩
  | 79 => ⟨S64x72x768, .f32⟩
  | 80 => ⟨S64x72x768, .f32⟩
  | 81 => ⟨S64x360, .i32⟩
  | 82 => ⟨S64x360x768, .f32⟩
  | 83 => ⟨S_, .i32⟩
  | 84 => ⟨S64x216, .i32⟩
  | 85 => ⟨S64x216, .i1⟩
  | 86 => ⟨S_, .i32⟩
  | 87 => ⟨S64x216, .i32⟩
  | 88 => ⟨S64x216, .i32⟩
  | 89 => ⟨S64x216, .i32⟩
  | 90 => ⟨S64x216x1, .i32⟩
  | 91 => ⟨S1, .i32⟩
  | 92 => ⟨S_, .i32⟩
  | 93 => ⟨S64x216x1, .i32⟩
  | 94 => ⟨S64x216x1, .i1⟩
  | 95 => ⟨S1x1x1, .i32⟩
  | 96 => ⟨S64x216x1, .i32⟩
  | 97 => ⟨S64x216x1, .i1⟩
  | 98 => ⟨S64x216x1, .i1⟩
  | 99 => ⟨S_, .i1⟩
  | 100 => ⟨S64x216, .i1⟩
  | 101 => ⟨S64x216, .i32⟩
  | 102 => ⟨S_, .i32⟩
  | 103 => ⟨S64x216, .i32⟩
  | 104 => ⟨S64x216, .i32⟩
  | 105 => ⟨S64x216x1, .i32⟩
  | 106 => ⟨S_, .i32⟩
  | 107 => ⟨S64x216x1, .i32⟩
  | 108 => ⟨S64x216x1, .i1⟩
  | 109 => ⟨S_, .i32⟩
  | 110 => ⟨S64x216x1, .i32⟩
  | 111 => ⟨S64x216x1, .i32⟩
  | 112 => ⟨S64x216x1, .i32⟩
  | 113 => ⟨S1, .i32⟩
  | 114 => ⟨S_, .i32⟩
  | 115 => ⟨S64x216x1, .i32⟩
  | 116 => ⟨S64x216x1, .i1⟩
  | 117 => ⟨S1x1x1, .i32⟩
  | 118 => ⟨S64x216x1, .i32⟩
  | 119 => ⟨S64x216x1, .i1⟩
  | 120 => ⟨S64x216x1, .i1⟩
  | 121 => ⟨S_, .i1⟩
  | 122 => ⟨S64x216, .i1⟩
  | 123 => ⟨S64x216x768, .f32⟩
  | 124 => ⟨S64x216x768, .i1⟩
  | 125 => ⟨S_, .f32⟩
  | 126 => ⟨S64x216x768, .f32⟩
  | 127 => ⟨S64x216x768, .f32⟩
  | _ => ⟨S64x577x768, .f32⟩

abbrev hbmTy0_3 (i : Nat) : BufTy := match i % 128 with
  | 0 => ⟨S64x360x768, .f32⟩
  | 1 => ⟨S_, .f32⟩
  | 2 => ⟨S64x360, .f32⟩
  | 3 => ⟨S64x360x1, .f32⟩
  | 4 => ⟨S64x360x1, .f32⟩
  | 5 => ⟨S64x360x768, .f32⟩
  | 6 => ⟨S64x360x768, .f32⟩
  | 7 => ⟨S64x216x768, .f32⟩
  | 8 => ⟨S_, .f32⟩
  | 9 => ⟨S64x216, .f32⟩
  | 10 => ⟨S64x216x1, .f32⟩
  | 11 => ⟨S64x216x1, .f32⟩
  | 12 => ⟨S64x216x768, .f32⟩
  | 13 => ⟨S64x216x768, .f32⟩
  | 14 => ⟨S64x216x360, .f32⟩
  | 15 => ⟨S64x216, .i32⟩
  | 16 => ⟨S64x72, .i32⟩
  | 17 => ⟨S64x144, .i32⟩
  | 18 => ⟨S_, .i32⟩
  | 19 => ⟨S64x72, .i32⟩
  | 20 => ⟨S64x72, .i1⟩
  | 21 => ⟨S_, .i32⟩
  | 22 => ⟨S64x72, .i32⟩
  | 23 => ⟨S64x72, .i32⟩
  | 24 => ⟨S64x72, .i32⟩
  | 25 => ⟨S64x72x1, .i32⟩
  | 26 => ⟨S1, .i32⟩
  | 27 => ⟨S_, .i32⟩
  | 28 => ⟨S64x72x1, .i32⟩
  | 29 => ⟨S64x72x1, .i1⟩
  | 30 => ⟨S1x1x1, .i32⟩
  | 31 => ⟨S64x72x1, .i32⟩
  | 32 => ⟨S64x72x1, .i1⟩
  | 33 => ⟨S64x72x1, .i1⟩
  | 34 => ⟨S_, .i1⟩
  | 35 => ⟨S64x72, .i1⟩
  | 36 => ⟨S64x72, .i32⟩
  | 37 => ⟨S_, .i32⟩
  | 38 => ⟨S64x72, .i32⟩
  | 39 => ⟨S64x72, .i32⟩
  | 40 => ⟨S64x72x1, .i32⟩
  | 41 => ⟨S_, .i32⟩
  | 42 => ⟨S64x72x1, .i32⟩
  | 43 => ⟨S64x72x1, .i1⟩
  | 44 => ⟨S_, .i32⟩
  | 45 => ⟨S64x72x1, .i32⟩
  | 46 => ⟨S64x72x1, .i32⟩
  | 47 => ⟨S64x72x1, .i32⟩
  | 48 => ⟨S1, .i32⟩
  | 49 => ⟨S_, .i32⟩
  | 50 => ⟨S64x72x1, .i32⟩
  | 51 => ⟨S64x72x1, .i1⟩
  | 52 => ⟨S1x1x1, .i32⟩
  | 53 => ⟨S64x72x1, .i32⟩
  | 54 => ⟨S64x72x1, .i1⟩
  | 55 => ⟨S64x72x1, .i1⟩
  | 56 => ⟨S_, .i1⟩
  | 57 => ⟨S64x72, .i1⟩
  | 58 => ⟨S64x72x768, .f32⟩
  | 59 => ⟨S64x72x768, .i1⟩
  | 60 => ⟨S_, .f32⟩
  | 61 => ⟨S64x72x768, .f32⟩
  | 62 => ⟨S64x72x768, .f32⟩
  | 63 => ⟨S64x432, .i32⟩
  | 64 => ⟨S64x432x768, .f32⟩
  | 65 => ⟨S_, .i32⟩
  | 66 => ⟨S64x144, .i32⟩
  | 67 => ⟨S64x144, .i1⟩
  | 68 => ⟨S_, .i32⟩
  | 69 => ⟨S64x144, .i32⟩
  | 70 => ⟨S64x144, .i32⟩
  | 71 => ⟨S64x144, .i32⟩
  | 72 => ⟨S64x144x1, .i32⟩
  | 73 => ⟨S1, .i32⟩
  | 74 => ⟨S_, .i32⟩
  | 75 => ⟨S64x144x1, .i32⟩
  | 76 => ⟨S64x144x1, .i1⟩
  | 77 => ⟨S1x1x1, .i32⟩
  | 78 => ⟨S64x144x1, .i32⟩
  | 79 => ⟨S64x144x1, .i1⟩
  | 80 => ⟨S64x144x1, .i1⟩
  | 81 => ⟨S_, .i1⟩
  | 82 => ⟨S64x144, .i1⟩
  | 83 => ⟨S64x144, .i32⟩
  | 84 => ⟨S_, .i32⟩
  | 85 => ⟨S64x144, .i32⟩
  | 86 => ⟨S64x144, .i32⟩
  | 87 => ⟨S64x144x1, .i32⟩
  | 88 => ⟨S_, .i32⟩
  | 89 => ⟨S64x144x1, .i32⟩
  | 90 => ⟨S64x144x1, .i1⟩
  | 91 => ⟨S_, .i32⟩
  | 92 => ⟨S64x144x1, .i32⟩
  | 93 => ⟨S64x144x1, .i32⟩
  | 94 => ⟨S64x144x1, .i32⟩
  | 95 => ⟨S1, .i32⟩
  | 96 => ⟨S_, .i32⟩
  | 97 => ⟨S64x144x1, .i32⟩
  | 98 => ⟨S64x144x1, .i1⟩
  | 99 => ⟨S1x1x1, .i32⟩
  | 100 => ⟨S64x144x1, .i32⟩
  | 101 => ⟨S64x144x1, .i1⟩
  | 102 => ⟨S64x144x1, .i1⟩
  | 103 => ⟨S_, .i1⟩
  | 104 => ⟨S64x144, .i1⟩
  | 105 => ⟨S64x144x768, .f32⟩
  | 106 => ⟨S64x144x768, .i1⟩
  | 107 => ⟨S_, .f32⟩
  | 108 => ⟨S64x144x768, .f32⟩
  | 109 => ⟨S64x144x768, .f32⟩
  | 110 => ⟨S64x432x768, .f32⟩
  | 111 => ⟨S_, .f32⟩
  | 112 => ⟨S64x432, .f32⟩
  | 113 => ⟨S64x432x1, .f32⟩
  | 114 => ⟨S64x432x1, .f32⟩
  | 115 => ⟨S64x432x768, .f32⟩
  | 116 => ⟨S64x432x768, .f32⟩
  | 117 => ⟨S64x144x768, .f32⟩
  | 118 => ⟨S_, .f32⟩
  | 119 => ⟨S64x144, .f32⟩
  | 120 => ⟨S64x144x1, .f32⟩
  | 121 => ⟨S64x144x1, .f32⟩
  | 122 => ⟨S64x144x768, .f32⟩
  | 123 => ⟨S64x144x768, .f32⟩
  | 124 => ⟨S64x144x432, .f32⟩
  | 125 => ⟨S64x144, .i32⟩
  | 126 => ⟨S64x43, .i32⟩
  | 127 => ⟨S64x101, .i32⟩
  | _ => ⟨S64x577x768, .f32⟩

abbrev hbmTy0_4 (i : Nat) : BufTy := match i % 128 with
  | 0 => ⟨S_, .i32⟩
  | 1 => ⟨S64x43, .i32⟩
  | 2 => ⟨S64x43, .i1⟩
  | 3 => ⟨S_, .i32⟩
  | 4 => ⟨S64x43, .i32⟩
  | 5 => ⟨S64x43, .i32⟩
  | 6 => ⟨S64x43, .i32⟩
  | 7 => ⟨S64x43x1, .i32⟩
  | 8 => ⟨S1, .i32⟩
  | 9 => ⟨S_, .i32⟩
  | 10 => ⟨S64x43x1, .i32⟩
  | 11 => ⟨S64x43x1, .i1⟩
  | 12 => ⟨S1x1x1, .i32⟩
  | 13 => ⟨S64x43x1, .i32⟩
  | 14 => ⟨S64x43x1, .i1⟩
  | 15 => ⟨S64x43x1, .i1⟩
  | 16 => ⟨S_, .i1⟩
  | 17 => ⟨S64x43, .i1⟩
  | 18 => ⟨S64x43, .i32⟩
  | 19 => ⟨S_, .i32⟩
  | 20 => ⟨S64x43, .i32⟩
  | 21 => ⟨S64x43, .i32⟩
  | 22 => ⟨S64x43x1, .i32⟩
  | 23 => ⟨S_, .i32⟩
  | 24 => ⟨S64x43x1, .i32⟩
  | 25 => ⟨S64x43x1, .i1⟩
  | 26 => ⟨S_, .i32⟩
  | 27 => ⟨S64x43x1, .i32⟩
  | 28 => ⟨S64x43x1, .i32⟩
  | 29 => ⟨S64x43x1, .i32⟩
  | 30 => ⟨S1, .i32⟩
  | 31 => ⟨S_, .i32⟩
  | 32 => ⟨S64x43x1, .i32⟩
  | 33 => ⟨S64x43x1, .i1⟩
  | 34 => ⟨S1x1x1, .i32⟩
  | 35 => ⟨S64x43x1, .i32⟩
  | 36 => ⟨S64x43x1, .i1⟩
  | 37 => ⟨S64x43x1, .i1⟩
  | 38 => ⟨S_, .i1⟩
  | 39 => ⟨S64x43, .i1⟩
  | 40 => ⟨S64x43x768, .f32⟩
  | 41 => ⟨S64x43x768, .i1⟩
  | 42 => ⟨S_, .f32⟩
  | 43 => ⟨S64x43x768, .f32⟩
  | 44 => ⟨S64x43x768, .f32⟩
  | 45 => ⟨S64x475, .i32⟩
  | 46 => ⟨S64x475x768, .f32⟩
  | 47 => ⟨S_, .i32⟩
  | 48 => ⟨S64x101, .i32⟩
  | 49 => ⟨S64x101, .i1⟩
  | 50 => ⟨S_, .i32⟩
  | 51 => ⟨S64x101, .i32⟩
  | 52 => ⟨S64x101, .i32⟩
  | 53 => ⟨S64x101, .i32⟩
  | 54 => ⟨S64x101x1, .i32⟩
  | 55 => ⟨S1, .i32⟩
  | 56 => ⟨S_, .i32⟩
  | 57 => ⟨S64x101x1, .i32⟩
  | 58 => ⟨S64x101x1, .i1⟩
  | 59 => ⟨S1x1x1, .i32⟩
  | 60 => ⟨S64x101x1, .i32⟩
  | 61 => ⟨S64x101x1, .i1⟩
  | 62 => ⟨S64x101x1, .i1⟩
  | 63 => ⟨S_, .i1⟩
  | 64 => ⟨S64x101, .i1⟩
  | 65 => ⟨S64x101, .i32⟩
  | 66 => ⟨S_, .i32⟩
  | 67 => ⟨S64x101, .i32⟩
  | 68 => ⟨S64x101, .i32⟩
  | 69 => ⟨S64x101x1, .i32⟩
  | 70 => ⟨S_, .i32⟩
  | 71 => ⟨S64x101x1, .i32⟩
  | 72 => ⟨S64x101x1, .i1⟩
  | 73 => ⟨S_, .i32⟩
  | 74 => ⟨S64x101x1, .i32⟩
  | 75 => ⟨S64x101x1, .i32⟩
  | 76 => ⟨S64x101x1, .i32⟩
  | 77 => ⟨S1, .i32⟩
  | 78 => ⟨S_, .i32⟩
  | 79 => ⟨S64x101x1, .i32⟩
  | 80 => ⟨S64x101x1, .i1⟩
  | 81 => ⟨S1x1x1, .i32⟩
  | 82 => ⟨S64x101x1, .i32⟩
  | 83 => ⟨S64x101x1, .i1⟩
  | 84 => ⟨S64x101x1, .i1⟩
  | 85 => ⟨S_, .i1⟩
  | 86 => ⟨S64x101, .i1⟩
  | 87 => ⟨S64x101x768, .f32⟩
  | 88 => ⟨S64x101x768, .i1⟩
  | 89 => ⟨S_, .f32⟩
  | 90 => ⟨S64x101x768, .f32⟩
  | 91 => ⟨S64x101x768, .f32⟩
  | 92 => ⟨S64x475x768, .f32⟩
  | 93 => ⟨S_, .f32⟩
  | 94 => ⟨S64x475, .f32⟩
  | 95 => ⟨S64x475x1, .f32⟩
  | 96 => ⟨S64x475x1, .f32⟩
  | 97 => ⟨S64x475x768, .f32⟩
  | 98 => ⟨S64x475x768, .f32⟩
  | 99 => ⟨S64x101x768, .f32⟩
  | 100 => ⟨S_, .f32⟩
  | 101 => ⟨S64x101, .f32⟩
  | 102 => ⟨S64x101x1, .f32⟩
  | 103 => ⟨S64x101x1, .f32⟩
  | 104 => ⟨S64x101x768, .f32⟩
  | 105 => ⟨S64x101x768, .f32⟩
  | 106 => ⟨S64x101x475, .f32⟩
  | 107 => ⟨S64x101, .i32⟩
  | 108 => ⟨S64x43, .i32⟩
  | 109 => ⟨S64x58, .i32⟩
  | 110 => ⟨S_, .i32⟩
  | 111 => ⟨S64x43, .i32⟩
  | 112 => ⟨S64x43, .i1⟩
  | 113 => ⟨S_, .i32⟩
  | 114 => ⟨S64x43, .i32⟩
  | 115 => ⟨S64x43, .i32⟩
  | 116 => ⟨S64x43, .i32⟩
  | 117 => ⟨S64x43x1, .i32⟩
  | 118 => ⟨S1, .i32⟩
  | 119 => ⟨S_, .i32⟩
  | 120 => ⟨S64x43x1, .i32⟩
  | 121 => ⟨S64x43x1, .i1⟩
  | 122 => ⟨S1x1x1, .i32⟩
  | 123 => ⟨S64x43x1, .i32⟩
  | 124 => ⟨S64x43x1, .i1⟩
  | 125 => ⟨S64x43x1, .i1⟩
  | 126 => ⟨S_, .i1⟩
  | 127 => ⟨S64x43, .i1⟩
  | _ => ⟨S64x577x768, .f32⟩

abbrev hbmTy0_5 (i : Nat) : BufTy := match i % 128 with
  | 0 => ⟨S64x43, .i32⟩
  | 1 => ⟨S_, .i32⟩
  | 2 => ⟨S64x43, .i32⟩
  | 3 => ⟨S64x43, .i32⟩
  | 4 => ⟨S64x43x1, .i32⟩
  | 5 => ⟨S_, .i32⟩
  | 6 => ⟨S64x43x1, .i32⟩
  | 7 => ⟨S64x43x1, .i1⟩
  | 8 => ⟨S_, .i32⟩
  | 9 => ⟨S64x43x1, .i32⟩
  | 10 => ⟨S64x43x1, .i32⟩
  | 11 => ⟨S64x43x1, .i32⟩
  | 12 => ⟨S1, .i32⟩
  | 13 => ⟨S_, .i32⟩
  | 14 => ⟨S64x43x1, .i32⟩
  | 15 => ⟨S64x43x1, .i1⟩
  | 16 => ⟨S1x1x1, .i32⟩
  | 17 => ⟨S64x43x1, .i32⟩
  | 18 => ⟨S64x43x1, .i1⟩
  | 19 => ⟨S64x43x1, .i1⟩
  | 20 => ⟨S_, .i1⟩
  | 21 => ⟨S64x43, .i1⟩
  | 22 => ⟨S64x43x768, .f32⟩
  | 23 => ⟨S64x43x768, .i1⟩
  | 24 => ⟨S_, .f32⟩
  | 25 => ⟨S64x43x768, .f32⟩
  | 26 => ⟨S64x43x768, .f32⟩
  | 27 => ⟨S64x518, .i32⟩
  | 28 => ⟨S64x518x768, .f32⟩
  | 29 => ⟨S_, .i32⟩
  | 30 => ⟨S64x58, .i32⟩
  | 31 => ⟨S64x58, .i1⟩
  | 32 => ⟨S_, .i32⟩
  | 33 => ⟨S64x58, .i32⟩
  | 34 => ⟨S64x58, .i32⟩
  | 35 => ⟨S64x58, .i32⟩
  | 36 => ⟨S64x58x1, .i32⟩
  | 37 => ⟨S1, .i32⟩
  | 38 => ⟨S_, .i32⟩
  | 39 => ⟨S64x58x1, .i32⟩
  | 40 => ⟨S64x58x1, .i1⟩
  | 41 => ⟨S1x1x1, .i32⟩
  | 42 => ⟨S64x58x1, .i32⟩
  | 43 => ⟨S64x58x1, .i1⟩
  | 44 => ⟨S64x58x1, .i1⟩
  | 45 => ⟨S_, .i1⟩
  | 46 => ⟨S64x58, .i1⟩
  | 47 => ⟨S64x58, .i32⟩
  | 48 => ⟨S_, .i32⟩
  | 49 => ⟨S64x58, .i32⟩
  | 50 => ⟨S64x58, .i32⟩
  | 51 => ⟨S64x58x1, .i32⟩
  | 52 => ⟨S_, .i32⟩
  | 53 => ⟨S64x58x1, .i32⟩
  | 54 => ⟨S64x58x1, .i1⟩
  | 55 => ⟨S_, .i32⟩
  | 56 => ⟨S64x58x1, .i32⟩
  | 57 => ⟨S64x58x1, .i32⟩
  | 58 => ⟨S64x58x1, .i32⟩
  | 59 => ⟨S1, .i32⟩
  | 60 => ⟨S_, .i32⟩
  | 61 => ⟨S64x58x1, .i32⟩
  | 62 => ⟨S64x58x1, .i1⟩
  | 63 => ⟨S1x1x1, .i32⟩
  | 64 => ⟨S64x58x1, .i32⟩
  | 65 => ⟨S64x58x1, .i1⟩
  | 66 => ⟨S64x58x1, .i1⟩
  | 67 => ⟨S_, .i1⟩
  | 68 => ⟨S64x58, .i1⟩
  | 69 => ⟨S64x58x768, .f32⟩
  | 70 => ⟨S64x58x768, .i1⟩
  | 71 => ⟨S_, .f32⟩
  | 72 => ⟨S64x58x768, .f32⟩
  | 73 => ⟨S64x58x768, .f32⟩
  | 74 => ⟨S64x518x768, .f32⟩
  | 75 => ⟨S_, .f32⟩
  | 76 => ⟨S64x518, .f32⟩
  | 77 => ⟨S64x518x1, .f32⟩
  | 78 => ⟨S64x518x1, .f32⟩
  | 79 => ⟨S64x518x768, .f32⟩
  | 80 => ⟨S64x518x768, .f32⟩
  | 81 => ⟨S64x58x768, .f32⟩
  | 82 => ⟨S_, .f32⟩
  | 83 => ⟨S64x58, .f32⟩
  | 84 => ⟨S64x58x1, .f32⟩
  | 85 => ⟨S64x58x1, .f32⟩
  | 86 => ⟨S64x58x768, .f32⟩
  | 87 => ⟨S64x58x768, .f32⟩
  | 88 => ⟨S64x58x518, .f32⟩
  | _ => ⟨S64x577x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S64x577x768, .f32⟩

abbrev bufTy : (tb : Table) → Fin (tcTables nBuf tb) → BufTy
  | .hbm, ⟨i, _⟩ => hbmTy i
  | .local _ .vmem, ⟨0, _⟩ => ⟨S64x432x144, .f32⟩
  | .local _ .vmem, ⟨1, _⟩ => ⟨S64x432, .i32⟩
  | .local _ .vmem, ⟨2, _⟩ => ⟨S64x360x216, .f32⟩
  | .local _ .vmem, ⟨3, _⟩ => ⟨S64x360, .i32⟩
  | .local _ .vmem, ⟨4, _⟩ => ⟨S64x288x288, .f32⟩
  | .local _ .vmem, ⟨5, _⟩ => ⟨S64x288, .i32⟩
  | .local _ .vmem, ⟨6, _⟩ => ⟨S64x216x360, .f32⟩
  | .local _ .vmem, ⟨7, _⟩ => ⟨S64x216, .i32⟩
  | .local _ .vmem, ⟨8, _⟩ => ⟨S64x144x432, .f32⟩
  | .local _ .vmem, ⟨9, _⟩ => ⟨S64x144, .i32⟩
  | .local _ .vmem, ⟨10, _⟩ => ⟨S64x101x475, .f32⟩
  | .local _ .vmem, ⟨11, _⟩ => ⟨S64x101, .i32⟩
  | _, _ => ⟨S64x577x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v6 : Ref sig .tc := ⟨.hbm, 30, rfl⟩
abbrev main_v7 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_c_2 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_c_3 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v8 : Ref sig .tc := ⟨.hbm, 53, rfl⟩
abbrev main_call2_v0 : Ref sig .tc := ⟨.hbm, 54, rfl⟩
abbrev main_call2_cst : Ref sig .tc := ⟨.hbm, 55, rfl⟩
abbrev main_call2_v1 : Ref sig .tc := ⟨.hbm, 56, rfl⟩
abbrev main_call2_v2 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_call3_v0 : Ref sig .tc := ⟨.hbm, 61, rfl⟩
abbrev main_call3_cst : Ref sig .tc := ⟨.hbm, 62, rfl⟩
abbrev main_call3_v1 : Ref sig .tc := ⟨.hbm, 63, rfl⟩
abbrev main_call3_v2 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_call4_c : Ref sig .tc := ⟨.hbm, 72, rfl⟩
abbrev main_call4_v0 : Ref sig .tc := ⟨.hbm, 73, rfl⟩
abbrev main_call4_v1 : Ref sig .tc := ⟨.hbm, 74, rfl⟩
abbrev main_call4_c_0 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_call4_v5 : Ref sig .tc := ⟨.hbm, 79, rfl⟩
abbrev main_call4_c_1 : Ref sig .tc := ⟨.hbm, 80, rfl⟩
abbrev main_call4_c_2 : Ref sig .tc := ⟨.hbm, 81, rfl⟩
abbrev main_call4_v6 : Ref sig .tc := ⟨.hbm, 82, rfl⟩
abbrev main_call4_v7 : Ref sig .tc := ⟨.hbm, 83, rfl⟩
abbrev main_call4_v8 : Ref sig .tc := ⟨.hbm, 84, rfl⟩
abbrev main_call4_v9 : Ref sig .tc := ⟨.hbm, 85, rfl⟩
abbrev main_call4_v10 : Ref sig .tc := ⟨.hbm, 86, rfl⟩
abbrev main_call4_v11 : Ref sig .tc := ⟨.hbm, 87, rfl⟩
abbrev main_call4_c_3 : Ref sig .tc := ⟨.hbm, 88, rfl⟩
abbrev main_call4_v12 : Ref sig .tc := ⟨.hbm, 89, rfl⟩
abbrev main_call4_v13 : Ref sig .tc := ⟨.hbm, 90, rfl⟩
abbrev main_call4_c_4 : Ref sig .tc := ⟨.hbm, 91, rfl⟩
abbrev main_call4_v14 : Ref sig .tc := ⟨.hbm, 92, rfl⟩
abbrev main_v19 : Ref sig .tc := ⟨.hbm, 93, rfl⟩
abbrev main_v20 : Ref sig .tc := ⟨.hbm, 94, rfl⟩
abbrev main_call5_c : Ref sig .tc := ⟨.hbm, 95, rfl⟩
abbrev main_call5_v0 : Ref sig .tc := ⟨.hbm, 96, rfl⟩
abbrev main_call5_v1 : Ref sig .tc := ⟨.hbm, 97, rfl⟩
abbrev main_call5_c_0 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_call5_c_1 : Ref sig .tc := ⟨.hbm, 102, rfl⟩
abbrev main_call5_c_2 : Ref sig .tc := ⟨.hbm, 103, rfl⟩
abbrev main_call5_v5 : Ref sig .tc := ⟨.hbm, 104, rfl⟩
abbrev main_call5_v6 : Ref sig .tc := ⟨.hbm, 105, rfl⟩
abbrev main_call5_v7 : Ref sig .tc := ⟨.hbm, 106, rfl⟩
abbrev main_call5_v8 : Ref sig .tc := ⟨.hbm, 107, rfl⟩
abbrev main_call5_v9 : Ref sig .tc := ⟨.hbm, 108, rfl⟩
abbrev main_call5_v10 : Ref sig .tc := ⟨.hbm, 109, rfl⟩
abbrev main_call5_c_3 : Ref sig .tc := ⟨.hbm, 110, rfl⟩
abbrev main_call5_v11 : Ref sig .tc := ⟨.hbm, 111, rfl⟩
abbrev main_call5_v12 : Ref sig .tc := ⟨.hbm, 112, rfl⟩
abbrev main_call5_v13 : Ref sig .tc := ⟨.hbm, 113, rfl⟩
abbrev main_call5_cst : Ref sig .tc := ⟨.hbm, 114, rfl⟩
abbrev main_call5_v14 : Ref sig .tc := ⟨.hbm, 115, rfl⟩
abbrev main_v21 : Ref sig .tc := ⟨.hbm, 116, rfl⟩
abbrev main_v22 : Ref sig .tc := ⟨.hbm, 117, rfl⟩
abbrev main_v23 : Ref sig .tc := ⟨.hbm, 118, rfl⟩
abbrev main_call6_c : Ref sig .tc := ⟨.hbm, 119, rfl⟩
abbrev main_call6_v0 : Ref sig .tc := ⟨.hbm, 120, rfl⟩
abbrev main_call6_v1 : Ref sig .tc := ⟨.hbm, 121, rfl⟩
abbrev main_call6_c_0 : Ref sig .tc := ⟨.hbm, 122, rfl⟩
abbrev main_call6_v2 : Ref sig .tc := ⟨.hbm, 123, rfl⟩
abbrev main_call6_v3 : Ref sig .tc := ⟨.hbm, 124, rfl⟩
abbrev main_call6_v4 : Ref sig .tc := ⟨.hbm, 125, rfl⟩
abbrev main_call6_v5 : Ref sig .tc := ⟨.hbm, 126, rfl⟩
abbrev main_call6_c_1 : Ref sig .tc := ⟨.hbm, 127, rfl⟩
abbrev main_call6_c_2 : Ref sig .tc := ⟨.hbm, 128, rfl⟩
abbrev main_call6_v6 : Ref sig .tc := ⟨.hbm, 129, rfl⟩
abbrev main_call6_v7 : Ref sig .tc := ⟨.hbm, 130, rfl⟩
abbrev main_call6_v8 : Ref sig .tc := ⟨.hbm, 131, rfl⟩
abbrev main_call6_v9 : Ref sig .tc := ⟨.hbm, 132, rfl⟩
abbrev main_call6_v10 : Ref sig .tc := ⟨.hbm, 133, rfl⟩
abbrev main_call6_v11 : Ref sig .tc := ⟨.hbm, 134, rfl⟩
abbrev main_call6_c_3 : Ref sig .tc := ⟨.hbm, 135, rfl⟩
abbrev main_call6_v12 : Ref sig .tc := ⟨.hbm, 136, rfl⟩
abbrev main_call6_v13 : Ref sig .tc := ⟨.hbm, 137, rfl⟩
abbrev main_call6_c_4 : Ref sig .tc := ⟨.hbm, 138, rfl⟩
abbrev main_call6_v14 : Ref sig .tc := ⟨.hbm, 139, rfl⟩
abbrev main_v24 : Ref sig .tc := ⟨.hbm, 140, rfl⟩
abbrev main_v25 : Ref sig .tc := ⟨.hbm, 141, rfl⟩
abbrev main_call7_c : Ref sig .tc := ⟨.hbm, 142, rfl⟩
abbrev main_call7_v0 : Ref sig .tc := ⟨.hbm, 143, rfl⟩
abbrev main_call7_v1 : Ref sig .tc := ⟨.hbm, 144, rfl⟩
abbrev main_call7_c_0 : Ref sig .tc := ⟨.hbm, 145, rfl⟩
abbrev main_call7_v2 : Ref sig .tc := ⟨.hbm, 146, rfl⟩
abbrev main_call7_v3 : Ref sig .tc := ⟨.hbm, 147, rfl⟩
abbrev main_call7_v4 : Ref sig .tc := ⟨.hbm, 148, rfl⟩
abbrev main_call7_c_1 : Ref sig .tc := ⟨.hbm, 149, rfl⟩
abbrev main_call7_c_2 : Ref sig .tc := ⟨.hbm, 150, rfl⟩
abbrev main_call7_v5 : Ref sig .tc := ⟨.hbm, 151, rfl⟩
abbrev main_call7_v6 : Ref sig .tc := ⟨.hbm, 152, rfl⟩
abbrev main_call7_v7 : Ref sig .tc := ⟨.hbm, 153, rfl⟩
abbrev main_call7_v8 : Ref sig .tc := ⟨.hbm, 154, rfl⟩
abbrev main_call7_v9 : Ref sig .tc := ⟨.hbm, 155, rfl⟩
abbrev main_call7_v10 : Ref sig .tc := ⟨.hbm, 156, rfl⟩
abbrev main_call7_c_3 : Ref sig .tc := ⟨.hbm, 157, rfl⟩
abbrev main_call7_v11 : Ref sig .tc := ⟨.hbm, 158, rfl⟩
abbrev main_call7_v12 : Ref sig .tc := ⟨.hbm, 159, rfl⟩
abbrev main_call7_v13 : Ref sig .tc := ⟨.hbm, 160, rfl⟩
abbrev main_call7_cst : Ref sig .tc := ⟨.hbm, 161, rfl⟩
abbrev main_call7_v14 : Ref sig .tc := ⟨.hbm, 162, rfl⟩
abbrev main_v26 : Ref sig .tc := ⟨.hbm, 163, rfl⟩
abbrev main_call8_v0 : Ref sig .tc := ⟨.hbm, 164, rfl⟩
abbrev main_call8_cst : Ref sig .tc := ⟨.hbm, 165, rfl⟩
abbrev main_call8_v1 : Ref sig .tc := ⟨.hbm, 166, rfl⟩
abbrev main_call8_v2 : Ref sig .tc := ⟨.hbm, 167, rfl⟩
abbrev main_v27 : Ref sig .tc := ⟨.hbm, 168, rfl⟩
abbrev main_v28 : Ref sig .tc := ⟨.hbm, 169, rfl⟩
abbrev main_v29 : Ref sig .tc := ⟨.hbm, 170, rfl⟩
abbrev main_call9_v0 : Ref sig .tc := ⟨.hbm, 171, rfl⟩
abbrev main_call9_cst : Ref sig .tc := ⟨.hbm, 172, rfl⟩
abbrev main_call9_v1 : Ref sig .tc := ⟨.hbm, 173, rfl⟩
abbrev main_call9_v2 : Ref sig .tc := ⟨.hbm, 174, rfl⟩
abbrev main_v30 : Ref sig .tc := ⟨.hbm, 175, rfl⟩
abbrev main_v31 : Ref sig .tc := ⟨.hbm, 176, rfl⟩
abbrev main_v32 : Ref sig .tc := ⟨.hbm, 177, rfl⟩
abbrev main_v33 : Ref sig .tc := ⟨.hbm, 178, rfl⟩
abbrev main_v34 : Ref sig .tc := ⟨.hbm, 179, rfl⟩
abbrev main_v35 : Ref sig .tc := ⟨.hbm, 180, rfl⟩
abbrev main_v36 : Ref sig .tc := ⟨.hbm, 181, rfl⟩
abbrev main_call10_c : Ref sig .tc := ⟨.hbm, 182, rfl⟩
abbrev main_call10_v0 : Ref sig .tc := ⟨.hbm, 183, rfl⟩
abbrev main_call10_v1 : Ref sig .tc := ⟨.hbm, 184, rfl⟩
abbrev main_call10_c_0 : Ref sig .tc := ⟨.hbm, 185, rfl⟩
abbrev main_call10_v2 : Ref sig .tc := ⟨.hbm, 186, rfl⟩
abbrev main_call10_v3 : Ref sig .tc := ⟨.hbm, 187, rfl⟩
abbrev main_call10_v4 : Ref sig .tc := ⟨.hbm, 188, rfl⟩
abbrev main_call10_v5 : Ref sig .tc := ⟨.hbm, 189, rfl⟩
abbrev main_call10_c_1 : Ref sig .tc := ⟨.hbm, 190, rfl⟩
abbrev main_call10_c_2 : Ref sig .tc := ⟨.hbm, 191, rfl⟩
abbrev main_call10_v6 : Ref sig .tc := ⟨.hbm, 192, rfl⟩
abbrev main_call10_v7 : Ref sig .tc := ⟨.hbm, 193, rfl⟩
abbrev main_call10_v8 : Ref sig .tc := ⟨.hbm, 194, rfl⟩
abbrev main_call10_v9 : Ref sig .tc := ⟨.hbm, 195, rfl⟩
abbrev main_call10_v10 : Ref sig .tc := ⟨.hbm, 196, rfl⟩
abbrev main_call10_v11 : Ref sig .tc := ⟨.hbm, 197, rfl⟩
abbrev main_call10_c_3 : Ref sig .tc := ⟨.hbm, 198, rfl⟩
abbrev main_call10_v12 : Ref sig .tc := ⟨.hbm, 199, rfl⟩
abbrev main_call10_v13 : Ref sig .tc := ⟨.hbm, 200, rfl⟩
abbrev main_call10_c_4 : Ref sig .tc := ⟨.hbm, 201, rfl⟩
abbrev main_call10_v14 : Ref sig .tc := ⟨.hbm, 202, rfl⟩
abbrev main_v37 : Ref sig .tc := ⟨.hbm, 203, rfl⟩
abbrev main_v38 : Ref sig .tc := ⟨.hbm, 204, rfl⟩
abbrev main_call11_c : Ref sig .tc := ⟨.hbm, 205, rfl⟩
abbrev main_call11_v0 : Ref sig .tc := ⟨.hbm, 206, rfl⟩
abbrev main_call11_v1 : Ref sig .tc := ⟨.hbm, 207, rfl⟩
abbrev main_call11_c_0 : Ref sig .tc := ⟨.hbm, 208, rfl⟩
abbrev main_call11_v2 : Ref sig .tc := ⟨.hbm, 209, rfl⟩
abbrev main_call11_v3 : Ref sig .tc := ⟨.hbm, 210, rfl⟩
abbrev main_call11_v4 : Ref sig .tc := ⟨.hbm, 211, rfl⟩
abbrev main_call11_c_1 : Ref sig .tc := ⟨.hbm, 212, rfl⟩
abbrev main_call11_c_2 : Ref sig .tc := ⟨.hbm, 213, rfl⟩
abbrev main_call11_v5 : Ref sig .tc := ⟨.hbm, 214, rfl⟩
abbrev main_call11_v6 : Ref sig .tc := ⟨.hbm, 215, rfl⟩
abbrev main_call11_v7 : Ref sig .tc := ⟨.hbm, 216, rfl⟩
abbrev main_call11_v8 : Ref sig .tc := ⟨.hbm, 217, rfl⟩
abbrev main_call11_v9 : Ref sig .tc := ⟨.hbm, 218, rfl⟩
abbrev main_call11_v10 : Ref sig .tc := ⟨.hbm, 219, rfl⟩
abbrev main_call11_c_3 : Ref sig .tc := ⟨.hbm, 220, rfl⟩
abbrev main_call11_v11 : Ref sig .tc := ⟨.hbm, 221, rfl⟩
abbrev main_call11_v12 : Ref sig .tc := ⟨.hbm, 222, rfl⟩
abbrev main_call11_v13 : Ref sig .tc := ⟨.hbm, 223, rfl⟩
abbrev main_call11_cst : Ref sig .tc := ⟨.hbm, 224, rfl⟩
abbrev main_call11_v14 : Ref sig .tc := ⟨.hbm, 225, rfl⟩
abbrev main_v39 : Ref sig .tc := ⟨.hbm, 226, rfl⟩
abbrev main_v40 : Ref sig .tc := ⟨.hbm, 227, rfl⟩
abbrev main_v41 : Ref sig .tc := ⟨.hbm, 228, rfl⟩
abbrev main_call12_c : Ref sig .tc := ⟨.hbm, 229, rfl⟩
abbrev main_call12_v0 : Ref sig .tc := ⟨.hbm, 230, rfl⟩
abbrev main_call12_v1 : Ref sig .tc := ⟨.hbm, 231, rfl⟩
abbrev main_call12_c_0 : Ref sig .tc := ⟨.hbm, 232, rfl⟩
abbrev main_call12_v2 : Ref sig .tc := ⟨.hbm, 233, rfl⟩
abbrev main_call12_v3 : Ref sig .tc := ⟨.hbm, 234, rfl⟩
abbrev main_call12_v4 : Ref sig .tc := ⟨.hbm, 235, rfl⟩
abbrev main_call12_v5 : Ref sig .tc := ⟨.hbm, 236, rfl⟩
abbrev main_call12_c_1 : Ref sig .tc := ⟨.hbm, 237, rfl⟩
abbrev main_call12_c_2 : Ref sig .tc := ⟨.hbm, 238, rfl⟩
abbrev main_call12_v6 : Ref sig .tc := ⟨.hbm, 239, rfl⟩
abbrev main_call12_v7 : Ref sig .tc := ⟨.hbm, 240, rfl⟩
abbrev main_call12_v8 : Ref sig .tc := ⟨.hbm, 241, rfl⟩
abbrev main_call12_v9 : Ref sig .tc := ⟨.hbm, 242, rfl⟩
abbrev main_call12_v10 : Ref sig .tc := ⟨.hbm, 243, rfl⟩
abbrev main_call12_v11 : Ref sig .tc := ⟨.hbm, 244, rfl⟩
abbrev main_call12_c_3 : Ref sig .tc := ⟨.hbm, 245, rfl⟩
abbrev main_call12_v12 : Ref sig .tc := ⟨.hbm, 246, rfl⟩
abbrev main_call12_v13 : Ref sig .tc := ⟨.hbm, 247, rfl⟩
abbrev main_call12_c_4 : Ref sig .tc := ⟨.hbm, 248, rfl⟩
abbrev main_call12_v14 : Ref sig .tc := ⟨.hbm, 249, rfl⟩
abbrev main_v42 : Ref sig .tc := ⟨.hbm, 250, rfl⟩
abbrev main_v43 : Ref sig .tc := ⟨.hbm, 251, rfl⟩
abbrev main_call13_c : Ref sig .tc := ⟨.hbm, 252, rfl⟩
abbrev main_call13_v0 : Ref sig .tc := ⟨.hbm, 253, rfl⟩
abbrev main_call13_v1 : Ref sig .tc := ⟨.hbm, 254, rfl⟩
abbrev main_call13_c_0 : Ref sig .tc := ⟨.hbm, 255, rfl⟩
abbrev main_call13_v2 : Ref sig .tc := ⟨.hbm, 256, rfl⟩
abbrev main_call13_v3 : Ref sig .tc := ⟨.hbm, 257, rfl⟩
abbrev main_call13_v4 : Ref sig .tc := ⟨.hbm, 258, rfl⟩
abbrev main_call13_c_1 : Ref sig .tc := ⟨.hbm, 259, rfl⟩
abbrev main_call13_c_2 : Ref sig .tc := ⟨.hbm, 260, rfl⟩
abbrev main_call13_v5 : Ref sig .tc := ⟨.hbm, 261, rfl⟩
abbrev main_call13_v6 : Ref sig .tc := ⟨.hbm, 262, rfl⟩
abbrev main_call13_v7 : Ref sig .tc := ⟨.hbm, 263, rfl⟩
abbrev main_call13_v8 : Ref sig .tc := ⟨.hbm, 264, rfl⟩
abbrev main_call13_v9 : Ref sig .tc := ⟨.hbm, 265, rfl⟩
abbrev main_call13_v10 : Ref sig .tc := ⟨.hbm, 266, rfl⟩
abbrev main_call13_c_3 : Ref sig .tc := ⟨.hbm, 267, rfl⟩
abbrev main_call13_v11 : Ref sig .tc := ⟨.hbm, 268, rfl⟩
abbrev main_call13_v12 : Ref sig .tc := ⟨.hbm, 269, rfl⟩
abbrev main_call13_v13 : Ref sig .tc := ⟨.hbm, 270, rfl⟩
abbrev main_call13_cst : Ref sig .tc := ⟨.hbm, 271, rfl⟩
abbrev main_call13_v14 : Ref sig .tc := ⟨.hbm, 272, rfl⟩
abbrev main_v44 : Ref sig .tc := ⟨.hbm, 273, rfl⟩
abbrev main_call14_v0 : Ref sig .tc := ⟨.hbm, 274, rfl⟩
abbrev main_call14_cst : Ref sig .tc := ⟨.hbm, 275, rfl⟩
abbrev main_call14_v1 : Ref sig .tc := ⟨.hbm, 276, rfl⟩
abbrev main_call14_v2 : Ref sig .tc := ⟨.hbm, 277, rfl⟩
abbrev main_v45 : Ref sig .tc := ⟨.hbm, 278, rfl⟩
abbrev main_v46 : Ref sig .tc := ⟨.hbm, 279, rfl⟩
abbrev main_v47 : Ref sig .tc := ⟨.hbm, 280, rfl⟩
abbrev main_call15_v0 : Ref sig .tc := ⟨.hbm, 281, rfl⟩
abbrev main_call15_cst : Ref sig .tc := ⟨.hbm, 282, rfl⟩
abbrev main_call15_v1 : Ref sig .tc := ⟨.hbm, 283, rfl⟩
abbrev main_call15_v2 : Ref sig .tc := ⟨.hbm, 284, rfl⟩
abbrev main_v48 : Ref sig .tc := ⟨.hbm, 285, rfl⟩
abbrev main_v49 : Ref sig .tc := ⟨.hbm, 286, rfl⟩
abbrev main_v50 : Ref sig .tc := ⟨.hbm, 287, rfl⟩
abbrev main_v51 : Ref sig .tc := ⟨.hbm, 288, rfl⟩
abbrev main_v52 : Ref sig .tc := ⟨.hbm, 289, rfl⟩
abbrev main_v53 : Ref sig .tc := ⟨.hbm, 290, rfl⟩
abbrev main_v54 : Ref sig .tc := ⟨.hbm, 291, rfl⟩
abbrev main_call16_c : Ref sig .tc := ⟨.hbm, 292, rfl⟩
abbrev main_call16_v0 : Ref sig .tc := ⟨.hbm, 293, rfl⟩
abbrev main_call16_v1 : Ref sig .tc := ⟨.hbm, 294, rfl⟩
abbrev main_call16_c_0 : Ref sig .tc := ⟨.hbm, 295, rfl⟩
abbrev main_call16_v2 : Ref sig .tc := ⟨.hbm, 296, rfl⟩
abbrev main_call16_v3 : Ref sig .tc := ⟨.hbm, 297, rfl⟩
abbrev main_call16_v4 : Ref sig .tc := ⟨.hbm, 298, rfl⟩
abbrev main_call16_v5 : Ref sig .tc := ⟨.hbm, 299, rfl⟩
abbrev main_call16_c_1 : Ref sig .tc := ⟨.hbm, 300, rfl⟩
abbrev main_call16_c_2 : Ref sig .tc := ⟨.hbm, 301, rfl⟩
abbrev main_call16_v6 : Ref sig .tc := ⟨.hbm, 302, rfl⟩
abbrev main_call16_v7 : Ref sig .tc := ⟨.hbm, 303, rfl⟩
abbrev main_call16_v8 : Ref sig .tc := ⟨.hbm, 304, rfl⟩
abbrev main_call16_v9 : Ref sig .tc := ⟨.hbm, 305, rfl⟩
abbrev main_call16_v10 : Ref sig .tc := ⟨.hbm, 306, rfl⟩
abbrev main_call16_v11 : Ref sig .tc := ⟨.hbm, 307, rfl⟩
abbrev main_call16_c_3 : Ref sig .tc := ⟨.hbm, 308, rfl⟩
abbrev main_call16_v12 : Ref sig .tc := ⟨.hbm, 309, rfl⟩
abbrev main_call16_v13 : Ref sig .tc := ⟨.hbm, 310, rfl⟩
abbrev main_call16_c_4 : Ref sig .tc := ⟨.hbm, 311, rfl⟩
abbrev main_call16_v14 : Ref sig .tc := ⟨.hbm, 312, rfl⟩
abbrev main_v55 : Ref sig .tc := ⟨.hbm, 313, rfl⟩
abbrev main_v56 : Ref sig .tc := ⟨.hbm, 314, rfl⟩
abbrev main_call17_c : Ref sig .tc := ⟨.hbm, 315, rfl⟩
abbrev main_call17_v0 : Ref sig .tc := ⟨.hbm, 316, rfl⟩
abbrev main_call17_v1 : Ref sig .tc := ⟨.hbm, 317, rfl⟩
abbrev main_call17_c_0 : Ref sig .tc := ⟨.hbm, 318, rfl⟩
abbrev main_call17_v2 : Ref sig .tc := ⟨.hbm, 319, rfl⟩
abbrev main_call17_v3 : Ref sig .tc := ⟨.hbm, 320, rfl⟩
abbrev main_call17_v4 : Ref sig .tc := ⟨.hbm, 321, rfl⟩
abbrev main_call17_c_1 : Ref sig .tc := ⟨.hbm, 322, rfl⟩
abbrev main_call17_c_2 : Ref sig .tc := ⟨.hbm, 323, rfl⟩
abbrev main_call17_v5 : Ref sig .tc := ⟨.hbm, 324, rfl⟩
abbrev main_call17_v6 : Ref sig .tc := ⟨.hbm, 325, rfl⟩
abbrev main_call17_v7 : Ref sig .tc := ⟨.hbm, 326, rfl⟩
abbrev main_call17_v8 : Ref sig .tc := ⟨.hbm, 327, rfl⟩
abbrev main_call17_v9 : Ref sig .tc := ⟨.hbm, 328, rfl⟩
abbrev main_call17_v10 : Ref sig .tc := ⟨.hbm, 329, rfl⟩
abbrev main_call17_c_3 : Ref sig .tc := ⟨.hbm, 330, rfl⟩
abbrev main_call17_v11 : Ref sig .tc := ⟨.hbm, 331, rfl⟩
abbrev main_call17_v12 : Ref sig .tc := ⟨.hbm, 332, rfl⟩
abbrev main_call17_v13 : Ref sig .tc := ⟨.hbm, 333, rfl⟩
abbrev main_call17_cst : Ref sig .tc := ⟨.hbm, 334, rfl⟩
abbrev main_call17_v14 : Ref sig .tc := ⟨.hbm, 335, rfl⟩
abbrev main_v57 : Ref sig .tc := ⟨.hbm, 336, rfl⟩
abbrev main_v58 : Ref sig .tc := ⟨.hbm, 337, rfl⟩
abbrev main_v59 : Ref sig .tc := ⟨.hbm, 338, rfl⟩
abbrev main_call18_c : Ref sig .tc := ⟨.hbm, 339, rfl⟩
abbrev main_call18_v0 : Ref sig .tc := ⟨.hbm, 340, rfl⟩
abbrev main_call18_v1 : Ref sig .tc := ⟨.hbm, 341, rfl⟩
abbrev main_call18_c_0 : Ref sig .tc := ⟨.hbm, 342, rfl⟩
abbrev main_call18_v2 : Ref sig .tc := ⟨.hbm, 343, rfl⟩
abbrev main_call18_v3 : Ref sig .tc := ⟨.hbm, 344, rfl⟩
abbrev main_call18_v4 : Ref sig .tc := ⟨.hbm, 345, rfl⟩
abbrev main_call18_v5 : Ref sig .tc := ⟨.hbm, 346, rfl⟩
abbrev main_call18_c_1 : Ref sig .tc := ⟨.hbm, 347, rfl⟩
abbrev main_call18_c_2 : Ref sig .tc := ⟨.hbm, 348, rfl⟩
abbrev main_call18_v6 : Ref sig .tc := ⟨.hbm, 349, rfl⟩
abbrev main_call18_v7 : Ref sig .tc := ⟨.hbm, 350, rfl⟩
abbrev main_call18_v8 : Ref sig .tc := ⟨.hbm, 351, rfl⟩
abbrev main_call18_v9 : Ref sig .tc := ⟨.hbm, 352, rfl⟩
abbrev main_call18_v10 : Ref sig .tc := ⟨.hbm, 353, rfl⟩
abbrev main_call18_v11 : Ref sig .tc := ⟨.hbm, 354, rfl⟩
abbrev main_call18_c_3 : Ref sig .tc := ⟨.hbm, 355, rfl⟩
abbrev main_call18_v12 : Ref sig .tc := ⟨.hbm, 356, rfl⟩
abbrev main_call18_v13 : Ref sig .tc := ⟨.hbm, 357, rfl⟩
abbrev main_call18_c_4 : Ref sig .tc := ⟨.hbm, 358, rfl⟩
abbrev main_call18_v14 : Ref sig .tc := ⟨.hbm, 359, rfl⟩
abbrev main_v60 : Ref sig .tc := ⟨.hbm, 360, rfl⟩
abbrev main_v61 : Ref sig .tc := ⟨.hbm, 361, rfl⟩
abbrev main_call19_c : Ref sig .tc := ⟨.hbm, 362, rfl⟩
abbrev main_call19_v0 : Ref sig .tc := ⟨.hbm, 363, rfl⟩
abbrev main_call19_v1 : Ref sig .tc := ⟨.hbm, 364, rfl⟩
abbrev main_call19_c_0 : Ref sig .tc := ⟨.hbm, 365, rfl⟩
abbrev main_call19_v2 : Ref sig .tc := ⟨.hbm, 366, rfl⟩
abbrev main_call19_v3 : Ref sig .tc := ⟨.hbm, 367, rfl⟩
abbrev main_call19_v4 : Ref sig .tc := ⟨.hbm, 368, rfl⟩
abbrev main_call19_c_1 : Ref sig .tc := ⟨.hbm, 369, rfl⟩
abbrev main_call19_c_2 : Ref sig .tc := ⟨.hbm, 370, rfl⟩
abbrev main_call19_v5 : Ref sig .tc := ⟨.hbm, 371, rfl⟩
abbrev main_call19_v6 : Ref sig .tc := ⟨.hbm, 372, rfl⟩
abbrev main_call19_v7 : Ref sig .tc := ⟨.hbm, 373, rfl⟩
abbrev main_call19_v8 : Ref sig .tc := ⟨.hbm, 374, rfl⟩
abbrev main_call19_v9 : Ref sig .tc := ⟨.hbm, 375, rfl⟩
abbrev main_call19_v10 : Ref sig .tc := ⟨.hbm, 376, rfl⟩
abbrev main_call19_c_3 : Ref sig .tc := ⟨.hbm, 377, rfl⟩
abbrev main_call19_v11 : Ref sig .tc := ⟨.hbm, 378, rfl⟩
abbrev main_call19_v12 : Ref sig .tc := ⟨.hbm, 379, rfl⟩
abbrev main_call19_v13 : Ref sig .tc := ⟨.hbm, 380, rfl⟩
abbrev main_call19_cst : Ref sig .tc := ⟨.hbm, 381, rfl⟩
abbrev main_call19_v14 : Ref sig .tc := ⟨.hbm, 382, rfl⟩
abbrev main_v62 : Ref sig .tc := ⟨.hbm, 383, rfl⟩
abbrev main_call20_v0 : Ref sig .tc := ⟨.hbm, 384, rfl⟩
abbrev main_call20_cst : Ref sig .tc := ⟨.hbm, 385, rfl⟩
abbrev main_call20_v1 : Ref sig .tc := ⟨.hbm, 386, rfl⟩
abbrev main_call20_v2 : Ref sig .tc := ⟨.hbm, 387, rfl⟩
abbrev main_v63 : Ref sig .tc := ⟨.hbm, 388, rfl⟩
abbrev main_v64 : Ref sig .tc := ⟨.hbm, 389, rfl⟩
abbrev main_v65 : Ref sig .tc := ⟨.hbm, 390, rfl⟩
abbrev main_call21_v0 : Ref sig .tc := ⟨.hbm, 391, rfl⟩
abbrev main_call21_cst : Ref sig .tc := ⟨.hbm, 392, rfl⟩
abbrev main_call21_v1 : Ref sig .tc := ⟨.hbm, 393, rfl⟩
abbrev main_call21_v2 : Ref sig .tc := ⟨.hbm, 394, rfl⟩
abbrev main_v66 : Ref sig .tc := ⟨.hbm, 395, rfl⟩
abbrev main_v67 : Ref sig .tc := ⟨.hbm, 396, rfl⟩
abbrev main_v68 : Ref sig .tc := ⟨.hbm, 397, rfl⟩
abbrev main_v69 : Ref sig .tc := ⟨.hbm, 398, rfl⟩
abbrev main_v70 : Ref sig .tc := ⟨.hbm, 399, rfl⟩
abbrev main_v71 : Ref sig .tc := ⟨.hbm, 400, rfl⟩
abbrev main_v72 : Ref sig .tc := ⟨.hbm, 401, rfl⟩
abbrev main_call22_c : Ref sig .tc := ⟨.hbm, 402, rfl⟩
abbrev main_call22_v0 : Ref sig .tc := ⟨.hbm, 403, rfl⟩
abbrev main_call22_v1 : Ref sig .tc := ⟨.hbm, 404, rfl⟩
abbrev main_call22_c_0 : Ref sig .tc := ⟨.hbm, 405, rfl⟩
abbrev main_call22_v2 : Ref sig .tc := ⟨.hbm, 406, rfl⟩
abbrev main_call22_v3 : Ref sig .tc := ⟨.hbm, 407, rfl⟩
abbrev main_call22_v4 : Ref sig .tc := ⟨.hbm, 408, rfl⟩
abbrev main_call22_v5 : Ref sig .tc := ⟨.hbm, 409, rfl⟩
abbrev main_call22_c_1 : Ref sig .tc := ⟨.hbm, 410, rfl⟩
abbrev main_call22_c_2 : Ref sig .tc := ⟨.hbm, 411, rfl⟩
abbrev main_call22_v6 : Ref sig .tc := ⟨.hbm, 412, rfl⟩
abbrev main_call22_v7 : Ref sig .tc := ⟨.hbm, 413, rfl⟩
abbrev main_call22_v8 : Ref sig .tc := ⟨.hbm, 414, rfl⟩
abbrev main_call22_v9 : Ref sig .tc := ⟨.hbm, 415, rfl⟩
abbrev main_call22_v10 : Ref sig .tc := ⟨.hbm, 416, rfl⟩
abbrev main_call22_v11 : Ref sig .tc := ⟨.hbm, 417, rfl⟩
abbrev main_call22_c_3 : Ref sig .tc := ⟨.hbm, 418, rfl⟩
abbrev main_call22_v12 : Ref sig .tc := ⟨.hbm, 419, rfl⟩
abbrev main_call22_v13 : Ref sig .tc := ⟨.hbm, 420, rfl⟩
abbrev main_call22_c_4 : Ref sig .tc := ⟨.hbm, 421, rfl⟩
abbrev main_call22_v14 : Ref sig .tc := ⟨.hbm, 422, rfl⟩
abbrev main_v73 : Ref sig .tc := ⟨.hbm, 423, rfl⟩
abbrev main_v74 : Ref sig .tc := ⟨.hbm, 424, rfl⟩
abbrev main_call23_c : Ref sig .tc := ⟨.hbm, 425, rfl⟩
abbrev main_call23_v0 : Ref sig .tc := ⟨.hbm, 426, rfl⟩
abbrev main_call23_v1 : Ref sig .tc := ⟨.hbm, 427, rfl⟩
abbrev main_call23_c_0 : Ref sig .tc := ⟨.hbm, 428, rfl⟩
abbrev main_call23_v2 : Ref sig .tc := ⟨.hbm, 429, rfl⟩
abbrev main_call23_v3 : Ref sig .tc := ⟨.hbm, 430, rfl⟩
abbrev main_call23_v4 : Ref sig .tc := ⟨.hbm, 431, rfl⟩
abbrev main_call23_c_1 : Ref sig .tc := ⟨.hbm, 432, rfl⟩
abbrev main_call23_c_2 : Ref sig .tc := ⟨.hbm, 433, rfl⟩
abbrev main_call23_v5 : Ref sig .tc := ⟨.hbm, 434, rfl⟩
abbrev main_call23_v6 : Ref sig .tc := ⟨.hbm, 435, rfl⟩
abbrev main_call23_v7 : Ref sig .tc := ⟨.hbm, 436, rfl⟩
abbrev main_call23_v8 : Ref sig .tc := ⟨.hbm, 437, rfl⟩
abbrev main_call23_v9 : Ref sig .tc := ⟨.hbm, 438, rfl⟩
abbrev main_call23_v10 : Ref sig .tc := ⟨.hbm, 439, rfl⟩
abbrev main_call23_c_3 : Ref sig .tc := ⟨.hbm, 440, rfl⟩
abbrev main_call23_v11 : Ref sig .tc := ⟨.hbm, 441, rfl⟩
abbrev main_call23_v12 : Ref sig .tc := ⟨.hbm, 442, rfl⟩
abbrev main_call23_v13 : Ref sig .tc := ⟨.hbm, 443, rfl⟩
abbrev main_call23_cst : Ref sig .tc := ⟨.hbm, 444, rfl⟩
abbrev main_call23_v14 : Ref sig .tc := ⟨.hbm, 445, rfl⟩
abbrev main_v75 : Ref sig .tc := ⟨.hbm, 446, rfl⟩
abbrev main_v76 : Ref sig .tc := ⟨.hbm, 447, rfl⟩
abbrev main_v77 : Ref sig .tc := ⟨.hbm, 448, rfl⟩
abbrev main_call24_c : Ref sig .tc := ⟨.hbm, 449, rfl⟩
abbrev main_call24_v0 : Ref sig .tc := ⟨.hbm, 450, rfl⟩
abbrev main_call24_v1 : Ref sig .tc := ⟨.hbm, 451, rfl⟩
abbrev main_call24_c_0 : Ref sig .tc := ⟨.hbm, 452, rfl⟩
abbrev main_call24_v2 : Ref sig .tc := ⟨.hbm, 453, rfl⟩
abbrev main_call24_v3 : Ref sig .tc := ⟨.hbm, 454, rfl⟩
abbrev main_call24_v4 : Ref sig .tc := ⟨.hbm, 455, rfl⟩
abbrev main_call24_v5 : Ref sig .tc := ⟨.hbm, 456, rfl⟩
abbrev main_call24_c_1 : Ref sig .tc := ⟨.hbm, 457, rfl⟩
abbrev main_call24_c_2 : Ref sig .tc := ⟨.hbm, 458, rfl⟩
abbrev main_call24_v6 : Ref sig .tc := ⟨.hbm, 459, rfl⟩
abbrev main_call24_v7 : Ref sig .tc := ⟨.hbm, 460, rfl⟩
abbrev main_call24_v8 : Ref sig .tc := ⟨.hbm, 461, rfl⟩
abbrev main_call24_v9 : Ref sig .tc := ⟨.hbm, 462, rfl⟩
abbrev main_call24_v10 : Ref sig .tc := ⟨.hbm, 463, rfl⟩
abbrev main_call24_v11 : Ref sig .tc := ⟨.hbm, 464, rfl⟩
abbrev main_call24_c_3 : Ref sig .tc := ⟨.hbm, 465, rfl⟩
abbrev main_call24_v12 : Ref sig .tc := ⟨.hbm, 466, rfl⟩
abbrev main_call24_v13 : Ref sig .tc := ⟨.hbm, 467, rfl⟩
abbrev main_call24_c_4 : Ref sig .tc := ⟨.hbm, 468, rfl⟩
abbrev main_call24_v14 : Ref sig .tc := ⟨.hbm, 469, rfl⟩
abbrev main_v78 : Ref sig .tc := ⟨.hbm, 470, rfl⟩
abbrev main_v79 : Ref sig .tc := ⟨.hbm, 471, rfl⟩
abbrev main_call25_c : Ref sig .tc := ⟨.hbm, 472, rfl⟩
abbrev main_call25_v0 : Ref sig .tc := ⟨.hbm, 473, rfl⟩
abbrev main_call25_v1 : Ref sig .tc := ⟨.hbm, 474, rfl⟩
abbrev main_call25_c_0 : Ref sig .tc := ⟨.hbm, 475, rfl⟩
abbrev main_call25_v2 : Ref sig .tc := ⟨.hbm, 476, rfl⟩
abbrev main_call25_v3 : Ref sig .tc := ⟨.hbm, 477, rfl⟩
abbrev main_call25_v4 : Ref sig .tc := ⟨.hbm, 478, rfl⟩
abbrev main_call25_c_1 : Ref sig .tc := ⟨.hbm, 479, rfl⟩
abbrev main_call25_c_2 : Ref sig .tc := ⟨.hbm, 480, rfl⟩
abbrev main_call25_v5 : Ref sig .tc := ⟨.hbm, 481, rfl⟩
abbrev main_call25_v6 : Ref sig .tc := ⟨.hbm, 482, rfl⟩
abbrev main_call25_v7 : Ref sig .tc := ⟨.hbm, 483, rfl⟩
abbrev main_call25_v8 : Ref sig .tc := ⟨.hbm, 484, rfl⟩
abbrev main_call25_v9 : Ref sig .tc := ⟨.hbm, 485, rfl⟩
abbrev main_call25_v10 : Ref sig .tc := ⟨.hbm, 486, rfl⟩
abbrev main_call25_c_3 : Ref sig .tc := ⟨.hbm, 487, rfl⟩
abbrev main_call25_v11 : Ref sig .tc := ⟨.hbm, 488, rfl⟩
abbrev main_call25_v12 : Ref sig .tc := ⟨.hbm, 489, rfl⟩
abbrev main_call25_v13 : Ref sig .tc := ⟨.hbm, 490, rfl⟩
abbrev main_call25_cst : Ref sig .tc := ⟨.hbm, 491, rfl⟩
abbrev main_call25_v14 : Ref sig .tc := ⟨.hbm, 492, rfl⟩
abbrev main_v80 : Ref sig .tc := ⟨.hbm, 493, rfl⟩
abbrev main_call26_v0 : Ref sig .tc := ⟨.hbm, 494, rfl⟩
abbrev main_call26_cst : Ref sig .tc := ⟨.hbm, 495, rfl⟩
abbrev main_call26_v1 : Ref sig .tc := ⟨.hbm, 496, rfl⟩
abbrev main_call26_v2 : Ref sig .tc := ⟨.hbm, 497, rfl⟩
abbrev main_v81 : Ref sig .tc := ⟨.hbm, 498, rfl⟩
abbrev main_v82 : Ref sig .tc := ⟨.hbm, 499, rfl⟩
abbrev main_v83 : Ref sig .tc := ⟨.hbm, 500, rfl⟩
abbrev main_call27_v0 : Ref sig .tc := ⟨.hbm, 501, rfl⟩
abbrev main_call27_cst : Ref sig .tc := ⟨.hbm, 502, rfl⟩
abbrev main_call27_v1 : Ref sig .tc := ⟨.hbm, 503, rfl⟩
abbrev main_call27_v2 : Ref sig .tc := ⟨.hbm, 504, rfl⟩
abbrev main_v84 : Ref sig .tc := ⟨.hbm, 505, rfl⟩
abbrev main_v85 : Ref sig .tc := ⟨.hbm, 506, rfl⟩
abbrev main_v86 : Ref sig .tc := ⟨.hbm, 507, rfl⟩
abbrev main_v87 : Ref sig .tc := ⟨.hbm, 508, rfl⟩
abbrev main_v88 : Ref sig .tc := ⟨.hbm, 509, rfl⟩
abbrev main_v89 : Ref sig .tc := ⟨.hbm, 510, rfl⟩
abbrev main_v90 : Ref sig .tc := ⟨.hbm, 511, rfl⟩
abbrev main_call28_c : Ref sig .tc := ⟨.hbm, 512, rfl⟩
abbrev main_call28_v0 : Ref sig .tc := ⟨.hbm, 513, rfl⟩
abbrev main_call28_v1 : Ref sig .tc := ⟨.hbm, 514, rfl⟩
abbrev main_call28_c_0 : Ref sig .tc := ⟨.hbm, 515, rfl⟩
abbrev main_call28_v2 : Ref sig .tc := ⟨.hbm, 516, rfl⟩
abbrev main_call28_v3 : Ref sig .tc := ⟨.hbm, 517, rfl⟩
abbrev main_call28_v4 : Ref sig .tc := ⟨.hbm, 518, rfl⟩
abbrev main_call28_v5 : Ref sig .tc := ⟨.hbm, 519, rfl⟩
abbrev main_call28_c_1 : Ref sig .tc := ⟨.hbm, 520, rfl⟩
abbrev main_call28_c_2 : Ref sig .tc := ⟨.hbm, 521, rfl⟩
abbrev main_call28_v6 : Ref sig .tc := ⟨.hbm, 522, rfl⟩
abbrev main_call28_v7 : Ref sig .tc := ⟨.hbm, 523, rfl⟩
abbrev main_call28_v8 : Ref sig .tc := ⟨.hbm, 524, rfl⟩
abbrev main_call28_v9 : Ref sig .tc := ⟨.hbm, 525, rfl⟩
abbrev main_call28_v10 : Ref sig .tc := ⟨.hbm, 526, rfl⟩
abbrev main_call28_v11 : Ref sig .tc := ⟨.hbm, 527, rfl⟩
abbrev main_call28_c_3 : Ref sig .tc := ⟨.hbm, 528, rfl⟩
abbrev main_call28_v12 : Ref sig .tc := ⟨.hbm, 529, rfl⟩
abbrev main_call28_v13 : Ref sig .tc := ⟨.hbm, 530, rfl⟩
abbrev main_call28_c_4 : Ref sig .tc := ⟨.hbm, 531, rfl⟩
abbrev main_call28_v14 : Ref sig .tc := ⟨.hbm, 532, rfl⟩
abbrev main_v91 : Ref sig .tc := ⟨.hbm, 533, rfl⟩
abbrev main_v92 : Ref sig .tc := ⟨.hbm, 534, rfl⟩
abbrev main_call29_c : Ref sig .tc := ⟨.hbm, 535, rfl⟩
abbrev main_call29_v0 : Ref sig .tc := ⟨.hbm, 536, rfl⟩
abbrev main_call29_v1 : Ref sig .tc := ⟨.hbm, 537, rfl⟩
abbrev main_call29_c_0 : Ref sig .tc := ⟨.hbm, 538, rfl⟩
abbrev main_call29_v2 : Ref sig .tc := ⟨.hbm, 539, rfl⟩
abbrev main_call29_v3 : Ref sig .tc := ⟨.hbm, 540, rfl⟩
abbrev main_call29_v4 : Ref sig .tc := ⟨.hbm, 541, rfl⟩
abbrev main_call29_c_1 : Ref sig .tc := ⟨.hbm, 542, rfl⟩
abbrev main_call29_c_2 : Ref sig .tc := ⟨.hbm, 543, rfl⟩
abbrev main_call29_v5 : Ref sig .tc := ⟨.hbm, 544, rfl⟩
abbrev main_call29_v6 : Ref sig .tc := ⟨.hbm, 545, rfl⟩
abbrev main_call29_v7 : Ref sig .tc := ⟨.hbm, 546, rfl⟩
abbrev main_call29_v8 : Ref sig .tc := ⟨.hbm, 547, rfl⟩
abbrev main_call29_v9 : Ref sig .tc := ⟨.hbm, 548, rfl⟩
abbrev main_call29_v10 : Ref sig .tc := ⟨.hbm, 549, rfl⟩
abbrev main_call29_c_3 : Ref sig .tc := ⟨.hbm, 550, rfl⟩
abbrev main_call29_v11 : Ref sig .tc := ⟨.hbm, 551, rfl⟩
abbrev main_call29_v12 : Ref sig .tc := ⟨.hbm, 552, rfl⟩
abbrev main_call29_v13 : Ref sig .tc := ⟨.hbm, 553, rfl⟩
abbrev main_call29_cst : Ref sig .tc := ⟨.hbm, 554, rfl⟩
abbrev main_call29_v14 : Ref sig .tc := ⟨.hbm, 555, rfl⟩
abbrev main_v93 : Ref sig .tc := ⟨.hbm, 556, rfl⟩
abbrev main_v94 : Ref sig .tc := ⟨.hbm, 557, rfl⟩
abbrev main_v95 : Ref sig .tc := ⟨.hbm, 558, rfl⟩
abbrev main_call30_c : Ref sig .tc := ⟨.hbm, 559, rfl⟩
abbrev main_call30_v0 : Ref sig .tc := ⟨.hbm, 560, rfl⟩
abbrev main_call30_v1 : Ref sig .tc := ⟨.hbm, 561, rfl⟩
abbrev main_call30_c_0 : Ref sig .tc := ⟨.hbm, 562, rfl⟩
abbrev main_call30_v2 : Ref sig .tc := ⟨.hbm, 563, rfl⟩
abbrev main_call30_v3 : Ref sig .tc := ⟨.hbm, 564, rfl⟩
abbrev main_call30_v4 : Ref sig .tc := ⟨.hbm, 565, rfl⟩
abbrev main_call30_v5 : Ref sig .tc := ⟨.hbm, 566, rfl⟩
abbrev main_call30_c_1 : Ref sig .tc := ⟨.hbm, 567, rfl⟩
abbrev main_call30_c_2 : Ref sig .tc := ⟨.hbm, 568, rfl⟩
abbrev main_call30_v6 : Ref sig .tc := ⟨.hbm, 569, rfl⟩
abbrev main_call30_v7 : Ref sig .tc := ⟨.hbm, 570, rfl⟩
abbrev main_call30_v8 : Ref sig .tc := ⟨.hbm, 571, rfl⟩
abbrev main_call30_v9 : Ref sig .tc := ⟨.hbm, 572, rfl⟩
abbrev main_call30_v10 : Ref sig .tc := ⟨.hbm, 573, rfl⟩
abbrev main_call30_v11 : Ref sig .tc := ⟨.hbm, 574, rfl⟩
abbrev main_call30_c_3 : Ref sig .tc := ⟨.hbm, 575, rfl⟩
abbrev main_call30_v12 : Ref sig .tc := ⟨.hbm, 576, rfl⟩
abbrev main_call30_v13 : Ref sig .tc := ⟨.hbm, 577, rfl⟩
abbrev main_call30_c_4 : Ref sig .tc := ⟨.hbm, 578, rfl⟩
abbrev main_call30_v14 : Ref sig .tc := ⟨.hbm, 579, rfl⟩
abbrev main_v96 : Ref sig .tc := ⟨.hbm, 580, rfl⟩
abbrev main_v97 : Ref sig .tc := ⟨.hbm, 581, rfl⟩
abbrev main_call31_c : Ref sig .tc := ⟨.hbm, 582, rfl⟩
abbrev main_call31_v0 : Ref sig .tc := ⟨.hbm, 583, rfl⟩
abbrev main_call31_v1 : Ref sig .tc := ⟨.hbm, 584, rfl⟩
abbrev main_call31_c_0 : Ref sig .tc := ⟨.hbm, 585, rfl⟩
abbrev main_call31_v2 : Ref sig .tc := ⟨.hbm, 586, rfl⟩
abbrev main_call31_v3 : Ref sig .tc := ⟨.hbm, 587, rfl⟩
abbrev main_call31_v4 : Ref sig .tc := ⟨.hbm, 588, rfl⟩
abbrev main_call31_c_1 : Ref sig .tc := ⟨.hbm, 589, rfl⟩
abbrev main_call31_c_2 : Ref sig .tc := ⟨.hbm, 590, rfl⟩
abbrev main_call31_v5 : Ref sig .tc := ⟨.hbm, 591, rfl⟩
abbrev main_call31_v6 : Ref sig .tc := ⟨.hbm, 592, rfl⟩
abbrev main_call31_v7 : Ref sig .tc := ⟨.hbm, 593, rfl⟩
abbrev main_call31_v8 : Ref sig .tc := ⟨.hbm, 594, rfl⟩
abbrev main_call31_v9 : Ref sig .tc := ⟨.hbm, 595, rfl⟩
abbrev main_call31_v10 : Ref sig .tc := ⟨.hbm, 596, rfl⟩
abbrev main_call31_c_3 : Ref sig .tc := ⟨.hbm, 597, rfl⟩
abbrev main_call31_v11 : Ref sig .tc := ⟨.hbm, 598, rfl⟩
abbrev main_call31_v12 : Ref sig .tc := ⟨.hbm, 599, rfl⟩
abbrev main_call31_v13 : Ref sig .tc := ⟨.hbm, 600, rfl⟩
abbrev main_call31_cst : Ref sig .tc := ⟨.hbm, 601, rfl⟩
abbrev main_call31_v14 : Ref sig .tc := ⟨.hbm, 602, rfl⟩
abbrev main_v98 : Ref sig .tc := ⟨.hbm, 603, rfl⟩
abbrev main_call32_v0 : Ref sig .tc := ⟨.hbm, 604, rfl⟩
abbrev main_call32_cst : Ref sig .tc := ⟨.hbm, 605, rfl⟩
abbrev main_call32_v1 : Ref sig .tc := ⟨.hbm, 606, rfl⟩
abbrev main_call32_v2 : Ref sig .tc := ⟨.hbm, 607, rfl⟩
abbrev main_v99 : Ref sig .tc := ⟨.hbm, 608, rfl⟩
abbrev main_v100 : Ref sig .tc := ⟨.hbm, 609, rfl⟩
abbrev main_v101 : Ref sig .tc := ⟨.hbm, 610, rfl⟩
abbrev main_call33_v0 : Ref sig .tc := ⟨.hbm, 611, rfl⟩
abbrev main_call33_cst : Ref sig .tc := ⟨.hbm, 612, rfl⟩
abbrev main_call33_v1 : Ref sig .tc := ⟨.hbm, 613, rfl⟩
abbrev main_call33_v2 : Ref sig .tc := ⟨.hbm, 614, rfl⟩
abbrev main_v102 : Ref sig .tc := ⟨.hbm, 615, rfl⟩
abbrev main_v103 : Ref sig .tc := ⟨.hbm, 616, rfl⟩
abbrev main_v104 : Ref sig .tc := ⟨.hbm, 617, rfl⟩
abbrev main_v105 : Ref sig .tc := ⟨.hbm, 618, rfl⟩
abbrev main_v106 : Ref sig .tc := ⟨.hbm, 619, rfl⟩
abbrev main_v107 : Ref sig .tc := ⟨.hbm, 620, rfl⟩
abbrev main_v108 : Ref sig .tc := ⟨.hbm, 621, rfl⟩
abbrev main_call34_c : Ref sig .tc := ⟨.hbm, 622, rfl⟩
abbrev main_call34_v0 : Ref sig .tc := ⟨.hbm, 623, rfl⟩
abbrev main_call34_v1 : Ref sig .tc := ⟨.hbm, 624, rfl⟩
abbrev main_call34_c_0 : Ref sig .tc := ⟨.hbm, 625, rfl⟩
abbrev main_call34_v2 : Ref sig .tc := ⟨.hbm, 626, rfl⟩
abbrev main_call34_v3 : Ref sig .tc := ⟨.hbm, 627, rfl⟩
abbrev main_call34_v4 : Ref sig .tc := ⟨.hbm, 628, rfl⟩
abbrev main_call34_v5 : Ref sig .tc := ⟨.hbm, 629, rfl⟩
abbrev main_call34_c_1 : Ref sig .tc := ⟨.hbm, 630, rfl⟩
abbrev main_call34_c_2 : Ref sig .tc := ⟨.hbm, 631, rfl⟩
abbrev main_call34_v6 : Ref sig .tc := ⟨.hbm, 632, rfl⟩
abbrev main_call34_v7 : Ref sig .tc := ⟨.hbm, 633, rfl⟩
abbrev main_call34_v8 : Ref sig .tc := ⟨.hbm, 634, rfl⟩
abbrev main_call34_v9 : Ref sig .tc := ⟨.hbm, 635, rfl⟩
abbrev main_call34_v10 : Ref sig .tc := ⟨.hbm, 636, rfl⟩
abbrev main_call34_v11 : Ref sig .tc := ⟨.hbm, 637, rfl⟩
abbrev main_call34_c_3 : Ref sig .tc := ⟨.hbm, 638, rfl⟩
abbrev main_call34_v12 : Ref sig .tc := ⟨.hbm, 639, rfl⟩
abbrev main_call34_v13 : Ref sig .tc := ⟨.hbm, 640, rfl⟩
abbrev main_call34_c_4 : Ref sig .tc := ⟨.hbm, 641, rfl⟩
abbrev main_call34_v14 : Ref sig .tc := ⟨.hbm, 642, rfl⟩
abbrev main_v109 : Ref sig .tc := ⟨.hbm, 643, rfl⟩
abbrev main_v110 : Ref sig .tc := ⟨.hbm, 644, rfl⟩
abbrev main_call35_c : Ref sig .tc := ⟨.hbm, 645, rfl⟩
abbrev main_call35_v0 : Ref sig .tc := ⟨.hbm, 646, rfl⟩
abbrev main_call35_v1 : Ref sig .tc := ⟨.hbm, 647, rfl⟩
abbrev main_call35_c_0 : Ref sig .tc := ⟨.hbm, 648, rfl⟩
abbrev main_call35_v2 : Ref sig .tc := ⟨.hbm, 649, rfl⟩
abbrev main_call35_v3 : Ref sig .tc := ⟨.hbm, 650, rfl⟩
abbrev main_call35_v4 : Ref sig .tc := ⟨.hbm, 651, rfl⟩
abbrev main_call35_c_1 : Ref sig .tc := ⟨.hbm, 652, rfl⟩
abbrev main_call35_c_2 : Ref sig .tc := ⟨.hbm, 653, rfl⟩
abbrev main_call35_v5 : Ref sig .tc := ⟨.hbm, 654, rfl⟩
abbrev main_call35_v6 : Ref sig .tc := ⟨.hbm, 655, rfl⟩
abbrev main_call35_v7 : Ref sig .tc := ⟨.hbm, 656, rfl⟩
abbrev main_call35_v8 : Ref sig .tc := ⟨.hbm, 657, rfl⟩
abbrev main_call35_v9 : Ref sig .tc := ⟨.hbm, 658, rfl⟩
abbrev main_call35_v10 : Ref sig .tc := ⟨.hbm, 659, rfl⟩
abbrev main_call35_c_3 : Ref sig .tc := ⟨.hbm, 660, rfl⟩
abbrev main_call35_v11 : Ref sig .tc := ⟨.hbm, 661, rfl⟩
abbrev main_call35_v12 : Ref sig .tc := ⟨.hbm, 662, rfl⟩
abbrev main_call35_v13 : Ref sig .tc := ⟨.hbm, 663, rfl⟩
abbrev main_call35_cst : Ref sig .tc := ⟨.hbm, 664, rfl⟩
abbrev main_call35_v14 : Ref sig .tc := ⟨.hbm, 665, rfl⟩
abbrev main_v111 : Ref sig .tc := ⟨.hbm, 666, rfl⟩
abbrev main_v112 : Ref sig .tc := ⟨.hbm, 667, rfl⟩
abbrev main_v113 : Ref sig .tc := ⟨.hbm, 668, rfl⟩
abbrev main_call36_c : Ref sig .tc := ⟨.hbm, 669, rfl⟩
abbrev main_call36_v0 : Ref sig .tc := ⟨.hbm, 670, rfl⟩
abbrev main_call36_v1 : Ref sig .tc := ⟨.hbm, 671, rfl⟩
abbrev main_call36_c_0 : Ref sig .tc := ⟨.hbm, 672, rfl⟩
abbrev main_call36_v2 : Ref sig .tc := ⟨.hbm, 673, rfl⟩
abbrev main_call36_v3 : Ref sig .tc := ⟨.hbm, 674, rfl⟩
abbrev main_call36_v4 : Ref sig .tc := ⟨.hbm, 675, rfl⟩
abbrev main_call36_v5 : Ref sig .tc := ⟨.hbm, 676, rfl⟩
abbrev main_call36_c_1 : Ref sig .tc := ⟨.hbm, 677, rfl⟩
abbrev main_call36_c_2 : Ref sig .tc := ⟨.hbm, 678, rfl⟩
abbrev main_call36_v6 : Ref sig .tc := ⟨.hbm, 679, rfl⟩
abbrev main_call36_v7 : Ref sig .tc := ⟨.hbm, 680, rfl⟩
abbrev main_call36_v8 : Ref sig .tc := ⟨.hbm, 681, rfl⟩
abbrev main_call36_v9 : Ref sig .tc := ⟨.hbm, 682, rfl⟩
abbrev main_call36_v10 : Ref sig .tc := ⟨.hbm, 683, rfl⟩
abbrev main_call36_v11 : Ref sig .tc := ⟨.hbm, 684, rfl⟩
abbrev main_call36_c_3 : Ref sig .tc := ⟨.hbm, 685, rfl⟩
abbrev main_call36_v12 : Ref sig .tc := ⟨.hbm, 686, rfl⟩
abbrev main_call36_v13 : Ref sig .tc := ⟨.hbm, 687, rfl⟩
abbrev main_call36_c_4 : Ref sig .tc := ⟨.hbm, 688, rfl⟩
abbrev main_call36_v14 : Ref sig .tc := ⟨.hbm, 689, rfl⟩
abbrev main_v114 : Ref sig .tc := ⟨.hbm, 690, rfl⟩
abbrev main_v115 : Ref sig .tc := ⟨.hbm, 691, rfl⟩
abbrev main_call37_c : Ref sig .tc := ⟨.hbm, 692, rfl⟩
abbrev main_call37_v0 : Ref sig .tc := ⟨.hbm, 693, rfl⟩
abbrev main_call37_v1 : Ref sig .tc := ⟨.hbm, 694, rfl⟩
abbrev main_call37_c_0 : Ref sig .tc := ⟨.hbm, 695, rfl⟩
abbrev main_call37_v2 : Ref sig .tc := ⟨.hbm, 696, rfl⟩
abbrev main_call37_v3 : Ref sig .tc := ⟨.hbm, 697, rfl⟩
abbrev main_call37_v4 : Ref sig .tc := ⟨.hbm, 698, rfl⟩
abbrev main_call37_c_1 : Ref sig .tc := ⟨.hbm, 699, rfl⟩
abbrev main_call37_c_2 : Ref sig .tc := ⟨.hbm, 700, rfl⟩
abbrev main_call37_v5 : Ref sig .tc := ⟨.hbm, 701, rfl⟩
abbrev main_call37_v6 : Ref sig .tc := ⟨.hbm, 702, rfl⟩
abbrev main_call37_v7 : Ref sig .tc := ⟨.hbm, 703, rfl⟩
abbrev main_call37_v8 : Ref sig .tc := ⟨.hbm, 704, rfl⟩
abbrev main_call37_v9 : Ref sig .tc := ⟨.hbm, 705, rfl⟩
abbrev main_call37_v10 : Ref sig .tc := ⟨.hbm, 706, rfl⟩
abbrev main_call37_c_3 : Ref sig .tc := ⟨.hbm, 707, rfl⟩
abbrev main_call37_v11 : Ref sig .tc := ⟨.hbm, 708, rfl⟩
abbrev main_call37_v12 : Ref sig .tc := ⟨.hbm, 709, rfl⟩
abbrev main_call37_v13 : Ref sig .tc := ⟨.hbm, 710, rfl⟩
abbrev main_call37_cst : Ref sig .tc := ⟨.hbm, 711, rfl⟩
abbrev main_call37_v14 : Ref sig .tc := ⟨.hbm, 712, rfl⟩
abbrev main_v116 : Ref sig .tc := ⟨.hbm, 713, rfl⟩
abbrev main_call38_v0 : Ref sig .tc := ⟨.hbm, 714, rfl⟩
abbrev main_call38_cst : Ref sig .tc := ⟨.hbm, 715, rfl⟩
abbrev main_call38_v1 : Ref sig .tc := ⟨.hbm, 716, rfl⟩
abbrev main_call38_v2 : Ref sig .tc := ⟨.hbm, 717, rfl⟩
abbrev main_v117 : Ref sig .tc := ⟨.hbm, 718, rfl⟩
abbrev main_v118 : Ref sig .tc := ⟨.hbm, 719, rfl⟩
abbrev main_v119 : Ref sig .tc := ⟨.hbm, 720, rfl⟩
abbrev main_call39_v0 : Ref sig .tc := ⟨.hbm, 721, rfl⟩
abbrev main_call39_cst : Ref sig .tc := ⟨.hbm, 722, rfl⟩
abbrev main_call39_v1 : Ref sig .tc := ⟨.hbm, 723, rfl⟩
abbrev main_call39_v2 : Ref sig .tc := ⟨.hbm, 724, rfl⟩
abbrev main_v120 : Ref sig .tc := ⟨.hbm, 725, rfl⟩
abbrev main_v121 : Ref sig .tc := ⟨.hbm, 726, rfl⟩
abbrev main_v122 : Ref sig .tc := ⟨.hbm, 727, rfl⟩
abbrev main_v123 : Ref sig .tc := ⟨.hbm, 728, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc2_stg0_0 : Ref sig .tc := ⟨.vmem, 4, rfl⟩
abbrev cc2_stg1_0 : Ref sig .tc := ⟨.vmem, 5, rfl⟩
abbrev cc3_stg0_0 : Ref sig .tc := ⟨.vmem, 6, rfl⟩
abbrev cc3_stg1_0 : Ref sig .tc := ⟨.vmem, 7, rfl⟩
abbrev cc4_stg0_0 : Ref sig .tc := ⟨.vmem, 8, rfl⟩
abbrev cc4_stg1_0 : Ref sig .tc := ⟨.vmem, 9, rfl⟩
abbrev cc5_stg0_0 : Ref sig .tc := ⟨.vmem, 10, rfl⟩
abbrev cc5_stg1_0 : Ref sig .tc := ⟨.vmem, 11, rfl⟩
abbrev cc0_sem0_0 : DmaSem sig := 0
abbrev cc0_sem1_0 : DmaSem sig := 1
abbrev cc1_sem0_0 : DmaSem sig := 2
abbrev cc1_sem1_0 : DmaSem sig := 3
abbrev cc2_sem0_0 : DmaSem sig := 4
abbrev cc2_sem1_0 : DmaSem sig := 5
abbrev cc3_sem0_0 : DmaSem sig := 6
abbrev cc3_sem1_0 : DmaSem sig := 7
abbrev cc4_sem0_0 : DmaSem sig := 8
abbrev cc4_sem1_0 : DmaSem sig := 9
abbrev cc5_sem0_0 : DmaSem sig := 10
abbrev cc5_sem1_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c45_i32 : BitVec 32 := 45#32
  let v9 : BitVec 32 := Scalar.addi c0_i32 c45_i32
  let c1_i32_3 : BitVec 32 := 1#32
  ⟨c0_i32, v9, c1_i32_3⟩
abbrev stage0_0 : Fin 1 → Memref sig .tc .vmem S64x432x144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x432 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c45_i32 : BitVec 32 := 45#32
  let v9 : BitVec 32 := Scalar.addi c0_i32 c45_i32
  let c1_i32_3 : BitVec 32 := 1#32
  ⟨c0_i32, v9, c1_i32_3⟩
abbrev stage1_0 : Fin 1 → Memref sig .tc .vmem S64x360x216 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x360 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := .none

@[reducible] def k2_t1_loop : Scf.Loop 32 :=
  let c0_i32 : BitVec 32 := 0#32
  let c45_i32 : BitVec 32 := 45#32
  let v9 : BitVec 32 := Scalar.addi c0_i32 c45_i32
  let c1_i32_3 : BitVec 32 := 1#32
  ⟨c0_i32, v9, c1_i32_3⟩
abbrev stage2_0 : Fin 1 → Memref sig .tc .vmem S64x288x288 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x288 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev grid3 : Pipeline.Grid := .none

@[reducible] def k3_t1_loop : Scf.Loop 32 :=
  let c0_i32 : BitVec 32 := 0#32
  let c45_i32 : BitVec 32 := 45#32
  let v9 : BitVec 32 := Scalar.addi c0_i32 c45_i32
  let c1_i32_3 : BitVec 32 := 1#32
  ⟨c0_i32, v9, c1_i32_3⟩
abbrev stage3_0 : Fin 1 → Memref sig .tc .vmem S64x216x360 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S64x216 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev grid4 : Pipeline.Grid := .none

@[reducible] def k4_t1_loop : Scf.Loop 32 :=
  let c0_i32 : BitVec 32 := 0#32
  let c45_i32 : BitVec 32 := 45#32
  let v9 : BitVec 32 := Scalar.addi c0_i32 c45_i32
  let c1_i32_3 : BitVec 32 := 1#32
  ⟨c0_i32, v9, c1_i32_3⟩
abbrev stage4_0 : Fin 1 → Memref sig .tc .vmem S64x144x432 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S64x144 .i32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev grid5 : Pipeline.Grid := .none

@[reducible] def k5_t1_loop : Scf.Loop 32 :=
  let c0_i32 : BitVec 32 := 0#32
  let c45_i32 : BitVec 32 := 45#32
  let v9 : BitVec 32 := Scalar.addi c0_i32 c45_i32
  let c1_i32_3 : BitVec 32 := 1#32
  ⟨c0_i32, v9, c1_i32_3⟩
abbrev stage5_0 : Fin 1 → Memref sig .tc .vmem S64x101x475 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S64x101 .i32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
-- ==== SelectRefIdeal.lean ====
abbrev S64x577x768 : Shape := ⟨3, ![64, 577, 768]⟩
abbrev S144 : Shape := ⟨1, ![144]⟩
abbrev S432 : Shape := ⟨1, ![432]⟩
abbrev S64x576x768 : Shape := ⟨3, ![64, 576, 768]⟩
abbrev S1x144 : Shape := ⟨2, ![1, 144]⟩
abbrev S64x144 : Shape := ⟨2, ![64, 144]⟩
abbrev S1x432 : Shape := ⟨2, ![1, 432]⟩
abbrev S64x432 : Shape := ⟨2, ![64, 432]⟩
abbrev S64x144x1 : Shape := ⟨3, ![64, 144, 1]⟩
abbrev S_ : Shape := ⟨0, ![]⟩
abbrev S1 : Shape := ⟨1, ![1]⟩
abbrev S1x1x1 : Shape := ⟨3, ![1, 1, 1]⟩
abbrev S64x144x768 : Shape := ⟨3, ![64, 144, 768]⟩
abbrev S64x432x1 : Shape := ⟨3, ![64, 432, 1]⟩
abbrev S64x432x768 : Shape := ⟨3, ![64, 432, 768]⟩
abbrev S64x432x144 : Shape := ⟨3, ![64, 432, 144]⟩
abbrev S64x72 : Shape := ⟨2, ![64, 72]⟩
abbrev S64x360 : Shape := ⟨2, ![64, 360]⟩
abbrev S64x72x1 : Shape := ⟨3, ![64, 72, 1]⟩
abbrev S64x72x768 : Shape := ⟨3, ![64, 72, 768]⟩
abbrev S64x216 : Shape := ⟨2, ![64, 216]⟩
abbrev S64x216x768 : Shape := ⟨3, ![64, 216, 768]⟩
abbrev S64x360x1 : Shape := ⟨3, ![64, 360, 1]⟩
abbrev S64x360x768 : Shape := ⟨3, ![64, 360, 768]⟩
abbrev S64x216x1 : Shape := ⟨3, ![64, 216, 1]⟩
abbrev S64x360x216 : Shape := ⟨3, ![64, 360, 216]⟩
abbrev S64x288 : Shape := ⟨2, ![64, 288]⟩
abbrev S64x288x768 : Shape := ⟨3, ![64, 288, 768]⟩
abbrev S64x288x1 : Shape := ⟨3, ![64, 288, 1]⟩
abbrev S64x288x288 : Shape := ⟨3, ![64, 288, 288]⟩
abbrev S64x216x360 : Shape := ⟨3, ![64, 216, 360]⟩
abbrev S64x144x432 : Shape := ⟨3, ![64, 144, 432]⟩
abbrev S64x43 : Shape := ⟨2, ![64, 43]⟩
abbrev S64x101 : Shape := ⟨2, ![64, 101]⟩
abbrev S64x43x1 : Shape := ⟨3, ![64, 43, 1]⟩
abbrev S64x43x768 : Shape := ⟨3, ![64, 43, 768]⟩
abbrev S64x475 : Shape := ⟨2, ![64, 475]⟩
abbrev S64x475x768 : Shape := ⟨3, ![64, 475, 768]⟩
abbrev S64x101x1 : Shape := ⟨3, ![64, 101, 1]⟩
abbrev S64x101x768 : Shape := ⟨3, ![64, 101, 768]⟩
abbrev S64x475x1 : Shape := ⟨3, ![64, 475, 1]⟩
abbrev S64x101x475 : Shape := ⟨3, ![64, 101, 475]⟩
abbrev S64x58 : Shape := ⟨2, ![64, 58]⟩
abbrev S64x518 : Shape := ⟨2, ![64, 518]⟩
abbrev S64x518x768 : Shape := ⟨3, ![64, 518, 768]⟩
abbrev S64x58x1 : Shape := ⟨3, ![64, 58, 1]⟩
abbrev S64x58x768 : Shape := ⟨3, ![64, 58, 768]⟩
abbrev S64x518x1 : Shape := ⟨3, ![64, 518, 1]⟩
abbrev S64x58x518 : Shape := ⟨3, ![64, 58, 518]⟩

abbrev nBuf : Space → Nat
  | .hbm => 753
  | .vmem => 0
  | .smem => 0
  | _ => 0

abbrev hbmTy0_0 (i : Nat) : BufTy := match i % 128 with
  | 0 => ⟨S64x577x768, .f32⟩
  | 1 => ⟨S144, .i32⟩
  | 2 => ⟨S432, .i32⟩
  | 3 => ⟨S64x576x768, .f32⟩
  | 4 => ⟨S1x144, .i32⟩
  | 5 => ⟨S64x144, .i32⟩
  | 6 => ⟨S1x432, .i32⟩
  | 7 => ⟨S64x432, .i32⟩
  | 8 => ⟨S64x144x1, .i32⟩
  | 9 => ⟨S_, .i32⟩
  | 10 => ⟨S64x144x1, .i32⟩
  | 11 => ⟨S64x144x1, .i1⟩
  | 12 => ⟨S_, .i32⟩
  | 13 => ⟨S64x144x1, .i32⟩
  | 14 => ⟨S64x144x1, .i32⟩
  | 15 => ⟨S64x144x1, .i32⟩
  | 16 => ⟨S1, .i32⟩
  | 17 => ⟨S_, .i32⟩
  | 18 => ⟨S64x144x1, .i32⟩
  | 19 => ⟨S64x144x1, .i1⟩
  | 20 => ⟨S1x1x1, .i32⟩
  | 21 => ⟨S64x144x1, .i32⟩
  | 22 => ⟨S64x144x1, .i1⟩
  | 23 => ⟨S64x144x1, .i1⟩
  | 24 => ⟨S_, .i1⟩
  | 25 => ⟨S64x144, .i1⟩
  | 26 => ⟨S64x144x768, .f32⟩
  | 27 => ⟨S64x144x768, .i1⟩
  | 28 => ⟨S_, .f32⟩
  | 29 => ⟨S64x144x768, .f32⟩
  | 30 => ⟨S64x144x768, .f32⟩
  | 31 => ⟨S64x432x1, .i32⟩
  | 32 => ⟨S_, .i32⟩
  | 33 => ⟨S64x432x1, .i32⟩
  | 34 => ⟨S64x432x1, .i1⟩
  | 35 => ⟨S_, .i32⟩
  | 36 => ⟨S64x432x1, .i32⟩
  | 37 => ⟨S64x432x1, .i32⟩
  | 38 => ⟨S64x432x1, .i32⟩
  | 39 => ⟨S1, .i32⟩
  | 40 => ⟨S_, .i32⟩
  | 41 => ⟨S64x432x1, .i32⟩
  | 42 => ⟨S64x432x1, .i1⟩
  | 43 => ⟨S1x1x1, .i32⟩
  | 44 => ⟨S64x432x1, .i32⟩
  | 45 => ⟨S64x432x1, .i1⟩
  | 46 => ⟨S64x432x1, .i1⟩
  | 47 => ⟨S_, .i1⟩
  | 48 => ⟨S64x432, .i1⟩
  | 49 => ⟨S64x432x768, .f32⟩
  | 50 => ⟨S64x432x768, .i1⟩
  | 51 => ⟨S_, .f32⟩
  | 52 => ⟨S64x432x768, .f32⟩
  | 53 => ⟨S64x432x768, .f32⟩
  | 54 => ⟨S64x144x768, .f32⟩
  | 55 => ⟨S_, .f32⟩
  | 56 => ⟨S64x144, .f32⟩
  | 57 => ⟨S64x144x1, .f32⟩
  | 58 => ⟨S64x144x1, .f32⟩
  | 59 => ⟨S64x144x768, .f32⟩
  | 60 => ⟨S64x144x768, .f32⟩
  | 61 => ⟨S64x432x768, .f32⟩
  | 62 => ⟨S_, .f32⟩
  | 63 => ⟨S64x432, .f32⟩
  | 64 => ⟨S64x432x1, .f32⟩
  | 65 => ⟨S64x432x1, .f32⟩
  | 66 => ⟨S64x432x768, .f32⟩
  | 67 => ⟨S64x432x768, .f32⟩
  | 68 => ⟨S64x432x144, .f32⟩
  | 69 => ⟨S_, .f32⟩
  | 70 => ⟨S64x432, .f32⟩
  | 71 => ⟨S64x432, .i32⟩
  | 72 => ⟨S64x432, .f32⟩
  | 73 => ⟨S64x432, .i32⟩
  | 74 => ⟨S64x72, .i32⟩
  | 75 => ⟨S64x360, .i32⟩
  | 76 => ⟨S_, .i32⟩
  | 77 => ⟨S64x72, .i32⟩
  | 78 => ⟨S64x72, .i1⟩
  | 79 => ⟨S_, .i32⟩
  | 80 => ⟨S64x72, .i32⟩
  | 81 => ⟨S64x72, .i32⟩
  | 82 => ⟨S64x72, .i32⟩
  | 83 => ⟨S64x72x1, .i32⟩
  | 84 => ⟨S1, .i32⟩
  | 85 => ⟨S_, .i32⟩
  | 86 => ⟨S64x72x1, .i32⟩
  | 87 => ⟨S64x72x1, .i1⟩
  | 88 => ⟨S1x1x1, .i32⟩
  | 89 => ⟨S64x72x1, .i32⟩
  | 90 => ⟨S64x72x1, .i1⟩
  | 91 => ⟨S64x72x1, .i1⟩
  | 92 => ⟨S_, .i1⟩
  | 93 => ⟨S64x72, .i1⟩
  | 94 => ⟨S64x72, .i32⟩
  | 95 => ⟨S_, .i32⟩
  | 96 => ⟨S64x72, .i32⟩
  | 97 => ⟨S64x72, .i32⟩
  | 98 => ⟨S64x72x1, .i32⟩
  | 99 => ⟨S_, .i32⟩
  | 100 => ⟨S64x72x1, .i32⟩
  | 101 => ⟨S64x72x1, .i1⟩
  | 102 => ⟨S_, .i32⟩
  | 103 => ⟨S64x72x1, .i32⟩
  | 104 => ⟨S64x72x1, .i32⟩
  | 105 => ⟨S64x72x1, .i32⟩
  | 106 => ⟨S1, .i32⟩
  | 107 => ⟨S_, .i32⟩
  | 108 => ⟨S64x72x1, .i32⟩
  | 109 => ⟨S64x72x1, .i1⟩
  | 110 => ⟨S1x1x1, .i32⟩
  | 111 => ⟨S64x72x1, .i32⟩
  | 112 => ⟨S64x72x1, .i1⟩
  | 113 => ⟨S64x72x1, .i1⟩
  | 114 => ⟨S_, .i1⟩
  | 115 => ⟨S64x72, .i1⟩
  | 116 => ⟨S64x72x768, .f32⟩
  | 117 => ⟨S64x72x768, .i1⟩
  | 118 => ⟨S_, .f32⟩
  | 119 => ⟨S64x72x768, .f32⟩
  | 120 => ⟨S64x72x768, .f32⟩
  | 121 => ⟨S64x216, .i32⟩
  | 122 => ⟨S64x216x768, .f32⟩
  | 123 => ⟨S_, .i32⟩
  | 124 => ⟨S64x360, .i32⟩
  | 125 => ⟨S64x360, .i1⟩
  | 126 => ⟨S_, .i32⟩
  | 127 => ⟨S64x360, .i32⟩
  | _ => ⟨S64x577x768, .f32⟩

abbrev hbmTy0_1 (i : Nat) : BufTy := match i % 128 with
  | 0 => ⟨S64x360, .i32⟩
  | 1 => ⟨S64x360, .i32⟩
  | 2 => ⟨S64x360x1, .i32⟩
  | 3 => ⟨S1, .i32⟩
  | 4 => ⟨S_, .i32⟩
  | 5 => ⟨S64x360x1, .i32⟩
  | 6 => ⟨S64x360x1, .i1⟩
  | 7 => ⟨S1x1x1, .i32⟩
  | 8 => ⟨S64x360x1, .i32⟩
  | 9 => ⟨S64x360x1, .i1⟩
  | 10 => ⟨S64x360x1, .i1⟩
  | 11 => ⟨S_, .i1⟩
  | 12 => ⟨S64x360, .i1⟩
  | 13 => ⟨S64x360, .i32⟩
  | 14 => ⟨S_, .i32⟩
  | 15 => ⟨S64x360, .i32⟩
  | 16 => ⟨S64x360, .i32⟩
  | 17 => ⟨S64x360x1, .i32⟩
  | 18 => ⟨S_, .i32⟩
  | 19 => ⟨S64x360x1, .i32⟩
  | 20 => ⟨S64x360x1, .i1⟩
  | 21 => ⟨S_, .i32⟩
  | 22 => ⟨S64x360x1, .i32⟩
  | 23 => ⟨S64x360x1, .i32⟩
  | 24 => ⟨S64x360x1, .i32⟩
  | 25 => ⟨S1, .i32⟩
  | 26 => ⟨S_, .i32⟩
  | 27 => ⟨S64x360x1, .i32⟩
  | 28 => ⟨S64x360x1, .i1⟩
  | 29 => ⟨S1x1x1, .i32⟩
  | 30 => ⟨S64x360x1, .i32⟩
  | 31 => ⟨S64x360x1, .i1⟩
  | 32 => ⟨S64x360x1, .i1⟩
  | 33 => ⟨S_, .i1⟩
  | 34 => ⟨S64x360, .i1⟩
  | 35 => ⟨S64x360x768, .f32⟩
  | 36 => ⟨S64x360x768, .i1⟩
  | 37 => ⟨S_, .f32⟩
  | 38 => ⟨S64x360x768, .f32⟩
  | 39 => ⟨S64x360x768, .f32⟩
  | 40 => ⟨S64x216x768, .f32⟩
  | 41 => ⟨S_, .f32⟩
  | 42 => ⟨S64x216, .f32⟩
  | 43 => ⟨S64x216x1, .f32⟩
  | 44 => ⟨S64x216x1, .f32⟩
  | 45 => ⟨S64x216x768, .f32⟩
  | 46 => ⟨S64x216x768, .f32⟩
  | 47 => ⟨S64x360x768, .f32⟩
  | 48 => ⟨S_, .f32⟩
  | 49 => ⟨S64x360, .f32⟩
  | 50 => ⟨S64x360x1, .f32⟩
  | 51 => ⟨S64x360x1, .f32⟩
  | 52 => ⟨S64x360x768, .f32⟩
  | 53 => ⟨S64x360x768, .f32⟩
  | 54 => ⟨S64x360x216, .f32⟩
  | 55 => ⟨S_, .f32⟩
  | 56 => ⟨S64x360, .f32⟩
  | 57 => ⟨S64x360, .i32⟩
  | 58 => ⟨S64x360, .f32⟩
  | 59 => ⟨S64x360, .i32⟩
  | 60 => ⟨S64x72, .i32⟩
  | 61 => ⟨S64x288, .i32⟩
  | 62 => ⟨S_, .i32⟩
  | 63 => ⟨S64x72, .i32⟩
  | 64 => ⟨S64x72, .i1⟩
  | 65 => ⟨S_, .i32⟩
  | 66 => ⟨S64x72, .i32⟩
  | 67 => ⟨S64x72, .i32⟩
  | 68 => ⟨S64x72, .i32⟩
  | 69 => ⟨S64x72x1, .i32⟩
  | 70 => ⟨S1, .i32⟩
  | 71 => ⟨S_, .i32⟩
  | 72 => ⟨S64x72x1, .i32⟩
  | 73 => ⟨S64x72x1, .i1⟩
  | 74 => ⟨S1x1x1, .i32⟩
  | 75 => ⟨S64x72x1, .i32⟩
  | 76 => ⟨S64x72x1, .i1⟩
  | 77 => ⟨S64x72x1, .i1⟩
  | 78 => ⟨S_, .i1⟩
  | 79 => ⟨S64x72, .i1⟩
  | 80 => ⟨S64x72, .i32⟩
  | 81 => ⟨S_, .i32⟩
  | 82 => ⟨S64x72, .i32⟩
  | 83 => ⟨S64x72, .i32⟩
  | 84 => ⟨S64x72x1, .i32⟩
  | 85 => ⟨S_, .i32⟩
  | 86 => ⟨S64x72x1, .i32⟩
  | 87 => ⟨S64x72x1, .i1⟩
  | 88 => ⟨S_, .i32⟩
  | 89 => ⟨S64x72x1, .i32⟩
  | 90 => ⟨S64x72x1, .i32⟩
  | 91 => ⟨S64x72x1, .i32⟩
  | 92 => ⟨S1, .i32⟩
  | 93 => ⟨S_, .i32⟩
  | 94 => ⟨S64x72x1, .i32⟩
  | 95 => ⟨S64x72x1, .i1⟩
  | 96 => ⟨S1x1x1, .i32⟩
  | 97 => ⟨S64x72x1, .i32⟩
  | 98 => ⟨S64x72x1, .i1⟩
  | 99 => ⟨S64x72x1, .i1⟩
  | 100 => ⟨S_, .i1⟩
  | 101 => ⟨S64x72, .i1⟩
  | 102 => ⟨S64x72x768, .f32⟩
  | 103 => ⟨S64x72x768, .i1⟩
  | 104 => ⟨S_, .f32⟩
  | 105 => ⟨S64x72x768, .f32⟩
  | 106 => ⟨S64x72x768, .f32⟩
  | 107 => ⟨S64x288, .i32⟩
  | 108 => ⟨S64x288x768, .f32⟩
  | 109 => ⟨S_, .i32⟩
  | 110 => ⟨S64x288, .i32⟩
  | 111 => ⟨S64x288, .i1⟩
  | 112 => ⟨S_, .i32⟩
  | 113 => ⟨S64x288, .i32⟩
  | 114 => ⟨S64x288, .i32⟩
  | 115 => ⟨S64x288, .i32⟩
  | 116 => ⟨S64x288x1, .i32⟩
  | 117 => ⟨S1, .i32⟩
  | 118 => ⟨S_, .i32⟩
  | 119 => ⟨S64x288x1, .i32⟩
  | 120 => ⟨S64x288x1, .i1⟩
  | 121 => ⟨S1x1x1, .i32⟩
  | 122 => ⟨S64x288x1, .i32⟩
  | 123 => ⟨S64x288x1, .i1⟩
  | 124 => ⟨S64x288x1, .i1⟩
  | 125 => ⟨S_, .i1⟩
  | 126 => ⟨S64x288, .i1⟩
  | 127 => ⟨S64x288, .i32⟩
  | _ => ⟨S64x577x768, .f32⟩

abbrev hbmTy0_2 (i : Nat) : BufTy := match i % 128 with
  | 0 => ⟨S_, .i32⟩
  | 1 => ⟨S64x288, .i32⟩
  | 2 => ⟨S64x288, .i32⟩
  | 3 => ⟨S64x288x1, .i32⟩
  | 4 => ⟨S_, .i32⟩
  | 5 => ⟨S64x288x1, .i32⟩
  | 6 => ⟨S64x288x1, .i1⟩
  | 7 => ⟨S_, .i32⟩
  | 8 => ⟨S64x288x1, .i32⟩
  | 9 => ⟨S64x288x1, .i32⟩
  | 10 => ⟨S64x288x1, .i32⟩
  | 11 => ⟨S1, .i32⟩
  | 12 => ⟨S_, .i32⟩
  | 13 => ⟨S64x288x1, .i32⟩
  | 14 => ⟨S64x288x1, .i1⟩
  | 15 => ⟨S1x1x1, .i32⟩
  | 16 => ⟨S64x288x1, .i32⟩
  | 17 => ⟨S64x288x1, .i1⟩
  | 18 => ⟨S64x288x1, .i1⟩
  | 19 => ⟨S_, .i1⟩
  | 20 => ⟨S64x288, .i1⟩
  | 21 => ⟨S64x288x768, .f32⟩
  | 22 => ⟨S64x288x768, .i1⟩
  | 23 => ⟨S_, .f32⟩
  | 24 => ⟨S64x288x768, .f32⟩
  | 25 => ⟨S64x288x768, .f32⟩
  | 26 => ⟨S64x288x768, .f32⟩
  | 27 => ⟨S_, .f32⟩
  | 28 => ⟨S64x288, .f32⟩
  | 29 => ⟨S64x288x1, .f32⟩
  | 30 => ⟨S64x288x1, .f32⟩
  | 31 => ⟨S64x288x768, .f32⟩
  | 32 => ⟨S64x288x768, .f32⟩
  | 33 => ⟨S64x288x768, .f32⟩
  | 34 => ⟨S_, .f32⟩
  | 35 => ⟨S64x288, .f32⟩
  | 36 => ⟨S64x288x1, .f32⟩
  | 37 => ⟨S64x288x1, .f32⟩
  | 38 => ⟨S64x288x768, .f32⟩
  | 39 => ⟨S64x288x768, .f32⟩
  | 40 => ⟨S64x288x288, .f32⟩
  | 41 => ⟨S_, .f32⟩
  | 42 => ⟨S64x288, .f32⟩
  | 43 => ⟨S64x288, .i32⟩
  | 44 => ⟨S64x288, .f32⟩
  | 45 => ⟨S64x288, .i32⟩
  | 46 => ⟨S64x72, .i32⟩
  | 47 => ⟨S64x216, .i32⟩
  | 48 => ⟨S_, .i32⟩
  | 49 => ⟨S64x72, .i32⟩
  | 50 => ⟨S64x72, .i1⟩
  | 51 => ⟨S_, .i32⟩
  | 52 => ⟨S64x72, .i32⟩
  | 53 => ⟨S64x72, .i32⟩
  | 54 => ⟨S64x72, .i32⟩
  | 55 => ⟨S64x72x1, .i32⟩
  | 56 => ⟨S1, .i32⟩
  | 57 => ⟨S_, .i32⟩
  | 58 => ⟨S64x72x1, .i32⟩
  | 59 => ⟨S64x72x1, .i1⟩
  | 60 => ⟨S1x1x1, .i32⟩
  | 61 => ⟨S64x72x1, .i32⟩
  | 62 => ⟨S64x72x1, .i1⟩
  | 63 => ⟨S64x72x1, .i1⟩
  | 64 => ⟨S_, .i1⟩
  | 65 => ⟨S64x72, .i1⟩
  | 66 => ⟨S64x72, .i32⟩
  | 67 => ⟨S_, .i32⟩
  | 68 => ⟨S64x72, .i32⟩
  | 69 => ⟨S64x72, .i32⟩
  | 70 => ⟨S64x72x1, .i32⟩
  | 71 => ⟨S_, .i32⟩
  | 72 => ⟨S64x72x1, .i32⟩
  | 73 => ⟨S64x72x1, .i1⟩
  | 74 => ⟨S_, .i32⟩
  | 75 => ⟨S64x72x1, .i32⟩
  | 76 => ⟨S64x72x1, .i32⟩
  | 77 => ⟨S64x72x1, .i32⟩
  | 78 => ⟨S1, .i32⟩
  | 79 => ⟨S_, .i32⟩
  | 80 => ⟨S64x72x1, .i32⟩
  | 81 => ⟨S64x72x1, .i1⟩
  | 82 => ⟨S1x1x1, .i32⟩
  | 83 => ⟨S64x72x1, .i32⟩
  | 84 => ⟨S64x72x1, .i1⟩
  | 85 => ⟨S64x72x1, .i1⟩
  | 86 => ⟨S_, .i1⟩
  | 87 => ⟨S64x72, .i1⟩
  | 88 => ⟨S64x72x768, .f32⟩
  | 89 => ⟨S64x72x768, .i1⟩
  | 90 => ⟨S_, .f32⟩
  | 91 => ⟨S64x72x768, .f32⟩
  | 92 => ⟨S64x72x768, .f32⟩
  | 93 => ⟨S64x360, .i32⟩
  | 94 => ⟨S64x360x768, .f32⟩
  | 95 => ⟨S_, .i32⟩
  | 96 => ⟨S64x216, .i32⟩
  | 97 => ⟨S64x216, .i1⟩
  | 98 => ⟨S_, .i32⟩
  | 99 => ⟨S64x216, .i32⟩
  | 100 => ⟨S64x216, .i32⟩
  | 101 => ⟨S64x216, .i32⟩
  | 102 => ⟨S64x216x1, .i32⟩
  | 103 => ⟨S1, .i32⟩
  | 104 => ⟨S_, .i32⟩
  | 105 => ⟨S64x216x1, .i32⟩
  | 106 => ⟨S64x216x1, .i1⟩
  | 107 => ⟨S1x1x1, .i32⟩
  | 108 => ⟨S64x216x1, .i32⟩
  | 109 => ⟨S64x216x1, .i1⟩
  | 110 => ⟨S64x216x1, .i1⟩
  | 111 => ⟨S_, .i1⟩
  | 112 => ⟨S64x216, .i1⟩
  | 113 => ⟨S64x216, .i32⟩
  | 114 => ⟨S_, .i32⟩
  | 115 => ⟨S64x216, .i32⟩
  | 116 => ⟨S64x216, .i32⟩
  | 117 => ⟨S64x216x1, .i32⟩
  | 118 => ⟨S_, .i32⟩
  | 119 => ⟨S64x216x1, .i32⟩
  | 120 => ⟨S64x216x1, .i1⟩
  | 121 => ⟨S_, .i32⟩
  | 122 => ⟨S64x216x1, .i32⟩
  | 123 => ⟨S64x216x1, .i32⟩
  | 124 => ⟨S64x216x1, .i32⟩
  | 125 => ⟨S1, .i32⟩
  | 126 => ⟨S_, .i32⟩
  | 127 => ⟨S64x216x1, .i32⟩
  | _ => ⟨S64x577x768, .f32⟩

abbrev hbmTy0_3 (i : Nat) : BufTy := match i % 128 with
  | 0 => ⟨S64x216x1, .i1⟩
  | 1 => ⟨S1x1x1, .i32⟩
  | 2 => ⟨S64x216x1, .i32⟩
  | 3 => ⟨S64x216x1, .i1⟩
  | 4 => ⟨S64x216x1, .i1⟩
  | 5 => ⟨S_, .i1⟩
  | 6 => ⟨S64x216, .i1⟩
  | 7 => ⟨S64x216x768, .f32⟩
  | 8 => ⟨S64x216x768, .i1⟩
  | 9 => ⟨S_, .f32⟩
  | 10 => ⟨S64x216x768, .f32⟩
  | 11 => ⟨S64x216x768, .f32⟩
  | 12 => ⟨S64x360x768, .f32⟩
  | 13 => ⟨S_, .f32⟩
  | 14 => ⟨S64x360, .f32⟩
  | 15 => ⟨S64x360x1, .f32⟩
  | 16 => ⟨S64x360x1, .f32⟩
  | 17 => ⟨S64x360x768, .f32⟩
  | 18 => ⟨S64x360x768, .f32⟩
  | 19 => ⟨S64x216x768, .f32⟩
  | 20 => ⟨S_, .f32⟩
  | 21 => ⟨S64x216, .f32⟩
  | 22 => ⟨S64x216x1, .f32⟩
  | 23 => ⟨S64x216x1, .f32⟩
  | 24 => ⟨S64x216x768, .f32⟩
  | 25 => ⟨S64x216x768, .f32⟩
  | 26 => ⟨S64x216x360, .f32⟩
  | 27 => ⟨S_, .f32⟩
  | 28 => ⟨S64x216, .f32⟩
  | 29 => ⟨S64x216, .i32⟩
  | 30 => ⟨S64x216, .f32⟩
  | 31 => ⟨S64x216, .i32⟩
  | 32 => ⟨S64x72, .i32⟩
  | 33 => ⟨S64x144, .i32⟩
  | 34 => ⟨S_, .i32⟩
  | 35 => ⟨S64x72, .i32⟩
  | 36 => ⟨S64x72, .i1⟩
  | 37 => ⟨S_, .i32⟩
  | 38 => ⟨S64x72, .i32⟩
  | 39 => ⟨S64x72, .i32⟩
  | 40 => ⟨S64x72, .i32⟩
  | 41 => ⟨S64x72x1, .i32⟩
  | 42 => ⟨S1, .i32⟩
  | 43 => ⟨S_, .i32⟩
  | 44 => ⟨S64x72x1, .i32⟩
  | 45 => ⟨S64x72x1, .i1⟩
  | 46 => ⟨S1x1x1, .i32⟩
  | 47 => ⟨S64x72x1, .i32⟩
  | 48 => ⟨S64x72x1, .i1⟩
  | 49 => ⟨S64x72x1, .i1⟩
  | 50 => ⟨S_, .i1⟩
  | 51 => ⟨S64x72, .i1⟩
  | 52 => ⟨S64x72, .i32⟩
  | 53 => ⟨S_, .i32⟩
  | 54 => ⟨S64x72, .i32⟩
  | 55 => ⟨S64x72, .i32⟩
  | 56 => ⟨S64x72x1, .i32⟩
  | 57 => ⟨S_, .i32⟩
  | 58 => ⟨S64x72x1, .i32⟩
  | 59 => ⟨S64x72x1, .i1⟩
  | 60 => ⟨S_, .i32⟩
  | 61 => ⟨S64x72x1, .i32⟩
  | 62 => ⟨S64x72x1, .i32⟩
  | 63 => ⟨S64x72x1, .i32⟩
  | 64 => ⟨S1, .i32⟩
  | 65 => ⟨S_, .i32⟩
  | 66 => ⟨S64x72x1, .i32⟩
  | 67 => ⟨S64x72x1, .i1⟩
  | 68 => ⟨S1x1x1, .i32⟩
  | 69 => ⟨S64x72x1, .i32⟩
  | 70 => ⟨S64x72x1, .i1⟩
  | 71 => ⟨S64x72x1, .i1⟩
  | 72 => ⟨S_, .i1⟩
  | 73 => ⟨S64x72, .i1⟩
  | 74 => ⟨S64x72x768, .f32⟩
  | 75 => ⟨S64x72x768, .i1⟩
  | 76 => ⟨S_, .f32⟩
  | 77 => ⟨S64x72x768, .f32⟩
  | 78 => ⟨S64x72x768, .f32⟩
  | 79 => ⟨S64x432, .i32⟩
  | 80 => ⟨S64x432x768, .f32⟩
  | 81 => ⟨S_, .i32⟩
  | 82 => ⟨S64x144, .i32⟩
  | 83 => ⟨S64x144, .i1⟩
  | 84 => ⟨S_, .i32⟩
  | 85 => ⟨S64x144, .i32⟩
  | 86 => ⟨S64x144, .i32⟩
  | 87 => ⟨S64x144, .i32⟩
  | 88 => ⟨S64x144x1, .i32⟩
  | 89 => ⟨S1, .i32⟩
  | 90 => ⟨S_, .i32⟩
  | 91 => ⟨S64x144x1, .i32⟩
  | 92 => ⟨S64x144x1, .i1⟩
  | 93 => ⟨S1x1x1, .i32⟩
  | 94 => ⟨S64x144x1, .i32⟩
  | 95 => ⟨S64x144x1, .i1⟩
  | 96 => ⟨S64x144x1, .i1⟩
  | 97 => ⟨S_, .i1⟩
  | 98 => ⟨S64x144, .i1⟩
  | 99 => ⟨S64x144, .i32⟩
  | 100 => ⟨S_, .i32⟩
  | 101 => ⟨S64x144, .i32⟩
  | 102 => ⟨S64x144, .i32⟩
  | 103 => ⟨S64x144x1, .i32⟩
  | 104 => ⟨S_, .i32⟩
  | 105 => ⟨S64x144x1, .i32⟩
  | 106 => ⟨S64x144x1, .i1⟩
  | 107 => ⟨S_, .i32⟩
  | 108 => ⟨S64x144x1, .i32⟩
  | 109 => ⟨S64x144x1, .i32⟩
  | 110 => ⟨S64x144x1, .i32⟩
  | 111 => ⟨S1, .i32⟩
  | 112 => ⟨S_, .i32⟩
  | 113 => ⟨S64x144x1, .i32⟩
  | 114 => ⟨S64x144x1, .i1⟩
  | 115 => ⟨S1x1x1, .i32⟩
  | 116 => ⟨S64x144x1, .i32⟩
  | 117 => ⟨S64x144x1, .i1⟩
  | 118 => ⟨S64x144x1, .i1⟩
  | 119 => ⟨S_, .i1⟩
  | 120 => ⟨S64x144, .i1⟩
  | 121 => ⟨S64x144x768, .f32⟩
  | 122 => ⟨S64x144x768, .i1⟩
  | 123 => ⟨S_, .f32⟩
  | 124 => ⟨S64x144x768, .f32⟩
  | 125 => ⟨S64x144x768, .f32⟩
  | 126 => ⟨S64x432x768, .f32⟩
  | 127 => ⟨S_, .f32⟩
  | _ => ⟨S64x577x768, .f32⟩

abbrev hbmTy0_4 (i : Nat) : BufTy := match i % 128 with
  | 0 => ⟨S64x432, .f32⟩
  | 1 => ⟨S64x432x1, .f32⟩
  | 2 => ⟨S64x432x1, .f32⟩
  | 3 => ⟨S64x432x768, .f32⟩
  | 4 => ⟨S64x432x768, .f32⟩
  | 5 => ⟨S64x144x768, .f32⟩
  | 6 => ⟨S_, .f32⟩
  | 7 => ⟨S64x144, .f32⟩
  | 8 => ⟨S64x144x1, .f32⟩
  | 9 => ⟨S64x144x1, .f32⟩
  | 10 => ⟨S64x144x768, .f32⟩
  | 11 => ⟨S64x144x768, .f32⟩
  | 12 => ⟨S64x144x432, .f32⟩
  | 13 => ⟨S_, .f32⟩
  | 14 => ⟨S64x144, .f32⟩
  | 15 => ⟨S64x144, .i32⟩
  | 16 => ⟨S64x144, .f32⟩
  | 17 => ⟨S64x144, .i32⟩
  | 18 => ⟨S64x43, .i32⟩
  | 19 => ⟨S64x101, .i32⟩
  | 20 => ⟨S_, .i32⟩
  | 21 => ⟨S64x43, .i32⟩
  | 22 => ⟨S64x43, .i1⟩
  | 23 => ⟨S_, .i32⟩
  | 24 => ⟨S64x43, .i32⟩
  | 25 => ⟨S64x43, .i32⟩
  | 26 => ⟨S64x43, .i32⟩
  | 27 => ⟨S64x43x1, .i32⟩
  | 28 => ⟨S1, .i32⟩
  | 29 => ⟨S_, .i32⟩
  | 30 => ⟨S64x43x1, .i32⟩
  | 31 => ⟨S64x43x1, .i1⟩
  | 32 => ⟨S1x1x1, .i32⟩
  | 33 => ⟨S64x43x1, .i32⟩
  | 34 => ⟨S64x43x1, .i1⟩
  | 35 => ⟨S64x43x1, .i1⟩
  | 36 => ⟨S_, .i1⟩
  | 37 => ⟨S64x43, .i1⟩
  | 38 => ⟨S64x43, .i32⟩
  | 39 => ⟨S_, .i32⟩
  | 40 => ⟨S64x43, .i32⟩
  | 41 => ⟨S64x43, .i32⟩
  | 42 => ⟨S64x43x1, .i32⟩
  | 43 => ⟨S_, .i32⟩
  | 44 => ⟨S64x43x1, .i32⟩
  | 45 => ⟨S64x43x1, .i1⟩
  | 46 => ⟨S_, .i32⟩
  | 47 => ⟨S64x43x1, .i32⟩
  | 48 => ⟨S64x43x1, .i32⟩
  | 49 => ⟨S64x43x1, .i32⟩
  | 50 => ⟨S1, .i32⟩
  | 51 => ⟨S_, .i32⟩
  | 52 => ⟨S64x43x1, .i32⟩
  | 53 => ⟨S64x43x1, .i1⟩
  | 54 => ⟨S1x1x1, .i32⟩
  | 55 => ⟨S64x43x1, .i32⟩
  | 56 => ⟨S64x43x1, .i1⟩
  | 57 => ⟨S64x43x1, .i1⟩
  | 58 => ⟨S_, .i1⟩
  | 59 => ⟨S64x43, .i1⟩
  | 60 => ⟨S64x43x768, .f32⟩
  | 61 => ⟨S64x43x768, .i1⟩
  | 62 => ⟨S_, .f32⟩
  | 63 => ⟨S64x43x768, .f32⟩
  | 64 => ⟨S64x43x768, .f32⟩
  | 65 => ⟨S64x475, .i32⟩
  | 66 => ⟨S64x475x768, .f32⟩
  | 67 => ⟨S_, .i32⟩
  | 68 => ⟨S64x101, .i32⟩
  | 69 => ⟨S64x101, .i1⟩
  | 70 => ⟨S_, .i32⟩
  | 71 => ⟨S64x101, .i32⟩
  | 72 => ⟨S64x101, .i32⟩
  | 73 => ⟨S64x101, .i32⟩
  | 74 => ⟨S64x101x1, .i32⟩
  | 75 => ⟨S1, .i32⟩
  | 76 => ⟨S_, .i32⟩
  | 77 => ⟨S64x101x1, .i32⟩
  | 78 => ⟨S64x101x1, .i1⟩
  | 79 => ⟨S1x1x1, .i32⟩
  | 80 => ⟨S64x101x1, .i32⟩
  | 81 => ⟨S64x101x1, .i1⟩
  | 82 => ⟨S64x101x1, .i1⟩
  | 83 => ⟨S_, .i1⟩
  | 84 => ⟨S64x101, .i1⟩
  | 85 => ⟨S64x101, .i32⟩
  | 86 => ⟨S_, .i32⟩
  | 87 => ⟨S64x101, .i32⟩
  | 88 => ⟨S64x101, .i32⟩
  | 89 => ⟨S64x101x1, .i32⟩
  | 90 => ⟨S_, .i32⟩
  | 91 => ⟨S64x101x1, .i32⟩
  | 92 => ⟨S64x101x1, .i1⟩
  | 93 => ⟨S_, .i32⟩
  | 94 => ⟨S64x101x1, .i32⟩
  | 95 => ⟨S64x101x1, .i32⟩
  | 96 => ⟨S64x101x1, .i32⟩
  | 97 => ⟨S1, .i32⟩
  | 98 => ⟨S_, .i32⟩
  | 99 => ⟨S64x101x1, .i32⟩
  | 100 => ⟨S64x101x1, .i1⟩
  | 101 => ⟨S1x1x1, .i32⟩
  | 102 => ⟨S64x101x1, .i32⟩
  | 103 => ⟨S64x101x1, .i1⟩
  | 104 => ⟨S64x101x1, .i1⟩
  | 105 => ⟨S_, .i1⟩
  | 106 => ⟨S64x101, .i1⟩
  | 107 => ⟨S64x101x768, .f32⟩
  | 108 => ⟨S64x101x768, .i1⟩
  | 109 => ⟨S_, .f32⟩
  | 110 => ⟨S64x101x768, .f32⟩
  | 111 => ⟨S64x101x768, .f32⟩
  | 112 => ⟨S64x475x768, .f32⟩
  | 113 => ⟨S_, .f32⟩
  | 114 => ⟨S64x475, .f32⟩
  | 115 => ⟨S64x475x1, .f32⟩
  | 116 => ⟨S64x475x1, .f32⟩
  | 117 => ⟨S64x475x768, .f32⟩
  | 118 => ⟨S64x475x768, .f32⟩
  | 119 => ⟨S64x101x768, .f32⟩
  | 120 => ⟨S_, .f32⟩
  | 121 => ⟨S64x101, .f32⟩
  | 122 => ⟨S64x101x1, .f32⟩
  | 123 => ⟨S64x101x1, .f32⟩
  | 124 => ⟨S64x101x768, .f32⟩
  | 125 => ⟨S64x101x768, .f32⟩
  | 126 => ⟨S64x101x475, .f32⟩
  | 127 => ⟨S_, .f32⟩
  | _ => ⟨S64x577x768, .f32⟩

abbrev hbmTy0_5 (i : Nat) : BufTy := match i % 128 with
  | 0 => ⟨S64x101, .f32⟩
  | 1 => ⟨S64x101, .i32⟩
  | 2 => ⟨S64x101, .f32⟩
  | 3 => ⟨S64x101, .i32⟩
  | 4 => ⟨S64x43, .i32⟩
  | 5 => ⟨S64x58, .i32⟩
  | 6 => ⟨S_, .i32⟩
  | 7 => ⟨S64x43, .i32⟩
  | 8 => ⟨S64x43, .i1⟩
  | 9 => ⟨S_, .i32⟩
  | 10 => ⟨S64x43, .i32⟩
  | 11 => ⟨S64x43, .i32⟩
  | 12 => ⟨S64x43, .i32⟩
  | 13 => ⟨S64x43x1, .i32⟩
  | 14 => ⟨S1, .i32⟩
  | 15 => ⟨S_, .i32⟩
  | 16 => ⟨S64x43x1, .i32⟩
  | 17 => ⟨S64x43x1, .i1⟩
  | 18 => ⟨S1x1x1, .i32⟩
  | 19 => ⟨S64x43x1, .i32⟩
  | 20 => ⟨S64x43x1, .i1⟩
  | 21 => ⟨S64x43x1, .i1⟩
  | 22 => ⟨S_, .i1⟩
  | 23 => ⟨S64x43, .i1⟩
  | 24 => ⟨S64x43, .i32⟩
  | 25 => ⟨S_, .i32⟩
  | 26 => ⟨S64x43, .i32⟩
  | 27 => ⟨S64x43, .i32⟩
  | 28 => ⟨S64x43x1, .i32⟩
  | 29 => ⟨S_, .i32⟩
  | 30 => ⟨S64x43x1, .i32⟩
  | 31 => ⟨S64x43x1, .i1⟩
  | 32 => ⟨S_, .i32⟩
  | 33 => ⟨S64x43x1, .i32⟩
  | 34 => ⟨S64x43x1, .i32⟩
  | 35 => ⟨S64x43x1, .i32⟩
  | 36 => ⟨S1, .i32⟩
  | 37 => ⟨S_, .i32⟩
  | 38 => ⟨S64x43x1, .i32⟩
  | 39 => ⟨S64x43x1, .i1⟩
  | 40 => ⟨S1x1x1, .i32⟩
  | 41 => ⟨S64x43x1, .i32⟩
  | 42 => ⟨S64x43x1, .i1⟩
  | 43 => ⟨S64x43x1, .i1⟩
  | 44 => ⟨S_, .i1⟩
  | 45 => ⟨S64x43, .i1⟩
  | 46 => ⟨S64x43x768, .f32⟩
  | 47 => ⟨S64x43x768, .i1⟩
  | 48 => ⟨S_, .f32⟩
  | 49 => ⟨S64x43x768, .f32⟩
  | 50 => ⟨S64x43x768, .f32⟩
  | 51 => ⟨S64x518, .i32⟩
  | 52 => ⟨S64x518x768, .f32⟩
  | 53 => ⟨S_, .i32⟩
  | 54 => ⟨S64x58, .i32⟩
  | 55 => ⟨S64x58, .i1⟩
  | 56 => ⟨S_, .i32⟩
  | 57 => ⟨S64x58, .i32⟩
  | 58 => ⟨S64x58, .i32⟩
  | 59 => ⟨S64x58, .i32⟩
  | 60 => ⟨S64x58x1, .i32⟩
  | 61 => ⟨S1, .i32⟩
  | 62 => ⟨S_, .i32⟩
  | 63 => ⟨S64x58x1, .i32⟩
  | 64 => ⟨S64x58x1, .i1⟩
  | 65 => ⟨S1x1x1, .i32⟩
  | 66 => ⟨S64x58x1, .i32⟩
  | 67 => ⟨S64x58x1, .i1⟩
  | 68 => ⟨S64x58x1, .i1⟩
  | 69 => ⟨S_, .i1⟩
  | 70 => ⟨S64x58, .i1⟩
  | 71 => ⟨S64x58, .i32⟩
  | 72 => ⟨S_, .i32⟩
  | 73 => ⟨S64x58, .i32⟩
  | 74 => ⟨S64x58, .i32⟩
  | 75 => ⟨S64x58x1, .i32⟩
  | 76 => ⟨S_, .i32⟩
  | 77 => ⟨S64x58x1, .i32⟩
  | 78 => ⟨S64x58x1, .i1⟩
  | 79 => ⟨S_, .i32⟩
  | 80 => ⟨S64x58x1, .i32⟩
  | 81 => ⟨S64x58x1, .i32⟩
  | 82 => ⟨S64x58x1, .i32⟩
  | 83 => ⟨S1, .i32⟩
  | 84 => ⟨S_, .i32⟩
  | 85 => ⟨S64x58x1, .i32⟩
  | 86 => ⟨S64x58x1, .i1⟩
  | 87 => ⟨S1x1x1, .i32⟩
  | 88 => ⟨S64x58x1, .i32⟩
  | 89 => ⟨S64x58x1, .i1⟩
  | 90 => ⟨S64x58x1, .i1⟩
  | 91 => ⟨S_, .i1⟩
  | 92 => ⟨S64x58, .i1⟩
  | 93 => ⟨S64x58x768, .f32⟩
  | 94 => ⟨S64x58x768, .i1⟩
  | 95 => ⟨S_, .f32⟩
  | 96 => ⟨S64x58x768, .f32⟩
  | 97 => ⟨S64x58x768, .f32⟩
  | 98 => ⟨S64x518x768, .f32⟩
  | 99 => ⟨S_, .f32⟩
  | 100 => ⟨S64x518, .f32⟩
  | 101 => ⟨S64x518x1, .f32⟩
  | 102 => ⟨S64x518x1, .f32⟩
  | 103 => ⟨S64x518x768, .f32⟩
  | 104 => ⟨S64x518x768, .f32⟩
  | 105 => ⟨S64x58x768, .f32⟩
  | 106 => ⟨S_, .f32⟩
  | 107 => ⟨S64x58, .f32⟩
  | 108 => ⟨S64x58x1, .f32⟩
  | 109 => ⟨S64x58x1, .f32⟩
  | 110 => ⟨S64x58x768, .f32⟩
  | 111 => ⟨S64x58x768, .f32⟩
  | 112 => ⟨S64x58x518, .f32⟩
  | _ => ⟨S64x577x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S64x577x768, .f32⟩

abbrev bufTy : (tb : Table) → Fin (tcTables nBuf tb) → BufTy
  | .hbm, ⟨i, _⟩ => hbmTy i
  | _, _ => ⟨S64x577x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v6 : Ref sig .tc := ⟨.hbm, 30, rfl⟩
abbrev main_v7 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_c_2 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_c_3 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v8 : Ref sig .tc := ⟨.hbm, 53, rfl⟩
abbrev main_call2_v0 : Ref sig .tc := ⟨.hbm, 54, rfl⟩
abbrev main_call2_cst : Ref sig .tc := ⟨.hbm, 55, rfl⟩
abbrev main_call2_v1 : Ref sig .tc := ⟨.hbm, 56, rfl⟩
abbrev main_call2_v2 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_call3_v0 : Ref sig .tc := ⟨.hbm, 61, rfl⟩
abbrev main_call3_cst : Ref sig .tc := ⟨.hbm, 62, rfl⟩
abbrev main_call3_v1 : Ref sig .tc := ⟨.hbm, 63, rfl⟩
abbrev main_call3_v2 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_cst : Ref sig .tc := ⟨.hbm, 69, rfl⟩
abbrev main_v16 : Ref sig .tc := ⟨.hbm, 70, rfl⟩
abbrev main_call4_v0 : Ref sig .tc := ⟨.hbm, 71, rfl⟩
abbrev main_call4_v1_0 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_call5_c : Ref sig .tc := ⟨.hbm, 76, rfl⟩
abbrev main_call5_v0 : Ref sig .tc := ⟨.hbm, 77, rfl⟩
abbrev main_call5_v1 : Ref sig .tc := ⟨.hbm, 78, rfl⟩
abbrev main_call5_c_0 : Ref sig .tc := ⟨.hbm, 79, rfl⟩
abbrev main_call5_v2 : Ref sig .tc := ⟨.hbm, 80, rfl⟩
abbrev main_call5_v3 : Ref sig .tc := ⟨.hbm, 81, rfl⟩
abbrev main_call5_v4 : Ref sig .tc := ⟨.hbm, 82, rfl⟩
abbrev main_call5_v5 : Ref sig .tc := ⟨.hbm, 83, rfl⟩
abbrev main_call5_c_1 : Ref sig .tc := ⟨.hbm, 84, rfl⟩
abbrev main_call5_c_2 : Ref sig .tc := ⟨.hbm, 85, rfl⟩
abbrev main_call5_v6 : Ref sig .tc := ⟨.hbm, 86, rfl⟩
abbrev main_call5_v7 : Ref sig .tc := ⟨.hbm, 87, rfl⟩
abbrev main_call5_v8 : Ref sig .tc := ⟨.hbm, 88, rfl⟩
abbrev main_call5_v9 : Ref sig .tc := ⟨.hbm, 89, rfl⟩
abbrev main_call5_v10 : Ref sig .tc := ⟨.hbm, 90, rfl⟩
abbrev main_call5_v11 : Ref sig .tc := ⟨.hbm, 91, rfl⟩
abbrev main_call5_c_3 : Ref sig .tc := ⟨.hbm, 92, rfl⟩
abbrev main_call5_v12 : Ref sig .tc := ⟨.hbm, 93, rfl⟩
abbrev main_call5_v13 : Ref sig .tc := ⟨.hbm, 94, rfl⟩
abbrev main_call5_c_4 : Ref sig .tc := ⟨.hbm, 95, rfl⟩
abbrev main_call5_v14 : Ref sig .tc := ⟨.hbm, 96, rfl⟩
abbrev main_v20 : Ref sig .tc := ⟨.hbm, 97, rfl⟩
abbrev main_v21 : Ref sig .tc := ⟨.hbm, 98, rfl⟩
abbrev main_call6_c : Ref sig .tc := ⟨.hbm, 99, rfl⟩
abbrev main_call6_v0 : Ref sig .tc := ⟨.hbm, 100, rfl⟩
abbrev main_call6_v1 : Ref sig .tc := ⟨.hbm, 101, rfl⟩
abbrev main_call6_c_0 : Ref sig .tc := ⟨.hbm, 102, rfl⟩
abbrev main_call6_v2 : Ref sig .tc := ⟨.hbm, 103, rfl⟩
abbrev main_call6_v3 : Ref sig .tc := ⟨.hbm, 104, rfl⟩
abbrev main_call6_v4 : Ref sig .tc := ⟨.hbm, 105, rfl⟩
abbrev main_call6_c_1 : Ref sig .tc := ⟨.hbm, 106, rfl⟩
abbrev main_call6_c_2 : Ref sig .tc := ⟨.hbm, 107, rfl⟩
abbrev main_call6_v5 : Ref sig .tc := ⟨.hbm, 108, rfl⟩
abbrev main_call6_v6 : Ref sig .tc := ⟨.hbm, 109, rfl⟩
abbrev main_call6_v7 : Ref sig .tc := ⟨.hbm, 110, rfl⟩
abbrev main_call6_v8 : Ref sig .tc := ⟨.hbm, 111, rfl⟩
abbrev main_call6_v9 : Ref sig .tc := ⟨.hbm, 112, rfl⟩
abbrev main_call6_v10 : Ref sig .tc := ⟨.hbm, 113, rfl⟩
abbrev main_call6_c_3 : Ref sig .tc := ⟨.hbm, 114, rfl⟩
abbrev main_call6_v11 : Ref sig .tc := ⟨.hbm, 115, rfl⟩
abbrev main_call6_v12 : Ref sig .tc := ⟨.hbm, 116, rfl⟩
abbrev main_call6_v13 : Ref sig .tc := ⟨.hbm, 117, rfl⟩
abbrev main_call6_cst : Ref sig .tc := ⟨.hbm, 118, rfl⟩
abbrev main_call6_v14 : Ref sig .tc := ⟨.hbm, 119, rfl⟩
abbrev main_v22 : Ref sig .tc := ⟨.hbm, 120, rfl⟩
abbrev main_v23 : Ref sig .tc := ⟨.hbm, 121, rfl⟩
abbrev main_v24 : Ref sig .tc := ⟨.hbm, 122, rfl⟩
abbrev main_call7_c : Ref sig .tc := ⟨.hbm, 123, rfl⟩
abbrev main_call7_v0 : Ref sig .tc := ⟨.hbm, 124, rfl⟩
abbrev main_call7_v1 : Ref sig .tc := ⟨.hbm, 125, rfl⟩
abbrev main_call7_c_0 : Ref sig .tc := ⟨.hbm, 126, rfl⟩
abbrev main_call7_v2 : Ref sig .tc := ⟨.hbm, 127, rfl⟩
abbrev main_call7_v3 : Ref sig .tc := ⟨.hbm, 128, rfl⟩
abbrev main_call7_v4 : Ref sig .tc := ⟨.hbm, 129, rfl⟩
abbrev main_call7_v5 : Ref sig .tc := ⟨.hbm, 130, rfl⟩
abbrev main_call7_c_1 : Ref sig .tc := ⟨.hbm, 131, rfl⟩
abbrev main_call7_c_2 : Ref sig .tc := ⟨.hbm, 132, rfl⟩
abbrev main_call7_v6 : Ref sig .tc := ⟨.hbm, 133, rfl⟩
abbrev main_call7_v7 : Ref sig .tc := ⟨.hbm, 134, rfl⟩
abbrev main_call7_v8 : Ref sig .tc := ⟨.hbm, 135, rfl⟩
abbrev main_call7_v9 : Ref sig .tc := ⟨.hbm, 136, rfl⟩
abbrev main_call7_v10 : Ref sig .tc := ⟨.hbm, 137, rfl⟩
abbrev main_call7_v11 : Ref sig .tc := ⟨.hbm, 138, rfl⟩
abbrev main_call7_c_3 : Ref sig .tc := ⟨.hbm, 139, rfl⟩
abbrev main_call7_v12 : Ref sig .tc := ⟨.hbm, 140, rfl⟩
abbrev main_call7_v13 : Ref sig .tc := ⟨.hbm, 141, rfl⟩
abbrev main_call7_c_4 : Ref sig .tc := ⟨.hbm, 142, rfl⟩
abbrev main_call7_v14 : Ref sig .tc := ⟨.hbm, 143, rfl⟩
abbrev main_v25 : Ref sig .tc := ⟨.hbm, 144, rfl⟩
abbrev main_v26 : Ref sig .tc := ⟨.hbm, 145, rfl⟩
abbrev main_call8_c : Ref sig .tc := ⟨.hbm, 146, rfl⟩
abbrev main_call8_v0 : Ref sig .tc := ⟨.hbm, 147, rfl⟩
abbrev main_call8_v1 : Ref sig .tc := ⟨.hbm, 148, rfl⟩
abbrev main_call8_c_0 : Ref sig .tc := ⟨.hbm, 149, rfl⟩
abbrev main_call8_v2 : Ref sig .tc := ⟨.hbm, 150, rfl⟩
abbrev main_call8_v3 : Ref sig .tc := ⟨.hbm, 151, rfl⟩
abbrev main_call8_v4 : Ref sig .tc := ⟨.hbm, 152, rfl⟩
abbrev main_call8_c_1 : Ref sig .tc := ⟨.hbm, 153, rfl⟩
abbrev main_call8_c_2 : Ref sig .tc := ⟨.hbm, 154, rfl⟩
abbrev main_call8_v5 : Ref sig .tc := ⟨.hbm, 155, rfl⟩
abbrev main_call8_v6 : Ref sig .tc := ⟨.hbm, 156, rfl⟩
abbrev main_call8_v7 : Ref sig .tc := ⟨.hbm, 157, rfl⟩
abbrev main_call8_v8 : Ref sig .tc := ⟨.hbm, 158, rfl⟩
abbrev main_call8_v9 : Ref sig .tc := ⟨.hbm, 159, rfl⟩
abbrev main_call8_v10 : Ref sig .tc := ⟨.hbm, 160, rfl⟩
abbrev main_call8_c_3 : Ref sig .tc := ⟨.hbm, 161, rfl⟩
abbrev main_call8_v11 : Ref sig .tc := ⟨.hbm, 162, rfl⟩
abbrev main_call8_v12 : Ref sig .tc := ⟨.hbm, 163, rfl⟩
abbrev main_call8_v13 : Ref sig .tc := ⟨.hbm, 164, rfl⟩
abbrev main_call8_cst : Ref sig .tc := ⟨.hbm, 165, rfl⟩
abbrev main_call8_v14 : Ref sig .tc := ⟨.hbm, 166, rfl⟩
abbrev main_v27 : Ref sig .tc := ⟨.hbm, 167, rfl⟩
abbrev main_call9_v0 : Ref sig .tc := ⟨.hbm, 168, rfl⟩
abbrev main_call9_cst : Ref sig .tc := ⟨.hbm, 169, rfl⟩
abbrev main_call9_v1 : Ref sig .tc := ⟨.hbm, 170, rfl⟩
abbrev main_call9_v2 : Ref sig .tc := ⟨.hbm, 171, rfl⟩
abbrev main_v28 : Ref sig .tc := ⟨.hbm, 172, rfl⟩
abbrev main_v29 : Ref sig .tc := ⟨.hbm, 173, rfl⟩
abbrev main_v30 : Ref sig .tc := ⟨.hbm, 174, rfl⟩
abbrev main_call10_v0 : Ref sig .tc := ⟨.hbm, 175, rfl⟩
abbrev main_call10_cst : Ref sig .tc := ⟨.hbm, 176, rfl⟩
abbrev main_call10_v1 : Ref sig .tc := ⟨.hbm, 177, rfl⟩
abbrev main_call10_v2 : Ref sig .tc := ⟨.hbm, 178, rfl⟩
abbrev main_v31 : Ref sig .tc := ⟨.hbm, 179, rfl⟩
abbrev main_v32 : Ref sig .tc := ⟨.hbm, 180, rfl⟩
abbrev main_v33 : Ref sig .tc := ⟨.hbm, 181, rfl⟩
abbrev main_v34 : Ref sig .tc := ⟨.hbm, 182, rfl⟩
abbrev main_cst_1 : Ref sig .tc := ⟨.hbm, 183, rfl⟩
abbrev main_v35 : Ref sig .tc := ⟨.hbm, 184, rfl⟩
abbrev main_call11_v0 : Ref sig .tc := ⟨.hbm, 185, rfl⟩
abbrev main_call11_v1_0 : Ref sig .tc := ⟨.hbm, 186, rfl⟩
abbrev main_v36 : Ref sig .tc := ⟨.hbm, 187, rfl⟩
abbrev main_v37 : Ref sig .tc := ⟨.hbm, 188, rfl⟩
abbrev main_v38 : Ref sig .tc := ⟨.hbm, 189, rfl⟩
abbrev main_call12_c : Ref sig .tc := ⟨.hbm, 190, rfl⟩
abbrev main_call12_v0 : Ref sig .tc := ⟨.hbm, 191, rfl⟩
abbrev main_call12_v1 : Ref sig .tc := ⟨.hbm, 192, rfl⟩
abbrev main_call12_c_0 : Ref sig .tc := ⟨.hbm, 193, rfl⟩
abbrev main_call12_v2 : Ref sig .tc := ⟨.hbm, 194, rfl⟩
abbrev main_call12_v3 : Ref sig .tc := ⟨.hbm, 195, rfl⟩
abbrev main_call12_v4 : Ref sig .tc := ⟨.hbm, 196, rfl⟩
abbrev main_call12_v5 : Ref sig .tc := ⟨.hbm, 197, rfl⟩
abbrev main_call12_c_1 : Ref sig .tc := ⟨.hbm, 198, rfl⟩
abbrev main_call12_c_2 : Ref sig .tc := ⟨.hbm, 199, rfl⟩
abbrev main_call12_v6 : Ref sig .tc := ⟨.hbm, 200, rfl⟩
abbrev main_call12_v7 : Ref sig .tc := ⟨.hbm, 201, rfl⟩
abbrev main_call12_v8 : Ref sig .tc := ⟨.hbm, 202, rfl⟩
abbrev main_call12_v9 : Ref sig .tc := ⟨.hbm, 203, rfl⟩
abbrev main_call12_v10 : Ref sig .tc := ⟨.hbm, 204, rfl⟩
abbrev main_call12_v11 : Ref sig .tc := ⟨.hbm, 205, rfl⟩
abbrev main_call12_c_3 : Ref sig .tc := ⟨.hbm, 206, rfl⟩
abbrev main_call12_v12 : Ref sig .tc := ⟨.hbm, 207, rfl⟩
abbrev main_call12_v13 : Ref sig .tc := ⟨.hbm, 208, rfl⟩
abbrev main_call12_c_4 : Ref sig .tc := ⟨.hbm, 209, rfl⟩
abbrev main_call12_v14 : Ref sig .tc := ⟨.hbm, 210, rfl⟩
abbrev main_v39 : Ref sig .tc := ⟨.hbm, 211, rfl⟩
abbrev main_v40 : Ref sig .tc := ⟨.hbm, 212, rfl⟩
abbrev main_call13_c : Ref sig .tc := ⟨.hbm, 213, rfl⟩
abbrev main_call13_v0 : Ref sig .tc := ⟨.hbm, 214, rfl⟩
abbrev main_call13_v1 : Ref sig .tc := ⟨.hbm, 215, rfl⟩
abbrev main_call13_c_0 : Ref sig .tc := ⟨.hbm, 216, rfl⟩
abbrev main_call13_v2 : Ref sig .tc := ⟨.hbm, 217, rfl⟩
abbrev main_call13_v3 : Ref sig .tc := ⟨.hbm, 218, rfl⟩
abbrev main_call13_v4 : Ref sig .tc := ⟨.hbm, 219, rfl⟩
abbrev main_call13_c_1 : Ref sig .tc := ⟨.hbm, 220, rfl⟩
abbrev main_call13_c_2 : Ref sig .tc := ⟨.hbm, 221, rfl⟩
abbrev main_call13_v5 : Ref sig .tc := ⟨.hbm, 222, rfl⟩
abbrev main_call13_v6 : Ref sig .tc := ⟨.hbm, 223, rfl⟩
abbrev main_call13_v7 : Ref sig .tc := ⟨.hbm, 224, rfl⟩
abbrev main_call13_v8 : Ref sig .tc := ⟨.hbm, 225, rfl⟩
abbrev main_call13_v9 : Ref sig .tc := ⟨.hbm, 226, rfl⟩
abbrev main_call13_v10 : Ref sig .tc := ⟨.hbm, 227, rfl⟩
abbrev main_call13_c_3 : Ref sig .tc := ⟨.hbm, 228, rfl⟩
abbrev main_call13_v11 : Ref sig .tc := ⟨.hbm, 229, rfl⟩
abbrev main_call13_v12 : Ref sig .tc := ⟨.hbm, 230, rfl⟩
abbrev main_call13_v13 : Ref sig .tc := ⟨.hbm, 231, rfl⟩
abbrev main_call13_cst : Ref sig .tc := ⟨.hbm, 232, rfl⟩
abbrev main_call13_v14 : Ref sig .tc := ⟨.hbm, 233, rfl⟩
abbrev main_v41 : Ref sig .tc := ⟨.hbm, 234, rfl⟩
abbrev main_v42 : Ref sig .tc := ⟨.hbm, 235, rfl⟩
abbrev main_v43 : Ref sig .tc := ⟨.hbm, 236, rfl⟩
abbrev main_call14_c : Ref sig .tc := ⟨.hbm, 237, rfl⟩
abbrev main_call14_v0 : Ref sig .tc := ⟨.hbm, 238, rfl⟩
abbrev main_call14_v1 : Ref sig .tc := ⟨.hbm, 239, rfl⟩
abbrev main_call14_c_0 : Ref sig .tc := ⟨.hbm, 240, rfl⟩
abbrev main_call14_v2 : Ref sig .tc := ⟨.hbm, 241, rfl⟩
abbrev main_call14_v3 : Ref sig .tc := ⟨.hbm, 242, rfl⟩
abbrev main_call14_v4 : Ref sig .tc := ⟨.hbm, 243, rfl⟩
abbrev main_call14_v5 : Ref sig .tc := ⟨.hbm, 244, rfl⟩
abbrev main_call14_c_1 : Ref sig .tc := ⟨.hbm, 245, rfl⟩
abbrev main_call14_c_2 : Ref sig .tc := ⟨.hbm, 246, rfl⟩
abbrev main_call14_v6 : Ref sig .tc := ⟨.hbm, 247, rfl⟩
abbrev main_call14_v7 : Ref sig .tc := ⟨.hbm, 248, rfl⟩
abbrev main_call14_v8 : Ref sig .tc := ⟨.hbm, 249, rfl⟩
abbrev main_call14_v9 : Ref sig .tc := ⟨.hbm, 250, rfl⟩
abbrev main_call14_v10 : Ref sig .tc := ⟨.hbm, 251, rfl⟩
abbrev main_call14_v11 : Ref sig .tc := ⟨.hbm, 252, rfl⟩
abbrev main_call14_c_3 : Ref sig .tc := ⟨.hbm, 253, rfl⟩
abbrev main_call14_v12 : Ref sig .tc := ⟨.hbm, 254, rfl⟩
abbrev main_call14_v13 : Ref sig .tc := ⟨.hbm, 255, rfl⟩
abbrev main_call14_c_4 : Ref sig .tc := ⟨.hbm, 256, rfl⟩
abbrev main_call14_v14 : Ref sig .tc := ⟨.hbm, 257, rfl⟩
abbrev main_v44 : Ref sig .tc := ⟨.hbm, 258, rfl⟩
abbrev main_v45 : Ref sig .tc := ⟨.hbm, 259, rfl⟩
abbrev main_call15_c : Ref sig .tc := ⟨.hbm, 260, rfl⟩
abbrev main_call15_v0 : Ref sig .tc := ⟨.hbm, 261, rfl⟩
abbrev main_call15_v1 : Ref sig .tc := ⟨.hbm, 262, rfl⟩
abbrev main_call15_c_0 : Ref sig .tc := ⟨.hbm, 263, rfl⟩
abbrev main_call15_v2 : Ref sig .tc := ⟨.hbm, 264, rfl⟩
abbrev main_call15_v3 : Ref sig .tc := ⟨.hbm, 265, rfl⟩
abbrev main_call15_v4 : Ref sig .tc := ⟨.hbm, 266, rfl⟩
abbrev main_call15_c_1 : Ref sig .tc := ⟨.hbm, 267, rfl⟩
abbrev main_call15_c_2 : Ref sig .tc := ⟨.hbm, 268, rfl⟩
abbrev main_call15_v5 : Ref sig .tc := ⟨.hbm, 269, rfl⟩
abbrev main_call15_v6 : Ref sig .tc := ⟨.hbm, 270, rfl⟩
abbrev main_call15_v7 : Ref sig .tc := ⟨.hbm, 271, rfl⟩
abbrev main_call15_v8 : Ref sig .tc := ⟨.hbm, 272, rfl⟩
abbrev main_call15_v9 : Ref sig .tc := ⟨.hbm, 273, rfl⟩
abbrev main_call15_v10 : Ref sig .tc := ⟨.hbm, 274, rfl⟩
abbrev main_call15_c_3 : Ref sig .tc := ⟨.hbm, 275, rfl⟩
abbrev main_call15_v11 : Ref sig .tc := ⟨.hbm, 276, rfl⟩
abbrev main_call15_v12 : Ref sig .tc := ⟨.hbm, 277, rfl⟩
abbrev main_call15_v13 : Ref sig .tc := ⟨.hbm, 278, rfl⟩
abbrev main_call15_cst : Ref sig .tc := ⟨.hbm, 279, rfl⟩
abbrev main_call15_v14 : Ref sig .tc := ⟨.hbm, 280, rfl⟩
abbrev main_v46 : Ref sig .tc := ⟨.hbm, 281, rfl⟩
abbrev main_call16_v0 : Ref sig .tc := ⟨.hbm, 282, rfl⟩
abbrev main_call16_cst : Ref sig .tc := ⟨.hbm, 283, rfl⟩
abbrev main_call16_v1 : Ref sig .tc := ⟨.hbm, 284, rfl⟩
abbrev main_call16_v2 : Ref sig .tc := ⟨.hbm, 285, rfl⟩
abbrev main_v47 : Ref sig .tc := ⟨.hbm, 286, rfl⟩
abbrev main_v48 : Ref sig .tc := ⟨.hbm, 287, rfl⟩
abbrev main_v49 : Ref sig .tc := ⟨.hbm, 288, rfl⟩
abbrev main_call17_v0 : Ref sig .tc := ⟨.hbm, 289, rfl⟩
abbrev main_call17_cst : Ref sig .tc := ⟨.hbm, 290, rfl⟩
abbrev main_call17_v1 : Ref sig .tc := ⟨.hbm, 291, rfl⟩
abbrev main_call17_v2 : Ref sig .tc := ⟨.hbm, 292, rfl⟩
abbrev main_v50 : Ref sig .tc := ⟨.hbm, 293, rfl⟩
abbrev main_v51 : Ref sig .tc := ⟨.hbm, 294, rfl⟩
abbrev main_v52 : Ref sig .tc := ⟨.hbm, 295, rfl⟩
abbrev main_v53 : Ref sig .tc := ⟨.hbm, 296, rfl⟩
abbrev main_cst_2 : Ref sig .tc := ⟨.hbm, 297, rfl⟩
abbrev main_v54 : Ref sig .tc := ⟨.hbm, 298, rfl⟩
abbrev main_call18_v0 : Ref sig .tc := ⟨.hbm, 299, rfl⟩
abbrev main_call18_v1_0 : Ref sig .tc := ⟨.hbm, 300, rfl⟩
abbrev main_v55 : Ref sig .tc := ⟨.hbm, 301, rfl⟩
abbrev main_v56 : Ref sig .tc := ⟨.hbm, 302, rfl⟩
abbrev main_v57 : Ref sig .tc := ⟨.hbm, 303, rfl⟩
abbrev main_call19_c : Ref sig .tc := ⟨.hbm, 304, rfl⟩
abbrev main_call19_v0 : Ref sig .tc := ⟨.hbm, 305, rfl⟩
abbrev main_call19_v1 : Ref sig .tc := ⟨.hbm, 306, rfl⟩
abbrev main_call19_c_0 : Ref sig .tc := ⟨.hbm, 307, rfl⟩
abbrev main_call19_v2 : Ref sig .tc := ⟨.hbm, 308, rfl⟩
abbrev main_call19_v3 : Ref sig .tc := ⟨.hbm, 309, rfl⟩
abbrev main_call19_v4 : Ref sig .tc := ⟨.hbm, 310, rfl⟩
abbrev main_call19_v5 : Ref sig .tc := ⟨.hbm, 311, rfl⟩
abbrev main_call19_c_1 : Ref sig .tc := ⟨.hbm, 312, rfl⟩
abbrev main_call19_c_2 : Ref sig .tc := ⟨.hbm, 313, rfl⟩
abbrev main_call19_v6 : Ref sig .tc := ⟨.hbm, 314, rfl⟩
abbrev main_call19_v7 : Ref sig .tc := ⟨.hbm, 315, rfl⟩
abbrev main_call19_v8 : Ref sig .tc := ⟨.hbm, 316, rfl⟩
abbrev main_call19_v9 : Ref sig .tc := ⟨.hbm, 317, rfl⟩
abbrev main_call19_v10 : Ref sig .tc := ⟨.hbm, 318, rfl⟩
abbrev main_call19_v11 : Ref sig .tc := ⟨.hbm, 319, rfl⟩
abbrev main_call19_c_3 : Ref sig .tc := ⟨.hbm, 320, rfl⟩
abbrev main_call19_v12 : Ref sig .tc := ⟨.hbm, 321, rfl⟩
abbrev main_call19_v13 : Ref sig .tc := ⟨.hbm, 322, rfl⟩
abbrev main_call19_c_4 : Ref sig .tc := ⟨.hbm, 323, rfl⟩
abbrev main_call19_v14 : Ref sig .tc := ⟨.hbm, 324, rfl⟩
abbrev main_v58 : Ref sig .tc := ⟨.hbm, 325, rfl⟩
abbrev main_v59 : Ref sig .tc := ⟨.hbm, 326, rfl⟩
abbrev main_call20_c : Ref sig .tc := ⟨.hbm, 327, rfl⟩
abbrev main_call20_v0 : Ref sig .tc := ⟨.hbm, 328, rfl⟩
abbrev main_call20_v1 : Ref sig .tc := ⟨.hbm, 329, rfl⟩
abbrev main_call20_c_0 : Ref sig .tc := ⟨.hbm, 330, rfl⟩
abbrev main_call20_v2 : Ref sig .tc := ⟨.hbm, 331, rfl⟩
abbrev main_call20_v3 : Ref sig .tc := ⟨.hbm, 332, rfl⟩
abbrev main_call20_v4 : Ref sig .tc := ⟨.hbm, 333, rfl⟩
abbrev main_call20_c_1 : Ref sig .tc := ⟨.hbm, 334, rfl⟩
abbrev main_call20_c_2 : Ref sig .tc := ⟨.hbm, 335, rfl⟩
abbrev main_call20_v5 : Ref sig .tc := ⟨.hbm, 336, rfl⟩
abbrev main_call20_v6 : Ref sig .tc := ⟨.hbm, 337, rfl⟩
abbrev main_call20_v7 : Ref sig .tc := ⟨.hbm, 338, rfl⟩
abbrev main_call20_v8 : Ref sig .tc := ⟨.hbm, 339, rfl⟩
abbrev main_call20_v9 : Ref sig .tc := ⟨.hbm, 340, rfl⟩
abbrev main_call20_v10 : Ref sig .tc := ⟨.hbm, 341, rfl⟩
abbrev main_call20_c_3 : Ref sig .tc := ⟨.hbm, 342, rfl⟩
abbrev main_call20_v11 : Ref sig .tc := ⟨.hbm, 343, rfl⟩
abbrev main_call20_v12 : Ref sig .tc := ⟨.hbm, 344, rfl⟩
abbrev main_call20_v13 : Ref sig .tc := ⟨.hbm, 345, rfl⟩
abbrev main_call20_cst : Ref sig .tc := ⟨.hbm, 346, rfl⟩
abbrev main_call20_v14 : Ref sig .tc := ⟨.hbm, 347, rfl⟩
abbrev main_v60 : Ref sig .tc := ⟨.hbm, 348, rfl⟩
abbrev main_v61 : Ref sig .tc := ⟨.hbm, 349, rfl⟩
abbrev main_v62 : Ref sig .tc := ⟨.hbm, 350, rfl⟩
abbrev main_call21_c : Ref sig .tc := ⟨.hbm, 351, rfl⟩
abbrev main_call21_v0 : Ref sig .tc := ⟨.hbm, 352, rfl⟩
abbrev main_call21_v1 : Ref sig .tc := ⟨.hbm, 353, rfl⟩
abbrev main_call21_c_0 : Ref sig .tc := ⟨.hbm, 354, rfl⟩
abbrev main_call21_v2 : Ref sig .tc := ⟨.hbm, 355, rfl⟩
abbrev main_call21_v3 : Ref sig .tc := ⟨.hbm, 356, rfl⟩
abbrev main_call21_v4 : Ref sig .tc := ⟨.hbm, 357, rfl⟩
abbrev main_call21_v5 : Ref sig .tc := ⟨.hbm, 358, rfl⟩
abbrev main_call21_c_1 : Ref sig .tc := ⟨.hbm, 359, rfl⟩
abbrev main_call21_c_2 : Ref sig .tc := ⟨.hbm, 360, rfl⟩
abbrev main_call21_v6 : Ref sig .tc := ⟨.hbm, 361, rfl⟩
abbrev main_call21_v7 : Ref sig .tc := ⟨.hbm, 362, rfl⟩
abbrev main_call21_v8 : Ref sig .tc := ⟨.hbm, 363, rfl⟩
abbrev main_call21_v9 : Ref sig .tc := ⟨.hbm, 364, rfl⟩
abbrev main_call21_v10 : Ref sig .tc := ⟨.hbm, 365, rfl⟩
abbrev main_call21_v11 : Ref sig .tc := ⟨.hbm, 366, rfl⟩
abbrev main_call21_c_3 : Ref sig .tc := ⟨.hbm, 367, rfl⟩
abbrev main_call21_v12 : Ref sig .tc := ⟨.hbm, 368, rfl⟩
abbrev main_call21_v13 : Ref sig .tc := ⟨.hbm, 369, rfl⟩
abbrev main_call21_c_4 : Ref sig .tc := ⟨.hbm, 370, rfl⟩
abbrev main_call21_v14 : Ref sig .tc := ⟨.hbm, 371, rfl⟩
abbrev main_v63 : Ref sig .tc := ⟨.hbm, 372, rfl⟩
abbrev main_v64 : Ref sig .tc := ⟨.hbm, 373, rfl⟩
abbrev main_call22_c : Ref sig .tc := ⟨.hbm, 374, rfl⟩
abbrev main_call22_v0 : Ref sig .tc := ⟨.hbm, 375, rfl⟩
abbrev main_call22_v1 : Ref sig .tc := ⟨.hbm, 376, rfl⟩
abbrev main_call22_c_0 : Ref sig .tc := ⟨.hbm, 377, rfl⟩
abbrev main_call22_v2 : Ref sig .tc := ⟨.hbm, 378, rfl⟩
abbrev main_call22_v3 : Ref sig .tc := ⟨.hbm, 379, rfl⟩
abbrev main_call22_v4 : Ref sig .tc := ⟨.hbm, 380, rfl⟩
abbrev main_call22_c_1 : Ref sig .tc := ⟨.hbm, 381, rfl⟩
abbrev main_call22_c_2 : Ref sig .tc := ⟨.hbm, 382, rfl⟩
abbrev main_call22_v5 : Ref sig .tc := ⟨.hbm, 383, rfl⟩
abbrev main_call22_v6 : Ref sig .tc := ⟨.hbm, 384, rfl⟩
abbrev main_call22_v7 : Ref sig .tc := ⟨.hbm, 385, rfl⟩
abbrev main_call22_v8 : Ref sig .tc := ⟨.hbm, 386, rfl⟩
abbrev main_call22_v9 : Ref sig .tc := ⟨.hbm, 387, rfl⟩
abbrev main_call22_v10 : Ref sig .tc := ⟨.hbm, 388, rfl⟩
abbrev main_call22_c_3 : Ref sig .tc := ⟨.hbm, 389, rfl⟩
abbrev main_call22_v11 : Ref sig .tc := ⟨.hbm, 390, rfl⟩
abbrev main_call22_v12 : Ref sig .tc := ⟨.hbm, 391, rfl⟩
abbrev main_call22_v13 : Ref sig .tc := ⟨.hbm, 392, rfl⟩
abbrev main_call22_cst : Ref sig .tc := ⟨.hbm, 393, rfl⟩
abbrev main_call22_v14 : Ref sig .tc := ⟨.hbm, 394, rfl⟩
abbrev main_v65 : Ref sig .tc := ⟨.hbm, 395, rfl⟩
abbrev main_call23_v0 : Ref sig .tc := ⟨.hbm, 396, rfl⟩
abbrev main_call23_cst : Ref sig .tc := ⟨.hbm, 397, rfl⟩
abbrev main_call23_v1 : Ref sig .tc := ⟨.hbm, 398, rfl⟩
abbrev main_call23_v2 : Ref sig .tc := ⟨.hbm, 399, rfl⟩
abbrev main_v66 : Ref sig .tc := ⟨.hbm, 400, rfl⟩
abbrev main_v67 : Ref sig .tc := ⟨.hbm, 401, rfl⟩
abbrev main_v68 : Ref sig .tc := ⟨.hbm, 402, rfl⟩
abbrev main_call24_v0 : Ref sig .tc := ⟨.hbm, 403, rfl⟩
abbrev main_call24_cst : Ref sig .tc := ⟨.hbm, 404, rfl⟩
abbrev main_call24_v1 : Ref sig .tc := ⟨.hbm, 405, rfl⟩
abbrev main_call24_v2 : Ref sig .tc := ⟨.hbm, 406, rfl⟩
abbrev main_v69 : Ref sig .tc := ⟨.hbm, 407, rfl⟩
abbrev main_v70 : Ref sig .tc := ⟨.hbm, 408, rfl⟩
abbrev main_v71 : Ref sig .tc := ⟨.hbm, 409, rfl⟩
abbrev main_v72 : Ref sig .tc := ⟨.hbm, 410, rfl⟩
abbrev main_cst_3 : Ref sig .tc := ⟨.hbm, 411, rfl⟩
abbrev main_v73 : Ref sig .tc := ⟨.hbm, 412, rfl⟩
abbrev main_call25_v0 : Ref sig .tc := ⟨.hbm, 413, rfl⟩
abbrev main_call25_v1_0 : Ref sig .tc := ⟨.hbm, 414, rfl⟩
abbrev main_v74 : Ref sig .tc := ⟨.hbm, 415, rfl⟩
abbrev main_v75 : Ref sig .tc := ⟨.hbm, 416, rfl⟩
abbrev main_v76 : Ref sig .tc := ⟨.hbm, 417, rfl⟩
abbrev main_call26_c : Ref sig .tc := ⟨.hbm, 418, rfl⟩
abbrev main_call26_v0 : Ref sig .tc := ⟨.hbm, 419, rfl⟩
abbrev main_call26_v1 : Ref sig .tc := ⟨.hbm, 420, rfl⟩
abbrev main_call26_c_0 : Ref sig .tc := ⟨.hbm, 421, rfl⟩
abbrev main_call26_v2 : Ref sig .tc := ⟨.hbm, 422, rfl⟩
abbrev main_call26_v3 : Ref sig .tc := ⟨.hbm, 423, rfl⟩
abbrev main_call26_v4 : Ref sig .tc := ⟨.hbm, 424, rfl⟩
abbrev main_call26_v5 : Ref sig .tc := ⟨.hbm, 425, rfl⟩
abbrev main_call26_c_1 : Ref sig .tc := ⟨.hbm, 426, rfl⟩
abbrev main_call26_c_2 : Ref sig .tc := ⟨.hbm, 427, rfl⟩
abbrev main_call26_v6 : Ref sig .tc := ⟨.hbm, 428, rfl⟩
abbrev main_call26_v7 : Ref sig .tc := ⟨.hbm, 429, rfl⟩
abbrev main_call26_v8 : Ref sig .tc := ⟨.hbm, 430, rfl⟩
abbrev main_call26_v9 : Ref sig .tc := ⟨.hbm, 431, rfl⟩
abbrev main_call26_v10 : Ref sig .tc := ⟨.hbm, 432, rfl⟩
abbrev main_call26_v11 : Ref sig .tc := ⟨.hbm, 433, rfl⟩
abbrev main_call26_c_3 : Ref sig .tc := ⟨.hbm, 434, rfl⟩
abbrev main_call26_v12 : Ref sig .tc := ⟨.hbm, 435, rfl⟩
abbrev main_call26_v13 : Ref sig .tc := ⟨.hbm, 436, rfl⟩
abbrev main_call26_c_4 : Ref sig .tc := ⟨.hbm, 437, rfl⟩
abbrev main_call26_v14 : Ref sig .tc := ⟨.hbm, 438, rfl⟩
abbrev main_v77 : Ref sig .tc := ⟨.hbm, 439, rfl⟩
abbrev main_v78 : Ref sig .tc := ⟨.hbm, 440, rfl⟩
abbrev main_call27_c : Ref sig .tc := ⟨.hbm, 441, rfl⟩
abbrev main_call27_v0 : Ref sig .tc := ⟨.hbm, 442, rfl⟩
abbrev main_call27_v1 : Ref sig .tc := ⟨.hbm, 443, rfl⟩
abbrev main_call27_c_0 : Ref sig .tc := ⟨.hbm, 444, rfl⟩
abbrev main_call27_v2 : Ref sig .tc := ⟨.hbm, 445, rfl⟩
abbrev main_call27_v3 : Ref sig .tc := ⟨.hbm, 446, rfl⟩
abbrev main_call27_v4 : Ref sig .tc := ⟨.hbm, 447, rfl⟩
abbrev main_call27_c_1 : Ref sig .tc := ⟨.hbm, 448, rfl⟩
abbrev main_call27_c_2 : Ref sig .tc := ⟨.hbm, 449, rfl⟩
abbrev main_call27_v5 : Ref sig .tc := ⟨.hbm, 450, rfl⟩
abbrev main_call27_v6 : Ref sig .tc := ⟨.hbm, 451, rfl⟩
abbrev main_call27_v7 : Ref sig .tc := ⟨.hbm, 452, rfl⟩
abbrev main_call27_v8 : Ref sig .tc := ⟨.hbm, 453, rfl⟩
abbrev main_call27_v9 : Ref sig .tc := ⟨.hbm, 454, rfl⟩
abbrev main_call27_v10 : Ref sig .tc := ⟨.hbm, 455, rfl⟩
abbrev main_call27_c_3 : Ref sig .tc := ⟨.hbm, 456, rfl⟩
abbrev main_call27_v11 : Ref sig .tc := ⟨.hbm, 457, rfl⟩
abbrev main_call27_v12 : Ref sig .tc := ⟨.hbm, 458, rfl⟩
abbrev main_call27_v13 : Ref sig .tc := ⟨.hbm, 459, rfl⟩
abbrev main_call27_cst : Ref sig .tc := ⟨.hbm, 460, rfl⟩
abbrev main_call27_v14 : Ref sig .tc := ⟨.hbm, 461, rfl⟩
abbrev main_v79 : Ref sig .tc := ⟨.hbm, 462, rfl⟩
abbrev main_v80 : Ref sig .tc := ⟨.hbm, 463, rfl⟩
abbrev main_v81 : Ref sig .tc := ⟨.hbm, 464, rfl⟩
abbrev main_call28_c : Ref sig .tc := ⟨.hbm, 465, rfl⟩
abbrev main_call28_v0 : Ref sig .tc := ⟨.hbm, 466, rfl⟩
abbrev main_call28_v1 : Ref sig .tc := ⟨.hbm, 467, rfl⟩
abbrev main_call28_c_0 : Ref sig .tc := ⟨.hbm, 468, rfl⟩
abbrev main_call28_v2 : Ref sig .tc := ⟨.hbm, 469, rfl⟩
abbrev main_call28_v3 : Ref sig .tc := ⟨.hbm, 470, rfl⟩
abbrev main_call28_v4 : Ref sig .tc := ⟨.hbm, 471, rfl⟩
abbrev main_call28_v5 : Ref sig .tc := ⟨.hbm, 472, rfl⟩
abbrev main_call28_c_1 : Ref sig .tc := ⟨.hbm, 473, rfl⟩
abbrev main_call28_c_2 : Ref sig .tc := ⟨.hbm, 474, rfl⟩
abbrev main_call28_v6 : Ref sig .tc := ⟨.hbm, 475, rfl⟩
abbrev main_call28_v7 : Ref sig .tc := ⟨.hbm, 476, rfl⟩
abbrev main_call28_v8 : Ref sig .tc := ⟨.hbm, 477, rfl⟩
abbrev main_call28_v9 : Ref sig .tc := ⟨.hbm, 478, rfl⟩
abbrev main_call28_v10 : Ref sig .tc := ⟨.hbm, 479, rfl⟩
abbrev main_call28_v11 : Ref sig .tc := ⟨.hbm, 480, rfl⟩
abbrev main_call28_c_3 : Ref sig .tc := ⟨.hbm, 481, rfl⟩
abbrev main_call28_v12 : Ref sig .tc := ⟨.hbm, 482, rfl⟩
abbrev main_call28_v13 : Ref sig .tc := ⟨.hbm, 483, rfl⟩
abbrev main_call28_c_4 : Ref sig .tc := ⟨.hbm, 484, rfl⟩
abbrev main_call28_v14 : Ref sig .tc := ⟨.hbm, 485, rfl⟩
abbrev main_v82 : Ref sig .tc := ⟨.hbm, 486, rfl⟩
abbrev main_v83 : Ref sig .tc := ⟨.hbm, 487, rfl⟩
abbrev main_call29_c : Ref sig .tc := ⟨.hbm, 488, rfl⟩
abbrev main_call29_v0 : Ref sig .tc := ⟨.hbm, 489, rfl⟩
abbrev main_call29_v1 : Ref sig .tc := ⟨.hbm, 490, rfl⟩
abbrev main_call29_c_0 : Ref sig .tc := ⟨.hbm, 491, rfl⟩
abbrev main_call29_v2 : Ref sig .tc := ⟨.hbm, 492, rfl⟩
abbrev main_call29_v3 : Ref sig .tc := ⟨.hbm, 493, rfl⟩
abbrev main_call29_v4 : Ref sig .tc := ⟨.hbm, 494, rfl⟩
abbrev main_call29_c_1 : Ref sig .tc := ⟨.hbm, 495, rfl⟩
abbrev main_call29_c_2 : Ref sig .tc := ⟨.hbm, 496, rfl⟩
abbrev main_call29_v5 : Ref sig .tc := ⟨.hbm, 497, rfl⟩
abbrev main_call29_v6 : Ref sig .tc := ⟨.hbm, 498, rfl⟩
abbrev main_call29_v7 : Ref sig .tc := ⟨.hbm, 499, rfl⟩
abbrev main_call29_v8 : Ref sig .tc := ⟨.hbm, 500, rfl⟩
abbrev main_call29_v9 : Ref sig .tc := ⟨.hbm, 501, rfl⟩
abbrev main_call29_v10 : Ref sig .tc := ⟨.hbm, 502, rfl⟩
abbrev main_call29_c_3 : Ref sig .tc := ⟨.hbm, 503, rfl⟩
abbrev main_call29_v11 : Ref sig .tc := ⟨.hbm, 504, rfl⟩
abbrev main_call29_v12 : Ref sig .tc := ⟨.hbm, 505, rfl⟩
abbrev main_call29_v13 : Ref sig .tc := ⟨.hbm, 506, rfl⟩
abbrev main_call29_cst : Ref sig .tc := ⟨.hbm, 507, rfl⟩
abbrev main_call29_v14 : Ref sig .tc := ⟨.hbm, 508, rfl⟩
abbrev main_v84 : Ref sig .tc := ⟨.hbm, 509, rfl⟩
abbrev main_call30_v0 : Ref sig .tc := ⟨.hbm, 510, rfl⟩
abbrev main_call30_cst : Ref sig .tc := ⟨.hbm, 511, rfl⟩
abbrev main_call30_v1 : Ref sig .tc := ⟨.hbm, 512, rfl⟩
abbrev main_call30_v2 : Ref sig .tc := ⟨.hbm, 513, rfl⟩
abbrev main_v85 : Ref sig .tc := ⟨.hbm, 514, rfl⟩
abbrev main_v86 : Ref sig .tc := ⟨.hbm, 515, rfl⟩
abbrev main_v87 : Ref sig .tc := ⟨.hbm, 516, rfl⟩
abbrev main_call31_v0 : Ref sig .tc := ⟨.hbm, 517, rfl⟩
abbrev main_call31_cst : Ref sig .tc := ⟨.hbm, 518, rfl⟩
abbrev main_call31_v1 : Ref sig .tc := ⟨.hbm, 519, rfl⟩
abbrev main_call31_v2 : Ref sig .tc := ⟨.hbm, 520, rfl⟩
abbrev main_v88 : Ref sig .tc := ⟨.hbm, 521, rfl⟩
abbrev main_v89 : Ref sig .tc := ⟨.hbm, 522, rfl⟩
abbrev main_v90 : Ref sig .tc := ⟨.hbm, 523, rfl⟩
abbrev main_v91 : Ref sig .tc := ⟨.hbm, 524, rfl⟩
abbrev main_cst_4 : Ref sig .tc := ⟨.hbm, 525, rfl⟩
abbrev main_v92 : Ref sig .tc := ⟨.hbm, 526, rfl⟩
abbrev main_call32_v0 : Ref sig .tc := ⟨.hbm, 527, rfl⟩
abbrev main_call32_v1_0 : Ref sig .tc := ⟨.hbm, 528, rfl⟩
abbrev main_v93 : Ref sig .tc := ⟨.hbm, 529, rfl⟩
abbrev main_v94 : Ref sig .tc := ⟨.hbm, 530, rfl⟩
abbrev main_v95 : Ref sig .tc := ⟨.hbm, 531, rfl⟩
abbrev main_call33_c : Ref sig .tc := ⟨.hbm, 532, rfl⟩
abbrev main_call33_v0 : Ref sig .tc := ⟨.hbm, 533, rfl⟩
abbrev main_call33_v1 : Ref sig .tc := ⟨.hbm, 534, rfl⟩
abbrev main_call33_c_0 : Ref sig .tc := ⟨.hbm, 535, rfl⟩
abbrev main_call33_v2 : Ref sig .tc := ⟨.hbm, 536, rfl⟩
abbrev main_call33_v3 : Ref sig .tc := ⟨.hbm, 537, rfl⟩
abbrev main_call33_v4 : Ref sig .tc := ⟨.hbm, 538, rfl⟩
abbrev main_call33_v5 : Ref sig .tc := ⟨.hbm, 539, rfl⟩
abbrev main_call33_c_1 : Ref sig .tc := ⟨.hbm, 540, rfl⟩
abbrev main_call33_c_2 : Ref sig .tc := ⟨.hbm, 541, rfl⟩
abbrev main_call33_v6 : Ref sig .tc := ⟨.hbm, 542, rfl⟩
abbrev main_call33_v7 : Ref sig .tc := ⟨.hbm, 543, rfl⟩
abbrev main_call33_v8 : Ref sig .tc := ⟨.hbm, 544, rfl⟩
abbrev main_call33_v9 : Ref sig .tc := ⟨.hbm, 545, rfl⟩
abbrev main_call33_v10 : Ref sig .tc := ⟨.hbm, 546, rfl⟩
abbrev main_call33_v11 : Ref sig .tc := ⟨.hbm, 547, rfl⟩
abbrev main_call33_c_3 : Ref sig .tc := ⟨.hbm, 548, rfl⟩
abbrev main_call33_v12 : Ref sig .tc := ⟨.hbm, 549, rfl⟩
abbrev main_call33_v13 : Ref sig .tc := ⟨.hbm, 550, rfl⟩
abbrev main_call33_c_4 : Ref sig .tc := ⟨.hbm, 551, rfl⟩
abbrev main_call33_v14 : Ref sig .tc := ⟨.hbm, 552, rfl⟩
abbrev main_v96 : Ref sig .tc := ⟨.hbm, 553, rfl⟩
abbrev main_v97 : Ref sig .tc := ⟨.hbm, 554, rfl⟩
abbrev main_call34_c : Ref sig .tc := ⟨.hbm, 555, rfl⟩
abbrev main_call34_v0 : Ref sig .tc := ⟨.hbm, 556, rfl⟩
abbrev main_call34_v1 : Ref sig .tc := ⟨.hbm, 557, rfl⟩
abbrev main_call34_c_0 : Ref sig .tc := ⟨.hbm, 558, rfl⟩
abbrev main_call34_v2 : Ref sig .tc := ⟨.hbm, 559, rfl⟩
abbrev main_call34_v3 : Ref sig .tc := ⟨.hbm, 560, rfl⟩
abbrev main_call34_v4 : Ref sig .tc := ⟨.hbm, 561, rfl⟩
abbrev main_call34_c_1 : Ref sig .tc := ⟨.hbm, 562, rfl⟩
abbrev main_call34_c_2 : Ref sig .tc := ⟨.hbm, 563, rfl⟩
abbrev main_call34_v5 : Ref sig .tc := ⟨.hbm, 564, rfl⟩
abbrev main_call34_v6 : Ref sig .tc := ⟨.hbm, 565, rfl⟩
abbrev main_call34_v7 : Ref sig .tc := ⟨.hbm, 566, rfl⟩
abbrev main_call34_v8 : Ref sig .tc := ⟨.hbm, 567, rfl⟩
abbrev main_call34_v9 : Ref sig .tc := ⟨.hbm, 568, rfl⟩
abbrev main_call34_v10 : Ref sig .tc := ⟨.hbm, 569, rfl⟩
abbrev main_call34_c_3 : Ref sig .tc := ⟨.hbm, 570, rfl⟩
abbrev main_call34_v11 : Ref sig .tc := ⟨.hbm, 571, rfl⟩
abbrev main_call34_v12 : Ref sig .tc := ⟨.hbm, 572, rfl⟩
abbrev main_call34_v13 : Ref sig .tc := ⟨.hbm, 573, rfl⟩
abbrev main_call34_cst : Ref sig .tc := ⟨.hbm, 574, rfl⟩
abbrev main_call34_v14 : Ref sig .tc := ⟨.hbm, 575, rfl⟩
abbrev main_v98 : Ref sig .tc := ⟨.hbm, 576, rfl⟩
abbrev main_v99 : Ref sig .tc := ⟨.hbm, 577, rfl⟩
abbrev main_v100 : Ref sig .tc := ⟨.hbm, 578, rfl⟩
abbrev main_call35_c : Ref sig .tc := ⟨.hbm, 579, rfl⟩
abbrev main_call35_v0 : Ref sig .tc := ⟨.hbm, 580, rfl⟩
abbrev main_call35_v1 : Ref sig .tc := ⟨.hbm, 581, rfl⟩
abbrev main_call35_c_0 : Ref sig .tc := ⟨.hbm, 582, rfl⟩
abbrev main_call35_v2 : Ref sig .tc := ⟨.hbm, 583, rfl⟩
abbrev main_call35_v3 : Ref sig .tc := ⟨.hbm, 584, rfl⟩
abbrev main_call35_v4 : Ref sig .tc := ⟨.hbm, 585, rfl⟩
abbrev main_call35_v5 : Ref sig .tc := ⟨.hbm, 586, rfl⟩
abbrev main_call35_c_1 : Ref sig .tc := ⟨.hbm, 587, rfl⟩
abbrev main_call35_c_2 : Ref sig .tc := ⟨.hbm, 588, rfl⟩
abbrev main_call35_v6 : Ref sig .tc := ⟨.hbm, 589, rfl⟩
abbrev main_call35_v7 : Ref sig .tc := ⟨.hbm, 590, rfl⟩
abbrev main_call35_v8 : Ref sig .tc := ⟨.hbm, 591, rfl⟩
abbrev main_call35_v9 : Ref sig .tc := ⟨.hbm, 592, rfl⟩
abbrev main_call35_v10 : Ref sig .tc := ⟨.hbm, 593, rfl⟩
abbrev main_call35_v11 : Ref sig .tc := ⟨.hbm, 594, rfl⟩
abbrev main_call35_c_3 : Ref sig .tc := ⟨.hbm, 595, rfl⟩
abbrev main_call35_v12 : Ref sig .tc := ⟨.hbm, 596, rfl⟩
abbrev main_call35_v13 : Ref sig .tc := ⟨.hbm, 597, rfl⟩
abbrev main_call35_c_4 : Ref sig .tc := ⟨.hbm, 598, rfl⟩
abbrev main_call35_v14 : Ref sig .tc := ⟨.hbm, 599, rfl⟩
abbrev main_v101 : Ref sig .tc := ⟨.hbm, 600, rfl⟩
abbrev main_v102 : Ref sig .tc := ⟨.hbm, 601, rfl⟩
abbrev main_call36_c : Ref sig .tc := ⟨.hbm, 602, rfl⟩
abbrev main_call36_v0 : Ref sig .tc := ⟨.hbm, 603, rfl⟩
abbrev main_call36_v1 : Ref sig .tc := ⟨.hbm, 604, rfl⟩
abbrev main_call36_c_0 : Ref sig .tc := ⟨.hbm, 605, rfl⟩
abbrev main_call36_v2 : Ref sig .tc := ⟨.hbm, 606, rfl⟩
abbrev main_call36_v3 : Ref sig .tc := ⟨.hbm, 607, rfl⟩
abbrev main_call36_v4 : Ref sig .tc := ⟨.hbm, 608, rfl⟩
abbrev main_call36_c_1 : Ref sig .tc := ⟨.hbm, 609, rfl⟩
abbrev main_call36_c_2 : Ref sig .tc := ⟨.hbm, 610, rfl⟩
abbrev main_call36_v5 : Ref sig .tc := ⟨.hbm, 611, rfl⟩
abbrev main_call36_v6 : Ref sig .tc := ⟨.hbm, 612, rfl⟩
abbrev main_call36_v7 : Ref sig .tc := ⟨.hbm, 613, rfl⟩
abbrev main_call36_v8 : Ref sig .tc := ⟨.hbm, 614, rfl⟩
abbrev main_call36_v9 : Ref sig .tc := ⟨.hbm, 615, rfl⟩
abbrev main_call36_v10 : Ref sig .tc := ⟨.hbm, 616, rfl⟩
abbrev main_call36_c_3 : Ref sig .tc := ⟨.hbm, 617, rfl⟩
abbrev main_call36_v11 : Ref sig .tc := ⟨.hbm, 618, rfl⟩
abbrev main_call36_v12 : Ref sig .tc := ⟨.hbm, 619, rfl⟩
abbrev main_call36_v13 : Ref sig .tc := ⟨.hbm, 620, rfl⟩
abbrev main_call36_cst : Ref sig .tc := ⟨.hbm, 621, rfl⟩
abbrev main_call36_v14 : Ref sig .tc := ⟨.hbm, 622, rfl⟩
abbrev main_v103 : Ref sig .tc := ⟨.hbm, 623, rfl⟩
abbrev main_call37_v0 : Ref sig .tc := ⟨.hbm, 624, rfl⟩
abbrev main_call37_cst : Ref sig .tc := ⟨.hbm, 625, rfl⟩
abbrev main_call37_v1 : Ref sig .tc := ⟨.hbm, 626, rfl⟩
abbrev main_call37_v2 : Ref sig .tc := ⟨.hbm, 627, rfl⟩
abbrev main_v104 : Ref sig .tc := ⟨.hbm, 628, rfl⟩
abbrev main_v105 : Ref sig .tc := ⟨.hbm, 629, rfl⟩
abbrev main_v106 : Ref sig .tc := ⟨.hbm, 630, rfl⟩
abbrev main_call38_v0 : Ref sig .tc := ⟨.hbm, 631, rfl⟩
abbrev main_call38_cst : Ref sig .tc := ⟨.hbm, 632, rfl⟩
abbrev main_call38_v1 : Ref sig .tc := ⟨.hbm, 633, rfl⟩
abbrev main_call38_v2 : Ref sig .tc := ⟨.hbm, 634, rfl⟩
abbrev main_v107 : Ref sig .tc := ⟨.hbm, 635, rfl⟩
abbrev main_v108 : Ref sig .tc := ⟨.hbm, 636, rfl⟩
abbrev main_v109 : Ref sig .tc := ⟨.hbm, 637, rfl⟩
abbrev main_v110 : Ref sig .tc := ⟨.hbm, 638, rfl⟩
abbrev main_cst_5 : Ref sig .tc := ⟨.hbm, 639, rfl⟩
abbrev main_v111 : Ref sig .tc := ⟨.hbm, 640, rfl⟩
abbrev main_call39_v0 : Ref sig .tc := ⟨.hbm, 641, rfl⟩
abbrev main_call39_v1_0 : Ref sig .tc := ⟨.hbm, 642, rfl⟩
abbrev main_v112 : Ref sig .tc := ⟨.hbm, 643, rfl⟩
abbrev main_v113 : Ref sig .tc := ⟨.hbm, 644, rfl⟩
abbrev main_v114 : Ref sig .tc := ⟨.hbm, 645, rfl⟩
abbrev main_call40_c : Ref sig .tc := ⟨.hbm, 646, rfl⟩
abbrev main_call40_v0 : Ref sig .tc := ⟨.hbm, 647, rfl⟩
abbrev main_call40_v1 : Ref sig .tc := ⟨.hbm, 648, rfl⟩
abbrev main_call40_c_0 : Ref sig .tc := ⟨.hbm, 649, rfl⟩
abbrev main_call40_v2 : Ref sig .tc := ⟨.hbm, 650, rfl⟩
abbrev main_call40_v3 : Ref sig .tc := ⟨.hbm, 651, rfl⟩
abbrev main_call40_v4 : Ref sig .tc := ⟨.hbm, 652, rfl⟩
abbrev main_call40_v5 : Ref sig .tc := ⟨.hbm, 653, rfl⟩
abbrev main_call40_c_1 : Ref sig .tc := ⟨.hbm, 654, rfl⟩
abbrev main_call40_c_2 : Ref sig .tc := ⟨.hbm, 655, rfl⟩
abbrev main_call40_v6 : Ref sig .tc := ⟨.hbm, 656, rfl⟩
abbrev main_call40_v7 : Ref sig .tc := ⟨.hbm, 657, rfl⟩
abbrev main_call40_v8 : Ref sig .tc := ⟨.hbm, 658, rfl⟩
abbrev main_call40_v9 : Ref sig .tc := ⟨.hbm, 659, rfl⟩
abbrev main_call40_v10 : Ref sig .tc := ⟨.hbm, 660, rfl⟩
abbrev main_call40_v11 : Ref sig .tc := ⟨.hbm, 661, rfl⟩
abbrev main_call40_c_3 : Ref sig .tc := ⟨.hbm, 662, rfl⟩
abbrev main_call40_v12 : Ref sig .tc := ⟨.hbm, 663, rfl⟩
abbrev main_call40_v13 : Ref sig .tc := ⟨.hbm, 664, rfl⟩
abbrev main_call40_c_4 : Ref sig .tc := ⟨.hbm, 665, rfl⟩
abbrev main_call40_v14 : Ref sig .tc := ⟨.hbm, 666, rfl⟩
abbrev main_v115 : Ref sig .tc := ⟨.hbm, 667, rfl⟩
abbrev main_v116 : Ref sig .tc := ⟨.hbm, 668, rfl⟩
abbrev main_call41_c : Ref sig .tc := ⟨.hbm, 669, rfl⟩
abbrev main_call41_v0 : Ref sig .tc := ⟨.hbm, 670, rfl⟩
abbrev main_call41_v1 : Ref sig .tc := ⟨.hbm, 671, rfl⟩
abbrev main_call41_c_0 : Ref sig .tc := ⟨.hbm, 672, rfl⟩
abbrev main_call41_v2 : Ref sig .tc := ⟨.hbm, 673, rfl⟩
abbrev main_call41_v3 : Ref sig .tc := ⟨.hbm, 674, rfl⟩
abbrev main_call41_v4 : Ref sig .tc := ⟨.hbm, 675, rfl⟩
abbrev main_call41_c_1 : Ref sig .tc := ⟨.hbm, 676, rfl⟩
abbrev main_call41_c_2 : Ref sig .tc := ⟨.hbm, 677, rfl⟩
abbrev main_call41_v5 : Ref sig .tc := ⟨.hbm, 678, rfl⟩
abbrev main_call41_v6 : Ref sig .tc := ⟨.hbm, 679, rfl⟩
abbrev main_call41_v7 : Ref sig .tc := ⟨.hbm, 680, rfl⟩
abbrev main_call41_v8 : Ref sig .tc := ⟨.hbm, 681, rfl⟩
abbrev main_call41_v9 : Ref sig .tc := ⟨.hbm, 682, rfl⟩
abbrev main_call41_v10 : Ref sig .tc := ⟨.hbm, 683, rfl⟩
abbrev main_call41_c_3 : Ref sig .tc := ⟨.hbm, 684, rfl⟩
abbrev main_call41_v11 : Ref sig .tc := ⟨.hbm, 685, rfl⟩
abbrev main_call41_v12 : Ref sig .tc := ⟨.hbm, 686, rfl⟩
abbrev main_call41_v13 : Ref sig .tc := ⟨.hbm, 687, rfl⟩
abbrev main_call41_cst : Ref sig .tc := ⟨.hbm, 688, rfl⟩
abbrev main_call41_v14 : Ref sig .tc := ⟨.hbm, 689, rfl⟩
abbrev main_v117 : Ref sig .tc := ⟨.hbm, 690, rfl⟩
abbrev main_v118 : Ref sig .tc := ⟨.hbm, 691, rfl⟩
abbrev main_v119 : Ref sig .tc := ⟨.hbm, 692, rfl⟩
abbrev main_call42_c : Ref sig .tc := ⟨.hbm, 693, rfl⟩
abbrev main_call42_v0 : Ref sig .tc := ⟨.hbm, 694, rfl⟩
abbrev main_call42_v1 : Ref sig .tc := ⟨.hbm, 695, rfl⟩
abbrev main_call42_c_0 : Ref sig .tc := ⟨.hbm, 696, rfl⟩
abbrev main_call42_v2 : Ref sig .tc := ⟨.hbm, 697, rfl⟩
abbrev main_call42_v3 : Ref sig .tc := ⟨.hbm, 698, rfl⟩
abbrev main_call42_v4 : Ref sig .tc := ⟨.hbm, 699, rfl⟩
abbrev main_call42_v5 : Ref sig .tc := ⟨.hbm, 700, rfl⟩
abbrev main_call42_c_1 : Ref sig .tc := ⟨.hbm, 701, rfl⟩
abbrev main_call42_c_2 : Ref sig .tc := ⟨.hbm, 702, rfl⟩
abbrev main_call42_v6 : Ref sig .tc := ⟨.hbm, 703, rfl⟩
abbrev main_call42_v7 : Ref sig .tc := ⟨.hbm, 704, rfl⟩
abbrev main_call42_v8 : Ref sig .tc := ⟨.hbm, 705, rfl⟩
abbrev main_call42_v9 : Ref sig .tc := ⟨.hbm, 706, rfl⟩
abbrev main_call42_v10 : Ref sig .tc := ⟨.hbm, 707, rfl⟩
abbrev main_call42_v11 : Ref sig .tc := ⟨.hbm, 708, rfl⟩
abbrev main_call42_c_3 : Ref sig .tc := ⟨.hbm, 709, rfl⟩
abbrev main_call42_v12 : Ref sig .tc := ⟨.hbm, 710, rfl⟩
abbrev main_call42_v13 : Ref sig .tc := ⟨.hbm, 711, rfl⟩
abbrev main_call42_c_4 : Ref sig .tc := ⟨.hbm, 712, rfl⟩
abbrev main_call42_v14 : Ref sig .tc := ⟨.hbm, 713, rfl⟩
abbrev main_v120 : Ref sig .tc := ⟨.hbm, 714, rfl⟩
abbrev main_v121 : Ref sig .tc := ⟨.hbm, 715, rfl⟩
abbrev main_call43_c : Ref sig .tc := ⟨.hbm, 716, rfl⟩
abbrev main_call43_v0 : Ref sig .tc := ⟨.hbm, 717, rfl⟩
abbrev main_call43_v1 : Ref sig .tc := ⟨.hbm, 718, rfl⟩
abbrev main_call43_c_0 : Ref sig .tc := ⟨.hbm, 719, rfl⟩
abbrev main_call43_v2 : Ref sig .tc := ⟨.hbm, 720, rfl⟩
abbrev main_call43_v3 : Ref sig .tc := ⟨.hbm, 721, rfl⟩
abbrev main_call43_v4 : Ref sig .tc := ⟨.hbm, 722, rfl⟩
abbrev main_call43_c_1 : Ref sig .tc := ⟨.hbm, 723, rfl⟩
abbrev main_call43_c_2 : Ref sig .tc := ⟨.hbm, 724, rfl⟩
abbrev main_call43_v5 : Ref sig .tc := ⟨.hbm, 725, rfl⟩
abbrev main_call43_v6 : Ref sig .tc := ⟨.hbm, 726, rfl⟩
abbrev main_call43_v7 : Ref sig .tc := ⟨.hbm, 727, rfl⟩
abbrev main_call43_v8 : Ref sig .tc := ⟨.hbm, 728, rfl⟩
abbrev main_call43_v9 : Ref sig .tc := ⟨.hbm, 729, rfl⟩
abbrev main_call43_v10 : Ref sig .tc := ⟨.hbm, 730, rfl⟩
abbrev main_call43_c_3 : Ref sig .tc := ⟨.hbm, 731, rfl⟩
abbrev main_call43_v11 : Ref sig .tc := ⟨.hbm, 732, rfl⟩
abbrev main_call43_v12 : Ref sig .tc := ⟨.hbm, 733, rfl⟩
abbrev main_call43_v13 : Ref sig .tc := ⟨.hbm, 734, rfl⟩
abbrev main_call43_cst : Ref sig .tc := ⟨.hbm, 735, rfl⟩
abbrev main_call43_v14 : Ref sig .tc := ⟨.hbm, 736, rfl⟩
abbrev main_v122 : Ref sig .tc := ⟨.hbm, 737, rfl⟩
abbrev main_call44_v0 : Ref sig .tc := ⟨.hbm, 738, rfl⟩
abbrev main_call44_cst : Ref sig .tc := ⟨.hbm, 739, rfl⟩
abbrev main_call44_v1 : Ref sig .tc := ⟨.hbm, 740, rfl⟩
abbrev main_call44_v2 : Ref sig .tc := ⟨.hbm, 741, rfl⟩
abbrev main_v123 : Ref sig .tc := ⟨.hbm, 742, rfl⟩
abbrev main_v124 : Ref sig .tc := ⟨.hbm, 743, rfl⟩
abbrev main_v125 : Ref sig .tc := ⟨.hbm, 744, rfl⟩
abbrev main_call45_v0 : Ref sig .tc := ⟨.hbm, 745, rfl⟩
abbrev main_call45_cst : Ref sig .tc := ⟨.hbm, 746, rfl⟩
abbrev main_call45_v1 : Ref sig .tc := ⟨.hbm, 747, rfl⟩
abbrev main_call45_v2 : Ref sig .tc := ⟨.hbm, 748, rfl⟩
abbrev main_v126 : Ref sig .tc := ⟨.hbm, 749, rfl⟩
abbrev main_v127 : Ref sig .tc := ⟨.hbm, 750, rfl⟩
abbrev main_v128 : Ref sig .tc := ⟨.hbm, 751, rfl⟩
abbrev main_v129 : Ref sig .tc := ⟨.hbm, 752, rfl⟩

abbrev nD : Nat := 1
abbrev τ : Topo := Topo.v7x

variable {F : FTy → Type} [FloatOps F]
-- ==== Proof.Agree.lean ====
module

public import Idealize.ShloMosaic.Lib.StableHlo.Run

@[expose] public section

/-! Two programs whose host operations are the same but for the names of their buffers: run side by side, they keep
    their buffers equal. -/

namespace Cert.Agree

open Idealize.ShloMosaic Idealize.ShloMosaic.StableHlo Idealize.ShloMosaic.TcCoe

variable {τ : Topo} {s s' : RefSig} {Val : EltTy → Type}

/-- The paired buffers hold the same. -/
def Agree (L : List (Ref s .tc × Ref s' .tc)) (W : Valuation τ s Val) (W' : Valuation τ s' Val) : Prop :=
  ∀ p ∈ L, HEq (W (Proc.devRef .tc p.1)) (W' (Proc.devRef .tc p.2))

/-- The two lines of operations take buffers paired by `L` to buffers paired by `M`. -/
def Sim (ops : List (HloOp τ s Val)) (ops' : List (HloOp τ s' Val)) (L M : List (Ref s .tc × Ref s' .tc)) : Prop :=
  ∀ (W : Valuation τ s Val) (W' : Valuation τ s' Val), Agree L W W' → Agree M (after ops W) (after ops' W')

/-- Two buffers are in no pair. -/
def fresh (L : List (Ref s .tc × Ref s' .tc)) (y : Ref s .tc) (y' : Ref s' .tc) : Bool :=
  L.all fun p => decide (p.1 ≠ y) && decide (p.2 ≠ y')

theorem heq_app {A A' B B' : Type} (hA : A = A') (hB : B = B') {f : A → B} {f' : A' → B'} (hf : HEq f f') {u : A} {u' : A'} (hu : HEq u u') :
    HEq (f u) (f' u') := by
  subst hA hB; cases hf; cases hu; exact HEq.rfl

theorem sim_nil {L M : List (Ref s .tc × Ref s' .tc)} (h : ∀ p ∈ M, p ∈ L) : Sim (τ := τ) (Val := Val) [] [] L M :=
  fun _ _ hL p hp => hL p (h p hp)

/-- The buffers after several lines of operations, one after the other. -/
abbrev afters {sg : RefSig} (l : List (List (HloOp τ sg Val))) (W : Valuation τ sg Val) : Valuation τ sg Val := l.foldl (fun V ops => after ops V) W

theorem after_flatten {sg : RefSig} (l : List (List (HloOp τ sg Val))) (W : Valuation τ sg Val) : after l.flatten W = afters l W := by
  have e : ∀ (a b : List (HloOp τ sg Val)) (V : Valuation τ sg Val), after (a ++ b) V = after b (after a V) := fun a b => by
    induction a with
    | nil => intro V; rfl
    | cons op a ih => intro V; exact ih _
  induction l generalizing W with
  | nil => rfl
  | cons a l ih => rw [List.flatten_cons, e, ih]; rfl

/-- The same of several lines of operations on each side. -/
def Sims (k : List (List (HloOp τ s Val))) (r : List (List (HloOp τ s' Val))) (L M : List (Ref s .tc × Ref s' .tc)) : Prop :=
  ∀ (W : Valuation τ s Val) (W' : Valuation τ s' Val), Agree L W W' → Agree M (afters k W) (afters r W')

theorem sims_nil {L : List (Ref s .tc × Ref s' .tc)} : Sims (τ := τ) (Val := Val) [] [] L [] := fun _ _ _ _ hp => absurd hp (by simp)

theorem sims_keep {L M : List (Ref s .tc × Ref s' .tc)} {x : Ref s .tc} {x' : Ref s' .tc} (hx : (x, x') ∈ L)
    (h : Sims (τ := τ) (Val := Val) [] [] L M) : Sims (τ := τ) (Val := Val) [] [] L ((x, x') :: M) :=
  fun W W' hL p hp => (List.mem_cons.mp hp).elim (fun e => e ▸ hL _ hx) (h W W' hL p)

/-- One operation on each side, writing one buffer each, equal ones. -/
theorem sim_cons {op : HloOp τ s Val} {op' : HloOp τ s' Val} {ops : List (HloOp τ s Val)} {ops' : List (HloOp τ s' Val)}
    {L M : List (Ref s .tc × Ref s' .tc)} {y : Ref s .tc} {y' : Ref s' .tc}
    (hw : op.writes = {Proc.devRef (τ := τ) .tc y}) (hw' : op'.writes = {Proc.devRef (τ := τ) .tc y'}) (hy : fresh L y y' = true)
    (hr : ∀ W W', Agree L W W' → HEq (op.result W (Proc.devRef .tc y)) (op'.result W' (Proc.devRef .tc y')))
    (h : Sim ops ops' ((y, y') :: L) M) : Sim (op :: ops) (op' :: ops') L M := fun W W' hL => by
  refine h _ _ fun p hp => ?_
  rcases List.mem_cons.mp hp with rfl | hp
  · exact hr W W' hL
  · obtain ⟨h1, h2⟩ := (Bool.and_eq_true _ _).mp (List.all_eq_true.mp hy p hp)
    rw [result_of_writes_ne op W y p.1 hw (of_decide_eq_true h1), result_of_writes_ne op' W' y' p.2 hw' (of_decide_eq_true h2)]
    exact hL p hp

variable {L M : List (Ref s .tc × Ref s' .tc)} {ops : List (HloOp τ s Val)} {ops' : List (HloOp τ s' Val)}

theorem ty_fun {x : Ref s .tc} {x' : Ref s' .tc} (h : x.ty = x'.ty) : x.ty.Contents Val = x'.ty.Contents Val := by rw [h]

theorem sim_nullary {y : Ref s .tc} {y' : Ref s' .tc} {v : y.ty.Contents Val} {v' : y'.ty.Contents Val} {hy hy'}
    (f : fresh L y y' = true) (hv : HEq v v') (h : Sim ops ops' ((y, y') :: L) M) :
    Sim (nullary (τ := τ) y v hy :: ops) (nullary (τ := τ) y' v' hy' :: ops') L M :=
  sim_cons rfl rfl f (fun W W' _ => by rw [nullary_result, nullary_result]; exact hv) h

theorem sim_unary {x y : Ref s .tc} {x' y' : Ref s' .tc} {g : x.ty.Contents Val → y.ty.Contents Val} {g' : x'.ty.Contents Val → y'.ty.Contents Val}
    {hx hy hx' hy'} (mx : (x, x') ∈ L) (f : fresh L y y' = true) (tx : x.ty = x'.ty) (ty : y.ty = y'.ty) (hg : HEq g g')
    (h : Sim ops ops' ((y, y') :: L) M) :
    Sim (unary (τ := τ) x y g hx hy :: ops) (unary (τ := τ) x' y' g' hx' hy' :: ops') L M :=
  sim_cons rfl rfl f (fun W W' hL => by
    rw [unary_result, unary_result]
    exact heq_app (ty_fun tx) (ty_fun ty) hg (hL _ mx)) h

theorem sim_binary {x z y : Ref s .tc} {x' z' y' : Ref s' .tc} {g : x.ty.Contents Val → z.ty.Contents Val → y.ty.Contents Val}
    {g' : x'.ty.Contents Val → z'.ty.Contents Val → y'.ty.Contents Val} {hx hz hy hx' hz' hy'} (mx : (x, x') ∈ L) (mz : (z, z') ∈ L)
    (f : fresh L y y' = true) (tx : x.ty = x'.ty) (tz : z.ty = z'.ty) (ty : y.ty = y'.ty) (hg : HEq g g')
    (h : Sim ops ops' ((y, y') :: L) M) :
    Sim (binary (τ := τ) x z y g hx hz hy :: ops) (binary (τ := τ) x' z' y' g' hx' hz' hy' :: ops') L M :=
  sim_cons rfl rfl f (fun W W' hL => by
    rw [binary_result, binary_result]
    exact heq_app (ty_fun tz) (ty_fun ty) (heq_app (ty_fun tx) (by rw [tz, ty]) hg (hL _ mx)) (hL _ mz)) h

theorem sim_ternary {x z w y : Ref s .tc} {x' z' w' y' : Ref s' .tc}
    {g : x.ty.Contents Val → z.ty.Contents Val → w.ty.Contents Val → y.ty.Contents Val}
    {g' : x'.ty.Contents Val → z'.ty.Contents Val → w'.ty.Contents Val → y'.ty.Contents Val} {hx hz hv hy hx' hz' hv' hy'}
    (mx : (x, x') ∈ L) (mz : (z, z') ∈ L) (mw : (w, w') ∈ L)
    (f : fresh L y y' = true) (tx : x.ty = x'.ty) (tz : z.ty = z'.ty) (tw : w.ty = w'.ty) (ty : y.ty = y'.ty) (hg : HEq g g')
    (h : Sim ops ops' ((y, y') :: L) M) :
    Sim (ternary (τ := τ) x z w y g hx hz hv hy :: ops) (ternary (τ := τ) x' z' w' y' g' hx' hz' hv' hy' :: ops') L M :=
  sim_cons rfl rfl f (fun W W' hL => by
    rw [ternary_result, ternary_result]
    exact heq_app (ty_fun tw) (ty_fun ty) (heq_app (ty_fun tz) (by rw [tw, ty]) (heq_app (ty_fun tx) (by rw [tz, tw, ty]) hg (hL _ mx)) (hL _ mz)) (hL _ mw)) h

/-- A reshape of equal contents. -/
theorem heq_reshape {A A' B B' : BufTy} (hA : A = A') (hB : B = B') {v : A.Contents Val} {v' : A'.Contents Val} (hv : HEq v v')
    (he : A.elt = B.elt) (he' : A'.elt = B'.elt) (hn : A.shape.ShapeCasts B.shape) (hn' : A'.shape.ShapeCasts B'.shape) :
    HEq (fun i => he ▸ shapeCast B.shape v hn i : B.Contents Val) (fun i => he' ▸ shapeCast B'.shape v' hn' i : B'.Contents Val) := by
  subst hA hB; cases hv; exact HEq.rfl

theorem sim_reshape {x y : Ref s .tc} {x' y' : Ref s' .tc} {he hn hx hy he' hn' hx' hy'} (mx : (x, x') ∈ L)
    (f : fresh L y y' = true) (tx : x.ty = x'.ty) (ty : y.ty = y'.ty) (h : Sim ops ops' ((y, y') :: L) M) :
    Sim (reshape (τ := τ) (Val := Val) x y he hn hx hy :: ops) (reshape (τ := τ) (Val := Val) x' y' he' hn' hx' hy' :: ops') L M :=
  sim_cons rfl rfl f (fun W W' hL => by
    rw [reshape_result, reshape_result]
    exact heq_reshape tx ty (hL _ mx) _ _ _ _) h

/-- A function through types equal to its own is the same function. -/
theorem heq_fun {A A' B B' X Y : Type} (p : A = X) (q : Y = B) (p' : A' = X) (q' : Y = B') (f : X → Y) :
    HEq (fun u : A => cast q (f (cast p u))) (fun u : A' => cast q' (f (cast p' u))) := by
  subst p; subst p'; subst q; subst q'; exact HEq.rfl

theorem heq_fun₂ {A A' C C' B B' X Z Y : Type} (p : A = X) (r : C = Z) (q : Y = B) (p' : A' = X) (r' : C' = Z) (q' : Y = B') (f : X → Z → Y) :
    HEq (fun (u : A) (v : C) => cast q (f (cast p u) (cast r v))) (fun (u : A') (v : C') => cast q' (f (cast p' u) (cast r' v))) := by
  subst p; subst p'; subst q; subst q'; subst r; subst r'; exact HEq.rfl

theorem heq_fun₃ {A A' C C' D D' B B' X Z W Y : Type} (p : A = X) (r : C = Z) (o : D = W) (q : Y = B) (p' : A' = X) (r' : C' = Z) (o' : D' = W)
    (q' : Y = B') (f : X → Z → W → Y) :
    HEq (fun (u : A) (v : C) (w : D) => cast q (f (cast p u) (cast r v) (cast o w)))
      (fun (u : A') (v : C') (w : D') => cast q' (f (cast p' u) (cast r' v) (cast o' w))) := by
  subst p; subst p'; subst q; subst q'; subst r; subst r'; subst o; subst o'; exact HEq.rfl

/-! The same operation at typed references on both sides. -/

section Typed

variable {Tx Tz Tw Ty : BufTy} {N : List (Ref s .tc × Ref s' .tc)} {k : List (List (HloOp τ s Val))} {r : List (List (HloOp τ s' Val))}

/-- One operation, at the front of the first line. -/
theorem sims_step {op : HloOp τ s Val} {op' : HloOp τ s' Val} (h : Sim [op] [op'] L N) (h' : Sims (ops :: k) (ops' :: r) N M) :
    Sims ((op :: ops) :: k) ((op' :: ops') :: r) L M :=
  fun W W' hL => h' _ _ (h W W' hL)

theorem sims_next (h : Sims k r L M) : Sims ([] :: k) ([] :: r) L M := h

theorem typed_nullary {y : TRef s Ty} {y' : TRef s' Ty} {v v' : Ty.Contents Val} (f : fresh L y.ref y'.ref = true) (hv : v = v')
    (h : Sims (ops :: k) (ops' :: r) ((y.ref, y'.ref) :: L) M) :
    Sims ((TRef.nullary (τ := τ) y v :: ops) :: k) ((TRef.nullary (τ := τ) y' v' :: ops') :: r) L M := by
  subst hv
  exact sims_step (sim_nullary f ((cast_heq _ _).trans (cast_heq _ _).symm) (sim_nil fun _ h => h)) h

theorem typed_unary {x : TRef s Tx} {y : TRef s Ty} {x' : TRef s' Tx} {y' : TRef s' Ty} {g g' : Tx.Contents Val → Ty.Contents Val}
    (mx : (x.ref, x'.ref) ∈ L) (f : fresh L y.ref y'.ref = true) (hg : g = g') (h : Sims (ops :: k) (ops' :: r) ((y.ref, y'.ref) :: L) M) :
    Sims ((TRef.unary (τ := τ) x y g :: ops) :: k) ((TRef.unary (τ := τ) x' y' g' :: ops') :: r) L M := by
  subst hg
  exact sims_step (sim_unary mx f (x.ty_eq.trans x'.ty_eq.symm) (y.ty_eq.trans y'.ty_eq.symm) (heq_fun _ _ _ _ g) (sim_nil fun _ h => h)) h

theorem typed_binary {x : TRef s Tx} {z : TRef s Tz} {y : TRef s Ty} {x' : TRef s' Tx} {z' : TRef s' Tz} {y' : TRef s' Ty}
    {g g' : Tx.Contents Val → Tz.Contents Val → Ty.Contents Val}
    (mx : (x.ref, x'.ref) ∈ L) (mz : (z.ref, z'.ref) ∈ L) (f : fresh L y.ref y'.ref = true) (hg : g = g')
    (h : Sims (ops :: k) (ops' :: r) ((y.ref, y'.ref) :: L) M) :
    Sims ((TRef.binary (τ := τ) x z y g :: ops) :: k) ((TRef.binary (τ := τ) x' z' y' g' :: ops') :: r) L M := by
  subst hg
  exact sims_step (sim_binary mx mz f (x.ty_eq.trans x'.ty_eq.symm) (z.ty_eq.trans z'.ty_eq.symm) (y.ty_eq.trans y'.ty_eq.symm) (heq_fun₂ _ _ _ _ _ _ g) (sim_nil fun _ h => h)) h

theorem typed_ternary {x : TRef s Tx} {z : TRef s Tz} {w : TRef s Tw} {y : TRef s Ty} {x' : TRef s' Tx} {z' : TRef s' Tz} {w' : TRef s' Tw}
    {y' : TRef s' Ty} {g g' : Tx.Contents Val → Tz.Contents Val → Tw.Contents Val → Ty.Contents Val}
    (mx : (x.ref, x'.ref) ∈ L) (mz : (z.ref, z'.ref) ∈ L) (mw : (w.ref, w'.ref) ∈ L) (f : fresh L y.ref y'.ref = true) (hg : g = g')
    (h : Sims (ops :: k) (ops' :: r) ((y.ref, y'.ref) :: L) M) :
    Sims ((TRef.ternary (τ := τ) x z w y g :: ops) :: k) ((TRef.ternary (τ := τ) x' z' w' y' g' :: ops') :: r) L M := by
  subst hg
  exact sims_step (sim_ternary mx mz mw f (x.ty_eq.trans x'.ty_eq.symm) (z.ty_eq.trans z'.ty_eq.symm) (w.ty_eq.trans w'.ty_eq.symm) (y.ty_eq.trans y'.ty_eq.symm)
    (heq_fun₃ _ _ _ _ _ _ _ _ g) (sim_nil fun _ h => h)) h

theorem typed_reshape {x : TRef s Tx} {y : TRef s Ty} {x' : TRef s' Tx} {y' : TRef s' Ty} {he hn he' hn'} (mx : (x.ref, x'.ref) ∈ L)
    (f : fresh L y.ref y'.ref = true) (h : Sims (ops :: k) (ops' :: r) ((y.ref, y'.ref) :: L) M) :
    Sims ((TRef.reshape (τ := τ) (Val := Val) x y he hn :: ops) :: k) ((TRef.reshape (τ := τ) (Val := Val) x' y' he' hn' :: ops') :: r) L M :=
  sims_step (sim_reshape mx f (x.ty_eq.trans x'.ty_eq.symm) (y.ty_eq.trans y'.ty_eq.symm) (sim_nil fun _ h => h)) h

end Typed

/-- The buffers stay paired over steps that leave them alone, and a pair written alike joins them. -/
theorem agree_join {W V : Valuation τ s Val} {W' V' : Valuation τ s' Val} (h : Agree L W W') {y : Ref s .tc} {y' : Ref s' .tc}
    (hV : ∀ p ∈ L, V (Proc.devRef .tc p.1) = W (Proc.devRef .tc p.1)) (hV' : ∀ p ∈ L, V' (Proc.devRef .tc p.2) = W' (Proc.devRef .tc p.2))
    (hy : HEq (V (Proc.devRef .tc y)) (V' (Proc.devRef .tc y'))) : Agree ((y, y') :: L) V V' := fun p hp => by
  rcases List.mem_cons.mp hp with rfl | hp
  · exact hy
  · rw [hV p hp, hV' p hp]; exact h p hp

end Cert.Agree
-- ==== Proof.RefSelectA.lean ====
module

public import proofs.«01_k».proof.Proof.Gen.SelectRefIdeal
public import Idealize.ShloMosaic.Lib.StableHlo.Run

@[expose] public section

/-! The reference's operations from the input to the last cosines, in order. -/

noncomputable section

namespace Cert.RefSelect

open Cert.SelectRefIdeal Cert.SelectRefIdeal.Gen Idealize.ShloMosaic Idealize.ShloMosaic.TcCoe Idealize.SL.Sem Idealize.ShloMosaic.StableHlo

variable {F : FTy → Type} [FloatOps F]

/-! Before the first order. -/

abbrev host0_0 : List (HloOp τ sig (Elt F)) :=
  [ TRef.nullary (.of main_c : TRef sig ⟨S144, .i32⟩) (fun i => lit0 (S144.rowMajor i)),
    TRef.nullary (.of main_c_0 : TRef sig ⟨S432, .i32⟩) (fun i => lit1 (S432.rowMajor i)),
    TRef.unary (.of main_arg0 : TRef sig ⟨S64x577x768, .f32⟩) (.of main_v0 : TRef sig ⟨S64x576x768, .f32⟩) (extractStridedSlice S64x576x768 ![0, 1, 0] · slices_S64x577x768_S64x576x768_0_1_0),
    TRef.unary (.of main_c : TRef sig ⟨S144, .i32⟩) (.of main_v1 : TRef sig ⟨S1x144, .i32⟩) (broadcastInDim S1x144 ![1] bcast_S144_S1x144_1),
    TRef.unary (.of main_v1 : TRef sig ⟨S1x144, .i32⟩) (.of main_v2 : TRef sig ⟨S64x144, .i32⟩) (broadcastInDim S64x144 ![0, 1] bcast_S1x144_S64x144_0_1),
    TRef.unary (.of main_c_0 : TRef sig ⟨S432, .i32⟩) (.of main_v3 : TRef sig ⟨S1x432, .i32⟩) (broadcastInDim S1x432 ![1] bcast_S432_S1x432_1),
    TRef.unary (.of main_v3 : TRef sig ⟨S1x432, .i32⟩) (.of main_v4 : TRef sig ⟨S64x432, .i32⟩) (broadcastInDim S64x432 ![0, 1] bcast_S1x432_S64x432_0_1),
    TRef.unary (.of main_v2 : TRef sig ⟨S64x144, .i32⟩) (.of main_v5 : TRef sig ⟨S64x144x1, .i32⟩) (broadcastInDim S64x144x1 ![0, 1] bcast_S64x144_S64x144x1_0_1) ]

abbrev host0_1 : List (HloOp τ sig (Elt F)) :=
  [ TRef.nullary (.of main_call0_c : TRef sig ⟨S_, .i32⟩) (constantI S_ 32 0#32),
    TRef.unary (.of main_call0_c : TRef sig ⟨S_, .i32⟩) (.of main_call0_v0 : TRef sig ⟨S64x144x1, .i32⟩) (broadcastInDim S64x144x1 ![] bcast_S_S64x144x1),
    TRef.binary (.of main_v5 : TRef sig ⟨S64x144x1, .i32⟩) (.of main_call0_v0 : TRef sig ⟨S64x144x1, .i32⟩) (.of main_call0_v1 : TRef sig ⟨S64x144x1, .i1⟩) (cmpi .slt),
    TRef.nullary (.of main_call0_c_0 : TRef sig ⟨S_, .i32⟩) (constantI S_ 32 576#32),
    TRef.unary (.of main_call0_c_0 : TRef sig ⟨S_, .i32⟩) (.of main_call0_v2 : TRef sig ⟨S64x144x1, .i32⟩) (broadcastInDim S64x144x1 ![] bcast_S_S64x144x1),
    TRef.binary (.of main_v5 : TRef sig ⟨S64x144x1, .i32⟩) (.of main_call0_v2 : TRef sig ⟨S64x144x1, .i32⟩) (.of main_call0_v3 : TRef sig ⟨S64x144x1, .i32⟩) addi,
    TRef.ternary (.of main_call0_v1 : TRef sig ⟨S64x144x1, .i1⟩) (.of main_call0_v3 : TRef sig ⟨S64x144x1, .i32⟩) (.of main_v5 : TRef sig ⟨S64x144x1, .i32⟩) (.of main_call0_v4 : TRef sig ⟨S64x144x1, .i32⟩) select,
    TRef.nullary (.of main_call0_c_1 : TRef sig ⟨S1, .i32⟩) (constantI S1 32 575#32),
    TRef.nullary (.of main_call0_c_2 : TRef sig ⟨S_, .i32⟩) (constantI S_ 32 0#32),
    TRef.unary (.of main_call0_c_2 : TRef sig ⟨S_, .i32⟩) (.of main_call0_v5 : TRef sig ⟨S64x144x1, .i32⟩) (broadcastInDim S64x144x1 ![] bcast_S_S64x144x1),
    TRef.binary (.of main_call0_v4 : TRef sig ⟨S64x144x1, .i32⟩) (.of main_call0_v5 : TRef sig ⟨S64x144x1, .i32⟩) (.of main_call0_v6 : TRef sig ⟨S64x144x1, .i1⟩) (cmpi .sge),
    TRef.unary (.of main_call0_c_1 : TRef sig ⟨S1, .i32⟩) (.of main_call0_v7 : TRef sig ⟨S1x1x1, .i32⟩) (broadcastInDim S1x1x1 ![2] bcast_S1_S1x1x1_2),
    TRef.unary (.of main_call0_v7 : TRef sig ⟨S1x1x1, .i32⟩) (.of main_call0_v8 : TRef sig ⟨S64x144x1, .i32⟩) (broadcastInDim S64x144x1 ![0, 1, 2] bcast_S1x1x1_S64x144x1_0_1_2),
    TRef.binary (.of main_call0_v4 : TRef sig ⟨S64x144x1, .i32⟩) (.of main_call0_v8 : TRef sig ⟨S64x144x1, .i32⟩) (.of main_call0_v9 : TRef sig ⟨S64x144x1, .i1⟩) (cmpi .sle),
    TRef.binary (.of main_call0_v6 : TRef sig ⟨S64x144x1, .i1⟩) (.of main_call0_v9 : TRef sig ⟨S64x144x1, .i1⟩) (.of main_call0_v10 : TRef sig ⟨S64x144x1, .i1⟩) andi,
    TRef.nullary (.of main_call0_c_3 : TRef sig ⟨S_, .i1⟩) (constantI S_ 1 1#1),
    TRef.binary (.of main_call0_v10 : TRef sig ⟨S64x144x1, .i1⟩) (.of main_call0_c_3 : TRef sig ⟨S_, .i1⟩) (.of main_call0_v11 : TRef sig ⟨S64x144, .i1⟩) (fun x v => Host.reduce IntOp.andi x v reducesTo_S64x144x1_S64x144_d2 h_S_),
    TRef.binary (.of main_v0 : TRef sig ⟨S64x576x768, .f32⟩) (.of main_call0_v4 : TRef sig ⟨S64x144x1, .i32⟩) (.of main_call0_v12 : TRef sig ⟨S64x144x768, .f32⟩) (fun x i => Host.gather gather_S64x576x768_S64x144x1_S64x144x768_2_1_0_0_1_2_11768 x i),
    TRef.unary (.of main_call0_v11 : TRef sig ⟨S64x144, .i1⟩) (.of main_call0_v13 : TRef sig ⟨S64x144x768, .i1⟩) (broadcastInDim S64x144x768 ![0, 1] bcast_S64x144_S64x144x768_0_1),
    TRef.nullary (.of main_call0_cst : TRef sig ⟨S_, .f32⟩) (constant S_ .f32 0x7FC00000#32),
    TRef.unary (.of main_call0_cst : TRef sig ⟨S_, .f32⟩) (.of main_call0_v14 : TRef sig ⟨S64x144x768, .f32⟩) (broadcastInDim S64x144x768 ![] bcast_S_S64x144x768),
    TRef.ternary (.of main_call0_v13 : TRef sig ⟨S64x144x768, .i1⟩) (.of main_call0_v12 : TRef sig ⟨S64x144x768, .f32⟩) (.of main_call0_v14 : TRef sig ⟨S64x144x768, .f32⟩) (.of main_v6 : TRef sig ⟨S64x144x768, .f32⟩) select ]

abbrev host0_2 : List (HloOp τ sig (Elt F)) :=
  [ TRef.unary (.of main_v4 : TRef sig ⟨S64x432, .i32⟩) (.of main_v7 : TRef sig ⟨S64x432x1, .i32⟩) (broadcastInDim S64x432x1 ![0, 1] bcast_S64x432_S64x432x1_0_1) ]

abbrev host0_3 : List (HloOp τ sig (Elt F)) :=
  [ TRef.nullary (.of main_call1_c : TRef sig ⟨S_, .i32⟩) (constantI S_ 32 0#32),
    TRef.unary (.of main_call1_c : TRef sig ⟨S_, .i32⟩) (.of main_call1_v0 : TRef sig ⟨S64x432x1, .i32⟩) (broadcastInDim S64x432x1 ![] bcast_S_S64x432x1),
    TRef.binary (.of main_v7 : TRef sig ⟨S64x432x1, .i32⟩) (.of main_call1_v0 : TRef sig ⟨S64x432x1, .i32⟩) (.of main_call1_v1 : TRef sig ⟨S64x432x1, .i1⟩) (cmpi .slt),
    TRef.nullary (.of main_call1_c_0 : TRef sig ⟨S_, .i32⟩) (constantI S_ 32 576#32),
    TRef.unary (.of main_call1_c_0 : TRef sig ⟨S_, .i32⟩) (.of main_call1_v2 : TRef sig ⟨S64x432x1, .i32⟩) (broadcastInDim S64x432x1 ![] bcast_S_S64x432x1),
    TRef.binary (.of main_v7 : TRef sig ⟨S64x432x1, .i32⟩) (.of main_call1_v2 : TRef sig ⟨S64x432x1, .i32⟩) (.of main_call1_v3 : TRef sig ⟨S64x432x1, .i32⟩) addi,
    TRef.ternary (.of main_call1_v1 : TRef sig ⟨S64x432x1, .i1⟩) (.of main_call1_v3 : TRef sig ⟨S64x432x1, .i32⟩) (.of main_v7 : TRef sig ⟨S64x432x1, .i32⟩) (.of main_call1_v4 : TRef sig ⟨S64x432x1, .i32⟩) select,
    TRef.nullary (.of main_call1_c_1 : TRef sig ⟨S1, .i32⟩) (constantI S1 32 575#32),
    TRef.nullary (.of main_call1_c_2 : TRef sig ⟨S_, .i32⟩) (constantI S_ 32 0#32),
    TRef.unary (.of main_call1_c_2 : TRef sig ⟨S_, .i32⟩) (.of main_call1_v5 : TRef sig ⟨S64x432x1, .i32⟩) (broadcastInDim S64x432x1 ![] bcast_S_S64x432x1),
    TRef.binary (.of main_call1_v4 : TRef sig ⟨S64x432x1, .i32⟩) (.of main_call1_v5 : TRef sig ⟨S64x432x1, .i32⟩) (.of main_call1_v6 : TRef sig ⟨S64x432x1, .i1⟩) (cmpi .sge),
    TRef.unary (.of main_call1_c_1 : TRef sig ⟨S1, .i32⟩) (.of main_call1_v7 : TRef sig ⟨S1x1x1, .i32⟩) (broadcastInDim S1x1x1 ![2] bcast_S1_S1x1x1_2),
    TRef.unary (.of main_call1_v7 : TRef sig ⟨S1x1x1, .i32⟩) (.of main_call1_v8 : TRef sig ⟨S64x432x1, .i32⟩) (broadcastInDim S64x432x1 ![0, 1, 2] bcast_S1x1x1_S64x432x1_0_1_2),
    TRef.binary (.of main_call1_v4 : TRef sig ⟨S64x432x1, .i32⟩) (.of main_call1_v8 : TRef sig ⟨S64x432x1, .i32⟩) (.of main_call1_v9 : TRef sig ⟨S64x432x1, .i1⟩) (cmpi .sle),
    TRef.binary (.of main_call1_v6 : TRef sig ⟨S64x432x1, .i1⟩) (.of main_call1_v9 : TRef sig ⟨S64x432x1, .i1⟩) (.of main_call1_v10 : TRef sig ⟨S64x432x1, .i1⟩) andi,
    TRef.nullary (.of main_call1_c_3 : TRef sig ⟨S_, .i1⟩) (constantI S_ 1 1#1),
    TRef.binary (.of main_call1_v10 : TRef sig ⟨S64x432x1, .i1⟩) (.of main_call1_c_3 : TRef sig ⟨S_, .i1⟩) (.of main_call1_v11 : TRef sig ⟨S64x432, .i1⟩) (fun x v => Host.reduce IntOp.andi x v reducesTo_S64x432x1_S64x432_d2 h_S_),
    TRef.binary (.of main_v0 : TRef sig ⟨S64x576x768, .f32⟩) (.of main_call1_v4 : TRef sig ⟨S64x432x1, .i32⟩) (.of main_call1_v12 : TRef sig ⟨S64x432x768, .f32⟩) (fun x i => Host.gather gather_S64x576x768_S64x432x1_S64x432x768_2_1_0_0_1_2_11768 x i),
    TRef.unary (.of main_call1_v11 : TRef sig ⟨S64x432, .i1⟩) (.of main_call1_v13 : TRef sig ⟨S64x432x768, .i1⟩) (broadcastInDim S64x432x768 ![0, 1] bcast_S64x432_S64x432x768_0_1),
    TRef.nullary (.of main_call1_cst : TRef sig ⟨S_, .f32⟩) (constant S_ .f32 0x7FC00000#32),
    TRef.unary (.of main_call1_cst : TRef sig ⟨S_, .f32⟩) (.of main_call1_v14 : TRef sig ⟨S64x432x768, .f32⟩) (broadcastInDim S64x432x768 ![] bcast_S_S64x432x768),
    TRef.ternary (.of main_call1_v13 : TRef sig ⟨S64x432x768, .i1⟩) (.of main_call1_v12 : TRef sig ⟨S64x432x768, .f32⟩) (.of main_call1_v14 : TRef sig ⟨S64x432x768, .f32⟩) (.of main_v8 : TRef sig ⟨S64x432x768, .f32⟩) select ]

abbrev host0_4 : List (HloOp τ sig (Elt F)) :=
  [ TRef.binary (.of main_v6 : TRef sig ⟨S64x144x768, .f32⟩) (.of main_v6 : TRef sig ⟨S64x144x768, .f32⟩) (.of main_call2_v0 : TRef sig ⟨S64x144x768, .f32⟩) mulf,
    TRef.nullary (.of main_call2_cst : TRef sig ⟨S_, .f32⟩) (constant S_ .f32 0x00000000#32),
    TRef.binary (.of main_call2_v0 : TRef sig ⟨S64x144x768, .f32⟩) (.of main_call2_cst : TRef sig ⟨S_, .f32⟩) (.of main_call2_v1 : TRef sig ⟨S64x144, .f32⟩) (fun x v => Host.reduceAdd x v reducesTo_S64x144x768_S64x144_d2 h_S_),
    TRef.unary (.of main_call2_v1 : TRef sig ⟨S64x144, .f32⟩) (.of main_call2_v2 : TRef sig ⟨S64x144x1, .f32⟩) (broadcastInDim S64x144x1 ![0, 1] bcast_S64x144_S64x144x1_0_1),
    TRef.unary (.of main_call2_v2 : TRef sig ⟨S64x144x1, .f32⟩) (.of main_v9 : TRef sig ⟨S64x144x1, .f32⟩) Host.sqrt ]

abbrev host0_5 : List (HloOp τ sig (Elt F)) :=
  [ TRef.unary (.of main_v9 : TRef sig ⟨S64x144x1, .f32⟩) (.of main_v10 : TRef sig ⟨S64x144x768, .f32⟩) (broadcastInDim S64x144x768 ![0, 1, 2] bcast_S64x144x1_S64x144x768_0_1_2),
    TRef.binary (.of main_v6 : TRef sig ⟨S64x144x768, .f32⟩) (.of main_v10 : TRef sig ⟨S64x144x768, .f32⟩) (.of main_v11 : TRef sig ⟨S64x144x768, .f32⟩) (Host.divf) ]

abbrev host0_6 : List (HloOp τ sig (Elt F)) :=
  [ TRef.binary (.of main_v8 : TRef sig ⟨S64x432x768, .f32⟩) (.of main_v8 : TRef sig ⟨S64x432x768, .f32⟩) (.of main_call3_v0 : TRef sig ⟨S64x432x768, .f32⟩) mulf,
    TRef.nullary (.of main_call3_cst : TRef sig ⟨S_, .f32⟩) (constant S_ .f32 0x00000000#32),
    TRef.binary (.of main_call3_v0 : TRef sig ⟨S64x432x768, .f32⟩) (.of main_call3_cst : TRef sig ⟨S_, .f32⟩) (.of main_call3_v1 : TRef sig ⟨S64x432, .f32⟩) (fun x v => Host.reduceAdd x v reducesTo_S64x432x768_S64x432_d2 h_S_),
    TRef.unary (.of main_call3_v1 : TRef sig ⟨S64x432, .f32⟩) (.of main_call3_v2 : TRef sig ⟨S64x432x1, .f32⟩) (broadcastInDim S64x432x1 ![0, 1] bcast_S64x432_S64x432x1_0_1),
    TRef.unary (.of main_call3_v2 : TRef sig ⟨S64x432x1, .f32⟩) (.of main_v12 : TRef sig ⟨S64x432x1, .f32⟩) Host.sqrt ]

abbrev host0_7 : List (HloOp τ sig (Elt F)) :=
  [ TRef.unary (.of main_v12 : TRef sig ⟨S64x432x1, .f32⟩) (.of main_v13 : TRef sig ⟨S64x432x768, .f32⟩) (broadcastInDim S64x432x768 ![0, 1, 2] bcast_S64x432x1_S64x432x768_0_1_2),
    TRef.binary (.of main_v8 : TRef sig ⟨S64x432x768, .f32⟩) (.of main_v13 : TRef sig ⟨S64x432x768, .f32⟩) (.of main_v14 : TRef sig ⟨S64x432x768, .f32⟩) (Host.divf),
    TRef.binary (.of main_v14 : TRef sig ⟨S64x432x768, .f32⟩) (.of main_v11 : TRef sig ⟨S64x144x768, .f32⟩) (.of main_v15 : TRef sig ⟨S64x432x144, .f32⟩) (fun l r => Host.dotGeneral dot_S64x432x768_S64x144x768_S64x432x144_2_2_1_1_0_0 none l r) ]

/-! Stage 1. -/

/-- The greatest cosine of each token not selected. -/
abbrev max1 : List (HloOp τ sig (Elt F)) :=
  [ nullary main_cst (constant S_ .f32 0xFF800000#32),
    binary main_v15 main_cst main_v16 ((fun x v => Host.reduce FloatOps.maximumf x v reducesTo_S64x432x144_S64x432_d2 h_S_) : (⟨S64x432x144, .f32⟩ : BufTy).Contents (Elt F) → (⟨S_, .f32⟩ : BufTy).Contents (Elt F) → (⟨S64x432, .f32⟩ : BufTy).Contents (Elt F)) ]

/-- The positions in the order of those. -/
abbrev sort1 : List (HloOp τ sig (Elt F)) :=
  [ TRef.nullary (.of main_call4_v0 : TRef sig ⟨S64x432, .i32⟩) (iotaInDim S64x432 32 1),
    TRef.binary (.of main_v16 : TRef sig ⟨S64x432, .f32⟩) (.of main_call4_v0 : TRef sig ⟨S64x432, .i32⟩) (.of main_call4_v1_0 : TRef sig ⟨S64x432, .f32⟩) (fun x y => (Host.sort2 S64x432 1 comparator_f32_i32_d1 x y).1),
    TRef.binary (.of main_v16 : TRef sig ⟨S64x432, .f32⟩) (.of main_call4_v0 : TRef sig ⟨S64x432, .i32⟩) (.of main_v17 : TRef sig ⟨S64x432, .i32⟩) (fun x y => (Host.sort2 S64x432 1 comparator_f32_i32_d1 x y).2) ]

abbrev host1_0 : List (HloOp τ sig (Elt F)) :=
  [ TRef.unary (.of main_v17 : TRef sig ⟨S64x432, .i32⟩) (.of main_v18 : TRef sig ⟨S64x72, .i32⟩) (extractStridedSlice S64x72 ![0, 0] · slices_S64x432_S64x72_0_0),
    TRef.unary (.of main_v17 : TRef sig ⟨S64x432, .i32⟩) (.of main_v19 : TRef sig ⟨S64x360, .i32⟩) (extractStridedSlice S64x360 ![0, 72] · slices_S64x432_S64x360_0_72) ]

abbrev host1_1 : List (HloOp τ sig (Elt F)) :=
  [ TRef.nullary (.of main_call5_c : TRef sig ⟨S_, .i32⟩) (constantI S_ 32 0#32),
    TRef.unary (.of main_call5_c : TRef sig ⟨S_, .i32⟩) (.of main_call5_v0 : TRef sig ⟨S64x72, .i32⟩) (broadcastInDim S64x72 ![] bcast_S_S64x72),
    TRef.binary (.of main_v18 : TRef sig ⟨S64x72, .i32⟩) (.of main_call5_v0 : TRef sig ⟨S64x72, .i32⟩) (.of main_call5_v1 : TRef sig ⟨S64x72, .i1⟩) (cmpi .slt),
    TRef.nullary (.of main_call5_c_0 : TRef sig ⟨S_, .i32⟩) (constantI S_ 32 432#32),
    TRef.unary (.of main_call5_c_0 : TRef sig ⟨S_, .i32⟩) (.of main_call5_v2 : TRef sig ⟨S64x72, .i32⟩) (broadcastInDim S64x72 ![] bcast_S_S64x72),
    TRef.binary (.of main_v18 : TRef sig ⟨S64x72, .i32⟩) (.of main_call5_v2 : TRef sig ⟨S64x72, .i32⟩) (.of main_call5_v3 : TRef sig ⟨S64x72, .i32⟩) addi,
    TRef.ternary (.of main_call5_v1 : TRef sig ⟨S64x72, .i1⟩) (.of main_call5_v3 : TRef sig ⟨S64x72, .i32⟩) (.of main_v18 : TRef sig ⟨S64x72, .i32⟩) (.of main_call5_v4 : TRef sig ⟨S64x72, .i32⟩) select,
    TRef.reshape (.of main_call5_v4 : TRef sig ⟨S64x72, .i32⟩) (.of main_call5_v5 : TRef sig ⟨S64x72x1, .i32⟩) (rfl : (.i32 : EltTy) = .i32) shapeCasts_S64x72_S64x72x1,
    TRef.nullary (.of main_call5_c_1 : TRef sig ⟨S1, .i32⟩) (constantI S1 32 431#32),
    TRef.nullary (.of main_call5_c_2 : TRef sig ⟨S_, .i32⟩) (constantI S_ 32 0#32),
    TRef.unary (.of main_call5_c_2 : TRef sig ⟨S_, .i32⟩) (.of main_call5_v6 : TRef sig ⟨S64x72x1, .i32⟩) (broadcastInDim S64x72x1 ![] bcast_S_S64x72x1),
    TRef.binary (.of main_call5_v5 : TRef sig ⟨S64x72x1, .i32⟩) (.of main_call5_v6 : TRef sig ⟨S64x72x1, .i32⟩) (.of main_call5_v7 : TRef sig ⟨S64x72x1, .i1⟩) (cmpi .sge),
    TRef.unary (.of main_call5_c_1 : TRef sig ⟨S1, .i32⟩) (.of main_call5_v8 : TRef sig ⟨S1x1x1, .i32⟩) (broadcastInDim S1x1x1 ![2] bcast_S1_S1x1x1_2),
    TRef.unary (.of main_call5_v8 : TRef sig ⟨S1x1x1, .i32⟩) (.of main_call5_v9 : TRef sig ⟨S64x72x1, .i32⟩) (broadcastInDim S64x72x1 ![0, 1, 2] bcast_S1x1x1_S64x72x1_0_1_2),
    TRef.binary (.of main_call5_v5 : TRef sig ⟨S64x72x1, .i32⟩) (.of main_call5_v9 : TRef sig ⟨S64x72x1, .i32⟩) (.of main_call5_v10 : TRef sig ⟨S64x72x1, .i1⟩) (cmpi .sle),
    TRef.binary (.of main_call5_v7 : TRef sig ⟨S64x72x1, .i1⟩) (.of main_call5_v10 : TRef sig ⟨S64x72x1, .i1⟩) (.of main_call5_v11 : TRef sig ⟨S64x72x1, .i1⟩) andi,
    TRef.nullary (.of main_call5_c_3 : TRef sig ⟨S_, .i1⟩) (constantI S_ 1 1#1),
    TRef.binary (.of main_call5_v11 : TRef sig ⟨S64x72x1, .i1⟩) (.of main_call5_c_3 : TRef sig ⟨S_, .i1⟩) (.of main_call5_v12 : TRef sig ⟨S64x72, .i1⟩) (fun x v => Host.reduce IntOp.andi x v reducesTo_S64x72x1_S64x72_d2 h_S_),
    TRef.binary (.of main_v4 : TRef sig ⟨S64x432, .i32⟩) (.of main_call5_v5 : TRef sig ⟨S64x72x1, .i32⟩) (.of main_call5_v13 : TRef sig ⟨S64x72, .i32⟩) (fun x i => Host.gather gather_S64x432_S64x72x1_S64x72_n_1_0_0_1_2_11 x i),
    TRef.nullary (.of main_call5_c_4 : TRef sig ⟨S_, .i32⟩) (constantI S_ 32 2147483648#32),
    TRef.unary (.of main_call5_c_4 : TRef sig ⟨S_, .i32⟩) (.of main_call5_v14 : TRef sig ⟨S64x72, .i32⟩) (broadcastInDim S64x72 ![] bcast_S_S64x72),
    TRef.ternary (.of main_call5_v12 : TRef sig ⟨S64x72, .i1⟩) (.of main_call5_v13 : TRef sig ⟨S64x72, .i32⟩) (.of main_call5_v14 : TRef sig ⟨S64x72, .i32⟩) (.of main_v20 : TRef sig ⟨S64x72, .i32⟩) select ]

abbrev host1_2 : List (HloOp τ sig (Elt F)) :=
  [ TRef.unary (.of main_v18 : TRef sig ⟨S64x72, .i32⟩) (.of main_v21 : TRef sig ⟨S64x72x1, .i32⟩) (broadcastInDim S64x72x1 ![0, 1] bcast_S64x72_S64x72x1_0_1) ]

abbrev host1_3 : List (HloOp τ sig (Elt F)) :=
  [ TRef.nullary (.of main_call6_c : TRef sig ⟨S_, .i32⟩) (constantI S_ 32 0#32),
    TRef.unary (.of main_call6_c : TRef sig ⟨S_, .i32⟩) (.of main_call6_v0 : TRef sig ⟨S64x72x1, .i32⟩) (broadcastInDim S64x72x1 ![] bcast_S_S64x72x1),
    TRef.binary (.of main_v21 : TRef sig ⟨S64x72x1, .i32⟩) (.of main_call6_v0 : TRef sig ⟨S64x72x1, .i32⟩) (.of main_call6_v1 : TRef sig ⟨S64x72x1, .i1⟩) (cmpi .slt),
    TRef.nullary (.of main_call6_c_0 : TRef sig ⟨S_, .i32⟩) (constantI S_ 32 432#32),
    TRef.unary (.of main_call6_c_0 : TRef sig ⟨S_, .i32⟩) (.of main_call6_v2 : TRef sig ⟨S64x72x1, .i32⟩) (broadcastInDim S64x72x1 ![] bcast_S_S64x72x1),
    TRef.binary (.of main_v21 : TRef sig ⟨S64x72x1, .i32⟩) (.of main_call6_v2 : TRef sig ⟨S64x72x1, .i32⟩) (.of main_call6_v3 : TRef sig ⟨S64x72x1, .i32⟩) addi,
    TRef.ternary (.of main_call6_v1 : TRef sig ⟨S64x72x1, .i1⟩) (.of main_call6_v3 : TRef sig ⟨S64x72x1, .i32⟩) (.of main_v21 : TRef sig ⟨S64x72x1, .i32⟩) (.of main_call6_v4 : TRef sig ⟨S64x72x1, .i32⟩) select,
    TRef.nullary (.of main_call6_c_1 : TRef sig ⟨S1, .i32⟩) (constantI S1 32 431#32),
    TRef.nullary (.of main_call6_c_2 : TRef sig ⟨S_, .i32⟩) (constantI S_ 32 0#32),
    TRef.unary (.of main_call6_c_2 : TRef sig ⟨S_, .i32⟩) (.of main_call6_v5 : TRef sig ⟨S64x72x1, .i32⟩) (broadcastInDim S64x72x1 ![] bcast_S_S64x72x1),
    TRef.binary (.of main_call6_v4 : TRef sig ⟨S64x72x1, .i32⟩) (.of main_call6_v5 : TRef sig ⟨S64x72x1, .i32⟩) (.of main_call6_v6 : TRef sig ⟨S64x72x1, .i1⟩) (cmpi .sge),
    TRef.unary (.of main_call6_c_1 : TRef sig ⟨S1, .i32⟩) (.of main_call6_v7 : TRef sig ⟨S1x1x1, .i32⟩) (broadcastInDim S1x1x1 ![2] bcast_S1_S1x1x1_2),
    TRef.unary (.of main_call6_v7 : TRef sig ⟨S1x1x1, .i32⟩) (.of main_call6_v8 : TRef sig ⟨S64x72x1, .i32⟩) (broadcastInDim S64x72x1 ![0, 1, 2] bcast_S1x1x1_S64x72x1_0_1_2),
    TRef.binary (.of main_call6_v4 : TRef sig ⟨S64x72x1, .i32⟩) (.of main_call6_v8 : TRef sig ⟨S64x72x1, .i32⟩) (.of main_call6_v9 : TRef sig ⟨S64x72x1, .i1⟩) (cmpi .sle),
    TRef.binary (.of main_call6_v6 : TRef sig ⟨S64x72x1, .i1⟩) (.of main_call6_v9 : TRef sig ⟨S64x72x1, .i1⟩) (.of main_call6_v10 : TRef sig ⟨S64x72x1, .i1⟩) andi,
    TRef.nullary (.of main_call6_c_3 : TRef sig ⟨S_, .i1⟩) (constantI S_ 1 1#1),
    TRef.binary (.of main_call6_v10 : TRef sig ⟨S64x72x1, .i1⟩) (.of main_call6_c_3 : TRef sig ⟨S_, .i1⟩) (.of main_call6_v11 : TRef sig ⟨S64x72, .i1⟩) (fun x v => Host.reduce IntOp.andi x v reducesTo_S64x72x1_S64x72_d2 h_S_),
    TRef.binary (.of main_v8 : TRef sig ⟨S64x432x768, .f32⟩) (.of main_call6_v4 : TRef sig ⟨S64x72x1, .i32⟩) (.of main_call6_v12 : TRef sig ⟨S64x72x768, .f32⟩) (fun x i => Host.gather gather_S64x432x768_S64x72x1_S64x72x768_2_1_0_0_1_2_11768 x i),
    TRef.unary (.of main_call6_v11 : TRef sig ⟨S64x72, .i1⟩) (.of main_call6_v13 : TRef sig ⟨S64x72x768, .i1⟩) (broadcastInDim S64x72x768 ![0, 1] bcast_S64x72_S64x72x768_0_1),
    TRef.nullary (.of main_call6_cst : TRef sig ⟨S_, .f32⟩) (constant S_ .f32 0x7FC00000#32),
    TRef.unary (.of main_call6_cst : TRef sig ⟨S_, .f32⟩) (.of main_call6_v14 : TRef sig ⟨S64x72x768, .f32⟩) (broadcastInDim S64x72x768 ![] bcast_S_S64x72x768),
    TRef.ternary (.of main_call6_v13 : TRef sig ⟨S64x72x768, .i1⟩) (.of main_call6_v12 : TRef sig ⟨S64x72x768, .f32⟩) (.of main_call6_v14 : TRef sig ⟨S64x72x768, .f32⟩) (.of main_v22 : TRef sig ⟨S64x72x768, .f32⟩) select ]

abbrev host1_4 : List (HloOp τ sig (Elt F)) :=
  [ TRef.binary (.of main_v2 : TRef sig ⟨S64x144, .i32⟩) (.of main_v20 : TRef sig ⟨S64x72, .i32⟩) (.of main_v23 : TRef sig ⟨S64x216, .i32⟩) (fun a b => concatenate S64x216 1 [⟨S64x144, a⟩, ⟨S64x72, b⟩] concatenates_S64x144_S64x72_S64x216_d1),
    TRef.binary (.of main_v6 : TRef sig ⟨S64x144x768, .f32⟩) (.of main_v22 : TRef sig ⟨S64x72x768, .f32⟩) (.of main_v24 : TRef sig ⟨S64x216x768, .f32⟩) (fun a b => concatenate S64x216x768 1 [⟨S64x144x768, a⟩, ⟨S64x72x768, b⟩] concatenates_S64x144x768_S64x72x768_S64x216x768_d1) ]

abbrev host1_5 : List (HloOp τ sig (Elt F)) :=
  [ TRef.nullary (.of main_call7_c : TRef sig ⟨S_, .i32⟩) (constantI S_ 32 0#32),
    TRef.unary (.of main_call7_c : TRef sig ⟨S_, .i32⟩) (.of main_call7_v0 : TRef sig ⟨S64x360, .i32⟩) (broadcastInDim S64x360 ![] bcast_S_S64x360),
    TRef.binary (.of main_v19 : TRef sig ⟨S64x360, .i32⟩) (.of main_call7_v0 : TRef sig ⟨S64x360, .i32⟩) (.of main_call7_v1 : TRef sig ⟨S64x360, .i1⟩) (cmpi .slt),
    TRef.nullary (.of main_call7_c_0 : TRef sig ⟨S_, .i32⟩) (constantI S_ 32 432#32),
    TRef.unary (.of main_call7_c_0 : TRef sig ⟨S_, .i32⟩) (.of main_call7_v2 : TRef sig ⟨S64x360, .i32⟩) (broadcastInDim S64x360 ![] bcast_S_S64x360),
    TRef.binary (.of main_v19 : TRef sig ⟨S64x360, .i32⟩) (.of main_call7_v2 : TRef sig ⟨S64x360, .i32⟩) (.of main_call7_v3 : TRef sig ⟨S64x360, .i32⟩) addi,
    TRef.ternary (.of main_call7_v1 : TRef sig ⟨S64x360, .i1⟩) (.of main_call7_v3 : TRef sig ⟨S64x360, .i32⟩) (.of main_v19 : TRef sig ⟨S64x360, .i32⟩) (.of main_call7_v4 : TRef sig ⟨S64x360, .i32⟩) select,
    TRef.reshape (.of main_call7_v4 : TRef sig ⟨S64x360, .i32⟩) (.of main_call7_v5 : TRef sig ⟨S64x360x1, .i32⟩) (rfl : (.i32 : EltTy) = .i32) shapeCasts_S64x360_S64x360x1,
    TRef.nullary (.of main_call7_c_1 : TRef sig ⟨S1, .i32⟩) (constantI S1 32 431#32),
    TRef.nullary (.of main_call7_c_2 : TRef sig ⟨S_, .i32⟩) (constantI S_ 32 0#32),
    TRef.unary (.of main_call7_c_2 : TRef sig ⟨S_, .i32⟩) (.of main_call7_v6 : TRef sig ⟨S64x360x1, .i32⟩) (broadcastInDim S64x360x1 ![] bcast_S_S64x360x1),
    TRef.binary (.of main_call7_v5 : TRef sig ⟨S64x360x1, .i32⟩) (.of main_call7_v6 : TRef sig ⟨S64x360x1, .i32⟩) (.of main_call7_v7 : TRef sig ⟨S64x360x1, .i1⟩) (cmpi .sge),
    TRef.unary (.of main_call7_c_1 : TRef sig ⟨S1, .i32⟩) (.of main_call7_v8 : TRef sig ⟨S1x1x1, .i32⟩) (broadcastInDim S1x1x1 ![2] bcast_S1_S1x1x1_2),
    TRef.unary (.of main_call7_v8 : TRef sig ⟨S1x1x1, .i32⟩) (.of main_call7_v9 : TRef sig ⟨S64x360x1, .i32⟩) (broadcastInDim S64x360x1 ![0, 1, 2] bcast_S1x1x1_S64x360x1_0_1_2),
    TRef.binary (.of main_call7_v5 : TRef sig ⟨S64x360x1, .i32⟩) (.of main_call7_v9 : TRef sig ⟨S64x360x1, .i32⟩) (.of main_call7_v10 : TRef sig ⟨S64x360x1, .i1⟩) (cmpi .sle),
    TRef.binary (.of main_call7_v7 : TRef sig ⟨S64x360x1, .i1⟩) (.of main_call7_v10 : TRef sig ⟨S64x360x1, .i1⟩) (.of main_call7_v11 : TRef sig ⟨S64x360x1, .i1⟩) andi,
    TRef.nullary (.of main_call7_c_3 : TRef sig ⟨S_, .i1⟩) (constantI S_ 1 1#1),
    TRef.binary (.of main_call7_v11 : TRef sig ⟨S64x360x1, .i1⟩) (.of main_call7_c_3 : TRef sig ⟨S_, .i1⟩) (.of main_call7_v12 : TRef sig ⟨S64x360, .i1⟩) (fun x v => Host.reduce IntOp.andi x v reducesTo_S64x360x1_S64x360_d2 h_S_),
    TRef.binary (.of main_v4 : TRef sig ⟨S64x432, .i32⟩) (.of main_call7_v5 : TRef sig ⟨S64x360x1, .i32⟩) (.of main_call7_v13 : TRef sig ⟨S64x360, .i32⟩) (fun x i => Host.gather gather_S64x432_S64x360x1_S64x360_n_1_0_0_1_2_11 x i),
    TRef.nullary (.of main_call7_c_4 : TRef sig ⟨S_, .i32⟩) (constantI S_ 32 2147483648#32),
    TRef.unary (.of main_call7_c_4 : TRef sig ⟨S_, .i32⟩) (.of main_call7_v14 : TRef sig ⟨S64x360, .i32⟩) (broadcastInDim S64x360 ![] bcast_S_S64x360),
    TRef.ternary (.of main_call7_v12 : TRef sig ⟨S64x360, .i1⟩) (.of main_call7_v13 : TRef sig ⟨S64x360, .i32⟩) (.of main_call7_v14 : TRef sig ⟨S64x360, .i32⟩) (.of main_v25 : TRef sig ⟨S64x360, .i32⟩) select ]

abbrev host1_6 : List (HloOp τ sig (Elt F)) :=
  [ TRef.unary (.of main_v19 : TRef sig ⟨S64x360, .i32⟩) (.of main_v26 : TRef sig ⟨S64x360x1, .i32⟩) (broadcastInDim S64x360x1 ![0, 1] bcast_S64x360_S64x360x1_0_1) ]

abbrev host1_7 : List (HloOp τ sig (Elt F)) :=
  [ TRef.nullary (.of main_call8_c : TRef sig ⟨S_, .i32⟩) (constantI S_ 32 0#32),
    TRef.unary (.of main_call8_c : TRef sig ⟨S_, .i32⟩) (.of main_call8_v0 : TRef sig ⟨S64x360x1, .i32⟩) (broadcastInDim S64x360x1 ![] bcast_S_S64x360x1),
    TRef.binary (.of main_v26 : TRef sig ⟨S64x360x1, .i32⟩) (.of main_call8_v0 : TRef sig ⟨S64x360x1, .i32⟩) (.of main_call8_v1 : TRef sig ⟨S64x360x1, .i1⟩) (cmpi .slt),
    TRef.nullary (.of main_call8_c_0 : TRef sig ⟨S_, .i32⟩) (constantI S_ 32 432#32),
    TRef.unary (.of main_call8_c_0 : TRef sig ⟨S_, .i32⟩) (.of main_call8_v2 : TRef sig ⟨S64x360x1, .i32⟩) (broadcastInDim S64x360x1 ![] bcast_S_S64x360x1),
    TRef.binary (.of main_v26 : TRef sig ⟨S64x360x1, .i32⟩) (.of main_call8_v2 : TRef sig ⟨S64x360x1, .i32⟩) (.of main_call8_v3 : TRef sig ⟨S64x360x1, .i32⟩) addi,
    TRef.ternary (.of main_call8_v1 : TRef sig ⟨S64x360x1, .i1⟩) (.of main_call8_v3 : TRef sig ⟨S64x360x1, .i32⟩) (.of main_v26 : TRef sig ⟨S64x360x1, .i32⟩) (.of main_call8_v4 : TRef sig ⟨S64x360x1, .i32⟩) select,
    TRef.nullary (.of main_call8_c_1 : TRef sig ⟨S1, .i32⟩) (constantI S1 32 431#32),
    TRef.nullary (.of main_call8_c_2 : TRef sig ⟨S_, .i32⟩) (constantI S_ 32 0#32),
    TRef.unary (.of main_call8_c_2 : TRef sig ⟨S_, .i32⟩) (.of main_call8_v5 : TRef sig ⟨S64x360x1, .i32⟩) (broadcastInDim S64x360x1 ![] bcast_S_S64x360x1),
    TRef.binary (.of main_call8_v4 : TRef sig ⟨S64x360x1, .i32⟩) (.of main_call8_v5 : TRef sig ⟨S64x360x1, .i32⟩) (.of main_call8_v6 : TRef sig ⟨S64x360x1, .i1⟩) (cmpi .sge),
    TRef.unary (.of main_call8_c_1 : TRef sig ⟨S1, .i32⟩) (.of main_call8_v7 : TRef sig ⟨S1x1x1, .i32⟩) (broadcastInDim S1x1x1 ![2] bcast_S1_S1x1x1_2),
    TRef.unary (.of main_call8_v7 : TRef sig ⟨S1x1x1, .i32⟩) (.of main_call8_v8 : TRef sig ⟨S64x360x1, .i32⟩) (broadcastInDim S64x360x1 ![0, 1, 2] bcast_S1x1x1_S64x360x1_0_1_2),
    TRef.binary (.of main_call8_v4 : TRef sig ⟨S64x360x1, .i32⟩) (.of main_call8_v8 : TRef sig ⟨S64x360x1, .i32⟩) (.of main_call8_v9 : TRef sig ⟨S64x360x1, .i1⟩) (cmpi .sle),
    TRef.binary (.of main_call8_v6 : TRef sig ⟨S64x360x1, .i1⟩) (.of main_call8_v9 : TRef sig ⟨S64x360x1, .i1⟩) (.of main_call8_v10 : TRef sig ⟨S64x360x1, .i1⟩) andi,
    TRef.nullary (.of main_call8_c_3 : TRef sig ⟨S_, .i1⟩) (constantI S_ 1 1#1),
    TRef.binary (.of main_call8_v10 : TRef sig ⟨S64x360x1, .i1⟩) (.of main_call8_c_3 : TRef sig ⟨S_, .i1⟩) (.of main_call8_v11 : TRef sig ⟨S64x360, .i1⟩) (fun x v => Host.reduce IntOp.andi x v reducesTo_S64x360x1_S64x360_d2 h_S_),
    TRef.binary (.of main_v8 : TRef sig ⟨S64x432x768, .f32⟩) (.of main_call8_v4 : TRef sig ⟨S64x360x1, .i32⟩) (.of main_call8_v12 : TRef sig ⟨S64x360x768, .f32⟩) (fun x i => Host.gather gather_S64x432x768_S64x360x1_S64x360x768_2_1_0_0_1_2_11768 x i),
    TRef.unary (.of main_call8_v11 : TRef sig ⟨S64x360, .i1⟩) (.of main_call8_v13 : TRef sig ⟨S64x360x768, .i1⟩) (broadcastInDim S64x360x768 ![0, 1] bcast_S64x360_S64x360x768_0_1),
    TRef.nullary (.of main_call8_cst : TRef sig ⟨S_, .f32⟩) (constant S_ .f32 0x7FC00000#32),
    TRef.unary (.of main_call8_cst : TRef sig ⟨S_, .f32⟩) (.of main_call8_v14 : TRef sig ⟨S64x360x768, .f32⟩) (broadcastInDim S64x360x768 ![] bcast_S_S64x360x768),
    TRef.ternary (.of main_call8_v13 : TRef sig ⟨S64x360x768, .i1⟩) (.of main_call8_v12 : TRef sig ⟨S64x360x768, .f32⟩) (.of main_call8_v14 : TRef sig ⟨S64x360x768, .f32⟩) (.of main_v27 : TRef sig ⟨S64x360x768, .f32⟩) select ]

abbrev host1_8 : List (HloOp τ sig (Elt F)) :=
  [ TRef.binary (.of main_v24 : TRef sig ⟨S64x216x768, .f32⟩) (.of main_v24 : TRef sig ⟨S64x216x768, .f32⟩) (.of main_call9_v0 : TRef sig ⟨S64x216x768, .f32⟩) mulf,
    TRef.nullary (.of main_call9_cst : TRef sig ⟨S_, .f32⟩) (constant S_ .f32 0x00000000#32),
    TRef.binary (.of main_call9_v0 : TRef sig ⟨S64x216x768, .f32⟩) (.of main_call9_cst : TRef sig ⟨S_, .f32⟩) (.of main_call9_v1 : TRef sig ⟨S64x216, .f32⟩) (fun x v => Host.reduceAdd x v reducesTo_S64x216x768_S64x216_d2 h_S_),
    TRef.unary (.of main_call9_v1 : TRef sig ⟨S64x216, .f32⟩) (.of main_call9_v2 : TRef sig ⟨S64x216x1, .f32⟩) (broadcastInDim S64x216x1 ![0, 1] bcast_S64x216_S64x216x1_0_1),
    TRef.unary (.of main_call9_v2 : TRef sig ⟨S64x216x1, .f32⟩) (.of main_v28 : TRef sig ⟨S64x216x1, .f32⟩) Host.sqrt ]

abbrev host1_9 : List (HloOp τ sig (Elt F)) :=
  [ TRef.unary (.of main_v28 : TRef sig ⟨S64x216x1, .f32⟩) (.of main_v29 : TRef sig ⟨S64x216x768, .f32⟩) (broadcastInDim S64x216x768 ![0, 1, 2] bcast_S64x216x1_S64x216x768_0_1_2),
    TRef.binary (.of main_v24 : TRef sig ⟨S64x216x768, .f32⟩) (.of main_v29 : TRef sig ⟨S64x216x768, .f32⟩) (.of main_v30 : TRef sig ⟨S64x216x768, .f32⟩) (Host.divf) ]

abbrev host1_10 : List (HloOp τ sig (Elt F)) :=
  [ TRef.binary (.of main_v27 : TRef sig ⟨S64x360x768, .f32⟩) (.of main_v27 : TRef sig ⟨S64x360x768, .f32⟩) (.of main_call10_v0 : TRef sig ⟨S64x360x768, .f32⟩) mulf,
    TRef.nullary (.of main_call10_cst : TRef sig ⟨S_, .f32⟩) (constant S_ .f32 0x00000000#32),
    TRef.binary (.of main_call10_v0 : TRef sig ⟨S64x360x768, .f32⟩) (.of main_call10_cst : TRef sig ⟨S_, .f32⟩) (.of main_call10_v1 : TRef sig ⟨S64x360, .f32⟩) (fun x v => Host.reduceAdd x v reducesTo_S64x360x768_S64x360_d2 h_S_),
    TRef.unary (.of main_call10_v1 : TRef sig ⟨S64x360, .f32⟩) (.of main_call10_v2 : TRef sig ⟨S64x360x1, .f32⟩) (broadcastInDim S64x360x1 ![0, 1] bcast_S64x360_S64x360x1_0_1),
    TRef.unary (.of main_call10_v2 : TRef sig ⟨S64x360x1, .f32⟩) (.of main_v31 : TRef sig ⟨S64x360x1, .f32⟩) Host.sqrt ]

abbrev host1_11 : List (HloOp τ sig (Elt F)) :=
  [ TRef.unary (.of main_v31 : TRef sig ⟨S64x360x1, .f32⟩) (.of main_v32 : TRef sig ⟨S64x360x768, .f32⟩) (broadcastInDim S64x360x768 ![0, 1, 2] bcast_S64x360x1_S64x360x768_0_1_2),
    TRef.binary (.of main_v27 : TRef sig ⟨S64x360x768, .f32⟩) (.of main_v32 : TRef sig ⟨S64x360x768, .f32⟩) (.of main_v33 : TRef sig ⟨S64x360x768, .f32⟩) (Host.divf),
    TRef.binary (.of main_v33 : TRef sig ⟨S64x360x768, .f32⟩) (.of main_v30 : TRef sig ⟨S64x216x768, .f32⟩) (.of main_v34 : TRef sig ⟨S64x360x216, .f32⟩) (fun l r => Host.dotGeneral dot_S64x360x768_S64x216x768_S64x360x216_2_2_1_1_0_0 none l r) ]

/-! Stage 2. -/

/-- The greatest cosine of each token not selected. -/
abbrev max2 : List (HloOp τ sig (Elt F)) :=
  [ nullary main_cst_1 (constant S_ .f32 0xFF800000#32),
    binary main_v34 main_cst_1 main_v35 ((fun x v => Host.reduce FloatOps.maximumf x v reducesTo_S64x360x216_S64x360_d2 h_S_) : (⟨S64x360x216, .f32⟩ : BufTy).Contents (Elt F) → (⟨S_, .f32⟩ : BufTy).Contents (Elt F) → (⟨S64x360, .f32⟩ : BufTy).Contents (Elt F)) ]

/-- The positions in the order of those. -/
abbrev sort2 : List (HloOp τ sig (Elt F)) :=
  [ TRef.nullary (.of main_call11_v0 : TRef sig ⟨S64x360, .i32⟩) (iotaInDim S64x360 32 1),
    TRef.binary (.of main_v35 : TRef sig ⟨S64x360, .f32⟩) (.of main_call11_v0 : TRef sig ⟨S64x360, .i32⟩) (.of main_call11_v1_0 : TRef sig ⟨S64x360, .f32⟩) (fun x y => (Host.sort2 S64x360 1 comparator_f32_i32_d1 x y).1),
    TRef.binary (.of main_v35 : TRef sig ⟨S64x360, .f32⟩) (.of main_call11_v0 : TRef sig ⟨S64x360, .i32⟩) (.of main_v36 : TRef sig ⟨S64x360, .i32⟩) (fun x y => (Host.sort2 S64x360 1 comparator_f32_i32_d1 x y).2) ]

abbrev host2_0 : List (HloOp τ sig (Elt F)) :=
  [ TRef.unary (.of main_v36 : TRef sig ⟨S64x360, .i32⟩) (.of main_v37 : TRef sig ⟨S64x72, .i32⟩) (extractStridedSlice S64x72 ![0, 0] · slices_S64x360_S64x72_0_0),
    TRef.unary (.of main_v36 : TRef sig ⟨S64x360, .i32⟩) (.of main_v38 : TRef sig ⟨S64x288, .i32⟩) (extractStridedSlice S64x288 ![0, 72] · slices_S64x360_S64x288_0_72) ]

abbrev host2_1 : List (HloOp τ sig (Elt F)) :=
  [ TRef.nullary (.of main_call12_c : TRef sig ⟨S_, .i32⟩) (constantI S_ 32 0#32),
    TRef.unary (.of main_call12_c : TRef sig ⟨S_, .i32⟩) (.of main_call12_v0 : TRef sig ⟨S64x72, .i32⟩) (broadcastInDim S64x72 ![] bcast_S_S64x72),
    TRef.binary (.of main_v37 : TRef sig ⟨S64x72, .i32⟩) (.of main_call12_v0 : TRef sig ⟨S64x72, .i32⟩) (.of main_call12_v1 : TRef sig ⟨S64x72, .i1⟩) (cmpi .slt),
    TRef.nullary (.of main_call12_c_0 : TRef sig ⟨S_, .i32⟩) (constantI S_ 32 360#32),
    TRef.unary (.of main_call12_c_0 : TRef sig ⟨S_, .i32⟩) (.of main_call12_v2 : TRef sig ⟨S64x72, .i32⟩) (broadcastInDim S64x72 ![] bcast_S_S64x72),
    TRef.binary (.of main_v37 : TRef sig ⟨S64x72, .i32⟩) (.of main_call12_v2 : TRef sig ⟨S64x72, .i32⟩) (.of main_call12_v3 : TRef sig ⟨S64x72, .i32⟩) addi,
    TRef.ternary (.of main_call12_v1 : TRef sig ⟨S64x72, .i1⟩) (.of main_call12_v3 : TRef sig ⟨S64x72, .i32⟩) (.of main_v37 : TRef sig ⟨S64x72, .i32⟩) (.of main_call12_v4 : TRef sig ⟨S64x72, .i32⟩) select,
    TRef.reshape (.of main_call12_v4 : TRef sig ⟨S64x72, .i32⟩) (.of main_call12_v5 : TRef sig ⟨S64x72x1, .i32⟩) (rfl : (.i32 : EltTy) = .i32) shapeCasts_S64x72_S64x72x1,
    TRef.nullary (.of main_call12_c_1 : TRef sig ⟨S1, .i32⟩) (constantI S1 32 359#32),
    TRef.nullary (.of main_call12_c_2 : TRef sig ⟨S_, .i32⟩) (constantI S_ 32 0#32),
    TRef.unary (.of main_call12_c_2 : TRef sig ⟨S_, .i32⟩) (.of main_call12_v6 : TRef sig ⟨S64x72x1, .i32⟩) (broadcastInDim S64x72x1 ![] bcast_S_S64x72x1),
    TRef.binary (.of main_call12_v5 : TRef sig ⟨S64x72x1, .i32⟩) (.of main_call12_v6 : TRef sig ⟨S64x72x1, .i32⟩) (.of main_call12_v7 : TRef sig ⟨S64x72x1, .i1⟩) (cmpi .sge),
    TRef.unary (.of main_call12_c_1 : TRef sig ⟨S1, .i32⟩) (.of main_call12_v8 : TRef sig ⟨S1x1x1, .i32⟩) (broadcastInDim S1x1x1 ![2] bcast_S1_S1x1x1_2),
    TRef.unary (.of main_call12_v8 : TRef sig ⟨S1x1x1, .i32⟩) (.of main_call12_v9 : TRef sig ⟨S64x72x1, .i32⟩) (broadcastInDim S64x72x1 ![0, 1, 2] bcast_S1x1x1_S64x72x1_0_1_2),
    TRef.binary (.of main_call12_v5 : TRef sig ⟨S64x72x1, .i32⟩) (.of main_call12_v9 : TRef sig ⟨S64x72x1, .i32⟩) (.of main_call12_v10 : TRef sig ⟨S64x72x1, .i1⟩) (cmpi .sle),
    TRef.binary (.of main_call12_v7 : TRef sig ⟨S64x72x1, .i1⟩) (.of main_call12_v10 : TRef sig ⟨S64x72x1, .i1⟩) (.of main_call12_v11 : TRef sig ⟨S64x72x1, .i1⟩) andi,
    TRef.nullary (.of main_call12_c_3 : TRef sig ⟨S_, .i1⟩) (constantI S_ 1 1#1),
    TRef.binary (.of main_call12_v11 : TRef sig ⟨S64x72x1, .i1⟩) (.of main_call12_c_3 : TRef sig ⟨S_, .i1⟩) (.of main_call12_v12 : TRef sig ⟨S64x72, .i1⟩) (fun x v => Host.reduce IntOp.andi x v reducesTo_S64x72x1_S64x72_d2 h_S_),
    TRef.binary (.of main_v25 : TRef sig ⟨S64x360, .i32⟩) (.of main_call12_v5 : TRef sig ⟨S64x72x1, .i32⟩) (.of main_call12_v13 : TRef sig ⟨S64x72, .i32⟩) (fun x i => Host.gather gather_S64x360_S64x72x1_S64x72_n_1_0_0_1_2_11 x i),
    TRef.nullary (.of main_call12_c_4 : TRef sig ⟨S_, .i32⟩) (constantI S_ 32 2147483648#32),
    TRef.unary (.of main_call12_c_4 : TRef sig ⟨S_, .i32⟩) (.of main_call12_v14 : TRef sig ⟨S64x72, .i32⟩) (broadcastInDim S64x72 ![] bcast_S_S64x72),
    TRef.ternary (.of main_call12_v12 : TRef sig ⟨S64x72, .i1⟩) (.of main_call12_v13 : TRef sig ⟨S64x72, .i32⟩) (.of main_call12_v14 : TRef sig ⟨S64x72, .i32⟩) (.of main_v39 : TRef sig ⟨S64x72, .i32⟩) select ]

abbrev host2_2 : List (HloOp τ sig (Elt F)) :=
  [ TRef.unary (.of main_v37 : TRef sig ⟨S64x72, .i32⟩) (.of main_v40 : TRef sig ⟨S64x72x1, .i32⟩) (broadcastInDim S64x72x1 ![0, 1] bcast_S64x72_S64x72x1_0_1) ]

abbrev host2_3 : List (HloOp τ sig (Elt F)) :=
  [ TRef.nullary (.of main_call13_c : TRef sig ⟨S_, .i32⟩) (constantI S_ 32 0#32),
    TRef.unary (.of main_call13_c : TRef sig ⟨S_, .i32⟩) (.of main_call13_v0 : TRef sig ⟨S64x72x1, .i32⟩) (broadcastInDim S64x72x1 ![] bcast_S_S64x72x1),
    TRef.binary (.of main_v40 : TRef sig ⟨S64x72x1, .i32⟩) (.of main_call13_v0 : TRef sig ⟨S64x72x1, .i32⟩) (.of main_call13_v1 : TRef sig ⟨S64x72x1, .i1⟩) (cmpi .slt),
    TRef.nullary (.of main_call13_c_0 : TRef sig ⟨S_, .i32⟩) (constantI S_ 32 360#32),
    TRef.unary (.of main_call13_c_0 : TRef sig ⟨S_, .i32⟩) (.of main_call13_v2 : TRef sig ⟨S64x72x1, .i32⟩) (broadcastInDim S64x72x1 ![] bcast_S_S64x72x1),
    TRef.binary (.of main_v40 : TRef sig ⟨S64x72x1, .i32⟩) (.of main_call13_v2 : TRef sig ⟨S64x72x1, .i32⟩) (.of main_call13_v3 : TRef sig ⟨S64x72x1, .i32⟩) addi,
    TRef.ternary (.of main_call13_v1 : TRef sig ⟨S64x72x1, .i1⟩) (.of main_call13_v3 : TRef sig ⟨S64x72x1, .i32⟩) (.of main_v40 : TRef sig ⟨S64x72x1, .i32⟩) (.of main_call13_v4 : TRef sig ⟨S64x72x1, .i32⟩) select,
    TRef.nullary (.of main_call13_c_1 : TRef sig ⟨S1, .i32⟩) (constantI S1 32 359#32),
    TRef.nullary (.of main_call13_c_2 : TRef sig ⟨S_, .i32⟩) (constantI S_ 32 0#32),
    TRef.unary (.of main_call13_c_2 : TRef sig ⟨S_, .i32⟩) (.of main_call13_v5 : TRef sig ⟨S64x72x1, .i32⟩) (broadcastInDim S64x72x1 ![] bcast_S_S64x72x1),
    TRef.binary (.of main_call13_v4 : TRef sig ⟨S64x72x1, .i32⟩) (.of main_call13_v5 : TRef sig ⟨S64x72x1, .i32⟩) (.of main_call13_v6 : TRef sig ⟨S64x72x1, .i1⟩) (cmpi .sge),
    TRef.unary (.of main_call13_c_1 : TRef sig ⟨S1, .i32⟩) (.of main_call13_v7 : TRef sig ⟨S1x1x1, .i32⟩) (broadcastInDim S1x1x1 ![2] bcast_S1_S1x1x1_2),
    TRef.unary (.of main_call13_v7 : TRef sig ⟨S1x1x1, .i32⟩) (.of main_call13_v8 : TRef sig ⟨S64x72x1, .i32⟩) (broadcastInDim S64x72x1 ![0, 1, 2] bcast_S1x1x1_S64x72x1_0_1_2),
    TRef.binary (.of main_call13_v4 : TRef sig ⟨S64x72x1, .i32⟩) (.of main_call13_v8 : TRef sig ⟨S64x72x1, .i32⟩) (.of main_call13_v9 : TRef sig ⟨S64x72x1, .i1⟩) (cmpi .sle),
    TRef.binary (.of main_call13_v6 : TRef sig ⟨S64x72x1, .i1⟩) (.of main_call13_v9 : TRef sig ⟨S64x72x1, .i1⟩) (.of main_call13_v10 : TRef sig ⟨S64x72x1, .i1⟩) andi,
    TRef.nullary (.of main_call13_c_3 : TRef sig ⟨S_, .i1⟩) (constantI S_ 1 1#1),
    TRef.binary (.of main_call13_v10 : TRef sig ⟨S64x72x1, .i1⟩) (.of main_call13_c_3 : TRef sig ⟨S_, .i1⟩) (.of main_call13_v11 : TRef sig ⟨S64x72, .i1⟩) (fun x v => Host.reduce IntOp.andi x v reducesTo_S64x72x1_S64x72_d2 h_S_),
    TRef.binary (.of main_v27 : TRef sig ⟨S64x360x768, .f32⟩) (.of main_call13_v4 : TRef sig ⟨S64x72x1, .i32⟩) (.of main_call13_v12 : TRef sig ⟨S64x72x768, .f32⟩) (fun x i => Host.gather gather_S64x360x768_S64x72x1_S64x72x768_2_1_0_0_1_2_11768 x i),
    TRef.unary (.of main_call13_v11 : TRef sig ⟨S64x72, .i1⟩) (.of main_call13_v13 : TRef sig ⟨S64x72x768, .i1⟩) (broadcastInDim S64x72x768 ![0, 1] bcast_S64x72_S64x72x768_0_1),
    TRef.nullary (.of main_call13_cst : TRef sig ⟨S_, .f32⟩) (constant S_ .f32 0x7FC00000#32),
    TRef.unary (.of main_call13_cst : TRef sig ⟨S_, .f32⟩) (.of main_call13_v14 : TRef sig ⟨S64x72x768, .f32⟩) (broadcastInDim S64x72x768 ![] bcast_S_S64x72x768),
    TRef.ternary (.of main_call13_v13 : TRef sig ⟨S64x72x768, .i1⟩) (.of main_call13_v12 : TRef sig ⟨S64x72x768, .f32⟩) (.of main_call13_v14 : TRef sig ⟨S64x72x768, .f32⟩) (.of main_v41 : TRef sig ⟨S64x72x768, .f32⟩) select ]

abbrev host2_4 : List (HloOp τ sig (Elt F)) :=
  [ TRef.binary (.of main_v23 : TRef sig ⟨S64x216, .i32⟩) (.of main_v39 : TRef sig ⟨S64x72, .i32⟩) (.of main_v42 : TRef sig ⟨S64x288, .i32⟩) (fun a b => concatenate S64x288 1 [⟨S64x216, a⟩, ⟨S64x72, b⟩] concatenates_S64x216_S64x72_S64x288_d1),
    TRef.binary (.of main_v24 : TRef sig ⟨S64x216x768, .f32⟩) (.of main_v41 : TRef sig ⟨S64x72x768, .f32⟩) (.of main_v43 : TRef sig ⟨S64x288x768, .f32⟩) (fun a b => concatenate S64x288x768 1 [⟨S64x216x768, a⟩, ⟨S64x72x768, b⟩] concatenates_S64x216x768_S64x72x768_S64x288x768_d1) ]

abbrev host2_5 : List (HloOp τ sig (Elt F)) :=
  [ TRef.nullary (.of main_call14_c : TRef sig ⟨S_, .i32⟩) (constantI S_ 32 0#32),
    TRef.unary (.of main_call14_c : TRef sig ⟨S_, .i32⟩) (.of main_call14_v0 : TRef sig ⟨S64x288, .i32⟩) (broadcastInDim S64x288 ![] bcast_S_S64x288),
    TRef.binary (.of main_v38 : TRef sig ⟨S64x288, .i32⟩) (.of main_call14_v0 : TRef sig ⟨S64x288, .i32⟩) (.of main_call14_v1 : TRef sig ⟨S64x288, .i1⟩) (cmpi .slt),
    TRef.nullary (.of main_call14_c_0 : TRef sig ⟨S_, .i32⟩) (constantI S_ 32 360#32),
    TRef.unary (.of main_call14_c_0 : TRef sig ⟨S_, .i32⟩) (.of main_call14_v2 : TRef sig ⟨S64x288, .i32⟩) (broadcastInDim S64x288 ![] bcast_S_S64x288),
    TRef.binary (.of main_v38 : TRef sig ⟨S64x288, .i32⟩) (.of main_call14_v2 : TRef sig ⟨S64x288, .i32⟩) (.of main_call14_v3 : TRef sig ⟨S64x288, .i32⟩) addi,
    TRef.ternary (.of main_call14_v1 : TRef sig ⟨S64x288, .i1⟩) (.of main_call14_v3 : TRef sig ⟨S64x288, .i32⟩) (.of main_v38 : TRef sig ⟨S64x288, .i32⟩) (.of main_call14_v4 : TRef sig ⟨S64x288, .i32⟩) select,
    TRef.reshape (.of main_call14_v4 : TRef sig ⟨S64x288, .i32⟩) (.of main_call14_v5 : TRef sig ⟨S64x288x1, .i32⟩) (rfl : (.i32 : EltTy) = .i32) shapeCasts_S64x288_S64x288x1,
    TRef.nullary (.of main_call14_c_1 : TRef sig ⟨S1, .i32⟩) (constantI S1 32 359#32),
    TRef.nullary (.of main_call14_c_2 : TRef sig ⟨S_, .i32⟩) (constantI S_ 32 0#32),
    TRef.unary (.of main_call14_c_2 : TRef sig ⟨S_, .i32⟩) (.of main_call14_v6 : TRef sig ⟨S64x288x1, .i32⟩) (broadcastInDim S64x288x1 ![] bcast_S_S64x288x1),
    TRef.binary (.of main_call14_v5 : TRef sig ⟨S64x288x1, .i32⟩) (.of main_call14_v6 : TRef sig ⟨S64x288x1, .i32⟩) (.of main_call14_v7 : TRef sig ⟨S64x288x1, .i1⟩) (cmpi .sge),
    TRef.unary (.of main_call14_c_1 : TRef sig ⟨S1, .i32⟩) (.of main_call14_v8 : TRef sig ⟨S1x1x1, .i32⟩) (broadcastInDim S1x1x1 ![2] bcast_S1_S1x1x1_2),
    TRef.unary (.of main_call14_v8 : TRef sig ⟨S1x1x1, .i32⟩) (.of main_call14_v9 : TRef sig ⟨S64x288x1, .i32⟩) (broadcastInDim S64x288x1 ![0, 1, 2] bcast_S1x1x1_S64x288x1_0_1_2),
    TRef.binary (.of main_call14_v5 : TRef sig ⟨S64x288x1, .i32⟩) (.of main_call14_v9 : TRef sig ⟨S64x288x1, .i32⟩) (.of main_call14_v10 : TRef sig ⟨S64x288x1, .i1⟩) (cmpi .sle),
    TRef.binary (.of main_call14_v7 : TRef sig ⟨S64x288x1, .i1⟩) (.of main_call14_v10 : TRef sig ⟨S64x288x1, .i1⟩) (.of main_call14_v11 : TRef sig ⟨S64x288x1, .i1⟩) andi,
    TRef.nullary (.of main_call14_c_3 : TRef sig ⟨S_, .i1⟩) (constantI S_ 1 1#1),
    TRef.binary (.of main_call14_v11 : TRef sig ⟨S64x288x1, .i1⟩) (.of main_call14_c_3 : TRef sig ⟨S_, .i1⟩) (.of main_call14_v12 : TRef sig ⟨S64x288, .i1⟩) (fun x v => Host.reduce IntOp.andi x v reducesTo_S64x288x1_S64x288_d2 h_S_),
    TRef.binary (.of main_v25 : TRef sig ⟨S64x360, .i32⟩) (.of main_call14_v5 : TRef sig ⟨S64x288x1, .i32⟩) (.of main_call14_v13 : TRef sig ⟨S64x288, .i32⟩) (fun x i => Host.gather gather_S64x360_S64x288x1_S64x288_n_1_0_0_1_2_11 x i),
    TRef.nullary (.of main_call14_c_4 : TRef sig ⟨S_, .i32⟩) (constantI S_ 32 2147483648#32),
    TRef.unary (.of main_call14_c_4 : TRef sig ⟨S_, .i32⟩) (.of main_call14_v14 : TRef sig ⟨S64x288, .i32⟩) (broadcastInDim S64x288 ![] bcast_S_S64x288),
    TRef.ternary (.of main_call14_v12 : TRef sig ⟨S64x288, .i1⟩) (.of main_call14_v13 : TRef sig ⟨S64x288, .i32⟩) (.of main_call14_v14 : TRef sig ⟨S64x288, .i32⟩) (.of main_v44 : TRef sig ⟨S64x288, .i32⟩) select ]

abbrev host2_6 : List (HloOp τ sig (Elt F)) :=
  [ TRef.unary (.of main_v38 : TRef sig ⟨S64x288, .i32⟩) (.of main_v45 : TRef sig ⟨S64x288x1, .i32⟩) (broadcastInDim S64x288x1 ![0, 1] bcast_S64x288_S64x288x1_0_1) ]

abbrev host2_7 : List (HloOp τ sig (Elt F)) :=
  [ TRef.nullary (.of main_call15_c : TRef sig ⟨S_, .i32⟩) (constantI S_ 32 0#32),
    TRef.unary (.of main_call15_c : TRef sig ⟨S_, .i32⟩) (.of main_call15_v0 : TRef sig ⟨S64x288x1, .i32⟩) (broadcastInDim S64x288x1 ![] bcast_S_S64x288x1),
    TRef.binary (.of main_v45 : TRef sig ⟨S64x288x1, .i32⟩) (.of main_call15_v0 : TRef sig ⟨S64x288x1, .i32⟩) (.of main_call15_v1 : TRef sig ⟨S64x288x1, .i1⟩) (cmpi .slt),
    TRef.nullary (.of main_call15_c_0 : TRef sig ⟨S_, .i32⟩) (constantI S_ 32 360#32),
    TRef.unary (.of main_call15_c_0 : TRef sig ⟨S_, .i32⟩) (.of main_call15_v2 : TRef sig ⟨S64x288x1, .i32⟩) (broadcastInDim S64x288x1 ![] bcast_S_S64x288x1),
    TRef.binary (.of main_v45 : TRef sig ⟨S64x288x1, .i32⟩) (.of main_call15_v2 : TRef sig ⟨S64x288x1, .i32⟩) (.of main_call15_v3 : TRef sig ⟨S64x288x1, .i32⟩) addi,
    TRef.ternary (.of main_call15_v1 : TRef sig ⟨S64x288x1, .i1⟩) (.of main_call15_v3 : TRef sig ⟨S64x288x1, .i32⟩) (.of main_v45 : TRef sig ⟨S64x288x1, .i32⟩) (.of main_call15_v4 : TRef sig ⟨S64x288x1, .i32⟩) select,
    TRef.nullary (.of main_call15_c_1 : TRef sig ⟨S1, .i32⟩) (constantI S1 32 359#32),
    TRef.nullary (.of main_call15_c_2 : TRef sig ⟨S_, .i32⟩) (constantI S_ 32 0#32),
    TRef.unary (.of main_call15_c_2 : TRef sig ⟨S_, .i32⟩) (.of main_call15_v5 : TRef sig ⟨S64x288x1, .i32⟩) (broadcastInDim S64x288x1 ![] bcast_S_S64x288x1),
    TRef.binary (.of main_call15_v4 : TRef sig ⟨S64x288x1, .i32⟩) (.of main_call15_v5 : TRef sig ⟨S64x288x1, .i32⟩) (.of main_call15_v6 : TRef sig ⟨S64x288x1, .i1⟩) (cmpi .sge),
    TRef.unary (.of main_call15_c_1 : TRef sig ⟨S1, .i32⟩) (.of main_call15_v7 : TRef sig ⟨S1x1x1, .i32⟩) (broadcastInDim S1x1x1 ![2] bcast_S1_S1x1x1_2),
    TRef.unary (.of main_call15_v7 : TRef sig ⟨S1x1x1, .i32⟩) (.of main_call15_v8 : TRef sig ⟨S64x288x1, .i32⟩) (broadcastInDim S64x288x1 ![0, 1, 2] bcast_S1x1x1_S64x288x1_0_1_2),
    TRef.binary (.of main_call15_v4 : TRef sig ⟨S64x288x1, .i32⟩) (.of main_call15_v8 : TRef sig ⟨S64x288x1, .i32⟩) (.of main_call15_v9 : TRef sig ⟨S64x288x1, .i1⟩) (cmpi .sle),
    TRef.binary (.of main_call15_v6 : TRef sig ⟨S64x288x1, .i1⟩) (.of main_call15_v9 : TRef sig ⟨S64x288x1, .i1⟩) (.of main_call15_v10 : TRef sig ⟨S64x288x1, .i1⟩) andi,
    TRef.nullary (.of main_call15_c_3 : TRef sig ⟨S_, .i1⟩) (constantI S_ 1 1#1),
    TRef.binary (.of main_call15_v10 : TRef sig ⟨S64x288x1, .i1⟩) (.of main_call15_c_3 : TRef sig ⟨S_, .i1⟩) (.of main_call15_v11 : TRef sig ⟨S64x288, .i1⟩) (fun x v => Host.reduce IntOp.andi x v reducesTo_S64x288x1_S64x288_d2 h_S_),
    TRef.binary (.of main_v27 : TRef sig ⟨S64x360x768, .f32⟩) (.of main_call15_v4 : TRef sig ⟨S64x288x1, .i32⟩) (.of main_call15_v12 : TRef sig ⟨S64x288x768, .f32⟩) (fun x i => Host.gather gather_S64x360x768_S64x288x1_S64x288x768_2_1_0_0_1_2_11768 x i),
    TRef.unary (.of main_call15_v11 : TRef sig ⟨S64x288, .i1⟩) (.of main_call15_v13 : TRef sig ⟨S64x288x768, .i1⟩) (broadcastInDim S64x288x768 ![0, 1] bcast_S64x288_S64x288x768_0_1),
    TRef.nullary (.of main_call15_cst : TRef sig ⟨S_, .f32⟩) (constant S_ .f32 0x7FC00000#32),
    TRef.unary (.of main_call15_cst : TRef sig ⟨S_, .f32⟩) (.of main_call15_v14 : TRef sig ⟨S64x288x768, .f32⟩) (broadcastInDim S64x288x768 ![] bcast_S_S64x288x768),
    TRef.ternary (.of main_call15_v13 : TRef sig ⟨S64x288x768, .i1⟩) (.of main_call15_v12 : TRef sig ⟨S64x288x768, .f32⟩) (.of main_call15_v14 : TRef sig ⟨S64x288x768, .f32⟩) (.of main_v46 : TRef sig ⟨S64x288x768, .f32⟩) select ]

abbrev host2_8 : List (HloOp τ sig (Elt F)) :=
  [ TRef.binary (.of main_v43 : TRef sig ⟨S64x288x768, .f32⟩) (.of main_v43 : TRef sig ⟨S64x288x768, .f32⟩) (.of main_call16_v0 : TRef sig ⟨S64x288x768, .f32⟩) mulf,
    TRef.nullary (.of main_call16_cst : TRef sig ⟨S_, .f32⟩) (constant S_ .f32 0x00000000#32),
    TRef.binary (.of main_call16_v0 : TRef sig ⟨S64x288x768, .f32⟩) (.of main_call16_cst : TRef sig ⟨S_, .f32⟩) (.of main_call16_v1 : TRef sig ⟨S64x288, .f32⟩) (fun x v => Host.reduceAdd x v reducesTo_S64x288x768_S64x288_d2 h_S_),
    TRef.unary (.of main_call16_v1 : TRef sig ⟨S64x288, .f32⟩) (.of main_call16_v2 : TRef sig ⟨S64x288x1, .f32⟩) (broadcastInDim S64x288x1 ![0, 1] bcast_S64x288_S64x288x1_0_1),
    TRef.unary (.of main_call16_v2 : TRef sig ⟨S64x288x1, .f32⟩) (.of main_v47 : TRef sig ⟨S64x288x1, .f32⟩) Host.sqrt ]

abbrev host2_9 : List (HloOp τ sig (Elt F)) :=
  [ TRef.unary (.of main_v47 : TRef sig ⟨S64x288x1, .f32⟩) (.of main_v48 : TRef sig ⟨S64x288x768, .f32⟩) (broadcastInDim S64x288x768 ![0, 1, 2] bcast_S64x288x1_S64x288x768_0_1_2),
    TRef.binary (.of main_v43 : TRef sig ⟨S64x288x768, .f32⟩) (.of main_v48 : TRef sig ⟨S64x288x768, .f32⟩) (.of main_v49 : TRef sig ⟨S64x288x768, .f32⟩) (Host.divf) ]

abbrev host2_10 : List (HloOp τ sig (Elt F)) :=
  [ TRef.binary (.of main_v46 : TRef sig ⟨S64x288x768, .f32⟩) (.of main_v46 : TRef sig ⟨S64x288x768, .f32⟩) (.of main_call17_v0 : TRef sig ⟨S64x288x768, .f32⟩) mulf,
    TRef.nullary (.of main_call17_cst : TRef sig ⟨S_, .f32⟩) (constant S_ .f32 0x00000000#32),
    TRef.binary (.of main_call17_v0 : TRef sig ⟨S64x288x768, .f32⟩) (.of main_call17_cst : TRef sig ⟨S_, .f32⟩) (.of main_call17_v1 : TRef sig ⟨S64x288, .f32⟩) (fun x v => Host.reduceAdd x v reducesTo_S64x288x768_S64x288_d2 h_S_),
    TRef.unary (.of main_call17_v1 : TRef sig ⟨S64x288, .f32⟩) (.of main_call17_v2 : TRef sig ⟨S64x288x1, .f32⟩) (broadcastInDim S64x288x1 ![0, 1] bcast_S64x288_S64x288x1_0_1),
    TRef.unary (.of main_call17_v2 : TRef sig ⟨S64x288x1, .f32⟩) (.of main_v50 : TRef sig ⟨S64x288x1, .f32⟩) Host.sqrt ]

abbrev host2_11 : List (HloOp τ sig (Elt F)) :=
  [ TRef.unary (.of main_v50 : TRef sig ⟨S64x288x1, .f32⟩) (.of main_v51 : TRef sig ⟨S64x288x768, .f32⟩) (broadcastInDim S64x288x768 ![0, 1, 2] bcast_S64x288x1_S64x288x768_0_1_2),
    TRef.binary (.of main_v46 : TRef sig ⟨S64x288x768, .f32⟩) (.of main_v51 : TRef sig ⟨S64x288x768, .f32⟩) (.of main_v52 : TRef sig ⟨S64x288x768, .f32⟩) (Host.divf),
    TRef.binary (.of main_v52 : TRef sig ⟨S64x288x768, .f32⟩) (.of main_v49 : TRef sig ⟨S64x288x768, .f32⟩) (.of main_v53 : TRef sig ⟨S64x288x288, .f32⟩) (fun l r => Host.dotGeneral dot_S64x288x768_S64x288x768_S64x288x288_2_2_1_1_0_0 none l r) ]

/-! Stage 3. -/

/-- The greatest cosine of each token not selected. -/
abbrev max3 : List (HloOp τ sig (Elt F)) :=
  [ nullary main_cst_2 (constant S_ .f32 0xFF800000#32),
    binary main_v53 main_cst_2 main_v54 ((fun x v => Host.reduce FloatOps.maximumf x v reducesTo_S64x288x288_S64x288_d2 h_S_) : (⟨S64x288x288, .f32⟩ : BufTy).Contents (Elt F) → (⟨S_, .f32⟩ : BufTy).Contents (Elt F) → (⟨S64x288, .f32⟩ : BufTy).Contents (Elt F)) ]

/-- The positions in the order of those. -/
abbrev sort3 : List (HloOp τ sig (Elt F)) :=
  [ TRef.nullary (.of main_call18_v0 : TRef sig ⟨S64x288, .i32⟩) (iotaInDim S64x288 32 1),
    TRef.binary (.of main_v54 : TRef sig ⟨S64x288, .f32⟩) (.of main_call18_v0 : TRef sig ⟨S64x288, .i32⟩) (.of main_call18_v1_0 : TRef sig ⟨S64x288, .f32⟩) (fun x y => (Host.sort2 S64x288 1 comparator_f32_i32_d1 x y).1),
    TRef.binary (.of main_v54 : TRef sig ⟨S64x288, .f32⟩) (.of main_call18_v0 : TRef sig ⟨S64x288, .i32⟩) (.of main_v55 : TRef sig ⟨S64x288, .i32⟩) (fun x y => (Host.sort2 S64x288 1 comparator_f32_i32_d1 x y).2) ]

abbrev host3_0 : List (HloOp τ sig (Elt F)) :=
  [ TRef.unary (.of main_v55 : TRef sig ⟨S64x288, .i32⟩) (.of main_v56 : TRef sig ⟨S64x72, .i32⟩) (extractStridedSlice S64x72 ![0, 0] · slices_S64x288_S64x72_0_0),
    TRef.unary (.of main_v55 : TRef sig ⟨S64x288, .i32⟩) (.of main_v57 : TRef sig ⟨S64x216, .i32⟩) (extractStridedSlice S64x216 ![0, 72] · slices_S64x288_S64x216_0_72) ]

abbrev host3_1 : List (HloOp τ sig (Elt F)) :=
  [ TRef.nullary (.of main_call19_c : TRef sig ⟨S_, .i32⟩) (constantI S_ 32 0#32),
    TRef.unary (.of main_call19_c : TRef sig ⟨S_, .i32⟩) (.of main_call19_v0 : TRef sig ⟨S64x72, .i32⟩) (broadcastInDim S64x72 ![] bcast_S_S64x72),
    TRef.binary (.of main_v56 : TRef sig ⟨S64x72, .i32⟩) (.of main_call19_v0 : TRef sig ⟨S64x72, .i32⟩) (.of main_call19_v1 : TRef sig ⟨S64x72, .i1⟩) (cmpi .slt),
    TRef.nullary (.of main_call19_c_0 : TRef sig ⟨S_, .i32⟩) (constantI S_ 32 288#32),
    TRef.unary (.of main_call19_c_0 : TRef sig ⟨S_, .i32⟩) (.of main_call19_v2 : TRef sig ⟨S64x72, .i32⟩) (broadcastInDim S64x72 ![] bcast_S_S64x72),
    TRef.binary (.of main_v56 : TRef sig ⟨S64x72, .i32⟩) (.of main_call19_v2 : TRef sig ⟨S64x72, .i32⟩) (.of main_call19_v3 : TRef sig ⟨S64x72, .i32⟩) addi,
    TRef.ternary (.of main_call19_v1 : TRef sig ⟨S64x72, .i1⟩) (.of main_call19_v3 : TRef sig ⟨S64x72, .i32⟩) (.of main_v56 : TRef sig ⟨S64x72, .i32⟩) (.of main_call19_v4 : TRef sig ⟨S64x72, .i32⟩) select,
    TRef.reshape (.of main_call19_v4 : TRef sig ⟨S64x72, .i32⟩) (.of main_call19_v5 : TRef sig ⟨S64x72x1, .i32⟩) (rfl : (.i32 : EltTy) = .i32) shapeCasts_S64x72_S64x72x1,
    TRef.nullary (.of main_call19_c_1 : TRef sig ⟨S1, .i32⟩) (constantI S1 32 287#32),
    TRef.nullary (.of main_call19_c_2 : TRef sig ⟨S_, .i32⟩) (constantI S_ 32 0#32),
    TRef.unary (.of main_call19_c_2 : TRef sig ⟨S_, .i32⟩) (.of main_call19_v6 : TRef sig ⟨S64x72x1, .i32⟩) (broadcastInDim S64x72x1 ![] bcast_S_S64x72x1),
    TRef.binary (.of main_call19_v5 : TRef sig ⟨S64x72x1, .i32⟩) (.of main_call19_v6 : TRef sig ⟨S64x72x1, .i32⟩) (.of main_call19_v7 : TRef sig ⟨S64x72x1, .i1⟩) (cmpi .sge),
    TRef.unary (.of main_call19_c_1 : TRef sig ⟨S1, .i32⟩) (.of main_call19_v8 : TRef sig ⟨S1x1x1, .i32⟩) (broadcastInDim S1x1x1 ![2] bcast_S1_S1x1x1_2),
    TRef.unary (.of main_call19_v8 : TRef sig ⟨S1x1x1, .i32⟩) (.of main_call19_v9 : TRef sig ⟨S64x72x1, .i32⟩) (broadcastInDim S64x72x1 ![0, 1, 2] bcast_S1x1x1_S64x72x1_0_1_2),
    TRef.binary (.of main_call19_v5 : TRef sig ⟨S64x72x1, .i32⟩) (.of main_call19_v9 : TRef sig ⟨S64x72x1, .i32⟩) (.of main_call19_v10 : TRef sig ⟨S64x72x1, .i1⟩) (cmpi .sle),
    TRef.binary (.of main_call19_v7 : TRef sig ⟨S64x72x1, .i1⟩) (.of main_call19_v10 : TRef sig ⟨S64x72x1, .i1⟩) (.of main_call19_v11 : TRef sig ⟨S64x72x1, .i1⟩) andi,
    TRef.nullary (.of main_call19_c_3 : TRef sig ⟨S_, .i1⟩) (constantI S_ 1 1#1),
    TRef.binary (.of main_call19_v11 : TRef sig ⟨S64x72x1, .i1⟩) (.of main_call19_c_3 : TRef sig ⟨S_, .i1⟩) (.of main_call19_v12 : TRef sig ⟨S64x72, .i1⟩) (fun x v => Host.reduce IntOp.andi x v reducesTo_S64x72x1_S64x72_d2 h_S_),
    TRef.binary (.of main_v44 : TRef sig ⟨S64x288, .i32⟩) (.of main_call19_v5 : TRef sig ⟨S64x72x1, .i32⟩) (.of main_call19_v13 : TRef sig ⟨S64x72, .i32⟩) (fun x i => Host.gather gather_S64x288_S64x72x1_S64x72_n_1_0_0_1_2_11 x i),
    TRef.nullary (.of main_call19_c_4 : TRef sig ⟨S_, .i32⟩) (constantI S_ 32 2147483648#32),
    TRef.unary (.of main_call19_c_4 : TRef sig ⟨S_, .i32⟩) (.of main_call19_v14 : TRef sig ⟨S64x72, .i32⟩) (broadcastInDim S64x72 ![] bcast_S_S64x72),
    TRef.ternary (.of main_call19_v12 : TRef sig ⟨S64x72, .i1⟩) (.of main_call19_v13 : TRef sig ⟨S64x72, .i32⟩) (.of main_call19_v14 : TRef sig ⟨S64x72, .i32⟩) (.of main_v58 : TRef sig ⟨S64x72, .i32⟩) select ]

abbrev host3_2 : List (HloOp τ sig (Elt F)) :=
  [ TRef.unary (.of main_v56 : TRef sig ⟨S64x72, .i32⟩) (.of main_v59 : TRef sig ⟨S64x72x1, .i32⟩) (broadcastInDim S64x72x1 ![0, 1] bcast_S64x72_S64x72x1_0_1) ]

abbrev host3_3 : List (HloOp τ sig (Elt F)) :=
  [ TRef.nullary (.of main_call20_c : TRef sig ⟨S_, .i32⟩) (constantI S_ 32 0#32),
    TRef.unary (.of main_call20_c : TRef sig ⟨S_, .i32⟩) (.of main_call20_v0 : TRef sig ⟨S64x72x1, .i32⟩) (broadcastInDim S64x72x1 ![] bcast_S_S64x72x1),
    TRef.binary (.of main_v59 : TRef sig ⟨S64x72x1, .i32⟩) (.of main_call20_v0 : TRef sig ⟨S64x72x1, .i32⟩) (.of main_call20_v1 : TRef sig ⟨S64x72x1, .i1⟩) (cmpi .slt),
    TRef.nullary (.of main_call20_c_0 : TRef sig ⟨S_, .i32⟩) (constantI S_ 32 288#32),
    TRef.unary (.of main_call20_c_0 : TRef sig ⟨S_, .i32⟩) (.of main_call20_v2 : TRef sig ⟨S64x72x1, .i32⟩) (broadcastInDim S64x72x1 ![] bcast_S_S64x72x1),
    TRef.binary (.of main_v59 : TRef sig ⟨S64x72x1, .i32⟩) (.of main_call20_v2 : TRef sig ⟨S64x72x1, .i32⟩) (.of main_call20_v3 : TRef sig ⟨S64x72x1, .i32⟩) addi,
    TRef.ternary (.of main_call20_v1 : TRef sig ⟨S64x72x1, .i1⟩) (.of main_call20_v3 : TRef sig ⟨S64x72x1, .i32⟩) (.of main_v59 : TRef sig ⟨S64x72x1, .i32⟩) (.of main_call20_v4 : TRef sig ⟨S64x72x1, .i32⟩) select,
    TRef.nullary (.of main_call20_c_1 : TRef sig ⟨S1, .i32⟩) (constantI S1 32 287#32),
    TRef.nullary (.of main_call20_c_2 : TRef sig ⟨S_, .i32⟩) (constantI S_ 32 0#32),
    TRef.unary (.of main_call20_c_2 : TRef sig ⟨S_, .i32⟩) (.of main_call20_v5 : TRef sig ⟨S64x72x1, .i32⟩) (broadcastInDim S64x72x1 ![] bcast_S_S64x72x1),
    TRef.binary (.of main_call20_v4 : TRef sig ⟨S64x72x1, .i32⟩) (.of main_call20_v5 : TRef sig ⟨S64x72x1, .i32⟩) (.of main_call20_v6 : TRef sig ⟨S64x72x1, .i1⟩) (cmpi .sge),
    TRef.unary (.of main_call20_c_1 : TRef sig ⟨S1, .i32⟩) (.of main_call20_v7 : TRef sig ⟨S1x1x1, .i32⟩) (broadcastInDim S1x1x1 ![2] bcast_S1_S1x1x1_2),
    TRef.unary (.of main_call20_v7 : TRef sig ⟨S1x1x1, .i32⟩) (.of main_call20_v8 : TRef sig ⟨S64x72x1, .i32⟩) (broadcastInDim S64x72x1 ![0, 1, 2] bcast_S1x1x1_S64x72x1_0_1_2),
    TRef.binary (.of main_call20_v4 : TRef sig ⟨S64x72x1, .i32⟩) (.of main_call20_v8 : TRef sig ⟨S64x72x1, .i32⟩) (.of main_call20_v9 : TRef sig ⟨S64x72x1, .i1⟩) (cmpi .sle),
    TRef.binary (.of main_call20_v6 : TRef sig ⟨S64x72x1, .i1⟩) (.of main_call20_v9 : TRef sig ⟨S64x72x1, .i1⟩) (.of main_call20_v10 : TRef sig ⟨S64x72x1, .i1⟩) andi,
    TRef.nullary (.of main_call20_c_3 : TRef sig ⟨S_, .i1⟩) (constantI S_ 1 1#1),
    TRef.binary (.of main_call20_v10 : TRef sig ⟨S64x72x1, .i1⟩) (.of main_call20_c_3 : TRef sig ⟨S_, .i1⟩) (.of main_call20_v11 : TRef sig ⟨S64x72, .i1⟩) (fun x v => Host.reduce IntOp.andi x v reducesTo_S64x72x1_S64x72_d2 h_S_),
    TRef.binary (.of main_v46 : TRef sig ⟨S64x288x768, .f32⟩) (.of main_call20_v4 : TRef sig ⟨S64x72x1, .i32⟩) (.of main_call20_v12 : TRef sig ⟨S64x72x768, .f32⟩) (fun x i => Host.gather gather_S64x288x768_S64x72x1_S64x72x768_2_1_0_0_1_2_11768 x i),
    TRef.unary (.of main_call20_v11 : TRef sig ⟨S64x72, .i1⟩) (.of main_call20_v13 : TRef sig ⟨S64x72x768, .i1⟩) (broadcastInDim S64x72x768 ![0, 1] bcast_S64x72_S64x72x768_0_1),
    TRef.nullary (.of main_call20_cst : TRef sig ⟨S_, .f32⟩) (constant S_ .f32 0x7FC00000#32),
    TRef.unary (.of main_call20_cst : TRef sig ⟨S_, .f32⟩) (.of main_call20_v14 : TRef sig ⟨S64x72x768, .f32⟩) (broadcastInDim S64x72x768 ![] bcast_S_S64x72x768),
    TRef.ternary (.of main_call20_v13 : TRef sig ⟨S64x72x768, .i1⟩) (.of main_call20_v12 : TRef sig ⟨S64x72x768, .f32⟩) (.of main_call20_v14 : TRef sig ⟨S64x72x768, .f32⟩) (.of main_v60 : TRef sig ⟨S64x72x768, .f32⟩) select ]

abbrev host3_4 : List (HloOp τ sig (Elt F)) :=
  [ TRef.binary (.of main_v42 : TRef sig ⟨S64x288, .i32⟩) (.of main_v58 : TRef sig ⟨S64x72, .i32⟩) (.of main_v61 : TRef sig ⟨S64x360, .i32⟩) (fun a b => concatenate S64x360 1 [⟨S64x288, a⟩, ⟨S64x72, b⟩] concatenates_S64x288_S64x72_S64x360_d1),
    TRef.binary (.of main_v43 : TRef sig ⟨S64x288x768, .f32⟩) (.of main_v60 : TRef sig ⟨S64x72x768, .f32⟩) (.of main_v62 : TRef sig ⟨S64x360x768, .f32⟩) (fun a b => concatenate S64x360x768 1 [⟨S64x288x768, a⟩, ⟨S64x72x768, b⟩] concatenates_S64x288x768_S64x72x768_S64x360x768_d1) ]

abbrev host3_5 : List (HloOp τ sig (Elt F)) :=
  [ TRef.nullary (.of main_call21_c : TRef sig ⟨S_, .i32⟩) (constantI S_ 32 0#32),
    TRef.unary (.of main_call21_c : TRef sig ⟨S_, .i32⟩) (.of main_call21_v0 : TRef sig ⟨S64x216, .i32⟩) (broadcastInDim S64x216 ![] bcast_S_S64x216),
    TRef.binary (.of main_v57 : TRef sig ⟨S64x216, .i32⟩) (.of main_call21_v0 : TRef sig ⟨S64x216, .i32⟩) (.of main_call21_v1 : TRef sig ⟨S64x216, .i1⟩) (cmpi .slt),
    TRef.nullary (.of main_call21_c_0 : TRef sig ⟨S_, .i32⟩) (constantI S_ 32 288#32),
    TRef.unary (.of main_call21_c_0 : TRef sig ⟨S_, .i32⟩) (.of main_call21_v2 : TRef sig ⟨S64x216, .i32⟩) (broadcastInDim S64x216 ![] bcast_S_S64x216),
    TRef.binary (.of main_v57 : TRef sig ⟨S64x216, .i32⟩) (.of main_call21_v2 : TRef sig ⟨S64x216, .i32⟩) (.of main_call21_v3 : TRef sig ⟨S64x216, .i32⟩) addi,
    TRef.ternary (.of main_call21_v1 : TRef sig ⟨S64x216, .i1⟩) (.of main_call21_v3 : TRef sig ⟨S64x216, .i32⟩) (.of main_v57 : TRef sig ⟨S64x216, .i32⟩) (.of main_call21_v4 : TRef sig ⟨S64x216, .i32⟩) select,
    TRef.reshape (.of main_call21_v4 : TRef sig ⟨S64x216, .i32⟩) (.of main_call21_v5 : TRef sig ⟨S64x216x1, .i32⟩) (rfl : (.i32 : EltTy) = .i32) shapeCasts_S64x216_S64x216x1,
    TRef.nullary (.of main_call21_c_1 : TRef sig ⟨S1, .i32⟩) (constantI S1 32 287#32),
    TRef.nullary (.of main_call21_c_2 : TRef sig ⟨S_, .i32⟩) (constantI S_ 32 0#32),
    TRef.unary (.of main_call21_c_2 : TRef sig ⟨S_, .i32⟩) (.of main_call21_v6 : TRef sig ⟨S64x216x1, .i32⟩) (broadcastInDim S64x216x1 ![] bcast_S_S64x216x1),
    TRef.binary (.of main_call21_v5 : TRef sig ⟨S64x216x1, .i32⟩) (.of main_call21_v6 : TRef sig ⟨S64x216x1, .i32⟩) (.of main_call21_v7 : TRef sig ⟨S64x216x1, .i1⟩) (cmpi .sge),
    TRef.unary (.of main_call21_c_1 : TRef sig ⟨S1, .i32⟩) (.of main_call21_v8 : TRef sig ⟨S1x1x1, .i32⟩) (broadcastInDim S1x1x1 ![2] bcast_S1_S1x1x1_2),
    TRef.unary (.of main_call21_v8 : TRef sig ⟨S1x1x1, .i32⟩) (.of main_call21_v9 : TRef sig ⟨S64x216x1, .i32⟩) (broadcastInDim S64x216x1 ![0, 1, 2] bcast_S1x1x1_S64x216x1_0_1_2),
    TRef.binary (.of main_call21_v5 : TRef sig ⟨S64x216x1, .i32⟩) (.of main_call21_v9 : TRef sig ⟨S64x216x1, .i32⟩) (.of main_call21_v10 : TRef sig ⟨S64x216x1, .i1⟩) (cmpi .sle),
    TRef.binary (.of main_call21_v7 : TRef sig ⟨S64x216x1, .i1⟩) (.of main_call21_v10 : TRef sig ⟨S64x216x1, .i1⟩) (.of main_call21_v11 : TRef sig ⟨S64x216x1, .i1⟩) andi,
    TRef.nullary (.of main_call21_c_3 : TRef sig ⟨S_, .i1⟩) (constantI S_ 1 1#1),
    TRef.binary (.of main_call21_v11 : TRef sig ⟨S64x216x1, .i1⟩) (.of main_call21_c_3 : TRef sig ⟨S_, .i1⟩) (.of main_call21_v12 : TRef sig ⟨S64x216, .i1⟩) (fun x v => Host.reduce IntOp.andi x v reducesTo_S64x216x1_S64x216_d2 h_S_),
    TRef.binary (.of main_v44 : TRef sig ⟨S64x288, .i32⟩) (.of main_call21_v5 : TRef sig ⟨S64x216x1, .i32⟩) (.of main_call21_v13 : TRef sig ⟨S64x216, .i32⟩) (fun x i => Host.gather gather_S64x288_S64x216x1_S64x216_n_1_0_0_1_2_11 x i),
    TRef.nullary (.of main_call21_c_4 : TRef sig ⟨S_, .i32⟩) (constantI S_ 32 2147483648#32),
    TRef.unary (.of main_call21_c_4 : TRef sig ⟨S_, .i32⟩) (.of main_call21_v14 : TRef sig ⟨S64x216, .i32⟩) (broadcastInDim S64x216 ![] bcast_S_S64x216),
    TRef.ternary (.of main_call21_v12 : TRef sig ⟨S64x216, .i1⟩) (.of main_call21_v13 : TRef sig ⟨S64x216, .i32⟩) (.of main_call21_v14 : TRef sig ⟨S64x216, .i32⟩) (.of main_v63 : TRef sig ⟨S64x216, .i32⟩) select ]

abbrev host3_6 : List (HloOp τ sig (Elt F)) :=
  [ TRef.unary (.of main_v57 : TRef sig ⟨S64x216, .i32⟩) (.of main_v64 : TRef sig ⟨S64x216x1, .i32⟩) (broadcastInDim S64x216x1 ![0, 1] bcast_S64x216_S64x216x1_0_1) ]

abbrev host3_7 : List (HloOp τ sig (Elt F)) :=
  [ TRef.nullary (.of main_call22_c : TRef sig ⟨S_, .i32⟩) (constantI S_ 32 0#32),
    TRef.unary (.of main_call22_c : TRef sig ⟨S_, .i32⟩) (.of main_call22_v0 : TRef sig ⟨S64x216x1, .i32⟩) (broadcastInDim S64x216x1 ![] bcast_S_S64x216x1),
    TRef.binary (.of main_v64 : TRef sig ⟨S64x216x1, .i32⟩) (.of main_call22_v0 : TRef sig ⟨S64x216x1, .i32⟩) (.of main_call22_v1 : TRef sig ⟨S64x216x1, .i1⟩) (cmpi .slt),
    TRef.nullary (.of main_call22_c_0 : TRef sig ⟨S_, .i32⟩) (constantI S_ 32 288#32),
    TRef.unary (.of main_call22_c_0 : TRef sig ⟨S_, .i32⟩) (.of main_call22_v2 : TRef sig ⟨S64x216x1, .i32⟩) (broadcastInDim S64x216x1 ![] bcast_S_S64x216x1),
    TRef.binary (.of main_v64 : TRef sig ⟨S64x216x1, .i32⟩) (.of main_call22_v2 : TRef sig ⟨S64x216x1, .i32⟩) (.of main_call22_v3 : TRef sig ⟨S64x216x1, .i32⟩) addi,
    TRef.ternary (.of main_call22_v1 : TRef sig ⟨S64x216x1, .i1⟩) (.of main_call22_v3 : TRef sig ⟨S64x216x1, .i32⟩) (.of main_v64 : TRef sig ⟨S64x216x1, .i32⟩) (.of main_call22_v4 : TRef sig ⟨S64x216x1, .i32⟩) select,
    TRef.nullary (.of main_call22_c_1 : TRef sig ⟨S1, .i32⟩) (constantI S1 32 287#32),
    TRef.nullary (.of main_call22_c_2 : TRef sig ⟨S_, .i32⟩) (constantI S_ 32 0#32),
    TRef.unary (.of main_call22_c_2 : TRef sig ⟨S_, .i32⟩) (.of main_call22_v5 : TRef sig ⟨S64x216x1, .i32⟩) (broadcastInDim S64x216x1 ![] bcast_S_S64x216x1),
    TRef.binary (.of main_call22_v4 : TRef sig ⟨S64x216x1, .i32⟩) (.of main_call22_v5 : TRef sig ⟨S64x216x1, .i32⟩) (.of main_call22_v6 : TRef sig ⟨S64x216x1, .i1⟩) (cmpi .sge),
    TRef.unary (.of main_call22_c_1 : TRef sig ⟨S1, .i32⟩) (.of main_call22_v7 : TRef sig ⟨S1x1x1, .i32⟩) (broadcastInDim S1x1x1 ![2] bcast_S1_S1x1x1_2),
    TRef.unary (.of main_call22_v7 : TRef sig ⟨S1x1x1, .i32⟩) (.of main_call22_v8 : TRef sig ⟨S64x216x1, .i32⟩) (broadcastInDim S64x216x1 ![0, 1, 2] bcast_S1x1x1_S64x216x1_0_1_2),
    TRef.binary (.of main_call22_v4 : TRef sig ⟨S64x216x1, .i32⟩) (.of main_call22_v8 : TRef sig ⟨S64x216x1, .i32⟩) (.of main_call22_v9 : TRef sig ⟨S64x216x1, .i1⟩) (cmpi .sle),
    TRef.binary (.of main_call22_v6 : TRef sig ⟨S64x216x1, .i1⟩) (.of main_call22_v9 : TRef sig ⟨S64x216x1, .i1⟩) (.of main_call22_v10 : TRef sig ⟨S64x216x1, .i1⟩) andi,
    TRef.nullary (.of main_call22_c_3 : TRef sig ⟨S_, .i1⟩) (constantI S_ 1 1#1),
    TRef.binary (.of main_call22_v10 : TRef sig ⟨S64x216x1, .i1⟩) (.of main_call22_c_3 : TRef sig ⟨S_, .i1⟩) (.of main_call22_v11 : TRef sig ⟨S64x216, .i1⟩) (fun x v => Host.reduce IntOp.andi x v reducesTo_S64x216x1_S64x216_d2 h_S_),
    TRef.binary (.of main_v46 : TRef sig ⟨S64x288x768, .f32⟩) (.of main_call22_v4 : TRef sig ⟨S64x216x1, .i32⟩) (.of main_call22_v12 : TRef sig ⟨S64x216x768, .f32⟩) (fun x i => Host.gather gather_S64x288x768_S64x216x1_S64x216x768_2_1_0_0_1_2_11768 x i),
    TRef.unary (.of main_call22_v11 : TRef sig ⟨S64x216, .i1⟩) (.of main_call22_v13 : TRef sig ⟨S64x216x768, .i1⟩) (broadcastInDim S64x216x768 ![0, 1] bcast_S64x216_S64x216x768_0_1),
    TRef.nullary (.of main_call22_cst : TRef sig ⟨S_, .f32⟩) (constant S_ .f32 0x7FC00000#32),
    TRef.unary (.of main_call22_cst : TRef sig ⟨S_, .f32⟩) (.of main_call22_v14 : TRef sig ⟨S64x216x768, .f32⟩) (broadcastInDim S64x216x768 ![] bcast_S_S64x216x768),
    TRef.ternary (.of main_call22_v13 : TRef sig ⟨S64x216x768, .i1⟩) (.of main_call22_v12 : TRef sig ⟨S64x216x768, .f32⟩) (.of main_call22_v14 : TRef sig ⟨S64x216x768, .f32⟩) (.of main_v65 : TRef sig ⟨S64x216x768, .f32⟩) select ]

abbrev host3_8 : List (HloOp τ sig (Elt F)) :=
  [ TRef.binary (.of main_v62 : TRef sig ⟨S64x360x768, .f32⟩) (.of main_v62 : TRef sig ⟨S64x360x768, .f32⟩) (.of main_call23_v0 : TRef sig ⟨S64x360x768, .f32⟩) mulf,
    TRef.nullary (.of main_call23_cst : TRef sig ⟨S_, .f32⟩) (constant S_ .f32 0x00000000#32),
    TRef.binary (.of main_call23_v0 : TRef sig ⟨S64x360x768, .f32⟩) (.of main_call23_cst : TRef sig ⟨S_, .f32⟩) (.of main_call23_v1 : TRef sig ⟨S64x360, .f32⟩) (fun x v => Host.reduceAdd x v reducesTo_S64x360x768_S64x360_d2 h_S_),
    TRef.unary (.of main_call23_v1 : TRef sig ⟨S64x360, .f32⟩) (.of main_call23_v2 : TRef sig ⟨S64x360x1, .f32⟩) (broadcastInDim S64x360x1 ![0, 1] bcast_S64x360_S64x360x1_0_1),
    TRef.unary (.of main_call23_v2 : TRef sig ⟨S64x360x1, .f32⟩) (.of main_v66 : TRef sig ⟨S64x360x1, .f32⟩) Host.sqrt ]

abbrev host3_9 : List (HloOp τ sig (Elt F)) :=
  [ TRef.unary (.of main_v66 : TRef sig ⟨S64x360x1, .f32⟩) (.of main_v67 : TRef sig ⟨S64x360x768, .f32⟩) (broadcastInDim S64x360x768 ![0, 1, 2] bcast_S64x360x1_S64x360x768_0_1_2),
    TRef.binary (.of main_v62 : TRef sig ⟨S64x360x768, .f32⟩) (.of main_v67 : TRef sig ⟨S64x360x768, .f32⟩) (.of main_v68 : TRef sig ⟨S64x360x768, .f32⟩) (Host.divf) ]

abbrev host3_10 : List (HloOp τ sig (Elt F)) :=
  [ TRef.binary (.of main_v65 : TRef sig ⟨S64x216x768, .f32⟩) (.of main_v65 : TRef sig ⟨S64x216x768, .f32⟩) (.of main_call24_v0 : TRef sig ⟨S64x216x768, .f32⟩) mulf,
    TRef.nullary (.of main_call24_cst : TRef sig ⟨S_, .f32⟩) (constant S_ .f32 0x00000000#32),
    TRef.binary (.of main_call24_v0 : TRef sig ⟨S64x216x768, .f32⟩) (.of main_call24_cst : TRef sig ⟨S_, .f32⟩) (.of main_call24_v1 : TRef sig ⟨S64x216, .f32⟩) (fun x v => Host.reduceAdd x v reducesTo_S64x216x768_S64x216_d2 h_S_),
    TRef.unary (.of main_call24_v1 : TRef sig ⟨S64x216, .f32⟩) (.of main_call24_v2 : TRef sig ⟨S64x216x1, .f32⟩) (broadcastInDim S64x216x1 ![0, 1] bcast_S64x216_S64x216x1_0_1),
    TRef.unary (.of main_call24_v2 : TRef sig ⟨S64x216x1, .f32⟩) (.of main_v69 : TRef sig ⟨S64x216x1, .f32⟩) Host.sqrt ]

abbrev host3_11 : List (HloOp τ sig (Elt F)) :=
  [ TRef.unary (.of main_v69 : TRef sig ⟨S64x216x1, .f32⟩) (.of main_v70 : TRef sig ⟨S64x216x768, .f32⟩) (broadcastInDim S64x216x768 ![0, 1, 2] bcast_S64x216x1_S64x216x768_0_1_2),
    TRef.binary (.of main_v65 : TRef sig ⟨S64x216x768, .f32⟩) (.of main_v70 : TRef sig ⟨S64x216x768, .f32⟩) (.of main_v71 : TRef sig ⟨S64x216x768, .f32⟩) (Host.divf),
    TRef.binary (.of main_v71 : TRef sig ⟨S64x216x768, .f32⟩) (.of main_v68 : TRef sig ⟨S64x360x768, .f32⟩) (.of main_v72 : TRef sig ⟨S64x216x360, .f32⟩) (fun l r => Host.dotGeneral dot_S64x216x768_S64x360x768_S64x216x360_2_2_1_1_0_0 none l r) ]

end Cert.RefSelect

end
-- ==== Proof.RefSelectB.lean ====
module

public import proofs.«01_k».proof.Proof.Gen.SelectRefIdeal
public import Idealize.ShloMosaic.Lib.StableHlo.Run

@[expose] public section

/-! The reference's operations from the input to the last cosines, in order, from the fourth stage on. -/

noncomputable section

namespace Cert.RefSelect

open Cert.SelectRefIdeal Cert.SelectRefIdeal.Gen Idealize.ShloMosaic Idealize.ShloMosaic.TcCoe Idealize.SL.Sem Idealize.ShloMosaic.StableHlo

variable {F : FTy → Type} [FloatOps F]

/-! Stage 4. -/

/-- The greatest cosine of each token not selected. -/
abbrev max4 : List (HloOp τ sig (Elt F)) :=
  [ nullary main_cst_3 (constant S_ .f32 0xFF800000#32),
    binary main_v72 main_cst_3 main_v73 ((fun x v => Host.reduce FloatOps.maximumf x v reducesTo_S64x216x360_S64x216_d2 h_S_) : (⟨S64x216x360, .f32⟩ : BufTy).Contents (Elt F) → (⟨S_, .f32⟩ : BufTy).Contents (Elt F) → (⟨S64x216, .f32⟩ : BufTy).Contents (Elt F)) ]

/-- The positions in the order of those. -/
abbrev sort4 : List (HloOp τ sig (Elt F)) :=
  [ TRef.nullary (.of main_call25_v0 : TRef sig ⟨S64x216, .i32⟩) (iotaInDim S64x216 32 1),
    TRef.binary (.of main_v73 : TRef sig ⟨S64x216, .f32⟩) (.of main_call25_v0 : TRef sig ⟨S64x216, .i32⟩) (.of main_call25_v1_0 : TRef sig ⟨S64x216, .f32⟩) (fun x y => (Host.sort2 S64x216 1 comparator_f32_i32_d1 x y).1),
    TRef.binary (.of main_v73 : TRef sig ⟨S64x216, .f32⟩) (.of main_call25_v0 : TRef sig ⟨S64x216, .i32⟩) (.of main_v74 : TRef sig ⟨S64x216, .i32⟩) (fun x y => (Host.sort2 S64x216 1 comparator_f32_i32_d1 x y).2) ]

abbrev host4_0 : List (HloOp τ sig (Elt F)) :=
  [ TRef.unary (.of main_v74 : TRef sig ⟨S64x216, .i32⟩) (.of main_v75 : TRef sig ⟨S64x72, .i32⟩) (extractStridedSlice S64x72 ![0, 0] · slices_S64x216_S64x72_0_0),
    TRef.unary (.of main_v74 : TRef sig ⟨S64x216, .i32⟩) (.of main_v76 : TRef sig ⟨S64x144, .i32⟩) (extractStridedSlice S64x144 ![0, 72] · slices_S64x216_S64x144_0_72) ]

abbrev host4_1 : List (HloOp τ sig (Elt F)) :=
  [ TRef.nullary (.of main_call26_c : TRef sig ⟨S_, .i32⟩) (constantI S_ 32 0#32),
    TRef.unary (.of main_call26_c : TRef sig ⟨S_, .i32⟩) (.of main_call26_v0 : TRef sig ⟨S64x72, .i32⟩) (broadcastInDim S64x72 ![] bcast_S_S64x72),
    TRef.binary (.of main_v75 : TRef sig ⟨S64x72, .i32⟩) (.of main_call26_v0 : TRef sig ⟨S64x72, .i32⟩) (.of main_call26_v1 : TRef sig ⟨S64x72, .i1⟩) (cmpi .slt),
    TRef.nullary (.of main_call26_c_0 : TRef sig ⟨S_, .i32⟩) (constantI S_ 32 216#32),
    TRef.unary (.of main_call26_c_0 : TRef sig ⟨S_, .i32⟩) (.of main_call26_v2 : TRef sig ⟨S64x72, .i32⟩) (broadcastInDim S64x72 ![] bcast_S_S64x72),
    TRef.binary (.of main_v75 : TRef sig ⟨S64x72, .i32⟩) (.of main_call26_v2 : TRef sig ⟨S64x72, .i32⟩) (.of main_call26_v3 : TRef sig ⟨S64x72, .i32⟩) addi,
    TRef.ternary (.of main_call26_v1 : TRef sig ⟨S64x72, .i1⟩) (.of main_call26_v3 : TRef sig ⟨S64x72, .i32⟩) (.of main_v75 : TRef sig ⟨S64x72, .i32⟩) (.of main_call26_v4 : TRef sig ⟨S64x72, .i32⟩) select,
    TRef.reshape (.of main_call26_v4 : TRef sig ⟨S64x72, .i32⟩) (.of main_call26_v5 : TRef sig ⟨S64x72x1, .i32⟩) (rfl : (.i32 : EltTy) = .i32) shapeCasts_S64x72_S64x72x1,
    TRef.nullary (.of main_call26_c_1 : TRef sig ⟨S1, .i32⟩) (constantI S1 32 215#32),
    TRef.nullary (.of main_call26_c_2 : TRef sig ⟨S_, .i32⟩) (constantI S_ 32 0#32),
    TRef.unary (.of main_call26_c_2 : TRef sig ⟨S_, .i32⟩) (.of main_call26_v6 : TRef sig ⟨S64x72x1, .i32⟩) (broadcastInDim S64x72x1 ![] bcast_S_S64x72x1),
    TRef.binary (.of main_call26_v5 : TRef sig ⟨S64x72x1, .i32⟩) (.of main_call26_v6 : TRef sig ⟨S64x72x1, .i32⟩) (.of main_call26_v7 : TRef sig ⟨S64x72x1, .i1⟩) (cmpi .sge),
    TRef.unary (.of main_call26_c_1 : TRef sig ⟨S1, .i32⟩) (.of main_call26_v8 : TRef sig ⟨S1x1x1, .i32⟩) (broadcastInDim S1x1x1 ![2] bcast_S1_S1x1x1_2),
    TRef.unary (.of main_call26_v8 : TRef sig ⟨S1x1x1, .i32⟩) (.of main_call26_v9 : TRef sig ⟨S64x72x1, .i32⟩) (broadcastInDim S64x72x1 ![0, 1, 2] bcast_S1x1x1_S64x72x1_0_1_2),
    TRef.binary (.of main_call26_v5 : TRef sig ⟨S64x72x1, .i32⟩) (.of main_call26_v9 : TRef sig ⟨S64x72x1, .i32⟩) (.of main_call26_v10 : TRef sig ⟨S64x72x1, .i1⟩) (cmpi .sle),
    TRef.binary (.of main_call26_v7 : TRef sig ⟨S64x72x1, .i1⟩) (.of main_call26_v10 : TRef sig ⟨S64x72x1, .i1⟩) (.of main_call26_v11 : TRef sig ⟨S64x72x1, .i1⟩) andi,
    TRef.nullary (.of main_call26_c_3 : TRef sig ⟨S_, .i1⟩) (constantI S_ 1 1#1),
    TRef.binary (.of main_call26_v11 : TRef sig ⟨S64x72x1, .i1⟩) (.of main_call26_c_3 : TRef sig ⟨S_, .i1⟩) (.of main_call26_v12 : TRef sig ⟨S64x72, .i1⟩) (fun x v => Host.reduce IntOp.andi x v reducesTo_S64x72x1_S64x72_d2 h_S_),
    TRef.binary (.of main_v63 : TRef sig ⟨S64x216, .i32⟩) (.of main_call26_v5 : TRef sig ⟨S64x72x1, .i32⟩) (.of main_call26_v13 : TRef sig ⟨S64x72, .i32⟩) (fun x i => Host.gather gather_S64x216_S64x72x1_S64x72_n_1_0_0_1_2_11 x i),
    TRef.nullary (.of main_call26_c_4 : TRef sig ⟨S_, .i32⟩) (constantI S_ 32 2147483648#32),
    TRef.unary (.of main_call26_c_4 : TRef sig ⟨S_, .i32⟩) (.of main_call26_v14 : TRef sig ⟨S64x72, .i32⟩) (broadcastInDim S64x72 ![] bcast_S_S64x72),
    TRef.ternary (.of main_call26_v12 : TRef sig ⟨S64x72, .i1⟩) (.of main_call26_v13 : TRef sig ⟨S64x72, .i32⟩) (.of main_call26_v14 : TRef sig ⟨S64x72, .i32⟩) (.of main_v77 : TRef sig ⟨S64x72, .i32⟩) select ]

abbrev host4_2 : List (HloOp τ sig (Elt F)) :=
  [ TRef.unary (.of main_v75 : TRef sig ⟨S64x72, .i32⟩) (.of main_v78 : TRef sig ⟨S64x72x1, .i32⟩) (broadcastInDim S64x72x1 ![0, 1] bcast_S64x72_S64x72x1_0_1) ]

abbrev host4_3 : List (HloOp τ sig (Elt F)) :=
  [ TRef.nullary (.of main_call27_c : TRef sig ⟨S_, .i32⟩) (constantI S_ 32 0#32),
    TRef.unary (.of main_call27_c : TRef sig ⟨S_, .i32⟩) (.of main_call27_v0 : TRef sig ⟨S64x72x1, .i32⟩) (broadcastInDim S64x72x1 ![] bcast_S_S64x72x1),
    TRef.binary (.of main_v78 : TRef sig ⟨S64x72x1, .i32⟩) (.of main_call27_v0 : TRef sig ⟨S64x72x1, .i32⟩) (.of main_call27_v1 : TRef sig ⟨S64x72x1, .i1⟩) (cmpi .slt),
    TRef.nullary (.of main_call27_c_0 : TRef sig ⟨S_, .i32⟩) (constantI S_ 32 216#32),
    TRef.unary (.of main_call27_c_0 : TRef sig ⟨S_, .i32⟩) (.of main_call27_v2 : TRef sig ⟨S64x72x1, .i32⟩) (broadcastInDim S64x72x1 ![] bcast_S_S64x72x1),
    TRef.binary (.of main_v78 : TRef sig ⟨S64x72x1, .i32⟩) (.of main_call27_v2 : TRef sig ⟨S64x72x1, .i32⟩) (.of main_call27_v3 : TRef sig ⟨S64x72x1, .i32⟩) addi,
    TRef.ternary (.of main_call27_v1 : TRef sig ⟨S64x72x1, .i1⟩) (.of main_call27_v3 : TRef sig ⟨S64x72x1, .i32⟩) (.of main_v78 : TRef sig ⟨S64x72x1, .i32⟩) (.of main_call27_v4 : TRef sig ⟨S64x72x1, .i32⟩) select,
    TRef.nullary (.of main_call27_c_1 : TRef sig ⟨S1, .i32⟩) (constantI S1 32 215#32),
    TRef.nullary (.of main_call27_c_2 : TRef sig ⟨S_, .i32⟩) (constantI S_ 32 0#32),
    TRef.unary (.of main_call27_c_2 : TRef sig ⟨S_, .i32⟩) (.of main_call27_v5 : TRef sig ⟨S64x72x1, .i32⟩) (broadcastInDim S64x72x1 ![] bcast_S_S64x72x1),
    TRef.binary (.of main_call27_v4 : TRef sig ⟨S64x72x1, .i32⟩) (.of main_call27_v5 : TRef sig ⟨S64x72x1, .i32⟩) (.of main_call27_v6 : TRef sig ⟨S64x72x1, .i1⟩) (cmpi .sge),
    TRef.unary (.of main_call27_c_1 : TRef sig ⟨S1, .i32⟩) (.of main_call27_v7 : TRef sig ⟨S1x1x1, .i32⟩) (broadcastInDim S1x1x1 ![2] bcast_S1_S1x1x1_2),
    TRef.unary (.of main_call27_v7 : TRef sig ⟨S1x1x1, .i32⟩) (.of main_call27_v8 : TRef sig ⟨S64x72x1, .i32⟩) (broadcastInDim S64x72x1 ![0, 1, 2] bcast_S1x1x1_S64x72x1_0_1_2),
    TRef.binary (.of main_call27_v4 : TRef sig ⟨S64x72x1, .i32⟩) (.of main_call27_v8 : TRef sig ⟨S64x72x1, .i32⟩) (.of main_call27_v9 : TRef sig ⟨S64x72x1, .i1⟩) (cmpi .sle),
    TRef.binary (.of main_call27_v6 : TRef sig ⟨S64x72x1, .i1⟩) (.of main_call27_v9 : TRef sig ⟨S64x72x1, .i1⟩) (.of main_call27_v10 : TRef sig ⟨S64x72x1, .i1⟩) andi,
    TRef.nullary (.of main_call27_c_3 : TRef sig ⟨S_, .i1⟩) (constantI S_ 1 1#1),
    TRef.binary (.of main_call27_v10 : TRef sig ⟨S64x72x1, .i1⟩) (.of main_call27_c_3 : TRef sig ⟨S_, .i1⟩) (.of main_call27_v11 : TRef sig ⟨S64x72, .i1⟩) (fun x v => Host.reduce IntOp.andi x v reducesTo_S64x72x1_S64x72_d2 h_S_),
    TRef.binary (.of main_v65 : TRef sig ⟨S64x216x768, .f32⟩) (.of main_call27_v4 : TRef sig ⟨S64x72x1, .i32⟩) (.of main_call27_v12 : TRef sig ⟨S64x72x768, .f32⟩) (fun x i => Host.gather gather_S64x216x768_S64x72x1_S64x72x768_2_1_0_0_1_2_11768 x i),
    TRef.unary (.of main_call27_v11 : TRef sig ⟨S64x72, .i1⟩) (.of main_call27_v13 : TRef sig ⟨S64x72x768, .i1⟩) (broadcastInDim S64x72x768 ![0, 1] bcast_S64x72_S64x72x768_0_1),
    TRef.nullary (.of main_call27_cst : TRef sig ⟨S_, .f32⟩) (constant S_ .f32 0x7FC00000#32),
    TRef.unary (.of main_call27_cst : TRef sig ⟨S_, .f32⟩) (.of main_call27_v14 : TRef sig ⟨S64x72x768, .f32⟩) (broadcastInDim S64x72x768 ![] bcast_S_S64x72x768),
    TRef.ternary (.of main_call27_v13 : TRef sig ⟨S64x72x768, .i1⟩) (.of main_call27_v12 : TRef sig ⟨S64x72x768, .f32⟩) (.of main_call27_v14 : TRef sig ⟨S64x72x768, .f32⟩) (.of main_v79 : TRef sig ⟨S64x72x768, .f32⟩) select ]

abbrev host4_4 : List (HloOp τ sig (Elt F)) :=
  [ TRef.binary (.of main_v61 : TRef sig ⟨S64x360, .i32⟩) (.of main_v77 : TRef sig ⟨S64x72, .i32⟩) (.of main_v80 : TRef sig ⟨S64x432, .i32⟩) (fun a b => concatenate S64x432 1 [⟨S64x360, a⟩, ⟨S64x72, b⟩] concatenates_S64x360_S64x72_S64x432_d1),
    TRef.binary (.of main_v62 : TRef sig ⟨S64x360x768, .f32⟩) (.of main_v79 : TRef sig ⟨S64x72x768, .f32⟩) (.of main_v81 : TRef sig ⟨S64x432x768, .f32⟩) (fun a b => concatenate S64x432x768 1 [⟨S64x360x768, a⟩, ⟨S64x72x768, b⟩] concatenates_S64x360x768_S64x72x768_S64x432x768_d1) ]

abbrev host4_5 : List (HloOp τ sig (Elt F)) :=
  [ TRef.nullary (.of main_call28_c : TRef sig ⟨S_, .i32⟩) (constantI S_ 32 0#32),
    TRef.unary (.of main_call28_c : TRef sig ⟨S_, .i32⟩) (.of main_call28_v0 : TRef sig ⟨S64x144, .i32⟩) (broadcastInDim S64x144 ![] bcast_S_S64x144),
    TRef.binary (.of main_v76 : TRef sig ⟨S64x144, .i32⟩) (.of main_call28_v0 : TRef sig ⟨S64x144, .i32⟩) (.of main_call28_v1 : TRef sig ⟨S64x144, .i1⟩) (cmpi .slt),
    TRef.nullary (.of main_call28_c_0 : TRef sig ⟨S_, .i32⟩) (constantI S_ 32 216#32),
    TRef.unary (.of main_call28_c_0 : TRef sig ⟨S_, .i32⟩) (.of main_call28_v2 : TRef sig ⟨S64x144, .i32⟩) (broadcastInDim S64x144 ![] bcast_S_S64x144),
    TRef.binary (.of main_v76 : TRef sig ⟨S64x144, .i32⟩) (.of main_call28_v2 : TRef sig ⟨S64x144, .i32⟩) (.of main_call28_v3 : TRef sig ⟨S64x144, .i32⟩) addi,
    TRef.ternary (.of main_call28_v1 : TRef sig ⟨S64x144, .i1⟩) (.of main_call28_v3 : TRef sig ⟨S64x144, .i32⟩) (.of main_v76 : TRef sig ⟨S64x144, .i32⟩) (.of main_call28_v4 : TRef sig ⟨S64x144, .i32⟩) select,
    TRef.reshape (.of main_call28_v4 : TRef sig ⟨S64x144, .i32⟩) (.of main_call28_v5 : TRef sig ⟨S64x144x1, .i32⟩) (rfl : (.i32 : EltTy) = .i32) shapeCasts_S64x144_S64x144x1,
    TRef.nullary (.of main_call28_c_1 : TRef sig ⟨S1, .i32⟩) (constantI S1 32 215#32),
    TRef.nullary (.of main_call28_c_2 : TRef sig ⟨S_, .i32⟩) (constantI S_ 32 0#32),
    TRef.unary (.of main_call28_c_2 : TRef sig ⟨S_, .i32⟩) (.of main_call28_v6 : TRef sig ⟨S64x144x1, .i32⟩) (broadcastInDim S64x144x1 ![] bcast_S_S64x144x1),
    TRef.binary (.of main_call28_v5 : TRef sig ⟨S64x144x1, .i32⟩) (.of main_call28_v6 : TRef sig ⟨S64x144x1, .i32⟩) (.of main_call28_v7 : TRef sig ⟨S64x144x1, .i1⟩) (cmpi .sge),
    TRef.unary (.of main_call28_c_1 : TRef sig ⟨S1, .i32⟩) (.of main_call28_v8 : TRef sig ⟨S1x1x1, .i32⟩) (broadcastInDim S1x1x1 ![2] bcast_S1_S1x1x1_2),
    TRef.unary (.of main_call28_v8 : TRef sig ⟨S1x1x1, .i32⟩) (.of main_call28_v9 : TRef sig ⟨S64x144x1, .i32⟩) (broadcastInDim S64x144x1 ![0, 1, 2] bcast_S1x1x1_S64x144x1_0_1_2),
    TRef.binary (.of main_call28_v5 : TRef sig ⟨S64x144x1, .i32⟩) (.of main_call28_v9 : TRef sig ⟨S64x144x1, .i32⟩) (.of main_call28_v10 : TRef sig ⟨S64x144x1, .i1⟩) (cmpi .sle),
    TRef.binary (.of main_call28_v7 : TRef sig ⟨S64x144x1, .i1⟩) (.of main_call28_v10 : TRef sig ⟨S64x144x1, .i1⟩) (.of main_call28_v11 : TRef sig ⟨S64x144x1, .i1⟩) andi,
    TRef.nullary (.of main_call28_c_3 : TRef sig ⟨S_, .i1⟩) (constantI S_ 1 1#1),
    TRef.binary (.of main_call28_v11 : TRef sig ⟨S64x144x1, .i1⟩) (.of main_call28_c_3 : TRef sig ⟨S_, .i1⟩) (.of main_call28_v12 : TRef sig ⟨S64x144, .i1⟩) (fun x v => Host.reduce IntOp.andi x v reducesTo_S64x144x1_S64x144_d2 h_S_),
    TRef.binary (.of main_v63 : TRef sig ⟨S64x216, .i32⟩) (.of main_call28_v5 : TRef sig ⟨S64x144x1, .i32⟩) (.of main_call28_v13 : TRef sig ⟨S64x144, .i32⟩) (fun x i => Host.gather gather_S64x216_S64x144x1_S64x144_n_1_0_0_1_2_11 x i),
    TRef.nullary (.of main_call28_c_4 : TRef sig ⟨S_, .i32⟩) (constantI S_ 32 2147483648#32),
    TRef.unary (.of main_call28_c_4 : TRef sig ⟨S_, .i32⟩) (.of main_call28_v14 : TRef sig ⟨S64x144, .i32⟩) (broadcastInDim S64x144 ![] bcast_S_S64x144),
    TRef.ternary (.of main_call28_v12 : TRef sig ⟨S64x144, .i1⟩) (.of main_call28_v13 : TRef sig ⟨S64x144, .i32⟩) (.of main_call28_v14 : TRef sig ⟨S64x144, .i32⟩) (.of main_v82 : TRef sig ⟨S64x144, .i32⟩) select ]

abbrev host4_6 : List (HloOp τ sig (Elt F)) :=
  [ TRef.unary (.of main_v76 : TRef sig ⟨S64x144, .i32⟩) (.of main_v83 : TRef sig ⟨S64x144x1, .i32⟩) (broadcastInDim S64x144x1 ![0, 1] bcast_S64x144_S64x144x1_0_1) ]

abbrev host4_7 : List (HloOp τ sig (Elt F)) :=
  [ TRef.nullary (.of main_call29_c : TRef sig ⟨S_, .i32⟩) (constantI S_ 32 0#32),
    TRef.unary (.of main_call29_c : TRef sig ⟨S_, .i32⟩) (.of main_call29_v0 : TRef sig ⟨S64x144x1, .i32⟩) (broadcastInDim S64x144x1 ![] bcast_S_S64x144x1),
    TRef.binary (.of main_v83 : TRef sig ⟨S64x144x1, .i32⟩) (.of main_call29_v0 : TRef sig ⟨S64x144x1, .i32⟩) (.of main_call29_v1 : TRef sig ⟨S64x144x1, .i1⟩) (cmpi .slt),
    TRef.nullary (.of main_call29_c_0 : TRef sig ⟨S_, .i32⟩) (constantI S_ 32 216#32),
    TRef.unary (.of main_call29_c_0 : TRef sig ⟨S_, .i32⟩) (.of main_call29_v2 : TRef sig ⟨S64x144x1, .i32⟩) (broadcastInDim S64x144x1 ![] bcast_S_S64x144x1),
    TRef.binary (.of main_v83 : TRef sig ⟨S64x144x1, .i32⟩) (.of main_call29_v2 : TRef sig ⟨S64x144x1, .i32⟩) (.of main_call29_v3 : TRef sig ⟨S64x144x1, .i32⟩) addi,
    TRef.ternary (.of main_call29_v1 : TRef sig ⟨S64x144x1, .i1⟩) (.of main_call29_v3 : TRef sig ⟨S64x144x1, .i32⟩) (.of main_v83 : TRef sig ⟨S64x144x1, .i32⟩) (.of main_call29_v4 : TRef sig ⟨S64x144x1, .i32⟩) select,
    TRef.nullary (.of main_call29_c_1 : TRef sig ⟨S1, .i32⟩) (constantI S1 32 215#32),
    TRef.nullary (.of main_call29_c_2 : TRef sig ⟨S_, .i32⟩) (constantI S_ 32 0#32),
    TRef.unary (.of main_call29_c_2 : TRef sig ⟨S_, .i32⟩) (.of main_call29_v5 : TRef sig ⟨S64x144x1, .i32⟩) (broadcastInDim S64x144x1 ![] bcast_S_S64x144x1),
    TRef.binary (.of main_call29_v4 : TRef sig ⟨S64x144x1, .i32⟩) (.of main_call29_v5 : TRef sig ⟨S64x144x1, .i32⟩) (.of main_call29_v6 : TRef sig ⟨S64x144x1, .i1⟩) (cmpi .sge),
    TRef.unary (.of main_call29_c_1 : TRef sig ⟨S1, .i32⟩) (.of main_call29_v7 : TRef sig ⟨S1x1x1, .i32⟩) (broadcastInDim S1x1x1 ![2] bcast_S1_S1x1x1_2),
    TRef.unary (.of main_call29_v7 : TRef sig ⟨S1x1x1, .i32⟩) (.of main_call29_v8 : TRef sig ⟨S64x144x1, .i32⟩) (broadcastInDim S64x144x1 ![0, 1, 2] bcast_S1x1x1_S64x144x1_0_1_2),
    TRef.binary (.of main_call29_v4 : TRef sig ⟨S64x144x1, .i32⟩) (.of main_call29_v8 : TRef sig ⟨S64x144x1, .i32⟩) (.of main_call29_v9 : TRef sig ⟨S64x144x1, .i1⟩) (cmpi .sle),
    TRef.binary (.of main_call29_v6 : TRef sig ⟨S64x144x1, .i1⟩) (.of main_call29_v9 : TRef sig ⟨S64x144x1, .i1⟩) (.of main_call29_v10 : TRef sig ⟨S64x144x1, .i1⟩) andi,
    TRef.nullary (.of main_call29_c_3 : TRef sig ⟨S_, .i1⟩) (constantI S_ 1 1#1),
    TRef.binary (.of main_call29_v10 : TRef sig ⟨S64x144x1, .i1⟩) (.of main_call29_c_3 : TRef sig ⟨S_, .i1⟩) (.of main_call29_v11 : TRef sig ⟨S64x144, .i1⟩) (fun x v => Host.reduce IntOp.andi x v reducesTo_S64x144x1_S64x144_d2 h_S_),
    TRef.binary (.of main_v65 : TRef sig ⟨S64x216x768, .f32⟩) (.of main_call29_v4 : TRef sig ⟨S64x144x1, .i32⟩) (.of main_call29_v12 : TRef sig ⟨S64x144x768, .f32⟩) (fun x i => Host.gather gather_S64x216x768_S64x144x1_S64x144x768_2_1_0_0_1_2_11768 x i),
    TRef.unary (.of main_call29_v11 : TRef sig ⟨S64x144, .i1⟩) (.of main_call29_v13 : TRef sig ⟨S64x144x768, .i1⟩) (broadcastInDim S64x144x768 ![0, 1] bcast_S64x144_S64x144x768_0_1),
    TRef.nullary (.of main_call29_cst : TRef sig ⟨S_, .f32⟩) (constant S_ .f32 0x7FC00000#32),
    TRef.unary (.of main_call29_cst : TRef sig ⟨S_, .f32⟩) (.of main_call29_v14 : TRef sig ⟨S64x144x768, .f32⟩) (broadcastInDim S64x144x768 ![] bcast_S_S64x144x768),
    TRef.ternary (.of main_call29_v13 : TRef sig ⟨S64x144x768, .i1⟩) (.of main_call29_v12 : TRef sig ⟨S64x144x768, .f32⟩) (.of main_call29_v14 : TRef sig ⟨S64x144x768, .f32⟩) (.of main_v84 : TRef sig ⟨S64x144x768, .f32⟩) select ]

abbrev host4_8 : List (HloOp τ sig (Elt F)) :=
  [ TRef.binary (.of main_v81 : TRef sig ⟨S64x432x768, .f32⟩) (.of main_v81 : TRef sig ⟨S64x432x768, .f32⟩) (.of main_call30_v0 : TRef sig ⟨S64x432x768, .f32⟩) mulf,
    TRef.nullary (.of main_call30_cst : TRef sig ⟨S_, .f32⟩) (constant S_ .f32 0x00000000#32),
    TRef.binary (.of main_call30_v0 : TRef sig ⟨S64x432x768, .f32⟩) (.of main_call30_cst : TRef sig ⟨S_, .f32⟩) (.of main_call30_v1 : TRef sig ⟨S64x432, .f32⟩) (fun x v => Host.reduceAdd x v reducesTo_S64x432x768_S64x432_d2 h_S_),
    TRef.unary (.of main_call30_v1 : TRef sig ⟨S64x432, .f32⟩) (.of main_call30_v2 : TRef sig ⟨S64x432x1, .f32⟩) (broadcastInDim S64x432x1 ![0, 1] bcast_S64x432_S64x432x1_0_1),
    TRef.unary (.of main_call30_v2 : TRef sig ⟨S64x432x1, .f32⟩) (.of main_v85 : TRef sig ⟨S64x432x1, .f32⟩) Host.sqrt ]

abbrev host4_9 : List (HloOp τ sig (Elt F)) :=
  [ TRef.unary (.of main_v85 : TRef sig ⟨S64x432x1, .f32⟩) (.of main_v86 : TRef sig ⟨S64x432x768, .f32⟩) (broadcastInDim S64x432x768 ![0, 1, 2] bcast_S64x432x1_S64x432x768_0_1_2),
    TRef.binary (.of main_v81 : TRef sig ⟨S64x432x768, .f32⟩) (.of main_v86 : TRef sig ⟨S64x432x768, .f32⟩) (.of main_v87 : TRef sig ⟨S64x432x768, .f32⟩) (Host.divf) ]

abbrev host4_10 : List (HloOp τ sig (Elt F)) :=
  [ TRef.binary (.of main_v84 : TRef sig ⟨S64x144x768, .f32⟩) (.of main_v84 : TRef sig ⟨S64x144x768, .f32⟩) (.of main_call31_v0 : TRef sig ⟨S64x144x768, .f32⟩) mulf,
    TRef.nullary (.of main_call31_cst : TRef sig ⟨S_, .f32⟩) (constant S_ .f32 0x00000000#32),
    TRef.binary (.of main_call31_v0 : TRef sig ⟨S64x144x768, .f32⟩) (.of main_call31_cst : TRef sig ⟨S_, .f32⟩) (.of main_call31_v1 : TRef sig ⟨S64x144, .f32⟩) (fun x v => Host.reduceAdd x v reducesTo_S64x144x768_S64x144_d2 h_S_),
    TRef.unary (.of main_call31_v1 : TRef sig ⟨S64x144, .f32⟩) (.of main_call31_v2 : TRef sig ⟨S64x144x1, .f32⟩) (broadcastInDim S64x144x1 ![0, 1] bcast_S64x144_S64x144x1_0_1),
    TRef.unary (.of main_call31_v2 : TRef sig ⟨S64x144x1, .f32⟩) (.of main_v88 : TRef sig ⟨S64x144x1, .f32⟩) Host.sqrt ]

abbrev host4_11 : List (HloOp τ sig (Elt F)) :=
  [ TRef.unary (.of main_v88 : TRef sig ⟨S64x144x1, .f32⟩) (.of main_v89 : TRef sig ⟨S64x144x768, .f32⟩) (broadcastInDim S64x144x768 ![0, 1, 2] bcast_S64x144x1_S64x144x768_0_1_2),
    TRef.binary (.of main_v84 : TRef sig ⟨S64x144x768, .f32⟩) (.of main_v89 : TRef sig ⟨S64x144x768, .f32⟩) (.of main_v90 : TRef sig ⟨S64x144x768, .f32⟩) (Host.divf),
    TRef.binary (.of main_v90 : TRef sig ⟨S64x144x768, .f32⟩) (.of main_v87 : TRef sig ⟨S64x432x768, .f32⟩) (.of main_v91 : TRef sig ⟨S64x144x432, .f32⟩) (fun l r => Host.dotGeneral dot_S64x144x768_S64x432x768_S64x144x432_2_2_1_1_0_0 none l r) ]

/-! Stage 5. -/

/-- The greatest cosine of each token not selected. -/
abbrev max5 : List (HloOp τ sig (Elt F)) :=
  [ nullary main_cst_4 (constant S_ .f32 0xFF800000#32),
    binary main_v91 main_cst_4 main_v92 ((fun x v => Host.reduce FloatOps.maximumf x v reducesTo_S64x144x432_S64x144_d2 h_S_) : (⟨S64x144x432, .f32⟩ : BufTy).Contents (Elt F) → (⟨S_, .f32⟩ : BufTy).Contents (Elt F) → (⟨S64x144, .f32⟩ : BufTy).Contents (Elt F)) ]

/-- The positions in the order of those. -/
abbrev sort5 : List (HloOp τ sig (Elt F)) :=
  [ TRef.nullary (.of main_call32_v0 : TRef sig ⟨S64x144, .i32⟩) (iotaInDim S64x144 32 1),
    TRef.binary (.of main_v92 : TRef sig ⟨S64x144, .f32⟩) (.of main_call32_v0 : TRef sig ⟨S64x144, .i32⟩) (.of main_call32_v1_0 : TRef sig ⟨S64x144, .f32⟩) (fun x y => (Host.sort2 S64x144 1 comparator_f32_i32_d1 x y).1),
    TRef.binary (.of main_v92 : TRef sig ⟨S64x144, .f32⟩) (.of main_call32_v0 : TRef sig ⟨S64x144, .i32⟩) (.of main_v93 : TRef sig ⟨S64x144, .i32⟩) (fun x y => (Host.sort2 S64x144 1 comparator_f32_i32_d1 x y).2) ]

abbrev host5_0 : List (HloOp τ sig (Elt F)) :=
  [ TRef.unary (.of main_v93 : TRef sig ⟨S64x144, .i32⟩) (.of main_v94 : TRef sig ⟨S64x43, .i32⟩) (extractStridedSlice S64x43 ![0, 0] · slices_S64x144_S64x43_0_0),
    TRef.unary (.of main_v93 : TRef sig ⟨S64x144, .i32⟩) (.of main_v95 : TRef sig ⟨S64x101, .i32⟩) (extractStridedSlice S64x101 ![0, 43] · slices_S64x144_S64x101_0_43) ]

abbrev host5_1 : List (HloOp τ sig (Elt F)) :=
  [ TRef.nullary (.of main_call33_c : TRef sig ⟨S_, .i32⟩) (constantI S_ 32 0#32),
    TRef.unary (.of main_call33_c : TRef sig ⟨S_, .i32⟩) (.of main_call33_v0 : TRef sig ⟨S64x43, .i32⟩) (broadcastInDim S64x43 ![] bcast_S_S64x43),
    TRef.binary (.of main_v94 : TRef sig ⟨S64x43, .i32⟩) (.of main_call33_v0 : TRef sig ⟨S64x43, .i32⟩) (.of main_call33_v1 : TRef sig ⟨S64x43, .i1⟩) (cmpi .slt),
    TRef.nullary (.of main_call33_c_0 : TRef sig ⟨S_, .i32⟩) (constantI S_ 32 144#32),
    TRef.unary (.of main_call33_c_0 : TRef sig ⟨S_, .i32⟩) (.of main_call33_v2 : TRef sig ⟨S64x43, .i32⟩) (broadcastInDim S64x43 ![] bcast_S_S64x43),
    TRef.binary (.of main_v94 : TRef sig ⟨S64x43, .i32⟩) (.of main_call33_v2 : TRef sig ⟨S64x43, .i32⟩) (.of main_call33_v3 : TRef sig ⟨S64x43, .i32⟩) addi,
    TRef.ternary (.of main_call33_v1 : TRef sig ⟨S64x43, .i1⟩) (.of main_call33_v3 : TRef sig ⟨S64x43, .i32⟩) (.of main_v94 : TRef sig ⟨S64x43, .i32⟩) (.of main_call33_v4 : TRef sig ⟨S64x43, .i32⟩) select,
    TRef.reshape (.of main_call33_v4 : TRef sig ⟨S64x43, .i32⟩) (.of main_call33_v5 : TRef sig ⟨S64x43x1, .i32⟩) (rfl : (.i32 : EltTy) = .i32) shapeCasts_S64x43_S64x43x1,
    TRef.nullary (.of main_call33_c_1 : TRef sig ⟨S1, .i32⟩) (constantI S1 32 143#32),
    TRef.nullary (.of main_call33_c_2 : TRef sig ⟨S_, .i32⟩) (constantI S_ 32 0#32),
    TRef.unary (.of main_call33_c_2 : TRef sig ⟨S_, .i32⟩) (.of main_call33_v6 : TRef sig ⟨S64x43x1, .i32⟩) (broadcastInDim S64x43x1 ![] bcast_S_S64x43x1),
    TRef.binary (.of main_call33_v5 : TRef sig ⟨S64x43x1, .i32⟩) (.of main_call33_v6 : TRef sig ⟨S64x43x1, .i32⟩) (.of main_call33_v7 : TRef sig ⟨S64x43x1, .i1⟩) (cmpi .sge),
    TRef.unary (.of main_call33_c_1 : TRef sig ⟨S1, .i32⟩) (.of main_call33_v8 : TRef sig ⟨S1x1x1, .i32⟩) (broadcastInDim S1x1x1 ![2] bcast_S1_S1x1x1_2),
    TRef.unary (.of main_call33_v8 : TRef sig ⟨S1x1x1, .i32⟩) (.of main_call33_v9 : TRef sig ⟨S64x43x1, .i32⟩) (broadcastInDim S64x43x1 ![0, 1, 2] bcast_S1x1x1_S64x43x1_0_1_2),
    TRef.binary (.of main_call33_v5 : TRef sig ⟨S64x43x1, .i32⟩) (.of main_call33_v9 : TRef sig ⟨S64x43x1, .i32⟩) (.of main_call33_v10 : TRef sig ⟨S64x43x1, .i1⟩) (cmpi .sle),
    TRef.binary (.of main_call33_v7 : TRef sig ⟨S64x43x1, .i1⟩) (.of main_call33_v10 : TRef sig ⟨S64x43x1, .i1⟩) (.of main_call33_v11 : TRef sig ⟨S64x43x1, .i1⟩) andi,
    TRef.nullary (.of main_call33_c_3 : TRef sig ⟨S_, .i1⟩) (constantI S_ 1 1#1),
    TRef.binary (.of main_call33_v11 : TRef sig ⟨S64x43x1, .i1⟩) (.of main_call33_c_3 : TRef sig ⟨S_, .i1⟩) (.of main_call33_v12 : TRef sig ⟨S64x43, .i1⟩) (fun x v => Host.reduce IntOp.andi x v reducesTo_S64x43x1_S64x43_d2 h_S_),
    TRef.binary (.of main_v82 : TRef sig ⟨S64x144, .i32⟩) (.of main_call33_v5 : TRef sig ⟨S64x43x1, .i32⟩) (.of main_call33_v13 : TRef sig ⟨S64x43, .i32⟩) (fun x i => Host.gather gather_S64x144_S64x43x1_S64x43_n_1_0_0_1_2_11 x i),
    TRef.nullary (.of main_call33_c_4 : TRef sig ⟨S_, .i32⟩) (constantI S_ 32 2147483648#32),
    TRef.unary (.of main_call33_c_4 : TRef sig ⟨S_, .i32⟩) (.of main_call33_v14 : TRef sig ⟨S64x43, .i32⟩) (broadcastInDim S64x43 ![] bcast_S_S64x43),
    TRef.ternary (.of main_call33_v12 : TRef sig ⟨S64x43, .i1⟩) (.of main_call33_v13 : TRef sig ⟨S64x43, .i32⟩) (.of main_call33_v14 : TRef sig ⟨S64x43, .i32⟩) (.of main_v96 : TRef sig ⟨S64x43, .i32⟩) select ]

abbrev host5_2 : List (HloOp τ sig (Elt F)) :=
  [ TRef.unary (.of main_v94 : TRef sig ⟨S64x43, .i32⟩) (.of main_v97 : TRef sig ⟨S64x43x1, .i32⟩) (broadcastInDim S64x43x1 ![0, 1] bcast_S64x43_S64x43x1_0_1) ]

abbrev host5_3 : List (HloOp τ sig (Elt F)) :=
  [ TRef.nullary (.of main_call34_c : TRef sig ⟨S_, .i32⟩) (constantI S_ 32 0#32),
    TRef.unary (.of main_call34_c : TRef sig ⟨S_, .i32⟩) (.of main_call34_v0 : TRef sig ⟨S64x43x1, .i32⟩) (broadcastInDim S64x43x1 ![] bcast_S_S64x43x1),
    TRef.binary (.of main_v97 : TRef sig ⟨S64x43x1, .i32⟩) (.of main_call34_v0 : TRef sig ⟨S64x43x1, .i32⟩) (.of main_call34_v1 : TRef sig ⟨S64x43x1, .i1⟩) (cmpi .slt),
    TRef.nullary (.of main_call34_c_0 : TRef sig ⟨S_, .i32⟩) (constantI S_ 32 144#32),
    TRef.unary (.of main_call34_c_0 : TRef sig ⟨S_, .i32⟩) (.of main_call34_v2 : TRef sig ⟨S64x43x1, .i32⟩) (broadcastInDim S64x43x1 ![] bcast_S_S64x43x1),
    TRef.binary (.of main_v97 : TRef sig ⟨S64x43x1, .i32⟩) (.of main_call34_v2 : TRef sig ⟨S64x43x1, .i32⟩) (.of main_call34_v3 : TRef sig ⟨S64x43x1, .i32⟩) addi,
    TRef.ternary (.of main_call34_v1 : TRef sig ⟨S64x43x1, .i1⟩) (.of main_call34_v3 : TRef sig ⟨S64x43x1, .i32⟩) (.of main_v97 : TRef sig ⟨S64x43x1, .i32⟩) (.of main_call34_v4 : TRef sig ⟨S64x43x1, .i32⟩) select,
    TRef.nullary (.of main_call34_c_1 : TRef sig ⟨S1, .i32⟩) (constantI S1 32 143#32),
    TRef.nullary (.of main_call34_c_2 : TRef sig ⟨S_, .i32⟩) (constantI S_ 32 0#32),
    TRef.unary (.of main_call34_c_2 : TRef sig ⟨S_, .i32⟩) (.of main_call34_v5 : TRef sig ⟨S64x43x1, .i32⟩) (broadcastInDim S64x43x1 ![] bcast_S_S64x43x1),
    TRef.binary (.of main_call34_v4 : TRef sig ⟨S64x43x1, .i32⟩) (.of main_call34_v5 : TRef sig ⟨S64x43x1, .i32⟩) (.of main_call34_v6 : TRef sig ⟨S64x43x1, .i1⟩) (cmpi .sge),
    TRef.unary (.of main_call34_c_1 : TRef sig ⟨S1, .i32⟩) (.of main_call34_v7 : TRef sig ⟨S1x1x1, .i32⟩) (broadcastInDim S1x1x1 ![2] bcast_S1_S1x1x1_2),
    TRef.unary (.of main_call34_v7 : TRef sig ⟨S1x1x1, .i32⟩) (.of main_call34_v8 : TRef sig ⟨S64x43x1, .i32⟩) (broadcastInDim S64x43x1 ![0, 1, 2] bcast_S1x1x1_S64x43x1_0_1_2),
    TRef.binary (.of main_call34_v4 : TRef sig ⟨S64x43x1, .i32⟩) (.of main_call34_v8 : TRef sig ⟨S64x43x1, .i32⟩) (.of main_call34_v9 : TRef sig ⟨S64x43x1, .i1⟩) (cmpi .sle),
    TRef.binary (.of main_call34_v6 : TRef sig ⟨S64x43x1, .i1⟩) (.of main_call34_v9 : TRef sig ⟨S64x43x1, .i1⟩) (.of main_call34_v10 : TRef sig ⟨S64x43x1, .i1⟩) andi,
    TRef.nullary (.of main_call34_c_3 : TRef sig ⟨S_, .i1⟩) (constantI S_ 1 1#1),
    TRef.binary (.of main_call34_v10 : TRef sig ⟨S64x43x1, .i1⟩) (.of main_call34_c_3 : TRef sig ⟨S_, .i1⟩) (.of main_call34_v11 : TRef sig ⟨S64x43, .i1⟩) (fun x v => Host.reduce IntOp.andi x v reducesTo_S64x43x1_S64x43_d2 h_S_),
    TRef.binary (.of main_v84 : TRef sig ⟨S64x144x768, .f32⟩) (.of main_call34_v4 : TRef sig ⟨S64x43x1, .i32⟩) (.of main_call34_v12 : TRef sig ⟨S64x43x768, .f32⟩) (fun x i => Host.gather gather_S64x144x768_S64x43x1_S64x43x768_2_1_0_0_1_2_11768 x i),
    TRef.unary (.of main_call34_v11 : TRef sig ⟨S64x43, .i1⟩) (.of main_call34_v13 : TRef sig ⟨S64x43x768, .i1⟩) (broadcastInDim S64x43x768 ![0, 1] bcast_S64x43_S64x43x768_0_1),
    TRef.nullary (.of main_call34_cst : TRef sig ⟨S_, .f32⟩) (constant S_ .f32 0x7FC00000#32),
    TRef.unary (.of main_call34_cst : TRef sig ⟨S_, .f32⟩) (.of main_call34_v14 : TRef sig ⟨S64x43x768, .f32⟩) (broadcastInDim S64x43x768 ![] bcast_S_S64x43x768),
    TRef.ternary (.of main_call34_v13 : TRef sig ⟨S64x43x768, .i1⟩) (.of main_call34_v12 : TRef sig ⟨S64x43x768, .f32⟩) (.of main_call34_v14 : TRef sig ⟨S64x43x768, .f32⟩) (.of main_v98 : TRef sig ⟨S64x43x768, .f32⟩) select ]

abbrev host5_4 : List (HloOp τ sig (Elt F)) :=
  [ TRef.binary (.of main_v80 : TRef sig ⟨S64x432, .i32⟩) (.of main_v96 : TRef sig ⟨S64x43, .i32⟩) (.of main_v99 : TRef sig ⟨S64x475, .i32⟩) (fun a b => concatenate S64x475 1 [⟨S64x432, a⟩, ⟨S64x43, b⟩] concatenates_S64x432_S64x43_S64x475_d1),
    TRef.binary (.of main_v81 : TRef sig ⟨S64x432x768, .f32⟩) (.of main_v98 : TRef sig ⟨S64x43x768, .f32⟩) (.of main_v100 : TRef sig ⟨S64x475x768, .f32⟩) (fun a b => concatenate S64x475x768 1 [⟨S64x432x768, a⟩, ⟨S64x43x768, b⟩] concatenates_S64x432x768_S64x43x768_S64x475x768_d1) ]

abbrev host5_5 : List (HloOp τ sig (Elt F)) :=
  [ TRef.nullary (.of main_call35_c : TRef sig ⟨S_, .i32⟩) (constantI S_ 32 0#32),
    TRef.unary (.of main_call35_c : TRef sig ⟨S_, .i32⟩) (.of main_call35_v0 : TRef sig ⟨S64x101, .i32⟩) (broadcastInDim S64x101 ![] bcast_S_S64x101),
    TRef.binary (.of main_v95 : TRef sig ⟨S64x101, .i32⟩) (.of main_call35_v0 : TRef sig ⟨S64x101, .i32⟩) (.of main_call35_v1 : TRef sig ⟨S64x101, .i1⟩) (cmpi .slt),
    TRef.nullary (.of main_call35_c_0 : TRef sig ⟨S_, .i32⟩) (constantI S_ 32 144#32),
    TRef.unary (.of main_call35_c_0 : TRef sig ⟨S_, .i32⟩) (.of main_call35_v2 : TRef sig ⟨S64x101, .i32⟩) (broadcastInDim S64x101 ![] bcast_S_S64x101),
    TRef.binary (.of main_v95 : TRef sig ⟨S64x101, .i32⟩) (.of main_call35_v2 : TRef sig ⟨S64x101, .i32⟩) (.of main_call35_v3 : TRef sig ⟨S64x101, .i32⟩) addi,
    TRef.ternary (.of main_call35_v1 : TRef sig ⟨S64x101, .i1⟩) (.of main_call35_v3 : TRef sig ⟨S64x101, .i32⟩) (.of main_v95 : TRef sig ⟨S64x101, .i32⟩) (.of main_call35_v4 : TRef sig ⟨S64x101, .i32⟩) select,
    TRef.reshape (.of main_call35_v4 : TRef sig ⟨S64x101, .i32⟩) (.of main_call35_v5 : TRef sig ⟨S64x101x1, .i32⟩) (rfl : (.i32 : EltTy) = .i32) shapeCasts_S64x101_S64x101x1,
    TRef.nullary (.of main_call35_c_1 : TRef sig ⟨S1, .i32⟩) (constantI S1 32 143#32),
    TRef.nullary (.of main_call35_c_2 : TRef sig ⟨S_, .i32⟩) (constantI S_ 32 0#32),
    TRef.unary (.of main_call35_c_2 : TRef sig ⟨S_, .i32⟩) (.of main_call35_v6 : TRef sig ⟨S64x101x1, .i32⟩) (broadcastInDim S64x101x1 ![] bcast_S_S64x101x1),
    TRef.binary (.of main_call35_v5 : TRef sig ⟨S64x101x1, .i32⟩) (.of main_call35_v6 : TRef sig ⟨S64x101x1, .i32⟩) (.of main_call35_v7 : TRef sig ⟨S64x101x1, .i1⟩) (cmpi .sge),
    TRef.unary (.of main_call35_c_1 : TRef sig ⟨S1, .i32⟩) (.of main_call35_v8 : TRef sig ⟨S1x1x1, .i32⟩) (broadcastInDim S1x1x1 ![2] bcast_S1_S1x1x1_2),
    TRef.unary (.of main_call35_v8 : TRef sig ⟨S1x1x1, .i32⟩) (.of main_call35_v9 : TRef sig ⟨S64x101x1, .i32⟩) (broadcastInDim S64x101x1 ![0, 1, 2] bcast_S1x1x1_S64x101x1_0_1_2),
    TRef.binary (.of main_call35_v5 : TRef sig ⟨S64x101x1, .i32⟩) (.of main_call35_v9 : TRef sig ⟨S64x101x1, .i32⟩) (.of main_call35_v10 : TRef sig ⟨S64x101x1, .i1⟩) (cmpi .sle),
    TRef.binary (.of main_call35_v7 : TRef sig ⟨S64x101x1, .i1⟩) (.of main_call35_v10 : TRef sig ⟨S64x101x1, .i1⟩) (.of main_call35_v11 : TRef sig ⟨S64x101x1, .i1⟩) andi,
    TRef.nullary (.of main_call35_c_3 : TRef sig ⟨S_, .i1⟩) (constantI S_ 1 1#1),
    TRef.binary (.of main_call35_v11 : TRef sig ⟨S64x101x1, .i1⟩) (.of main_call35_c_3 : TRef sig ⟨S_, .i1⟩) (.of main_call35_v12 : TRef sig ⟨S64x101, .i1⟩) (fun x v => Host.reduce IntOp.andi x v reducesTo_S64x101x1_S64x101_d2 h_S_),
    TRef.binary (.of main_v82 : TRef sig ⟨S64x144, .i32⟩) (.of main_call35_v5 : TRef sig ⟨S64x101x1, .i32⟩) (.of main_call35_v13 : TRef sig ⟨S64x101, .i32⟩) (fun x i => Host.gather gather_S64x144_S64x101x1_S64x101_n_1_0_0_1_2_11 x i),
    TRef.nullary (.of main_call35_c_4 : TRef sig ⟨S_, .i32⟩) (constantI S_ 32 2147483648#32),
    TRef.unary (.of main_call35_c_4 : TRef sig ⟨S_, .i32⟩) (.of main_call35_v14 : TRef sig ⟨S64x101, .i32⟩) (broadcastInDim S64x101 ![] bcast_S_S64x101),
    TRef.ternary (.of main_call35_v12 : TRef sig ⟨S64x101, .i1⟩) (.of main_call35_v13 : TRef sig ⟨S64x101, .i32⟩) (.of main_call35_v14 : TRef sig ⟨S64x101, .i32⟩) (.of main_v101 : TRef sig ⟨S64x101, .i32⟩) select ]

abbrev host5_6 : List (HloOp τ sig (Elt F)) :=
  [ TRef.unary (.of main_v95 : TRef sig ⟨S64x101, .i32⟩) (.of main_v102 : TRef sig ⟨S64x101x1, .i32⟩) (broadcastInDim S64x101x1 ![0, 1] bcast_S64x101_S64x101x1_0_1) ]

abbrev host5_7 : List (HloOp τ sig (Elt F)) :=
  [ TRef.nullary (.of main_call36_c : TRef sig ⟨S_, .i32⟩) (constantI S_ 32 0#32),
    TRef.unary (.of main_call36_c : TRef sig ⟨S_, .i32⟩) (.of main_call36_v0 : TRef sig ⟨S64x101x1, .i32⟩) (broadcastInDim S64x101x1 ![] bcast_S_S64x101x1),
    TRef.binary (.of main_v102 : TRef sig ⟨S64x101x1, .i32⟩) (.of main_call36_v0 : TRef sig ⟨S64x101x1, .i32⟩) (.of main_call36_v1 : TRef sig ⟨S64x101x1, .i1⟩) (cmpi .slt),
    TRef.nullary (.of main_call36_c_0 : TRef sig ⟨S_, .i32⟩) (constantI S_ 32 144#32),
    TRef.unary (.of main_call36_c_0 : TRef sig ⟨S_, .i32⟩) (.of main_call36_v2 : TRef sig ⟨S64x101x1, .i32⟩) (broadcastInDim S64x101x1 ![] bcast_S_S64x101x1),
    TRef.binary (.of main_v102 : TRef sig ⟨S64x101x1, .i32⟩) (.of main_call36_v2 : TRef sig ⟨S64x101x1, .i32⟩) (.of main_call36_v3 : TRef sig ⟨S64x101x1, .i32⟩) addi,
    TRef.ternary (.of main_call36_v1 : TRef sig ⟨S64x101x1, .i1⟩) (.of main_call36_v3 : TRef sig ⟨S64x101x1, .i32⟩) (.of main_v102 : TRef sig ⟨S64x101x1, .i32⟩) (.of main_call36_v4 : TRef sig ⟨S64x101x1, .i32⟩) select,
    TRef.nullary (.of main_call36_c_1 : TRef sig ⟨S1, .i32⟩) (constantI S1 32 143#32),
    TRef.nullary (.of main_call36_c_2 : TRef sig ⟨S_, .i32⟩) (constantI S_ 32 0#32),
    TRef.unary (.of main_call36_c_2 : TRef sig ⟨S_, .i32⟩) (.of main_call36_v5 : TRef sig ⟨S64x101x1, .i32⟩) (broadcastInDim S64x101x1 ![] bcast_S_S64x101x1),
    TRef.binary (.of main_call36_v4 : TRef sig ⟨S64x101x1, .i32⟩) (.of main_call36_v5 : TRef sig ⟨S64x101x1, .i32⟩) (.of main_call36_v6 : TRef sig ⟨S64x101x1, .i1⟩) (cmpi .sge),
    TRef.unary (.of main_call36_c_1 : TRef sig ⟨S1, .i32⟩) (.of main_call36_v7 : TRef sig ⟨S1x1x1, .i32⟩) (broadcastInDim S1x1x1 ![2] bcast_S1_S1x1x1_2),
    TRef.unary (.of main_call36_v7 : TRef sig ⟨S1x1x1, .i32⟩) (.of main_call36_v8 : TRef sig ⟨S64x101x1, .i32⟩) (broadcastInDim S64x101x1 ![0, 1, 2] bcast_S1x1x1_S64x101x1_0_1_2),
    TRef.binary (.of main_call36_v4 : TRef sig ⟨S64x101x1, .i32⟩) (.of main_call36_v8 : TRef sig ⟨S64x101x1, .i32⟩) (.of main_call36_v9 : TRef sig ⟨S64x101x1, .i1⟩) (cmpi .sle),
    TRef.binary (.of main_call36_v6 : TRef sig ⟨S64x101x1, .i1⟩) (.of main_call36_v9 : TRef sig ⟨S64x101x1, .i1⟩) (.of main_call36_v10 : TRef sig ⟨S64x101x1, .i1⟩) andi,
    TRef.nullary (.of main_call36_c_3 : TRef sig ⟨S_, .i1⟩) (constantI S_ 1 1#1),
    TRef.binary (.of main_call36_v10 : TRef sig ⟨S64x101x1, .i1⟩) (.of main_call36_c_3 : TRef sig ⟨S_, .i1⟩) (.of main_call36_v11 : TRef sig ⟨S64x101, .i1⟩) (fun x v => Host.reduce IntOp.andi x v reducesTo_S64x101x1_S64x101_d2 h_S_),
    TRef.binary (.of main_v84 : TRef sig ⟨S64x144x768, .f32⟩) (.of main_call36_v4 : TRef sig ⟨S64x101x1, .i32⟩) (.of main_call36_v12 : TRef sig ⟨S64x101x768, .f32⟩) (fun x i => Host.gather gather_S64x144x768_S64x101x1_S64x101x768_2_1_0_0_1_2_11768 x i),
    TRef.unary (.of main_call36_v11 : TRef sig ⟨S64x101, .i1⟩) (.of main_call36_v13 : TRef sig ⟨S64x101x768, .i1⟩) (broadcastInDim S64x101x768 ![0, 1] bcast_S64x101_S64x101x768_0_1),
    TRef.nullary (.of main_call36_cst : TRef sig ⟨S_, .f32⟩) (constant S_ .f32 0x7FC00000#32),
    TRef.unary (.of main_call36_cst : TRef sig ⟨S_, .f32⟩) (.of main_call36_v14 : TRef sig ⟨S64x101x768, .f32⟩) (broadcastInDim S64x101x768 ![] bcast_S_S64x101x768),
    TRef.ternary (.of main_call36_v13 : TRef sig ⟨S64x101x768, .i1⟩) (.of main_call36_v12 : TRef sig ⟨S64x101x768, .f32⟩) (.of main_call36_v14 : TRef sig ⟨S64x101x768, .f32⟩) (.of main_v103 : TRef sig ⟨S64x101x768, .f32⟩) select ]

abbrev host5_8 : List (HloOp τ sig (Elt F)) :=
  [ TRef.binary (.of main_v100 : TRef sig ⟨S64x475x768, .f32⟩) (.of main_v100 : TRef sig ⟨S64x475x768, .f32⟩) (.of main_call37_v0 : TRef sig ⟨S64x475x768, .f32⟩) mulf,
    TRef.nullary (.of main_call37_cst : TRef sig ⟨S_, .f32⟩) (constant S_ .f32 0x00000000#32),
    TRef.binary (.of main_call37_v0 : TRef sig ⟨S64x475x768, .f32⟩) (.of main_call37_cst : TRef sig ⟨S_, .f32⟩) (.of main_call37_v1 : TRef sig ⟨S64x475, .f32⟩) (fun x v => Host.reduceAdd x v reducesTo_S64x475x768_S64x475_d2 h_S_),
    TRef.unary (.of main_call37_v1 : TRef sig ⟨S64x475, .f32⟩) (.of main_call37_v2 : TRef sig ⟨S64x475x1, .f32⟩) (broadcastInDim S64x475x1 ![0, 1] bcast_S64x475_S64x475x1_0_1),
    TRef.unary (.of main_call37_v2 : TRef sig ⟨S64x475x1, .f32⟩) (.of main_v104 : TRef sig ⟨S64x475x1, .f32⟩) Host.sqrt ]

abbrev host5_9 : List (HloOp τ sig (Elt F)) :=
  [ TRef.unary (.of main_v104 : TRef sig ⟨S64x475x1, .f32⟩) (.of main_v105 : TRef sig ⟨S64x475x768, .f32⟩) (broadcastInDim S64x475x768 ![0, 1, 2] bcast_S64x475x1_S64x475x768_0_1_2),
    TRef.binary (.of main_v100 : TRef sig ⟨S64x475x768, .f32⟩) (.of main_v105 : TRef sig ⟨S64x475x768, .f32⟩) (.of main_v106 : TRef sig ⟨S64x475x768, .f32⟩) (Host.divf) ]

abbrev host5_10 : List (HloOp τ sig (Elt F)) :=
  [ TRef.binary (.of main_v103 : TRef sig ⟨S64x101x768, .f32⟩) (.of main_v103 : TRef sig ⟨S64x101x768, .f32⟩) (.of main_call38_v0 : TRef sig ⟨S64x101x768, .f32⟩) mulf,
    TRef.nullary (.of main_call38_cst : TRef sig ⟨S_, .f32⟩) (constant S_ .f32 0x00000000#32),
    TRef.binary (.of main_call38_v0 : TRef sig ⟨S64x101x768, .f32⟩) (.of main_call38_cst : TRef sig ⟨S_, .f32⟩) (.of main_call38_v1 : TRef sig ⟨S64x101, .f32⟩) (fun x v => Host.reduceAdd x v reducesTo_S64x101x768_S64x101_d2 h_S_),
    TRef.unary (.of main_call38_v1 : TRef sig ⟨S64x101, .f32⟩) (.of main_call38_v2 : TRef sig ⟨S64x101x1, .f32⟩) (broadcastInDim S64x101x1 ![0, 1] bcast_S64x101_S64x101x1_0_1),
    TRef.unary (.of main_call38_v2 : TRef sig ⟨S64x101x1, .f32⟩) (.of main_v107 : TRef sig ⟨S64x101x1, .f32⟩) Host.sqrt ]

abbrev host5_11 : List (HloOp τ sig (Elt F)) :=
  [ TRef.unary (.of main_v107 : TRef sig ⟨S64x101x1, .f32⟩) (.of main_v108 : TRef sig ⟨S64x101x768, .f32⟩) (broadcastInDim S64x101x768 ![0, 1, 2] bcast_S64x101x1_S64x101x768_0_1_2),
    TRef.binary (.of main_v103 : TRef sig ⟨S64x101x768, .f32⟩) (.of main_v108 : TRef sig ⟨S64x101x768, .f32⟩) (.of main_v109 : TRef sig ⟨S64x101x768, .f32⟩) (Host.divf),
    TRef.binary (.of main_v109 : TRef sig ⟨S64x101x768, .f32⟩) (.of main_v106 : TRef sig ⟨S64x475x768, .f32⟩) (.of main_v110 : TRef sig ⟨S64x101x475, .f32⟩) (fun l r => Host.dotGeneral dot_S64x101x768_S64x475x768_S64x101x475_2_2_1_1_0_0 none l r) ]

/-! Stage 6. -/

/-- The greatest cosine of each token not selected. -/
abbrev max6 : List (HloOp τ sig (Elt F)) :=
  [ nullary main_cst_5 (constant S_ .f32 0xFF800000#32),
    binary main_v110 main_cst_5 main_v111 ((fun x v => Host.reduce FloatOps.maximumf x v reducesTo_S64x101x475_S64x101_d2 h_S_) : (⟨S64x101x475, .f32⟩ : BufTy).Contents (Elt F) → (⟨S_, .f32⟩ : BufTy).Contents (Elt F) → (⟨S64x101, .f32⟩ : BufTy).Contents (Elt F)) ]

/-- The positions in the order of those. -/
abbrev sort6 : List (HloOp τ sig (Elt F)) :=
  [ TRef.nullary (.of main_call39_v0 : TRef sig ⟨S64x101, .i32⟩) (iotaInDim S64x101 32 1),
    TRef.binary (.of main_v111 : TRef sig ⟨S64x101, .f32⟩) (.of main_call39_v0 : TRef sig ⟨S64x101, .i32⟩) (.of main_call39_v1_0 : TRef sig ⟨S64x101, .f32⟩) (fun x y => (Host.sort2 S64x101 1 comparator_f32_i32_d1 x y).1),
    TRef.binary (.of main_v111 : TRef sig ⟨S64x101, .f32⟩) (.of main_call39_v0 : TRef sig ⟨S64x101, .i32⟩) (.of main_v112 : TRef sig ⟨S64x101, .i32⟩) (fun x y => (Host.sort2 S64x101 1 comparator_f32_i32_d1 x y).2) ]

abbrev host6_0 : List (HloOp τ sig (Elt F)) :=
  [ TRef.unary (.of main_v112 : TRef sig ⟨S64x101, .i32⟩) (.of main_v113 : TRef sig ⟨S64x43, .i32⟩) (extractStridedSlice S64x43 ![0, 0] · slices_S64x101_S64x43_0_0),
    TRef.unary (.of main_v112 : TRef sig ⟨S64x101, .i32⟩) (.of main_v114 : TRef sig ⟨S64x58, .i32⟩) (extractStridedSlice S64x58 ![0, 43] · slices_S64x101_S64x58_0_43) ]

abbrev host6_1 : List (HloOp τ sig (Elt F)) :=
  [ TRef.nullary (.of main_call40_c : TRef sig ⟨S_, .i32⟩) (constantI S_ 32 0#32),
    TRef.unary (.of main_call40_c : TRef sig ⟨S_, .i32⟩) (.of main_call40_v0 : TRef sig ⟨S64x43, .i32⟩) (broadcastInDim S64x43 ![] bcast_S_S64x43),
    TRef.binary (.of main_v113 : TRef sig ⟨S64x43, .i32⟩) (.of main_call40_v0 : TRef sig ⟨S64x43, .i32⟩) (.of main_call40_v1 : TRef sig ⟨S64x43, .i1⟩) (cmpi .slt),
    TRef.nullary (.of main_call40_c_0 : TRef sig ⟨S_, .i32⟩) (constantI S_ 32 101#32),
    TRef.unary (.of main_call40_c_0 : TRef sig ⟨S_, .i32⟩) (.of main_call40_v2 : TRef sig ⟨S64x43, .i32⟩) (broadcastInDim S64x43 ![] bcast_S_S64x43),
    TRef.binary (.of main_v113 : TRef sig ⟨S64x43, .i32⟩) (.of main_call40_v2 : TRef sig ⟨S64x43, .i32⟩) (.of main_call40_v3 : TRef sig ⟨S64x43, .i32⟩) addi,
    TRef.ternary (.of main_call40_v1 : TRef sig ⟨S64x43, .i1⟩) (.of main_call40_v3 : TRef sig ⟨S64x43, .i32⟩) (.of main_v113 : TRef sig ⟨S64x43, .i32⟩) (.of main_call40_v4 : TRef sig ⟨S64x43, .i32⟩) select,
    TRef.reshape (.of main_call40_v4 : TRef sig ⟨S64x43, .i32⟩) (.of main_call40_v5 : TRef sig ⟨S64x43x1, .i32⟩) (rfl : (.i32 : EltTy) = .i32) shapeCasts_S64x43_S64x43x1,
    TRef.nullary (.of main_call40_c_1 : TRef sig ⟨S1, .i32⟩) (constantI S1 32 100#32),
    TRef.nullary (.of main_call40_c_2 : TRef sig ⟨S_, .i32⟩) (constantI S_ 32 0#32),
    TRef.unary (.of main_call40_c_2 : TRef sig ⟨S_, .i32⟩) (.of main_call40_v6 : TRef sig ⟨S64x43x1, .i32⟩) (broadcastInDim S64x43x1 ![] bcast_S_S64x43x1),
    TRef.binary (.of main_call40_v5 : TRef sig ⟨S64x43x1, .i32⟩) (.of main_call40_v6 : TRef sig ⟨S64x43x1, .i32⟩) (.of main_call40_v7 : TRef sig ⟨S64x43x1, .i1⟩) (cmpi .sge),
    TRef.unary (.of main_call40_c_1 : TRef sig ⟨S1, .i32⟩) (.of main_call40_v8 : TRef sig ⟨S1x1x1, .i32⟩) (broadcastInDim S1x1x1 ![2] bcast_S1_S1x1x1_2),
    TRef.unary (.of main_call40_v8 : TRef sig ⟨S1x1x1, .i32⟩) (.of main_call40_v9 : TRef sig ⟨S64x43x1, .i32⟩) (broadcastInDim S64x43x1 ![0, 1, 2] bcast_S1x1x1_S64x43x1_0_1_2),
    TRef.binary (.of main_call40_v5 : TRef sig ⟨S64x43x1, .i32⟩) (.of main_call40_v9 : TRef sig ⟨S64x43x1, .i32⟩) (.of main_call40_v10 : TRef sig ⟨S64x43x1, .i1⟩) (cmpi .sle),
    TRef.binary (.of main_call40_v7 : TRef sig ⟨S64x43x1, .i1⟩) (.of main_call40_v10 : TRef sig ⟨S64x43x1, .i1⟩) (.of main_call40_v11 : TRef sig ⟨S64x43x1, .i1⟩) andi,
    TRef.nullary (.of main_call40_c_3 : TRef sig ⟨S_, .i1⟩) (constantI S_ 1 1#1),
    TRef.binary (.of main_call40_v11 : TRef sig ⟨S64x43x1, .i1⟩) (.of main_call40_c_3 : TRef sig ⟨S_, .i1⟩) (.of main_call40_v12 : TRef sig ⟨S64x43, .i1⟩) (fun x v => Host.reduce IntOp.andi x v reducesTo_S64x43x1_S64x43_d2 h_S_),
    TRef.binary (.of main_v101 : TRef sig ⟨S64x101, .i32⟩) (.of main_call40_v5 : TRef sig ⟨S64x43x1, .i32⟩) (.of main_call40_v13 : TRef sig ⟨S64x43, .i32⟩) (fun x i => Host.gather gather_S64x101_S64x43x1_S64x43_n_1_0_0_1_2_11 x i),
    TRef.nullary (.of main_call40_c_4 : TRef sig ⟨S_, .i32⟩) (constantI S_ 32 2147483648#32),
    TRef.unary (.of main_call40_c_4 : TRef sig ⟨S_, .i32⟩) (.of main_call40_v14 : TRef sig ⟨S64x43, .i32⟩) (broadcastInDim S64x43 ![] bcast_S_S64x43),
    TRef.ternary (.of main_call40_v12 : TRef sig ⟨S64x43, .i1⟩) (.of main_call40_v13 : TRef sig ⟨S64x43, .i32⟩) (.of main_call40_v14 : TRef sig ⟨S64x43, .i32⟩) (.of main_v115 : TRef sig ⟨S64x43, .i32⟩) select ]

abbrev host6_2 : List (HloOp τ sig (Elt F)) :=
  [ TRef.unary (.of main_v113 : TRef sig ⟨S64x43, .i32⟩) (.of main_v116 : TRef sig ⟨S64x43x1, .i32⟩) (broadcastInDim S64x43x1 ![0, 1] bcast_S64x43_S64x43x1_0_1) ]

abbrev host6_3 : List (HloOp τ sig (Elt F)) :=
  [ TRef.nullary (.of main_call41_c : TRef sig ⟨S_, .i32⟩) (constantI S_ 32 0#32),
    TRef.unary (.of main_call41_c : TRef sig ⟨S_, .i32⟩) (.of main_call41_v0 : TRef sig ⟨S64x43x1, .i32⟩) (broadcastInDim S64x43x1 ![] bcast_S_S64x43x1),
    TRef.binary (.of main_v116 : TRef sig ⟨S64x43x1, .i32⟩) (.of main_call41_v0 : TRef sig ⟨S64x43x1, .i32⟩) (.of main_call41_v1 : TRef sig ⟨S64x43x1, .i1⟩) (cmpi .slt),
    TRef.nullary (.of main_call41_c_0 : TRef sig ⟨S_, .i32⟩) (constantI S_ 32 101#32),
    TRef.unary (.of main_call41_c_0 : TRef sig ⟨S_, .i32⟩) (.of main_call41_v2 : TRef sig ⟨S64x43x1, .i32⟩) (broadcastInDim S64x43x1 ![] bcast_S_S64x43x1),
    TRef.binary (.of main_v116 : TRef sig ⟨S64x43x1, .i32⟩) (.of main_call41_v2 : TRef sig ⟨S64x43x1, .i32⟩) (.of main_call41_v3 : TRef sig ⟨S64x43x1, .i32⟩) addi,
    TRef.ternary (.of main_call41_v1 : TRef sig ⟨S64x43x1, .i1⟩) (.of main_call41_v3 : TRef sig ⟨S64x43x1, .i32⟩) (.of main_v116 : TRef sig ⟨S64x43x1, .i32⟩) (.of main_call41_v4 : TRef sig ⟨S64x43x1, .i32⟩) select,
    TRef.nullary (.of main_call41_c_1 : TRef sig ⟨S1, .i32⟩) (constantI S1 32 100#32),
    TRef.nullary (.of main_call41_c_2 : TRef sig ⟨S_, .i32⟩) (constantI S_ 32 0#32),
    TRef.unary (.of main_call41_c_2 : TRef sig ⟨S_, .i32⟩) (.of main_call41_v5 : TRef sig ⟨S64x43x1, .i32⟩) (broadcastInDim S64x43x1 ![] bcast_S_S64x43x1),
    TRef.binary (.of main_call41_v4 : TRef sig ⟨S64x43x1, .i32⟩) (.of main_call41_v5 : TRef sig ⟨S64x43x1, .i32⟩) (.of main_call41_v6 : TRef sig ⟨S64x43x1, .i1⟩) (cmpi .sge),
    TRef.unary (.of main_call41_c_1 : TRef sig ⟨S1, .i32⟩) (.of main_call41_v7 : TRef sig ⟨S1x1x1, .i32⟩) (broadcastInDim S1x1x1 ![2] bcast_S1_S1x1x1_2),
    TRef.unary (.of main_call41_v7 : TRef sig ⟨S1x1x1, .i32⟩) (.of main_call41_v8 : TRef sig ⟨S64x43x1, .i32⟩) (broadcastInDim S64x43x1 ![0, 1, 2] bcast_S1x1x1_S64x43x1_0_1_2),
    TRef.binary (.of main_call41_v4 : TRef sig ⟨S64x43x1, .i32⟩) (.of main_call41_v8 : TRef sig ⟨S64x43x1, .i32⟩) (.of main_call41_v9 : TRef sig ⟨S64x43x1, .i1⟩) (cmpi .sle),
    TRef.binary (.of main_call41_v6 : TRef sig ⟨S64x43x1, .i1⟩) (.of main_call41_v9 : TRef sig ⟨S64x43x1, .i1⟩) (.of main_call41_v10 : TRef sig ⟨S64x43x1, .i1⟩) andi,
    TRef.nullary (.of main_call41_c_3 : TRef sig ⟨S_, .i1⟩) (constantI S_ 1 1#1),
    TRef.binary (.of main_call41_v10 : TRef sig ⟨S64x43x1, .i1⟩) (.of main_call41_c_3 : TRef sig ⟨S_, .i1⟩) (.of main_call41_v11 : TRef sig ⟨S64x43, .i1⟩) (fun x v => Host.reduce IntOp.andi x v reducesTo_S64x43x1_S64x43_d2 h_S_),
    TRef.binary (.of main_v103 : TRef sig ⟨S64x101x768, .f32⟩) (.of main_call41_v4 : TRef sig ⟨S64x43x1, .i32⟩) (.of main_call41_v12 : TRef sig ⟨S64x43x768, .f32⟩) (fun x i => Host.gather gather_S64x101x768_S64x43x1_S64x43x768_2_1_0_0_1_2_11768 x i),
    TRef.unary (.of main_call41_v11 : TRef sig ⟨S64x43, .i1⟩) (.of main_call41_v13 : TRef sig ⟨S64x43x768, .i1⟩) (broadcastInDim S64x43x768 ![0, 1] bcast_S64x43_S64x43x768_0_1),
    TRef.nullary (.of main_call41_cst : TRef sig ⟨S_, .f32⟩) (constant S_ .f32 0x7FC00000#32),
    TRef.unary (.of main_call41_cst : TRef sig ⟨S_, .f32⟩) (.of main_call41_v14 : TRef sig ⟨S64x43x768, .f32⟩) (broadcastInDim S64x43x768 ![] bcast_S_S64x43x768),
    TRef.ternary (.of main_call41_v13 : TRef sig ⟨S64x43x768, .i1⟩) (.of main_call41_v12 : TRef sig ⟨S64x43x768, .f32⟩) (.of main_call41_v14 : TRef sig ⟨S64x43x768, .f32⟩) (.of main_v117 : TRef sig ⟨S64x43x768, .f32⟩) select ]

abbrev host6_4 : List (HloOp τ sig (Elt F)) :=
  [ TRef.binary (.of main_v99 : TRef sig ⟨S64x475, .i32⟩) (.of main_v115 : TRef sig ⟨S64x43, .i32⟩) (.of main_v118 : TRef sig ⟨S64x518, .i32⟩) (fun a b => concatenate S64x518 1 [⟨S64x475, a⟩, ⟨S64x43, b⟩] concatenates_S64x475_S64x43_S64x518_d1),
    TRef.binary (.of main_v100 : TRef sig ⟨S64x475x768, .f32⟩) (.of main_v117 : TRef sig ⟨S64x43x768, .f32⟩) (.of main_v119 : TRef sig ⟨S64x518x768, .f32⟩) (fun a b => concatenate S64x518x768 1 [⟨S64x475x768, a⟩, ⟨S64x43x768, b⟩] concatenates_S64x475x768_S64x43x768_S64x518x768_d1) ]

abbrev host6_5 : List (HloOp τ sig (Elt F)) :=
  [ TRef.nullary (.of main_call42_c : TRef sig ⟨S_, .i32⟩) (constantI S_ 32 0#32),
    TRef.unary (.of main_call42_c : TRef sig ⟨S_, .i32⟩) (.of main_call42_v0 : TRef sig ⟨S64x58, .i32⟩) (broadcastInDim S64x58 ![] bcast_S_S64x58),
    TRef.binary (.of main_v114 : TRef sig ⟨S64x58, .i32⟩) (.of main_call42_v0 : TRef sig ⟨S64x58, .i32⟩) (.of main_call42_v1 : TRef sig ⟨S64x58, .i1⟩) (cmpi .slt),
    TRef.nullary (.of main_call42_c_0 : TRef sig ⟨S_, .i32⟩) (constantI S_ 32 101#32),
    TRef.unary (.of main_call42_c_0 : TRef sig ⟨S_, .i32⟩) (.of main_call42_v2 : TRef sig ⟨S64x58, .i32⟩) (broadcastInDim S64x58 ![] bcast_S_S64x58),
    TRef.binary (.of main_v114 : TRef sig ⟨S64x58, .i32⟩) (.of main_call42_v2 : TRef sig ⟨S64x58, .i32⟩) (.of main_call42_v3 : TRef sig ⟨S64x58, .i32⟩) addi,
    TRef.ternary (.of main_call42_v1 : TRef sig ⟨S64x58, .i1⟩) (.of main_call42_v3 : TRef sig ⟨S64x58, .i32⟩) (.of main_v114 : TRef sig ⟨S64x58, .i32⟩) (.of main_call42_v4 : TRef sig ⟨S64x58, .i32⟩) select,
    TRef.reshape (.of main_call42_v4 : TRef sig ⟨S64x58, .i32⟩) (.of main_call42_v5 : TRef sig ⟨S64x58x1, .i32⟩) (rfl : (.i32 : EltTy) = .i32) shapeCasts_S64x58_S64x58x1,
    TRef.nullary (.of main_call42_c_1 : TRef sig ⟨S1, .i32⟩) (constantI S1 32 100#32),
    TRef.nullary (.of main_call42_c_2 : TRef sig ⟨S_, .i32⟩) (constantI S_ 32 0#32),
    TRef.unary (.of main_call42_c_2 : TRef sig ⟨S_, .i32⟩) (.of main_call42_v6 : TRef sig ⟨S64x58x1, .i32⟩) (broadcastInDim S64x58x1 ![] bcast_S_S64x58x1),
    TRef.binary (.of main_call42_v5 : TRef sig ⟨S64x58x1, .i32⟩) (.of main_call42_v6 : TRef sig ⟨S64x58x1, .i32⟩) (.of main_call42_v7 : TRef sig ⟨S64x58x1, .i1⟩) (cmpi .sge),
    TRef.unary (.of main_call42_c_1 : TRef sig ⟨S1, .i32⟩) (.of main_call42_v8 : TRef sig ⟨S1x1x1, .i32⟩) (broadcastInDim S1x1x1 ![2] bcast_S1_S1x1x1_2),
    TRef.unary (.of main_call42_v8 : TRef sig ⟨S1x1x1, .i32⟩) (.of main_call42_v9 : TRef sig ⟨S64x58x1, .i32⟩) (broadcastInDim S64x58x1 ![0, 1, 2] bcast_S1x1x1_S64x58x1_0_1_2),
    TRef.binary (.of main_call42_v5 : TRef sig ⟨S64x58x1, .i32⟩) (.of main_call42_v9 : TRef sig ⟨S64x58x1, .i32⟩) (.of main_call42_v10 : TRef sig ⟨S64x58x1, .i1⟩) (cmpi .sle),
    TRef.binary (.of main_call42_v7 : TRef sig ⟨S64x58x1, .i1⟩) (.of main_call42_v10 : TRef sig ⟨S64x58x1, .i1⟩) (.of main_call42_v11 : TRef sig ⟨S64x58x1, .i1⟩) andi,
    TRef.nullary (.of main_call42_c_3 : TRef sig ⟨S_, .i1⟩) (constantI S_ 1 1#1),
    TRef.binary (.of main_call42_v11 : TRef sig ⟨S64x58x1, .i1⟩) (.of main_call42_c_3 : TRef sig ⟨S_, .i1⟩) (.of main_call42_v12 : TRef sig ⟨S64x58, .i1⟩) (fun x v => Host.reduce IntOp.andi x v reducesTo_S64x58x1_S64x58_d2 h_S_),
    TRef.binary (.of main_v101 : TRef sig ⟨S64x101, .i32⟩) (.of main_call42_v5 : TRef sig ⟨S64x58x1, .i32⟩) (.of main_call42_v13 : TRef sig ⟨S64x58, .i32⟩) (fun x i => Host.gather gather_S64x101_S64x58x1_S64x58_n_1_0_0_1_2_11 x i),
    TRef.nullary (.of main_call42_c_4 : TRef sig ⟨S_, .i32⟩) (constantI S_ 32 2147483648#32),
    TRef.unary (.of main_call42_c_4 : TRef sig ⟨S_, .i32⟩) (.of main_call42_v14 : TRef sig ⟨S64x58, .i32⟩) (broadcastInDim S64x58 ![] bcast_S_S64x58),
    TRef.ternary (.of main_call42_v12 : TRef sig ⟨S64x58, .i1⟩) (.of main_call42_v13 : TRef sig ⟨S64x58, .i32⟩) (.of main_call42_v14 : TRef sig ⟨S64x58, .i32⟩) (.of main_v120 : TRef sig ⟨S64x58, .i32⟩) select ]

abbrev host6_6 : List (HloOp τ sig (Elt F)) :=
  [ TRef.unary (.of main_v114 : TRef sig ⟨S64x58, .i32⟩) (.of main_v121 : TRef sig ⟨S64x58x1, .i32⟩) (broadcastInDim S64x58x1 ![0, 1] bcast_S64x58_S64x58x1_0_1) ]

abbrev host6_7 : List (HloOp τ sig (Elt F)) :=
  [ TRef.nullary (.of main_call43_c : TRef sig ⟨S_, .i32⟩) (constantI S_ 32 0#32),
    TRef.unary (.of main_call43_c : TRef sig ⟨S_, .i32⟩) (.of main_call43_v0 : TRef sig ⟨S64x58x1, .i32⟩) (broadcastInDim S64x58x1 ![] bcast_S_S64x58x1),
    TRef.binary (.of main_v121 : TRef sig ⟨S64x58x1, .i32⟩) (.of main_call43_v0 : TRef sig ⟨S64x58x1, .i32⟩) (.of main_call43_v1 : TRef sig ⟨S64x58x1, .i1⟩) (cmpi .slt),
    TRef.nullary (.of main_call43_c_0 : TRef sig ⟨S_, .i32⟩) (constantI S_ 32 101#32),
    TRef.unary (.of main_call43_c_0 : TRef sig ⟨S_, .i32⟩) (.of main_call43_v2 : TRef sig ⟨S64x58x1, .i32⟩) (broadcastInDim S64x58x1 ![] bcast_S_S64x58x1),
    TRef.binary (.of main_v121 : TRef sig ⟨S64x58x1, .i32⟩) (.of main_call43_v2 : TRef sig ⟨S64x58x1, .i32⟩) (.of main_call43_v3 : TRef sig ⟨S64x58x1, .i32⟩) addi,
    TRef.ternary (.of main_call43_v1 : TRef sig ⟨S64x58x1, .i1⟩) (.of main_call43_v3 : TRef sig ⟨S64x58x1, .i32⟩) (.of main_v121 : TRef sig ⟨S64x58x1, .i32⟩) (.of main_call43_v4 : TRef sig ⟨S64x58x1, .i32⟩) select,
    TRef.nullary (.of main_call43_c_1 : TRef sig ⟨S1, .i32⟩) (constantI S1 32 100#32),
    TRef.nullary (.of main_call43_c_2 : TRef sig ⟨S_, .i32⟩) (constantI S_ 32 0#32),
    TRef.unary (.of main_call43_c_2 : TRef sig ⟨S_, .i32⟩) (.of main_call43_v5 : TRef sig ⟨S64x58x1, .i32⟩) (broadcastInDim S64x58x1 ![] bcast_S_S64x58x1),
    TRef.binary (.of main_call43_v4 : TRef sig ⟨S64x58x1, .i32⟩) (.of main_call43_v5 : TRef sig ⟨S64x58x1, .i32⟩) (.of main_call43_v6 : TRef sig ⟨S64x58x1, .i1⟩) (cmpi .sge),
    TRef.unary (.of main_call43_c_1 : TRef sig ⟨S1, .i32⟩) (.of main_call43_v7 : TRef sig ⟨S1x1x1, .i32⟩) (broadcastInDim S1x1x1 ![2] bcast_S1_S1x1x1_2),
    TRef.unary (.of main_call43_v7 : TRef sig ⟨S1x1x1, .i32⟩) (.of main_call43_v8 : TRef sig ⟨S64x58x1, .i32⟩) (broadcastInDim S64x58x1 ![0, 1, 2] bcast_S1x1x1_S64x58x1_0_1_2),
    TRef.binary (.of main_call43_v4 : TRef sig ⟨S64x58x1, .i32⟩) (.of main_call43_v8 : TRef sig ⟨S64x58x1, .i32⟩) (.of main_call43_v9 : TRef sig ⟨S64x58x1, .i1⟩) (cmpi .sle),
    TRef.binary (.of main_call43_v6 : TRef sig ⟨S64x58x1, .i1⟩) (.of main_call43_v9 : TRef sig ⟨S64x58x1, .i1⟩) (.of main_call43_v10 : TRef sig ⟨S64x58x1, .i1⟩) andi,
    TRef.nullary (.of main_call43_c_3 : TRef sig ⟨S_, .i1⟩) (constantI S_ 1 1#1),
    TRef.binary (.of main_call43_v10 : TRef sig ⟨S64x58x1, .i1⟩) (.of main_call43_c_3 : TRef sig ⟨S_, .i1⟩) (.of main_call43_v11 : TRef sig ⟨S64x58, .i1⟩) (fun x v => Host.reduce IntOp.andi x v reducesTo_S64x58x1_S64x58_d2 h_S_),
    TRef.binary (.of main_v103 : TRef sig ⟨S64x101x768, .f32⟩) (.of main_call43_v4 : TRef sig ⟨S64x58x1, .i32⟩) (.of main_call43_v12 : TRef sig ⟨S64x58x768, .f32⟩) (fun x i => Host.gather gather_S64x101x768_S64x58x1_S64x58x768_2_1_0_0_1_2_11768 x i),
    TRef.unary (.of main_call43_v11 : TRef sig ⟨S64x58, .i1⟩) (.of main_call43_v13 : TRef sig ⟨S64x58x768, .i1⟩) (broadcastInDim S64x58x768 ![0, 1] bcast_S64x58_S64x58x768_0_1),
    TRef.nullary (.of main_call43_cst : TRef sig ⟨S_, .f32⟩) (constant S_ .f32 0x7FC00000#32),
    TRef.unary (.of main_call43_cst : TRef sig ⟨S_, .f32⟩) (.of main_call43_v14 : TRef sig ⟨S64x58x768, .f32⟩) (broadcastInDim S64x58x768 ![] bcast_S_S64x58x768),
    TRef.ternary (.of main_call43_v13 : TRef sig ⟨S64x58x768, .i1⟩) (.of main_call43_v12 : TRef sig ⟨S64x58x768, .f32⟩) (.of main_call43_v14 : TRef sig ⟨S64x58x768, .f32⟩) (.of main_v122 : TRef sig ⟨S64x58x768, .f32⟩) select ]

abbrev host6_8 : List (HloOp τ sig (Elt F)) :=
  [ TRef.binary (.of main_v119 : TRef sig ⟨S64x518x768, .f32⟩) (.of main_v119 : TRef sig ⟨S64x518x768, .f32⟩) (.of main_call44_v0 : TRef sig ⟨S64x518x768, .f32⟩) mulf,
    TRef.nullary (.of main_call44_cst : TRef sig ⟨S_, .f32⟩) (constant S_ .f32 0x00000000#32),
    TRef.binary (.of main_call44_v0 : TRef sig ⟨S64x518x768, .f32⟩) (.of main_call44_cst : TRef sig ⟨S_, .f32⟩) (.of main_call44_v1 : TRef sig ⟨S64x518, .f32⟩) (fun x v => Host.reduceAdd x v reducesTo_S64x518x768_S64x518_d2 h_S_),
    TRef.unary (.of main_call44_v1 : TRef sig ⟨S64x518, .f32⟩) (.of main_call44_v2 : TRef sig ⟨S64x518x1, .f32⟩) (broadcastInDim S64x518x1 ![0, 1] bcast_S64x518_S64x518x1_0_1),
    TRef.unary (.of main_call44_v2 : TRef sig ⟨S64x518x1, .f32⟩) (.of main_v123 : TRef sig ⟨S64x518x1, .f32⟩) Host.sqrt ]

abbrev host6_9 : List (HloOp τ sig (Elt F)) :=
  [ TRef.unary (.of main_v123 : TRef sig ⟨S64x518x1, .f32⟩) (.of main_v124 : TRef sig ⟨S64x518x768, .f32⟩) (broadcastInDim S64x518x768 ![0, 1, 2] bcast_S64x518x1_S64x518x768_0_1_2),
    TRef.binary (.of main_v119 : TRef sig ⟨S64x518x768, .f32⟩) (.of main_v124 : TRef sig ⟨S64x518x768, .f32⟩) (.of main_v125 : TRef sig ⟨S64x518x768, .f32⟩) (Host.divf) ]

abbrev host6_10 : List (HloOp τ sig (Elt F)) :=
  [ TRef.binary (.of main_v122 : TRef sig ⟨S64x58x768, .f32⟩) (.of main_v122 : TRef sig ⟨S64x58x768, .f32⟩) (.of main_call45_v0 : TRef sig ⟨S64x58x768, .f32⟩) mulf,
    TRef.nullary (.of main_call45_cst : TRef sig ⟨S_, .f32⟩) (constant S_ .f32 0x00000000#32),
    TRef.binary (.of main_call45_v0 : TRef sig ⟨S64x58x768, .f32⟩) (.of main_call45_cst : TRef sig ⟨S_, .f32⟩) (.of main_call45_v1 : TRef sig ⟨S64x58, .f32⟩) (fun x v => Host.reduceAdd x v reducesTo_S64x58x768_S64x58_d2 h_S_),
    TRef.unary (.of main_call45_v1 : TRef sig ⟨S64x58, .f32⟩) (.of main_call45_v2 : TRef sig ⟨S64x58x1, .f32⟩) (broadcastInDim S64x58x1 ![0, 1] bcast_S64x58_S64x58x1_0_1),
    TRef.unary (.of main_call45_v2 : TRef sig ⟨S64x58x1, .f32⟩) (.of main_v126 : TRef sig ⟨S64x58x1, .f32⟩) Host.sqrt ]

abbrev host6_11 : List (HloOp τ sig (Elt F)) :=
  [ TRef.unary (.of main_v126 : TRef sig ⟨S64x58x1, .f32⟩) (.of main_v127 : TRef sig ⟨S64x58x768, .f32⟩) (broadcastInDim S64x58x768 ![0, 1, 2] bcast_S64x58x1_S64x58x768_0_1_2),
    TRef.binary (.of main_v122 : TRef sig ⟨S64x58x768, .f32⟩) (.of main_v127 : TRef sig ⟨S64x58x768, .f32⟩) (.of main_v128 : TRef sig ⟨S64x58x768, .f32⟩) (Host.divf),
    TRef.binary (.of main_v128 : TRef sig ⟨S64x58x768, .f32⟩) (.of main_v125 : TRef sig ⟨S64x518x768, .f32⟩) (.of main_v129 : TRef sig ⟨S64x58x518, .f32⟩) (fun l r => Host.dotGeneral dot_S64x58x768_S64x518x768_S64x58x518_2_2_1_1_0_0 none l r) ]

end Cert.RefSelect

end
-- ==== Proof.RefSelect.lean ====
module

public import proofs.«01_k».proof.Proof.Gen.SelectRefIdeal
public import Idealize.ShloMosaic.Lib.StableHlo.Run
public import Idealize.ShloMosaic.Lib.Pipeline.Regions
public import proofs.«01_k».proof.Proof.RefSelectA
public import proofs.«01_k».proof.Proof.RefSelectB

@[expose] public section

/-! The reference from the input to the last cosines: its run. -/

noncomputable section

namespace Cert.RefSelect

open Cert.SelectRefIdeal Cert.SelectRefIdeal.Gen Idealize.ShloMosaic Idealize.ShloMosaic.TcCoe Idealize.SL.Sem Idealize.ShloMosaic.StableHlo

variable {F : FTy → Type} [FloatOps F]

abbrev host0 : List (HloOp τ sig (Elt F)) :=
  host0_0 ++ (host0_1 ++ (host0_2 ++ (host0_3 ++ (host0_4 ++ (host0_5 ++ (host0_6 ++ (host0_7)))))))

abbrev host1 : List (HloOp τ sig (Elt F)) :=
  host1_0 ++ (host1_1 ++ (host1_2 ++ (host1_3 ++ (host1_4 ++ (host1_5 ++ (host1_6 ++ (host1_7 ++ (host1_8 ++ (host1_9 ++ (host1_10 ++ (host1_11)))))))))))

abbrev host2 : List (HloOp τ sig (Elt F)) :=
  host2_0 ++ (host2_1 ++ (host2_2 ++ (host2_3 ++ (host2_4 ++ (host2_5 ++ (host2_6 ++ (host2_7 ++ (host2_8 ++ (host2_9 ++ (host2_10 ++ (host2_11)))))))))))

abbrev host3 : List (HloOp τ sig (Elt F)) :=
  host3_0 ++ (host3_1 ++ (host3_2 ++ (host3_3 ++ (host3_4 ++ (host3_5 ++ (host3_6 ++ (host3_7 ++ (host3_8 ++ (host3_9 ++ (host3_10 ++ (host3_11)))))))))))

abbrev host4 : List (HloOp τ sig (Elt F)) :=
  host4_0 ++ (host4_1 ++ (host4_2 ++ (host4_3 ++ (host4_4 ++ (host4_5 ++ (host4_6 ++ (host4_7 ++ (host4_8 ++ (host4_9 ++ (host4_10 ++ (host4_11)))))))))))

abbrev host5 : List (HloOp τ sig (Elt F)) :=
  host5_0 ++ (host5_1 ++ (host5_2 ++ (host5_3 ++ (host5_4 ++ (host5_5 ++ (host5_6 ++ (host5_7 ++ (host5_8 ++ (host5_9 ++ (host5_10 ++ (host5_11)))))))))))

abbrev host6 : List (HloOp τ sig (Elt F)) :=
  host6_0 ++ (host6_1 ++ (host6_2 ++ (host6_3 ++ (host6_4 ++ (host6_5 ++ (host6_6 ++ (host6_7 ++ (host6_8 ++ (host6_9 ++ (host6_10 ++ (host6_11)))))))))))

/-- The operations, in the stretches its three parts run. -/
abbrev part0 : List (List (HloOp τ sig (Elt F))) :=
  [host0_0, host0_1, host0_2, host0_3, host0_4, host0_5, host0_6, host0_7, max1, sort1, host1_0, host1_1, host1_2, host1_3, host1_4, host1_5, host1_6, host1_7, host1_8, host1_9, host1_10, host1_11, max2, sort2, host2_0, host2_1, host2_2, host2_3, host2_4, host2_5, host2_6, host2_7, host2_8, host2_9, host2_10, host2_11, max3]

abbrev part1 : List (List (HloOp τ sig (Elt F))) :=
  [sort3, host3_0, host3_1, host3_2, host3_3, host3_4, host3_5, host3_6, host3_7, host3_8, host3_9, host3_10, host3_11, max4, sort4, host4_0, host4_1, host4_2, host4_3, host4_4, host4_5, host4_6, host4_7, host4_8, host4_9, host4_10, host4_11, max5, sort5, host5_0, host5_1, host5_2, host5_3, host5_4, host5_5, host5_6, host5_7, host5_8, host5_9, host5_10, host5_11, max6]

abbrev part2 : List (List (HloOp τ sig (Elt F))) :=
  [sort6, host6_0, host6_1, host6_2, host6_3, host6_4, host6_5, host6_6, host6_7, host6_8, host6_9, host6_10, host6_11]

abbrev ops : List (HloOp τ sig (Elt F)) := (part0 ++ (part1 ++ part2)).flatten

/-- A line of stretches run one after the other is their concatenation run as one. -/
theorem chain_flatten (l : List (List (HloOp τ sig (Elt F)))) :
    (Pipeline.chain (l.map seq) : Prog (TpuEff nD τ sig (Elt F) (Pipeline.Sig Λ₀ (Fin 0) fun p => (pcfgs (F := F) p).Adm) .tc) PUnit) = seq l.flatten := by
  induction l with
  | nil => rfl
  | cons a l ih => rw [List.map_cons, Pipeline.chain_cons, ih, List.flatten_cons, seq_append]

set_option maxRecDepth 100000
set_option maxHeartbeats 4000000

theorem part0_eq (c : Dev nD) : main_part0 (F := F) c = Pipeline.chainK ((part0.dropLast).map seq) (seq (part0.getLast (by simp))) := by
  chain_rfl

theorem part1_eq (c : Dev nD) : main_part1 (F := F) c = Pipeline.chainK ((part1.dropLast).map seq) (seq (part1.getLast (by simp))) := by
  chain_rfl

theorem part2_eq (c : Dev nD) : main_part2 (F := F) c = Pipeline.chain (part2.map seq) := by
  chain_rfl

theorem main_eq (c : Dev nD) : main (F := F) c = seq ops := by
  show (main_part0 (F := F) c >>= fun _ => main_part1 (F := F) c >>= fun _ => main_part2 (F := F) c) = _
  rw [part2_eq, part1_eq, Pipeline.chainK_bind_chain, part0_eq, Pipeline.chainK_bind_chain, ← chain_flatten]
  chain_rfl

theorem scopedRefs_eq : (Finset.univ.filter fun b : Ref sig .tc => b.isScoped) = ∅ := by decide
theorem scopedSems_eq : (Finset.univ.filter fun sm : SemLoc sig => sm.isScoped .tc) = ∅ := by decide

theorem forall_flatten {α : Type} {p : α → Prop} : ∀ {L : List (List α)}, L.Forall (fun l => l.Forall p) → L.flatten.Forall p
  | [], _ => trivial
  | _ :: _, h => List.forall_append.mpr ⟨((List.forall_cons _ _ _).mp h).1, forall_flatten ((List.forall_cons _ _ _).mp h).2⟩

theorem ops_sub : (ops : List (HloOp τ sig (Elt F))).Forall fun op => op.bufs ⊆ tcRefs τ sig := by
  refine forall_flatten ?_
  repeat' first
    | with_reducible refine List.forall_append.mpr ⟨?_, ?_⟩
    | with_reducible refine (List.forall_cons _ _ _).mpr ⟨?_, ?_⟩
    | with_reducible exact unary_bufs_sub ..
    | with_reducible exact binary_bufs_sub ..
    | with_reducible exact nullary_bufs_sub ..
    | with_reducible exact ternary_bufs_sub ..
    | with_reducible exact reshape_bufs_sub ..
    | exact trivial

end Cert.RefSelect

end
-- ==== Proof.KernSelect.lean ====
module

public import proofs.«01_k».proof.Proof.Gen.SelectIdeal.Launch

@[expose] public section

/-! The kernel's operations between its sorts, stage by stage, each at typed references. -/

noncomputable section

namespace Cert.KernSelect

open Cert.SelectIdeal Cert.SelectIdeal.Gen Idealize.ShloMosaic Idealize.ShloMosaic.TcCoe Idealize.ShloMosaic.StableHlo

variable {F : FTy → Type} [FloatOps F]

abbrev typed0_0 : List (HloOp τ sig (Elt F)) :=
  [ TRef.nullary (.of main_c : TRef sig ⟨S144, .i32⟩) (fun i => lit0 (S144.rowMajor i)),
    TRef.nullary (.of main_c_0 : TRef sig ⟨S432, .i32⟩) (fun i => lit1 (S432.rowMajor i)),
    TRef.unary (.of main_arg0 : TRef sig ⟨S64x577x768, .f32⟩) (.of main_v0 : TRef sig ⟨S64x576x768, .f32⟩) (extractStridedSlice S64x576x768 ![0, 1, 0] · slices_S64x577x768_S64x576x768_0_1_0),
    TRef.unary (.of main_c : TRef sig ⟨S144, .i32⟩) (.of main_v1 : TRef sig ⟨S1x144, .i32⟩) (broadcastInDim S1x144 ![1] bcast_S144_S1x144_1),
    TRef.unary (.of main_v1 : TRef sig ⟨S1x144, .i32⟩) (.of main_v2 : TRef sig ⟨S64x144, .i32⟩) (broadcastInDim S64x144 ![0, 1] bcast_S1x144_S64x144_0_1),
    TRef.unary (.of main_c_0 : TRef sig ⟨S432, .i32⟩) (.of main_v3 : TRef sig ⟨S1x432, .i32⟩) (broadcastInDim S1x432 ![1] bcast_S432_S1x432_1),
    TRef.unary (.of main_v3 : TRef sig ⟨S1x432, .i32⟩) (.of main_v4 : TRef sig ⟨S64x432, .i32⟩) (broadcastInDim S64x432 ![0, 1] bcast_S1x432_S64x432_0_1),
    TRef.unary (.of main_v2 : TRef sig ⟨S64x144, .i32⟩) (.of main_v5 : TRef sig ⟨S64x144x1, .i32⟩) (broadcastInDim S64x144x1 ![0, 1] bcast_S64x144_S64x144x1_0_1) ]

abbrev typed0_2 : List (HloOp τ sig (Elt F)) :=
  [ TRef.unary (.of main_v4 : TRef sig ⟨S64x432, .i32⟩) (.of main_v7 : TRef sig ⟨S64x432x1, .i32⟩) (broadcastInDim S64x432x1 ![0, 1] bcast_S64x432_S64x432x1_0_1) ]

abbrev typed0_5 : List (HloOp τ sig (Elt F)) :=
  [ TRef.unary (.of main_v9 : TRef sig ⟨S64x144x1, .f32⟩) (.of main_v10 : TRef sig ⟨S64x144x768, .f32⟩) (broadcastInDim S64x144x768 ![0, 1, 2] bcast_S64x144x1_S64x144x768_0_1_2),
    TRef.binary (.of main_v6 : TRef sig ⟨S64x144x768, .f32⟩) (.of main_v10 : TRef sig ⟨S64x144x768, .f32⟩) (.of main_v11 : TRef sig ⟨S64x144x768, .f32⟩) (Host.divf) ]

abbrev typed0_7 : List (HloOp τ sig (Elt F)) :=
  [ TRef.unary (.of main_v12 : TRef sig ⟨S64x432x1, .f32⟩) (.of main_v13 : TRef sig ⟨S64x432x768, .f32⟩) (broadcastInDim S64x432x768 ![0, 1, 2] bcast_S64x432x1_S64x432x768_0_1_2),
    TRef.binary (.of main_v8 : TRef sig ⟨S64x432x768, .f32⟩) (.of main_v13 : TRef sig ⟨S64x432x768, .f32⟩) (.of main_v14 : TRef sig ⟨S64x432x768, .f32⟩) (Host.divf),
    TRef.binary (.of main_v14 : TRef sig ⟨S64x432x768, .f32⟩) (.of main_v11 : TRef sig ⟨S64x144x768, .f32⟩) (.of main_v15 : TRef sig ⟨S64x432x144, .f32⟩) (fun l r => Host.dotGeneral dot_S64x432x768_S64x144x768_S64x432x144_2_2_1_1_0_0 none l r) ]

/-- Stage 0's stretches. -/
abbrev stretches0 : List (List (HloOp τ sig (Elt F))) :=
  [hostOps0, hostOps0_1, hostOps0_2, hostOps0_3, hostOps0_4, hostOps0_5, hostOps0_6, hostOps0_7]

abbrev typed0 : List (List (HloOp τ sig (Elt F))) :=
  [typed0_0, hostOps0_1, typed0_2, hostOps0_3, hostOps0_4, typed0_5, hostOps0_6, typed0_7]

theorem stretches0_eq : (stretches0 : List (List (HloOp τ sig (Elt F)))) = typed0 := rfl

abbrev typed1_0 : List (HloOp τ sig (Elt F)) :=
  [ TRef.unary (.of main_v16 : TRef sig ⟨S64x432, .i32⟩) (.of main_v17 : TRef sig ⟨S64x72, .i32⟩) (extractStridedSlice S64x72 ![0, 0] · slices_S64x432_S64x72_0_0),
    TRef.unary (.of main_v16 : TRef sig ⟨S64x432, .i32⟩) (.of main_v18 : TRef sig ⟨S64x360, .i32⟩) (extractStridedSlice S64x360 ![0, 72] · slices_S64x432_S64x360_0_72) ]

abbrev typed1_2 : List (HloOp τ sig (Elt F)) :=
  [ TRef.unary (.of main_v17 : TRef sig ⟨S64x72, .i32⟩) (.of main_v20 : TRef sig ⟨S64x72x1, .i32⟩) (broadcastInDim S64x72x1 ![0, 1] bcast_S64x72_S64x72x1_0_1) ]

abbrev typed1_4 : List (HloOp τ sig (Elt F)) :=
  [ TRef.binary (.of main_v2 : TRef sig ⟨S64x144, .i32⟩) (.of main_v19 : TRef sig ⟨S64x72, .i32⟩) (.of main_v22 : TRef sig ⟨S64x216, .i32⟩) (fun a b => concatenate S64x216 1 [⟨S64x144, a⟩, ⟨S64x72, b⟩] concatenates_S64x144_S64x72_S64x216_d1),
    TRef.binary (.of main_v6 : TRef sig ⟨S64x144x768, .f32⟩) (.of main_v21 : TRef sig ⟨S64x72x768, .f32⟩) (.of main_v23 : TRef sig ⟨S64x216x768, .f32⟩) (fun a b => concatenate S64x216x768 1 [⟨S64x144x768, a⟩, ⟨S64x72x768, b⟩] concatenates_S64x144x768_S64x72x768_S64x216x768_d1) ]

abbrev typed1_6 : List (HloOp τ sig (Elt F)) :=
  [ TRef.unary (.of main_v18 : TRef sig ⟨S64x360, .i32⟩) (.of main_v25 : TRef sig ⟨S64x360x1, .i32⟩) (broadcastInDim S64x360x1 ![0, 1] bcast_S64x360_S64x360x1_0_1) ]

abbrev typed1_9 : List (HloOp τ sig (Elt F)) :=
  [ TRef.unary (.of main_v27 : TRef sig ⟨S64x216x1, .f32⟩) (.of main_v28 : TRef sig ⟨S64x216x768, .f32⟩) (broadcastInDim S64x216x768 ![0, 1, 2] bcast_S64x216x1_S64x216x768_0_1_2),
    TRef.binary (.of main_v23 : TRef sig ⟨S64x216x768, .f32⟩) (.of main_v28 : TRef sig ⟨S64x216x768, .f32⟩) (.of main_v29 : TRef sig ⟨S64x216x768, .f32⟩) (Host.divf) ]

abbrev typed1_11 : List (HloOp τ sig (Elt F)) :=
  [ TRef.unary (.of main_v30 : TRef sig ⟨S64x360x1, .f32⟩) (.of main_v31 : TRef sig ⟨S64x360x768, .f32⟩) (broadcastInDim S64x360x768 ![0, 1, 2] bcast_S64x360x1_S64x360x768_0_1_2),
    TRef.binary (.of main_v26 : TRef sig ⟨S64x360x768, .f32⟩) (.of main_v31 : TRef sig ⟨S64x360x768, .f32⟩) (.of main_v32 : TRef sig ⟨S64x360x768, .f32⟩) (Host.divf),
    TRef.binary (.of main_v32 : TRef sig ⟨S64x360x768, .f32⟩) (.of main_v29 : TRef sig ⟨S64x216x768, .f32⟩) (.of main_v33 : TRef sig ⟨S64x360x216, .f32⟩) (fun l r => Host.dotGeneral dot_S64x360x768_S64x216x768_S64x360x216_2_2_1_1_0_0 none l r) ]

/-- Stage 1's stretches. -/
abbrev stretches1 : List (List (HloOp τ sig (Elt F))) :=
  [hostOps1, hostOps1_1, hostOps1_2, hostOps1_3, hostOps1_4, hostOps1_5, hostOps1_6, hostOps1_7, hostOps1_8, hostOps1_9, hostOps1_10, hostOps1_11]

abbrev typed1 : List (List (HloOp τ sig (Elt F))) :=
  [typed1_0, hostOps1_1, typed1_2, hostOps1_3, typed1_4, hostOps1_5, typed1_6, hostOps1_7, hostOps1_8, typed1_9, hostOps1_10, typed1_11]

theorem stretches1_eq : (stretches1 : List (List (HloOp τ sig (Elt F)))) = typed1 := rfl

abbrev typed2_0 : List (HloOp τ sig (Elt F)) :=
  [ TRef.unary (.of main_v34 : TRef sig ⟨S64x360, .i32⟩) (.of main_v35 : TRef sig ⟨S64x72, .i32⟩) (extractStridedSlice S64x72 ![0, 0] · slices_S64x360_S64x72_0_0),
    TRef.unary (.of main_v34 : TRef sig ⟨S64x360, .i32⟩) (.of main_v36 : TRef sig ⟨S64x288, .i32⟩) (extractStridedSlice S64x288 ![0, 72] · slices_S64x360_S64x288_0_72) ]

abbrev typed2_2 : List (HloOp τ sig (Elt F)) :=
  [ TRef.unary (.of main_v35 : TRef sig ⟨S64x72, .i32⟩) (.of main_v38 : TRef sig ⟨S64x72x1, .i32⟩) (broadcastInDim S64x72x1 ![0, 1] bcast_S64x72_S64x72x1_0_1) ]

abbrev typed2_4 : List (HloOp τ sig (Elt F)) :=
  [ TRef.binary (.of main_v22 : TRef sig ⟨S64x216, .i32⟩) (.of main_v37 : TRef sig ⟨S64x72, .i32⟩) (.of main_v40 : TRef sig ⟨S64x288, .i32⟩) (fun a b => concatenate S64x288 1 [⟨S64x216, a⟩, ⟨S64x72, b⟩] concatenates_S64x216_S64x72_S64x288_d1),
    TRef.binary (.of main_v23 : TRef sig ⟨S64x216x768, .f32⟩) (.of main_v39 : TRef sig ⟨S64x72x768, .f32⟩) (.of main_v41 : TRef sig ⟨S64x288x768, .f32⟩) (fun a b => concatenate S64x288x768 1 [⟨S64x216x768, a⟩, ⟨S64x72x768, b⟩] concatenates_S64x216x768_S64x72x768_S64x288x768_d1) ]

abbrev typed2_6 : List (HloOp τ sig (Elt F)) :=
  [ TRef.unary (.of main_v36 : TRef sig ⟨S64x288, .i32⟩) (.of main_v43 : TRef sig ⟨S64x288x1, .i32⟩) (broadcastInDim S64x288x1 ![0, 1] bcast_S64x288_S64x288x1_0_1) ]

abbrev typed2_9 : List (HloOp τ sig (Elt F)) :=
  [ TRef.unary (.of main_v45 : TRef sig ⟨S64x288x1, .f32⟩) (.of main_v46 : TRef sig ⟨S64x288x768, .f32⟩) (broadcastInDim S64x288x768 ![0, 1, 2] bcast_S64x288x1_S64x288x768_0_1_2),
    TRef.binary (.of main_v41 : TRef sig ⟨S64x288x768, .f32⟩) (.of main_v46 : TRef sig ⟨S64x288x768, .f32⟩) (.of main_v47 : TRef sig ⟨S64x288x768, .f32⟩) (Host.divf) ]

abbrev typed2_11 : List (HloOp τ sig (Elt F)) :=
  [ TRef.unary (.of main_v48 : TRef sig ⟨S64x288x1, .f32⟩) (.of main_v49 : TRef sig ⟨S64x288x768, .f32⟩) (broadcastInDim S64x288x768 ![0, 1, 2] bcast_S64x288x1_S64x288x768_0_1_2),
    TRef.binary (.of main_v44 : TRef sig ⟨S64x288x768, .f32⟩) (.of main_v49 : TRef sig ⟨S64x288x768, .f32⟩) (.of main_v50 : TRef sig ⟨S64x288x768, .f32⟩) (Host.divf),
    TRef.binary (.of main_v50 : TRef sig ⟨S64x288x768, .f32⟩) (.of main_v47 : TRef sig ⟨S64x288x768, .f32⟩) (.of main_v51 : TRef sig ⟨S64x288x288, .f32⟩) (fun l r => Host.dotGeneral dot_S64x288x768_S64x288x768_S64x288x288_2_2_1_1_0_0 none l r) ]

/-- Stage 2's stretches. -/
abbrev stretches2 : List (List (HloOp τ sig (Elt F))) :=
  [hostOps2, hostOps2_1, hostOps2_2, hostOps2_3, hostOps2_4, hostOps2_5, hostOps2_6, hostOps2_7, hostOps2_8, hostOps2_9, hostOps2_10, hostOps2_11]

abbrev typed2 : List (List (HloOp τ sig (Elt F))) :=
  [typed2_0, hostOps2_1, typed2_2, hostOps2_3, typed2_4, hostOps2_5, typed2_6, hostOps2_7, hostOps2_8, typed2_9, hostOps2_10, typed2_11]

theorem stretches2_eq : (stretches2 : List (List (HloOp τ sig (Elt F)))) = typed2 := rfl

abbrev typed3_0 : List (HloOp τ sig (Elt F)) :=
  [ TRef.unary (.of main_v52 : TRef sig ⟨S64x288, .i32⟩) (.of main_v53 : TRef sig ⟨S64x72, .i32⟩) (extractStridedSlice S64x72 ![0, 0] · slices_S64x288_S64x72_0_0),
    TRef.unary (.of main_v52 : TRef sig ⟨S64x288, .i32⟩) (.of main_v54 : TRef sig ⟨S64x216, .i32⟩) (extractStridedSlice S64x216 ![0, 72] · slices_S64x288_S64x216_0_72) ]

abbrev typed3_2 : List (HloOp τ sig (Elt F)) :=
  [ TRef.unary (.of main_v53 : TRef sig ⟨S64x72, .i32⟩) (.of main_v56 : TRef sig ⟨S64x72x1, .i32⟩) (broadcastInDim S64x72x1 ![0, 1] bcast_S64x72_S64x72x1_0_1) ]

abbrev typed3_4 : List (HloOp τ sig (Elt F)) :=
  [ TRef.binary (.of main_v40 : TRef sig ⟨S64x288, .i32⟩) (.of main_v55 : TRef sig ⟨S64x72, .i32⟩) (.of main_v58 : TRef sig ⟨S64x360, .i32⟩) (fun a b => concatenate S64x360 1 [⟨S64x288, a⟩, ⟨S64x72, b⟩] concatenates_S64x288_S64x72_S64x360_d1),
    TRef.binary (.of main_v41 : TRef sig ⟨S64x288x768, .f32⟩) (.of main_v57 : TRef sig ⟨S64x72x768, .f32⟩) (.of main_v59 : TRef sig ⟨S64x360x768, .f32⟩) (fun a b => concatenate S64x360x768 1 [⟨S64x288x768, a⟩, ⟨S64x72x768, b⟩] concatenates_S64x288x768_S64x72x768_S64x360x768_d1) ]

abbrev typed3_6 : List (HloOp τ sig (Elt F)) :=
  [ TRef.unary (.of main_v54 : TRef sig ⟨S64x216, .i32⟩) (.of main_v61 : TRef sig ⟨S64x216x1, .i32⟩) (broadcastInDim S64x216x1 ![0, 1] bcast_S64x216_S64x216x1_0_1) ]

abbrev typed3_9 : List (HloOp τ sig (Elt F)) :=
  [ TRef.unary (.of main_v63 : TRef sig ⟨S64x360x1, .f32⟩) (.of main_v64 : TRef sig ⟨S64x360x768, .f32⟩) (broadcastInDim S64x360x768 ![0, 1, 2] bcast_S64x360x1_S64x360x768_0_1_2),
    TRef.binary (.of main_v59 : TRef sig ⟨S64x360x768, .f32⟩) (.of main_v64 : TRef sig ⟨S64x360x768, .f32⟩) (.of main_v65 : TRef sig ⟨S64x360x768, .f32⟩) (Host.divf) ]

abbrev typed3_11 : List (HloOp τ sig (Elt F)) :=
  [ TRef.unary (.of main_v66 : TRef sig ⟨S64x216x1, .f32⟩) (.of main_v67 : TRef sig ⟨S64x216x768, .f32⟩) (broadcastInDim S64x216x768 ![0, 1, 2] bcast_S64x216x1_S64x216x768_0_1_2),
    TRef.binary (.of main_v62 : TRef sig ⟨S64x216x768, .f32⟩) (.of main_v67 : TRef sig ⟨S64x216x768, .f32⟩) (.of main_v68 : TRef sig ⟨S64x216x768, .f32⟩) (Host.divf),
    TRef.binary (.of main_v68 : TRef sig ⟨S64x216x768, .f32⟩) (.of main_v65 : TRef sig ⟨S64x360x768, .f32⟩) (.of main_v69 : TRef sig ⟨S64x216x360, .f32⟩) (fun l r => Host.dotGeneral dot_S64x216x768_S64x360x768_S64x216x360_2_2_1_1_0_0 none l r) ]

/-- Stage 3's stretches. -/
abbrev stretches3 : List (List (HloOp τ sig (Elt F))) :=
  [hostOps3, hostOps3_1, hostOps3_2, hostOps3_3, hostOps3_4, hostOps3_5, hostOps3_6, hostOps3_7, hostOps3_8, hostOps3_9, hostOps3_10, hostOps3_11]

abbrev typed3 : List (List (HloOp τ sig (Elt F))) :=
  [typed3_0, hostOps3_1, typed3_2, hostOps3_3, typed3_4, hostOps3_5, typed3_6, hostOps3_7, hostOps3_8, typed3_9, hostOps3_10, typed3_11]

theorem stretches3_eq : (stretches3 : List (List (HloOp τ sig (Elt F)))) = typed3 := rfl

abbrev typed4_0 : List (HloOp τ sig (Elt F)) :=
  [ TRef.unary (.of main_v70 : TRef sig ⟨S64x216, .i32⟩) (.of main_v71 : TRef sig ⟨S64x72, .i32⟩) (extractStridedSlice S64x72 ![0, 0] · slices_S64x216_S64x72_0_0),
    TRef.unary (.of main_v70 : TRef sig ⟨S64x216, .i32⟩) (.of main_v72 : TRef sig ⟨S64x144, .i32⟩) (extractStridedSlice S64x144 ![0, 72] · slices_S64x216_S64x144_0_72) ]

abbrev typed4_2 : List (HloOp τ sig (Elt F)) :=
  [ TRef.unary (.of main_v71 : TRef sig ⟨S64x72, .i32⟩) (.of main_v74 : TRef sig ⟨S64x72x1, .i32⟩) (broadcastInDim S64x72x1 ![0, 1] bcast_S64x72_S64x72x1_0_1) ]

abbrev typed4_4 : List (HloOp τ sig (Elt F)) :=
  [ TRef.binary (.of main_v58 : TRef sig ⟨S64x360, .i32⟩) (.of main_v73 : TRef sig ⟨S64x72, .i32⟩) (.of main_v76 : TRef sig ⟨S64x432, .i32⟩) (fun a b => concatenate S64x432 1 [⟨S64x360, a⟩, ⟨S64x72, b⟩] concatenates_S64x360_S64x72_S64x432_d1),
    TRef.binary (.of main_v59 : TRef sig ⟨S64x360x768, .f32⟩) (.of main_v75 : TRef sig ⟨S64x72x768, .f32⟩) (.of main_v77 : TRef sig ⟨S64x432x768, .f32⟩) (fun a b => concatenate S64x432x768 1 [⟨S64x360x768, a⟩, ⟨S64x72x768, b⟩] concatenates_S64x360x768_S64x72x768_S64x432x768_d1) ]

abbrev typed4_6 : List (HloOp τ sig (Elt F)) :=
  [ TRef.unary (.of main_v72 : TRef sig ⟨S64x144, .i32⟩) (.of main_v79 : TRef sig ⟨S64x144x1, .i32⟩) (broadcastInDim S64x144x1 ![0, 1] bcast_S64x144_S64x144x1_0_1) ]

abbrev typed4_9 : List (HloOp τ sig (Elt F)) :=
  [ TRef.unary (.of main_v81 : TRef sig ⟨S64x432x1, .f32⟩) (.of main_v82 : TRef sig ⟨S64x432x768, .f32⟩) (broadcastInDim S64x432x768 ![0, 1, 2] bcast_S64x432x1_S64x432x768_0_1_2),
    TRef.binary (.of main_v77 : TRef sig ⟨S64x432x768, .f32⟩) (.of main_v82 : TRef sig ⟨S64x432x768, .f32⟩) (.of main_v83 : TRef sig ⟨S64x432x768, .f32⟩) (Host.divf) ]

abbrev typed4_11 : List (HloOp τ sig (Elt F)) :=
  [ TRef.unary (.of main_v84 : TRef sig ⟨S64x144x1, .f32⟩) (.of main_v85 : TRef sig ⟨S64x144x768, .f32⟩) (broadcastInDim S64x144x768 ![0, 1, 2] bcast_S64x144x1_S64x144x768_0_1_2),
    TRef.binary (.of main_v80 : TRef sig ⟨S64x144x768, .f32⟩) (.of main_v85 : TRef sig ⟨S64x144x768, .f32⟩) (.of main_v86 : TRef sig ⟨S64x144x768, .f32⟩) (Host.divf),
    TRef.binary (.of main_v86 : TRef sig ⟨S64x144x768, .f32⟩) (.of main_v83 : TRef sig ⟨S64x432x768, .f32⟩) (.of main_v87 : TRef sig ⟨S64x144x432, .f32⟩) (fun l r => Host.dotGeneral dot_S64x144x768_S64x432x768_S64x144x432_2_2_1_1_0_0 none l r) ]

/-- Stage 4's stretches. -/
abbrev stretches4 : List (List (HloOp τ sig (Elt F))) :=
  [hostOps4, hostOps4_1, hostOps4_2, hostOps4_3, hostOps4_4, hostOps4_5, hostOps4_6, hostOps4_7, hostOps4_8, hostOps4_9, hostOps4_10, hostOps4_11]

abbrev typed4 : List (List (HloOp τ sig (Elt F))) :=
  [typed4_0, hostOps4_1, typed4_2, hostOps4_3, typed4_4, hostOps4_5, typed4_6, hostOps4_7, hostOps4_8, typed4_9, hostOps4_10, typed4_11]

theorem stretches4_eq : (stretches4 : List (List (HloOp τ sig (Elt F)))) = typed4 := rfl

abbrev typed5_0 : List (HloOp τ sig (Elt F)) :=
  [ TRef.unary (.of main_v88 : TRef sig ⟨S64x144, .i32⟩) (.of main_v89 : TRef sig ⟨S64x43, .i32⟩) (extractStridedSlice S64x43 ![0, 0] · slices_S64x144_S64x43_0_0),
    TRef.unary (.of main_v88 : TRef sig ⟨S64x144, .i32⟩) (.of main_v90 : TRef sig ⟨S64x101, .i32⟩) (extractStridedSlice S64x101 ![0, 43] · slices_S64x144_S64x101_0_43) ]

abbrev typed5_2 : List (HloOp τ sig (Elt F)) :=
  [ TRef.unary (.of main_v89 : TRef sig ⟨S64x43, .i32⟩) (.of main_v92 : TRef sig ⟨S64x43x1, .i32⟩) (broadcastInDim S64x43x1 ![0, 1] bcast_S64x43_S64x43x1_0_1) ]

abbrev typed5_4 : List (HloOp τ sig (Elt F)) :=
  [ TRef.binary (.of main_v76 : TRef sig ⟨S64x432, .i32⟩) (.of main_v91 : TRef sig ⟨S64x43, .i32⟩) (.of main_v94 : TRef sig ⟨S64x475, .i32⟩) (fun a b => concatenate S64x475 1 [⟨S64x432, a⟩, ⟨S64x43, b⟩] concatenates_S64x432_S64x43_S64x475_d1),
    TRef.binary (.of main_v77 : TRef sig ⟨S64x432x768, .f32⟩) (.of main_v93 : TRef sig ⟨S64x43x768, .f32⟩) (.of main_v95 : TRef sig ⟨S64x475x768, .f32⟩) (fun a b => concatenate S64x475x768 1 [⟨S64x432x768, a⟩, ⟨S64x43x768, b⟩] concatenates_S64x432x768_S64x43x768_S64x475x768_d1) ]

abbrev typed5_6 : List (HloOp τ sig (Elt F)) :=
  [ TRef.unary (.of main_v90 : TRef sig ⟨S64x101, .i32⟩) (.of main_v97 : TRef sig ⟨S64x101x1, .i32⟩) (broadcastInDim S64x101x1 ![0, 1] bcast_S64x101_S64x101x1_0_1) ]

abbrev typed5_9 : List (HloOp τ sig (Elt F)) :=
  [ TRef.unary (.of main_v99 : TRef sig ⟨S64x475x1, .f32⟩) (.of main_v100 : TRef sig ⟨S64x475x768, .f32⟩) (broadcastInDim S64x475x768 ![0, 1, 2] bcast_S64x475x1_S64x475x768_0_1_2),
    TRef.binary (.of main_v95 : TRef sig ⟨S64x475x768, .f32⟩) (.of main_v100 : TRef sig ⟨S64x475x768, .f32⟩) (.of main_v101 : TRef sig ⟨S64x475x768, .f32⟩) (Host.divf) ]

abbrev typed5_11 : List (HloOp τ sig (Elt F)) :=
  [ TRef.unary (.of main_v102 : TRef sig ⟨S64x101x1, .f32⟩) (.of main_v103 : TRef sig ⟨S64x101x768, .f32⟩) (broadcastInDim S64x101x768 ![0, 1, 2] bcast_S64x101x1_S64x101x768_0_1_2),
    TRef.binary (.of main_v98 : TRef sig ⟨S64x101x768, .f32⟩) (.of main_v103 : TRef sig ⟨S64x101x768, .f32⟩) (.of main_v104 : TRef sig ⟨S64x101x768, .f32⟩) (Host.divf),
    TRef.binary (.of main_v104 : TRef sig ⟨S64x101x768, .f32⟩) (.of main_v101 : TRef sig ⟨S64x475x768, .f32⟩) (.of main_v105 : TRef sig ⟨S64x101x475, .f32⟩) (fun l r => Host.dotGeneral dot_S64x101x768_S64x475x768_S64x101x475_2_2_1_1_0_0 none l r) ]

/-- Stage 5's stretches. -/
abbrev stretches5 : List (List (HloOp τ sig (Elt F))) :=
  [hostOps5, hostOps5_1, hostOps5_2, hostOps5_3, hostOps5_4, hostOps5_5, hostOps5_6, hostOps5_7, hostOps5_8, hostOps5_9, hostOps5_10, hostOps5_11]

abbrev typed5 : List (List (HloOp τ sig (Elt F))) :=
  [typed5_0, hostOps5_1, typed5_2, hostOps5_3, typed5_4, hostOps5_5, typed5_6, hostOps5_7, hostOps5_8, typed5_9, hostOps5_10, typed5_11]

theorem stretches5_eq : (stretches5 : List (List (HloOp τ sig (Elt F)))) = typed5 := rfl

abbrev typed6_0 : List (HloOp τ sig (Elt F)) :=
  [ TRef.unary (.of main_v106 : TRef sig ⟨S64x101, .i32⟩) (.of main_v107 : TRef sig ⟨S64x43, .i32⟩) (extractStridedSlice S64x43 ![0, 0] · slices_S64x101_S64x43_0_0),
    TRef.unary (.of main_v106 : TRef sig ⟨S64x101, .i32⟩) (.of main_v108 : TRef sig ⟨S64x58, .i32⟩) (extractStridedSlice S64x58 ![0, 43] · slices_S64x101_S64x58_0_43) ]

abbrev typed6_2 : List (HloOp τ sig (Elt F)) :=
  [ TRef.unary (.of main_v107 : TRef sig ⟨S64x43, .i32⟩) (.of main_v110 : TRef sig ⟨S64x43x1, .i32⟩) (broadcastInDim S64x43x1 ![0, 1] bcast_S64x43_S64x43x1_0_1) ]

abbrev typed6_4 : List (HloOp τ sig (Elt F)) :=
  [ TRef.binary (.of main_v94 : TRef sig ⟨S64x475, .i32⟩) (.of main_v109 : TRef sig ⟨S64x43, .i32⟩) (.of main_v112 : TRef sig ⟨S64x518, .i32⟩) (fun a b => concatenate S64x518 1 [⟨S64x475, a⟩, ⟨S64x43, b⟩] concatenates_S64x475_S64x43_S64x518_d1),
    TRef.binary (.of main_v95 : TRef sig ⟨S64x475x768, .f32⟩) (.of main_v111 : TRef sig ⟨S64x43x768, .f32⟩) (.of main_v113 : TRef sig ⟨S64x518x768, .f32⟩) (fun a b => concatenate S64x518x768 1 [⟨S64x475x768, a⟩, ⟨S64x43x768, b⟩] concatenates_S64x475x768_S64x43x768_S64x518x768_d1) ]

abbrev typed6_6 : List (HloOp τ sig (Elt F)) :=
  [ TRef.unary (.of main_v108 : TRef sig ⟨S64x58, .i32⟩) (.of main_v115 : TRef sig ⟨S64x58x1, .i32⟩) (broadcastInDim S64x58x1 ![0, 1] bcast_S64x58_S64x58x1_0_1) ]

abbrev typed6_9 : List (HloOp τ sig (Elt F)) :=
  [ TRef.unary (.of main_v117 : TRef sig ⟨S64x518x1, .f32⟩) (.of main_v118 : TRef sig ⟨S64x518x768, .f32⟩) (broadcastInDim S64x518x768 ![0, 1, 2] bcast_S64x518x1_S64x518x768_0_1_2),
    TRef.binary (.of main_v113 : TRef sig ⟨S64x518x768, .f32⟩) (.of main_v118 : TRef sig ⟨S64x518x768, .f32⟩) (.of main_v119 : TRef sig ⟨S64x518x768, .f32⟩) (Host.divf) ]

abbrev typed6_11 : List (HloOp τ sig (Elt F)) :=
  [ TRef.unary (.of main_v120 : TRef sig ⟨S64x58x1, .f32⟩) (.of main_v121 : TRef sig ⟨S64x58x768, .f32⟩) (broadcastInDim S64x58x768 ![0, 1, 2] bcast_S64x58x1_S64x58x768_0_1_2),
    TRef.binary (.of main_v116 : TRef sig ⟨S64x58x768, .f32⟩) (.of main_v121 : TRef sig ⟨S64x58x768, .f32⟩) (.of main_v122 : TRef sig ⟨S64x58x768, .f32⟩) (Host.divf),
    TRef.binary (.of main_v122 : TRef sig ⟨S64x58x768, .f32⟩) (.of main_v119 : TRef sig ⟨S64x518x768, .f32⟩) (.of main_v123 : TRef sig ⟨S64x58x518, .f32⟩) (fun l r => Host.dotGeneral dot_S64x58x768_S64x518x768_S64x58x518_2_2_1_1_0_0 none l r) ]

/-- Stage 6's stretches. -/
abbrev stretches6 : List (List (HloOp τ sig (Elt F))) :=
  [hostOps6, hostOps6_1, hostOps6_2, hostOps6_3, hostOps6_4, hostOps6_5, hostOps6_6, hostOps6_7, hostOps6_8, hostOps6_9, hostOps6_10, hostOps6_11]

abbrev typed6 : List (List (HloOp τ sig (Elt F))) :=
  [typed6_0, hostOps6_1, typed6_2, hostOps6_3, typed6_4, hostOps6_5, typed6_6, hostOps6_7, hostOps6_8, typed6_9, hostOps6_10, typed6_11]

theorem stretches6_eq : (stretches6 : List (List (HloOp τ sig (Elt F)))) = typed6 := rfl

end Cert.KernSelect

end
-- ==== Proof.SimSelect.lean ====
module

public import proofs.«01_k».proof.Proof.Agree
public import proofs.«01_k».proof.Proof.RefSelect
public import proofs.«01_k».proof.Proof.KernSelect

@[expose] public section

/-! Between the sorts the kernel and the reference do the same operations. -/

noncomputable section

namespace Cert.SimSelect

open Idealize.ShloMosaic Idealize.ShloMosaic.TcCoe Idealize.ShloMosaic.StableHlo Cert.Agree

variable {F : FTy → Type} [FloatOps F]

/-- The buffers paired at a boundary, the kernel's with the reference's. -/
abbrev Pairs : Type := List (Ref Cert.SelectIdeal.sig .tc × Ref Cert.SelectRefIdeal.sig .tc)

/-- The input. -/
abbrev start : Pairs := [(Cert.SelectIdeal.main_arg0, Cert.SelectRefIdeal.main_arg0)]

/-- After stage 0: the cosines, the selected indices, the selected tokens, the other indices, the other tokens. -/
abbrev pairs0 : Pairs :=
  [(Cert.SelectIdeal.main_v15, Cert.SelectRefIdeal.main_v15),
    (Cert.SelectIdeal.main_v2, Cert.SelectRefIdeal.main_v2),
    (Cert.SelectIdeal.main_v4, Cert.SelectRefIdeal.main_v4),
    (Cert.SelectIdeal.main_v6, Cert.SelectRefIdeal.main_v6),
    (Cert.SelectIdeal.main_v8, Cert.SelectRefIdeal.main_v8)]

/-- After stage 1. -/
abbrev pairs1 : Pairs :=
  [(Cert.SelectIdeal.main_v33, Cert.SelectRefIdeal.main_v34),
    (Cert.SelectIdeal.main_v22, Cert.SelectRefIdeal.main_v23),
    (Cert.SelectIdeal.main_v23, Cert.SelectRefIdeal.main_v24),
    (Cert.SelectIdeal.main_v24, Cert.SelectRefIdeal.main_v25),
    (Cert.SelectIdeal.main_v26, Cert.SelectRefIdeal.main_v27)]

/-- After stage 2. -/
abbrev pairs2 : Pairs :=
  [(Cert.SelectIdeal.main_v51, Cert.SelectRefIdeal.main_v53),
    (Cert.SelectIdeal.main_v40, Cert.SelectRefIdeal.main_v42),
    (Cert.SelectIdeal.main_v41, Cert.SelectRefIdeal.main_v43),
    (Cert.SelectIdeal.main_v42, Cert.SelectRefIdeal.main_v44),
    (Cert.SelectIdeal.main_v44, Cert.SelectRefIdeal.main_v46)]

/-- After stage 3. -/
abbrev pairs3 : Pairs :=
  [(Cert.SelectIdeal.main_v69, Cert.SelectRefIdeal.main_v72),
    (Cert.SelectIdeal.main_v58, Cert.SelectRefIdeal.main_v61),
    (Cert.SelectIdeal.main_v59, Cert.SelectRefIdeal.main_v62),
    (Cert.SelectIdeal.main_v60, Cert.SelectRefIdeal.main_v63),
    (Cert.SelectIdeal.main_v62, Cert.SelectRefIdeal.main_v65)]

/-- After stage 4. -/
abbrev pairs4 : Pairs :=
  [(Cert.SelectIdeal.main_v87, Cert.SelectRefIdeal.main_v91),
    (Cert.SelectIdeal.main_v76, Cert.SelectRefIdeal.main_v80),
    (Cert.SelectIdeal.main_v77, Cert.SelectRefIdeal.main_v81),
    (Cert.SelectIdeal.main_v78, Cert.SelectRefIdeal.main_v82),
    (Cert.SelectIdeal.main_v80, Cert.SelectRefIdeal.main_v84)]

/-- After stage 5. -/
abbrev pairs5 : Pairs :=
  [(Cert.SelectIdeal.main_v105, Cert.SelectRefIdeal.main_v110),
    (Cert.SelectIdeal.main_v94, Cert.SelectRefIdeal.main_v99),
    (Cert.SelectIdeal.main_v95, Cert.SelectRefIdeal.main_v100),
    (Cert.SelectIdeal.main_v96, Cert.SelectRefIdeal.main_v101),
    (Cert.SelectIdeal.main_v98, Cert.SelectRefIdeal.main_v103)]

/-- After stage 6. -/
abbrev pairs6 : Pairs :=
  [(Cert.SelectIdeal.main_v123, Cert.SelectRefIdeal.main_v129),
    (Cert.SelectIdeal.main_v112, Cert.SelectRefIdeal.main_v118),
    (Cert.SelectIdeal.main_v113, Cert.SelectRefIdeal.main_v119),
    (Cert.SelectIdeal.main_v114, Cert.SelectRefIdeal.main_v120),
    (Cert.SelectIdeal.main_v116, Cert.SelectRefIdeal.main_v122)]

/-- Before stage 1: its order too. -/
abbrev sorted1 : Pairs := (Cert.SelectIdeal.main_v16, Cert.SelectRefIdeal.main_v17) :: pairs0

/-- Before stage 2: its order too. -/
abbrev sorted2 : Pairs := (Cert.SelectIdeal.main_v34, Cert.SelectRefIdeal.main_v36) :: pairs1

/-- Before stage 3: its order too. -/
abbrev sorted3 : Pairs := (Cert.SelectIdeal.main_v52, Cert.SelectRefIdeal.main_v55) :: pairs2

/-- Before stage 4: its order too. -/
abbrev sorted4 : Pairs := (Cert.SelectIdeal.main_v70, Cert.SelectRefIdeal.main_v74) :: pairs3

/-- Before stage 5: its order too. -/
abbrev sorted5 : Pairs := (Cert.SelectIdeal.main_v88, Cert.SelectRefIdeal.main_v93) :: pairs4

/-- Before stage 6: its order too. -/
abbrev sorted6 : Pairs := (Cert.SelectIdeal.main_v106, Cert.SelectRefIdeal.main_v112) :: pairs5

/-- The reference's stretches of stage 0. -/
abbrev ref0 : List (List (HloOp Cert.SelectRefIdeal.τ Cert.SelectRefIdeal.sig (Elt F))) :=
  [RefSelect.host0_0, RefSelect.host0_1, RefSelect.host0_2, RefSelect.host0_3, RefSelect.host0_4, RefSelect.host0_5, RefSelect.host0_6, RefSelect.host0_7]

/-- The reference's stretches of stage 1. -/
abbrev ref1 : List (List (HloOp Cert.SelectRefIdeal.τ Cert.SelectRefIdeal.sig (Elt F))) :=
  [RefSelect.host1_0, RefSelect.host1_1, RefSelect.host1_2, RefSelect.host1_3, RefSelect.host1_4, RefSelect.host1_5, RefSelect.host1_6, RefSelect.host1_7, RefSelect.host1_8, RefSelect.host1_9, RefSelect.host1_10, RefSelect.host1_11]

/-- The reference's stretches of stage 2. -/
abbrev ref2 : List (List (HloOp Cert.SelectRefIdeal.τ Cert.SelectRefIdeal.sig (Elt F))) :=
  [RefSelect.host2_0, RefSelect.host2_1, RefSelect.host2_2, RefSelect.host2_3, RefSelect.host2_4, RefSelect.host2_5, RefSelect.host2_6, RefSelect.host2_7, RefSelect.host2_8, RefSelect.host2_9, RefSelect.host2_10, RefSelect.host2_11]

/-- The reference's stretches of stage 3. -/
abbrev ref3 : List (List (HloOp Cert.SelectRefIdeal.τ Cert.SelectRefIdeal.sig (Elt F))) :=
  [RefSelect.host3_0, RefSelect.host3_1, RefSelect.host3_2, RefSelect.host3_3, RefSelect.host3_4, RefSelect.host3_5, RefSelect.host3_6, RefSelect.host3_7, RefSelect.host3_8, RefSelect.host3_9, RefSelect.host3_10, RefSelect.host3_11]

/-- The reference's stretches of stage 4. -/
abbrev ref4 : List (List (HloOp Cert.SelectRefIdeal.τ Cert.SelectRefIdeal.sig (Elt F))) :=
  [RefSelect.host4_0, RefSelect.host4_1, RefSelect.host4_2, RefSelect.host4_3, RefSelect.host4_4, RefSelect.host4_5, RefSelect.host4_6, RefSelect.host4_7, RefSelect.host4_8, RefSelect.host4_9, RefSelect.host4_10, RefSelect.host4_11]

/-- The reference's stretches of stage 5. -/
abbrev ref5 : List (List (HloOp Cert.SelectRefIdeal.τ Cert.SelectRefIdeal.sig (Elt F))) :=
  [RefSelect.host5_0, RefSelect.host5_1, RefSelect.host5_2, RefSelect.host5_3, RefSelect.host5_4, RefSelect.host5_5, RefSelect.host5_6, RefSelect.host5_7, RefSelect.host5_8, RefSelect.host5_9, RefSelect.host5_10, RefSelect.host5_11]

/-- The reference's stretches of stage 6. -/
abbrev ref6 : List (List (HloOp Cert.SelectRefIdeal.τ Cert.SelectRefIdeal.sig (Elt F))) :=
  [RefSelect.host6_0, RefSelect.host6_1, RefSelect.host6_2, RefSelect.host6_3, RefSelect.host6_4, RefSelect.host6_5, RefSelect.host6_6, RefSelect.host6_7, RefSelect.host6_8, RefSelect.host6_9, RefSelect.host6_10, RefSelect.host6_11]

set_option maxHeartbeats 4000000

theorem stages :
      Sims (τ := Cert.SelectIdeal.τ) (Val := Elt F) KernSelect.typed0 ref0 start pairs0 ∧
      Sims (τ := Cert.SelectIdeal.τ) (Val := Elt F) KernSelect.typed1 ref1 sorted1 pairs1 ∧
      Sims (τ := Cert.SelectIdeal.τ) (Val := Elt F) KernSelect.typed2 ref2 sorted2 pairs2 ∧
      Sims (τ := Cert.SelectIdeal.τ) (Val := Elt F) KernSelect.typed3 ref3 sorted3 pairs3 ∧
      Sims (τ := Cert.SelectIdeal.τ) (Val := Elt F) KernSelect.typed4 ref4 sorted4 pairs4 ∧
      Sims (τ := Cert.SelectIdeal.τ) (Val := Elt F) KernSelect.typed5 ref5 sorted5 pairs5 ∧
      Sims (τ := Cert.SelectIdeal.τ) (Val := Elt F) KernSelect.typed6 ref6 sorted6 pairs6 := by
  refine ⟨?_, ?_, ?_, ?_, ?_, ?_, ?_⟩
  repeat' first
    | with_reducible exact sims_nil
    | with_reducible refine sims_keep (by decide +kernel) ?_
    | with_reducible refine sims_next ?_
    | with_reducible refine typed_nullary (by decide +kernel) ?_ ?_
    | with_reducible refine typed_unary (by decide +kernel) (by decide +kernel) ?_ ?_
    | with_reducible refine typed_binary (by decide +kernel) (by decide +kernel) (by decide +kernel) ?_ ?_
    | with_reducible refine typed_ternary (by decide +kernel) (by decide +kernel) (by decide +kernel) (by decide +kernel) ?_ ?_
    | with_reducible refine typed_reshape (by decide +kernel) (by decide +kernel) ?_
    | exact rfl

end Cert.SimSelect

end
-- ==== Proof.SelectRun.lean ====
module

public import proofs.«01_k».proof.Proof.Gen.SelectIdeal.Frame

@[expose] public section

set_option maxRecDepth 16384

/-! The kernel's run from the input to the last cosines: what its results hold at the end. -/

noncomputable section

namespace Cert.SelectRun

open Cert.SelectIdeal Cert.SelectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Each result ends as the last boundary's contents say, and the input as launched. -/
theorem run : θ_run defs (onTc (τ := τ) (main (F := F))) ⟨m, fun _ => 0, ρ⟩ (fun r => ∀ c : Dev nD,
      r.2.mem ((c.tc : Thread nD τ).loc main_v123) = W86 m ρ c (Proc.devRef .tc main_v123)
      ∧ r.2.mem ((c.tc : Thread nD τ).loc main_v112) = W86 m ρ c (Proc.devRef .tc main_v112)
      ∧ r.2.mem ((c.tc : Thread nD τ).loc main_v114) = W86 m ρ c (Proc.devRef .tc main_v114)
      ∧ r.2.mem ((c.tc : Thread nD τ).loc main_arg0) = m ((c.tc : Thread nD τ).loc main_arg0)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W86 m ρ c b)
    (hfin := fun c s' => by
      iintro ⟨⟨Hh, -⟩, HSI⟩
      unfold StableHlo.held
      imodintro
      iapply (pointsTo_read_all (Pipeline.ucRefs τ sig) (fun b => (((c : Thread nD τ)).1, b)) (W86 m ρ c) s')
      isplitl [Hh] <;> iassumption)
    (hQ := fun s h _ c => ⟨h c _ (mem_uc main_v123 (by decide)), h c _ (mem_uc main_v112 (by decide)), h c _ (mem_uc main_v114 (by decide)),
      (h c _ (mem_uc main_arg0 (by decide))).trans (W86_main_arg0 m ρ c)⟩)

end Cert.SelectRun

end
-- ==== Proof.Net.lean ====
module

public import Idealize.ShloMosaic.Lib.SortNet.Sorts
public import Idealize.ShloMosaic.Lib.SortFacts
public import Idealize.ShloMosaic.Lib.Exec
public import Idealize.ShloMosaic.PureOps.Ideal.Laws
public import Idealize.ShloMosaic.Lib.Pointwise
public import Mathlib.Data.Prod.Lex

@[expose] public section

/-! The bitonic network on 512 places, and what a stable sort of the positions by their keys gives. -/

namespace Cert.Net

open Idealize.ShloMosaic Idealize.ShloMosaic.SortNet

/-! ## A stable sort of the positions -/

section stable

variable {n : Nat} {α : Type*} [LinearOrder α] (K : Fin n → α)

/-- Lesser key first, and among equal keys the lower position. -/
def First (a b : Fin n) : Prop := K a < K b ∨ (K a = K b ∧ a < b)

/-- Inserting a position lower than all of a list in this order leaves a list in this order. -/
theorem pairwise_insert (a : Fin n) (l : List (Fin n)) (ha : ∀ b ∈ l, a < b) (hl : l.Pairwise (First K)) :
    (insertBefore (fun x y => decide (K x < K y)) a l).Pairwise (First K) := by
  induction l with
  | nil => exact List.pairwise_singleton _ _
  | cons b l ih =>
    obtain ⟨hb, hl'⟩ := List.pairwise_cons.mp hl
    unfold insertBefore
    by_cases h : K b < K a
    · rw [if_pos (decide_eq_true h)]
      refine List.pairwise_cons.mpr ⟨fun x hx => ?_, ih (fun x hx => ha x (List.mem_cons_of_mem _ hx)) hl'⟩
      rcases List.mem_cons.mp ((perm_insertBefore _ a l).mem_iff.mp hx) with e | hx'
      · rw [e]; exact Or.inl h
      · exact hb x hx'
    · rw [if_neg (by simpa using h)]
      refine List.pairwise_cons.mpr ⟨fun x hx => ?_, hl⟩
      have hle : K a ≤ K x := by
        rcases List.mem_cons.mp hx with e | hx'
        · rw [e]; exact not_lt.mp h
        · rcases hb x hx' with h1 | ⟨h1, -⟩
          · exact (not_lt.mp h).trans h1.le
          · exact (not_lt.mp h).trans h1.le
      rcases hle.lt_or_eq with h1 | h1
      · exact Or.inl h1
      · exact Or.inr ⟨h1, ha x hx⟩

/-- A stable sort of ascending positions leaves them in this order. -/
theorem pairwise_sort (l : List (Fin n)) (hl : l.Pairwise (· < ·)) : (stableSort (fun x y => decide (K x < K y)) l).Pairwise (First K) := by
  induction l with
  | nil => exact List.Pairwise.nil
  | cons a l ih =>
    obtain ⟨ha, hl'⟩ := List.pairwise_cons.mp hl
    unfold stableSort
    exact pairwise_insert K a _ (fun b hb => ha b ((perm_stableSort _ l).mem_iff.mp hb)) (ih hl')

theorem First.irrefl (a : Fin n) : ¬ First K a a := fun h => by
  rcases h with h | ⟨-, h⟩ <;> exact lt_irrefl _ h

theorem First.asymm (a b : Fin n) (h : First K a b) (h' : First K b a) : False := by
  rcases h with h | ⟨e, h⟩ <;> rcases h' with h' | ⟨e', h'⟩
  · exact lt_asymm h h'
  · exact (ne_of_lt h) e'.symm
  · exact (ne_of_lt h') e.symm
  · exact lt_asymm h h'

/-- Positions listed in this order are the stable sort's. -/
theorem sortedFrom_eq (τ : Fin n → Fin n) (hτ : ∀ i j, i < j → First K (τ i) (τ j)) (r : Fin n) :
    sortedFrom (fun a b => decide (K a < K b)) r = τ r := by
  have hinj : Function.Injective τ := fun i j e => by
    rcases lt_trichotomy i j with h | h | h
    · exact absurd (e ▸ hτ i j h) (First.irrefl K _)
    · exact h
    · exact absurd (e ▸ hτ j i h) (First.irrefl K _)
  have hp : (List.ofFn τ).Perm (List.finRange n) :=
    (List.perm_ext_iff_of_nodup (List.nodup_ofFn.mpr hinj) (List.nodup_finRange n)).mpr fun p => by
      simp only [List.mem_ofFn, List.mem_finRange, iff_true]
      exact (Finite.injective_iff_surjective.mp hinj) p
  have hs : sortPositions n (fun a b => decide (K a < K b)) = List.ofFn τ :=
    List.Perm.eq_of_pairwise (le := First K) (fun a b _ _ h h' => (First.asymm K a b h h').elim)
      (pairwise_sort K _ (List.pairwise_lt_finRange n)) (List.pairwise_ofFn.mpr fun i j h => hτ i j h)
      ((perm_sortPositions n _).trans hp.symm)
  unfold sortedFrom
  rw [List.get_of_eq hs]
  simp

end stable

/-! ## The sort of 512 entries of which the first are the ones wanted -/

section network

variable {α β : Type*} [LinearOrder α] [LinearOrder β]

/-- The network's steps in order: the run length's and the distance's exponents. -/
def steps : List (Nat × Nat) := (List.range 9).flatMap fun l => (List.range (l + 1)).reverse.map fun s => (l, s)

/-- One step. -/
def step (p : Nat × Nat) : Network (2 ^ 9) := stage 9 p.2 fun i => (decide (i.val &&& 2 ^ (p.1 + 1) = 0)) == false

theorem sortNet_eq : sortNet 9 false = steps.flatMap step := by
  unfold sortNet steps step
  rw [List.flatMap_assoc]
  refine congrArg (fun f => (List.range 9).flatMap f) (funext fun l => ?_)
  rw [List.flatMap_map]

theorem apply_flatMap (L : List (Nat × Nat)) (v : Fin (2 ^ 9) → α) :
    Network.apply (L.flatMap step) v = L.foldl (fun v p => Network.apply (step p) v) v := by
  induction L generalizing v with
  | nil => rfl
  | cons p L ih => rw [List.flatMap_cons, Network.apply_append, ih]; rfl

/-- The steps one after the other: a rearrangement in ascending order. -/
theorem steps_sort (v : Fin (2 ^ 9) → α) :
    Monotone (steps.foldl (fun v p => Network.apply (step p) v) v)
      ∧ ∃ σ : Equiv.Perm (Fin (2 ^ 9)), steps.foldl (fun v p => Network.apply (step p) v) v = v ∘ σ := by
  rw [← apply_flatMap, ← sortNet_eq]
  exact ⟨sortNet_apply_monotone 9 v, Network.exists_perm _ v⟩

/-- Entries of different payloads rearranged in ascending order ascend strictly. -/
theorem strict {N : Nat} (v : Fin N → α) (hv : Function.Injective v) (σ : Equiv.Perm (Fin N)) (h : Monotone (v ∘ σ))
    (i j : Fin N) (hij : i < j) : v (σ i) < v (σ j) :=
  lt_of_le_of_ne (h hij.le) fun e => (ne_of_lt hij) (σ.injective (hv e))

/-- If each of the first `U` entries is below every other, a sort leaves them in the first `U` places. -/
theorem first_stay {N U : Nat} (hU : U ≤ N) (v : Fin N → α) (hv : Function.Injective v)
    (hlow : ∀ a b : Fin N, a.val < U → U ≤ b.val → v a < v b) (σ : Equiv.Perm (Fin N)) (h : Monotone (v ∘ σ))
    (r : Fin N) (hr : r.val < U) : (σ r).val < U := by
  by_contra hc
  have hlt : ∀ a : Fin U, (σ.symm (a.castLE hU)).val < r.val := fun a => by
    by_contra hn
    have h1 : v (σ r) ≤ v (σ (σ.symm (a.castLE hU))) := h (show r ≤ σ.symm (a.castLE hU) from not_lt.mp hn)
    rw [Equiv.apply_symm_apply] at h1
    exact absurd (hlow (a.castLE hU) (σ r) a.isLt (not_lt.mp hc)) (not_lt.mpr h1)
  have hcard := Fintype.card_le_of_injective (fun a : Fin U => (⟨_, hlt a⟩ : Fin r.val)) fun a b e => by
    have e1 : σ.symm (a.castLE hU) = σ.symm (b.castLE hU) := Fin.ext (Fin.mk.inj e)
    exact Fin.ext (congrArg (fun x : Fin N => x.val) (σ.symm.injective e1))
  rw [Fintype.card_fin, Fintype.card_fin] at hcard
  omega

/-- So the first `U` places name the first `U` keys' positions as the stable sort does. -/
theorem first_sorted {N U : Nat} (hU : U ≤ N) (k : Fin N → α) (q : Fin N → β) (hq : StrictMono q)
    (hlow : ∀ a b : Fin N, a.val < U → U ≤ b.val → k a ≤ k b) (σ : Equiv.Perm (Fin N))
    (h : Monotone ((fun a => toLex (k a, q a)) ∘ σ)) (r : Fin U) :
    (σ (r.castLE hU)).val = (sortedFrom (fun a b : Fin U => decide (k (a.castLE hU) < k (b.castLE hU))) r).val := by
  have hv : Function.Injective fun a => toLex (k a, q a) := fun a b e =>
    hq.injective (Prod.mk.inj (toLex.injective e)).2
  have hlow' : ∀ a b : Fin N, a.val < U → U ≤ b.val → toLex (k a, q a) < toLex (k b, q b) := fun a b ha hb => by
    rw [Prod.Lex.toLex_lt_toLex]
    rcases (hlow a b ha hb).lt_or_eq with e | e
    · exact Or.inl e
    · exact Or.inr ⟨e, hq (show a.val < b.val from lt_of_lt_of_le ha hb)⟩
  have hst := first_stay hU _ hv hlow' σ h
  have hτ := sortedFrom_eq (fun a : Fin U => k (a.castLE hU))
    (fun r => ⟨(σ (r.castLE hU)).val, hst (r.castLE hU) r.isLt⟩) (fun i j hij => by
      have hs := strict _ hv σ h (i.castLE hU) (j.castLE hU) hij
      simp only [Prod.Lex.toLex_lt_toLex] at hs
      rcases hs with hs | ⟨he, hs⟩
      · exact Or.inl hs
      · exact Or.inr ⟨he, (hq.lt_iff_lt).mp hs⟩) r
  rw [hτ]

end network

/-! ## One step as the lanes do it -/

section lanes

/-- A lane's index tested against a mask. -/
def clearBit (j : Fin 512) (t : BitVec 32) : BitVec 1 := IntOp.cmpi .eq (IntOp.andi (BitVec.ofNat 32 j.val) t) 0#32

/-- What the two rotations by the distance bring to a lane: the entry above it or the one below. -/
def fetch {α : Type} (t : BitVec 32) (f : Fin 512 → α) (j : Fin 512) : α :=
  Scalar.select (clearBit j t) (f ⟨(j.val + 512 - (Scalar.subi 512#32 t).toNat % 512) % 512, Nat.mod_lt _ (by decide)⟩)
    (f ⟨(j.val + 512 - t.toNat % 512) % 512, Nat.mod_lt _ (by decide)⟩)

/-- Whether a lane keeps its entry. -/
noncomputable def keepBit (z t : BitVec 32) (k q : Fin 512 → EReal) (j : Fin 512) : BitVec 1 :=
  IntOp.xori (IntOp.xori (IntOp.ori (BitVec.ofBool (decide (k j < fetch t k j)))
      (IntOp.andi (BitVec.ofBool (decide (k j = fetch t k j))) (BitVec.ofBool (decide (q j < fetch t q j)))))
    (IntOp.xori (IntOp.xori (clearBit j t) (clearBit j z)) 1#1)) 1#1

/-- The keys after a step. -/
noncomputable def keyStep (z t : BitVec 32) (k q : Fin 512 → EReal) (j : Fin 512) : EReal := Scalar.select (keepBit z t k q j) (k j) (fetch t k j)

/-- The positions after a step. -/
noncomputable def posStep (z t : BitVec 32) (k q : Fin 512 → EReal) (j : Fin 512) : EReal := Scalar.select (keepBit z t k q j) (q j) (fetch t q j)

/-- A row's entries: key first, then position. -/
def entry (k q : Fin 512 → EReal) (j : Fin (2 ^ 9)) : EReal ×ₗ EReal := toLex (k j, q j)

theorem clearBit_eq (j : Fin 512) (m : Nat) (hm : m < 2 ^ 32) : clearBit j (BitVec.ofNat 32 m) = BitVec.ofBool (decide (j.val &&& m = 0)) := by
  unfold clearBit IntOp.cmpi IntOp.andi
  refine congrArg BitVec.ofBool ?_
  rw [← BitVec.ofNat_and, Bool.eq_iff_iff, beq_iff_eq, decide_eq_true_iff, ← BitVec.toNat_inj, BitVec.toNat_ofNat, BitVec.toNat_ofNat,
    Nat.mod_eq_of_lt (lt_of_le_of_lt Nat.and_le_right hm)]

theorem select_ofBool {α : Type} (b : Bool) (x y : α) : Scalar.select (BitVec.ofBool b) x y = if b then x else y := by
  cases b <;> rfl

theorem amount_up : ∀ s : Fin 9, (Scalar.subi 512#32 (BitVec.ofNat 32 (2 ^ s.val))).toNat % 512 = 512 - 2 ^ s.val ∧ 2 ^ s.val ≤ 256 := by decide

theorem amount_down : ∀ s : Fin 9, (BitVec.ofNat 32 (2 ^ s.val)).toNat % 512 = 2 ^ s.val := by decide

theorem small_pow : ∀ s : Fin 10, 2 ^ s.val < 2 ^ 32 := by decide

/-- The rotations bring the partner's entry. -/
theorem fetch_eq {α : Type} (s : Nat) (hs : s < 9) (f : Fin 512 → α) (j : Fin 512) :
    fetch (BitVec.ofNat 32 (2 ^ s)) f j = f (partner 9 s j) := by
  unfold fetch
  obtain ⟨hu, hle⟩ := amount_up ⟨s, hs⟩
  have hd := amount_down ⟨s, hs⟩
  simp only at hu hle hd
  rw [clearBit_eq j _ (small_pow ⟨s, by omega⟩), select_ofBool]
  have hj := j.isLt
  by_cases h : j.val &&& 2 ^ s = 0
  · rw [if_pos (decide_eq_true h)]
    have e : (partner 9 s j).val = j.val + 2 ^ s := partner_val_of_clear hs j h
    have hlt : (partner 9 s j).val < 512 := (partner 9 s j).isLt
    refine congrArg f (Fin.ext ?_)
    rw [e] at hlt
    show (j.val + 512 - (Scalar.subi 512#32 (BitVec.ofNat 32 (2 ^ s))).toNat % 512) % 512 = (partner 9 s j).val
    rw [e, hu]
    omega
  · rw [if_neg (by simpa using h)]
    obtain ⟨hge, e⟩ := partner_val_of_set hs j h
    refine congrArg f (Fin.ext ?_)
    show (j.val + 512 - (BitVec.ofNat 32 (2 ^ s)).toNat % 512) % 512 = (partner 9 s j).val
    rw [e, hd]
    have hge' : 2 ^ s ≤ j.val := hge
    show _ = j.val - 2 ^ s
    omega

theorem keep_bits (a b c l u : Bool) :
    IntOp.xori (IntOp.xori (IntOp.ori (BitVec.ofBool a) (IntOp.andi (BitVec.ofBool b) (BitVec.ofBool c)))
      (IntOp.xori (IntOp.xori (BitVec.ofBool l) (BitVec.ofBool u)) 1#1)) 1#1 = BitVec.ofBool ((a || (b && c)) == (l == u)) := by
  revert a b c l u; decide

/-- The bit of the run length is the same at both partners. -/
theorem partner_up {l s : Nat} (hs : s < 9) (hsl : s ≤ l) (j : Fin (2 ^ 9)) :
    ((partner 9 s j).val &&& 2 ^ (l + 1) = 0) ↔ (j.val &&& 2 ^ (l + 1) = 0) := by
  rw [and_two_pow_eq_zero_iff_testBit, and_two_pow_eq_zero_iff_testBit, partner_val hs, Nat.testBit_xor, Nat.testBit_two_pow,
    decide_eq_false (by omega), Bool.xor_false]

theorem toLex_ite (b : Bool) (x x' y y' : EReal) :
    (toLex (if b then x else y, if b then x' else y') : EReal ×ₗ EReal) = if b then toLex (x, x') else toLex (y, y') := by
  cases b <;> rfl

/-- One step of the network is one step of the lanes. -/
theorem entry_step (l s : Nat) (hs : s < 9) (hl : l < 9) (hsl : s ≤ l) (k q : Fin 512 → EReal) :
    entry (keyStep (BitVec.ofNat 32 (2 ^ (l + 1))) (BitVec.ofNat 32 (2 ^ s)) k q)
        (posStep (BitVec.ofNat 32 (2 ^ (l + 1))) (BitVec.ofNat 32 (2 ^ s)) k q)
      = Network.apply (step (l, s)) (entry k q) := by
  funext j
  have hkeep : ∀ i : Fin (2 ^ 9), (!((decide (i.val &&& 2 ^ s = 0)) == (decide (i.val &&& 2 ^ (l + 1) = 0))))
      = !(!((decide ((partner 9 s i).val &&& 2 ^ s = 0)) == (decide ((partner 9 s i).val &&& 2 ^ (l + 1) = 0)))) := fun i => by
    have hu : decide ((partner 9 s i).val &&& 2 ^ (l + 1) = 0) = decide (i.val &&& 2 ^ (l + 1) = 0) :=
      Bool.eq_iff_iff.mpr (by rw [decide_eq_true_iff, decide_eq_true_iff]; exact partner_up hs hsl i)
    have hlo : decide ((partner 9 s i).val &&& 2 ^ s = 0) = !decide (i.val &&& 2 ^ s = 0) := by
      by_cases h : i.val &&& 2 ^ s = 0
      · rw [decide_eq_true h, partner_and hs i h]
        exact decide_eq_false (Nat.pos_iff_ne_zero.mp (Nat.two_pow_pos s))
      · rw [decide_eq_false h, partner_and_of_set hs i h]; rfl
    rw [hu, hlo]
    cases decide (i.val &&& 2 ^ s = 0) <;> cases decide (i.val &&& 2 ^ (l + 1) = 0) <;> rfl
  have hst : step (l, s) = stage 9 s (fun i => !((decide (i.val &&& 2 ^ s = 0)) == (decide (i.val &&& 2 ^ (l + 1) = 0)))) := by
    unfold step
    refine stage_congr fun i hi => ?_
    simp only [decide_eq_true hi]
    cases decide (i.val &&& 2 ^ (l + 1) = 0) <;> rfl
  rw [hst, apply_stage_select hs _ (fun i => by rw [hkeep i]; exact (Bool.not_not _).symm) _ j]
  have hbit : keepBit (BitVec.ofNat 32 (2 ^ (l + 1))) (BitVec.ofNat 32 (2 ^ s)) k q j
      = BitVec.ofBool ((decide (entry k q j < entry k q (partner 9 s j)))
          == (decide (j.val &&& 2 ^ s = 0) == decide (j.val &&& 2 ^ (l + 1) = 0))) := by
    unfold keepBit
    rw [fetch_eq s hs, fetch_eq s hs, clearBit_eq j _ (small_pow ⟨s, by omega⟩), clearBit_eq j _ (small_pow ⟨l + 1, by omega⟩), keep_bits]
    refine congrArg (fun b => BitVec.ofBool (b == _)) ?_
    rw [Bool.eq_iff_iff]
    simp only [entry, Bool.or_eq_true, Bool.and_eq_true, decide_eq_true_iff, Prod.Lex.toLex_lt_toLex]
  have hsel : entry (keyStep (BitVec.ofNat 32 (2 ^ (l + 1))) (BitVec.ofNat 32 (2 ^ s)) k q)
        (posStep (BitVec.ofNat 32 (2 ^ (l + 1))) (BitVec.ofNat 32 (2 ^ s)) k q) j
      = if ((decide (entry k q j < entry k q (partner 9 s j)))
          == (decide (j.val &&& 2 ^ s = 0) == decide (j.val &&& 2 ^ (l + 1) = 0))) then entry k q j else entry k q (partner 9 s j) := by
    show toLex (keyStep _ _ k q j, posStep _ _ k q j) = _
    unfold keyStep posStep
    rw [hbit, select_ofBool, select_ofBool, fetch_eq s hs, fetch_eq s hs]
    exact toLex_ite _ _ _ _ _
  rw [hsel]
  rcases lt_trichotomy (entry k q j) (entry k q (partner 9 s j)) with h | h | h
  · rw [decide_eq_true h, decide_eq_false (lt_asymm h)]
    cases decide (j.val &&& 2 ^ s = 0) <;> cases decide (j.val &&& 2 ^ (l + 1) = 0) <;> rfl
  · rw [h]; split_ifs <;> rfl
  · rw [decide_eq_true h, decide_eq_false (lt_asymm h)]
    cases decide (j.val &&& 2 ^ s = 0) <;> cases decide (j.val &&& 2 ^ (l + 1) = 0) <;> rfl

end lanes

/-! ## The loop over the steps -/

section loop

/-- The next run length. -/
def nextSize (z t : BitVec 32) : BitVec 32 := Scalar.select (Scalar.cmpi .eq t 1#32) (Scalar.muli z 2#32) z

/-- The next distance. -/
def nextStride (z t : BitVec 32) : BitVec 32 := Scalar.select (Scalar.cmpi .eq t 1#32) z (Scalar.shrsi t 1#32)

/-- Steps each followed by the one that the loop's two numbers give next. -/
def good : List (Nat × Nat) → Bool
  | [] => true
  | p :: rest => decide (p.2 ≤ p.1) && decide (p.1 < 9)
      && (match rest.head? with
        | none => true
        | some p' => nextSize (BitVec.ofNat 32 (2 ^ (p.1 + 1))) (BitVec.ofNat 32 (2 ^ p.2)) == BitVec.ofNat 32 (2 ^ (p'.1 + 1))
            && nextStride (BitVec.ofNat 32 (2 ^ (p.1 + 1))) (BitVec.ofNat 32 (2 ^ p.2)) == BitVec.ofNat 32 (2 ^ p'.2))
      && good rest

theorem good_steps : good steps = true := by decide +kernel

theorem length_steps : steps.length = 45 := by decide

variable {V R : Type} (row : V → R → Fin 512 → EReal) (f g : BitVec 32 → BitVec 32 → V → V → V)

/-- One trip of the loop. -/
def trip (st : BitVec 32 × BitVec 32 × V × V) : BitVec 32 × BitVec 32 × V × V :=
  (nextSize st.1 st.2.1, nextStride st.1 st.2.1, f st.1 st.2.1 st.2.2.1 st.2.2.2, g st.1 st.2.1 st.2.2.1 st.2.2.2)

theorem foldl_trip (hf : ∀ z t a b i, row (f z t a b) i = keyStep z t (row a i) (row b i))
    (hg : ∀ z t a b i, row (g z t a b) i = posStep z t (row a i) (row b i)) {n : Nat} (i : R) :
    ∀ (P : List (Nat × Nat)) (L : List (Fin n)), good P = true → L.length = P.length → ∀ (z t : BitVec 32) (a b : V),
      (∀ p, P.head? = some p → z = BitVec.ofNat 32 (2 ^ (p.1 + 1)) ∧ t = BitVec.ofNat 32 (2 ^ p.2)) →
      entry (row (L.foldl (fun st _ => trip f g st) (z, t, a, b)).2.2.1 i) (row (L.foldl (fun st _ => trip f g st) (z, t, a, b)).2.2.2 i)
        = P.foldl (fun v p => Network.apply (step p) v) (entry (row a i) (row b i))
  | [], [], _, _, _, _, _, _, _ => rfl
  | [], _ :: _, _, h, _, _, _, _, _ => absurd h (by simp)
  | _ :: _, [], _, h, _, _, _, _, _ => absurd h (by simp)
  | p :: P, x :: L, hP, hL, z, t, a, b, hzt => by
    unfold good at hP
    simp only [Bool.and_eq_true, decide_eq_true_iff] at hP
    obtain ⟨⟨⟨hsl, hl⟩, hn⟩, hP'⟩ := hP
    obtain ⟨rfl, rfl⟩ := hzt p rfl
    rw [List.foldl_cons, List.foldl_cons]
    have e := entry_step p.1 p.2 (by omega) hl hsl (row a i) (row b i)
    rw [← hf, ← hg] at e
    rw [show Network.apply (step p) (entry (row a i) (row b i)) = _ from e.symm]
    refine foldl_trip hf hg i P L hP' (by simpa using hL) _ _ _ _ fun p' hp' => ?_
    rw [hp'] at hn
    simp only [Bool.and_eq_true, beq_iff_eq] at hn
    exact hn

/-- The whole loop is the network. -/
theorem fold_trip (hf : ∀ z t a b i, row (f z t a b) i = keyStep z t (row a i) (row b i))
    (hg : ∀ z t a b i, row (g z t a b) i = posStep z t (row a i) (row b i)) {n : Nat} (hn : n = 45) (a b : V) (i : R) :
    entry (row (Scf.fold (fun (_ : Fin n) st => trip f g st) (2#32, 1#32, a, b)).2.2.1 i)
        (row (Scf.fold (fun (_ : Fin n) st => trip f g st) (2#32, 1#32, a, b)).2.2.2 i)
      = steps.foldl (fun v p => Network.apply (step p) v) (entry (row a i) (row b i)) := by
  rw [Scf.fold_eq]
  refine foldl_trip row f g hf hg i steps (List.finRange n) good_steps (by rw [length_steps, List.length_finRange, hn]) _ _ a b
    fun p hp => ?_
  have e : steps.head? = some (0, 0) := by decide
  rw [e] at hp
  obtain rfl := Option.some.inj hp
  exact ⟨rfl, rfl⟩

end loop

/-! ## What the loop leaves in the places wanted -/

/-- The first `U` places hold the positions of the first `U` keys in the stable sort's order. -/
theorem positions {U : Nat} (hU : U ≤ 512) (key : Fin U → EReal) (k q k' q' : Fin 512 → EReal)
    (hk : ∀ a : Fin U, k (a.castLE hU) = key a) (hpad : ∀ j : Fin 512, U ≤ j.val → k j = ⊤)
    (hq : ∀ j : Fin 512, q j = ((j.val : ℝ) : EReal))
    (h : entry k' q' = steps.foldl (fun v p => Network.apply (step p) v) (entry k q)) (r : Fin U) :
    q' (r.castLE hU) = (((sortedFrom (fun a b : Fin U => decide (key a < key b)) r).val : ℝ) : EReal) := by
  obtain ⟨hm, σ, hσ⟩ := steps_sort (entry k q)
  rw [hσ] at h hm
  have hqm : StrictMono q := fun i j hij => by
    rw [hq, hq]
    exact EReal.coe_lt_coe_iff.mpr (Nat.cast_lt.mpr hij)
  have hm' : Monotone ((fun a : Fin (2 ^ 9) => toLex (k a, q a)) ∘ σ) := hm
  have hs := first_sorted (N := 2 ^ 9) hU (fun a => k a) (fun a => q a) hqm (fun a b _ hb => by rw [hpad b hb]; exact le_top) σ hm' r
  have e : q' (r.castLE hU) = q (σ (r.castLE hU)) :=
    (Prod.mk.inj (toLex.injective (congrFun h (r.castLE hU)))).2
  have hkk : (fun a b : Fin U => decide (k (a.castLE hU) < k (b.castLE hU))) = fun a b => decide (key a < key b) := by
    funext a b
    rw [hk, hk]
  rw [e, hq, hs]
  exact congrArg (fun c : Fin U → Fin U → Bool => (((sortedFrom c r).val : ℝ) : EReal)) hkk

/-- A small natural number read back as a word. -/
theorem fptosi_nat (n : Nat) (hn : n < 512) : FloatOps.fptosi (F := Ideal) (φ := .f32) 32 (((n : ℝ) : EReal)) = BitVec.ofNat 32 n := by
  show Ideal.fptosi 32 (((n : ℝ) : EReal)) = _
  rw [Ideal.fptosi, Ideal.toIntClamped_coe, if_pos (Nat.cast_nonneg n), Int.floor_natCast,
    show max (-((2 ^ (32 - 1) : Nat) : Int)) (min (((2 ^ (32 - 1) : Nat) : Int) - 1) (n : Int)) = (n : Int) by omega]
  exact BitVec.ofInt_natCast 32 n

/-- A lane's index as a number. -/
theorem sitofp_lane (j : Fin 512) : FloatOps.sitofp (F := Ideal) .f32 (BitVec.ofNat 32 j.val) = ((j.val : ℝ) : EReal) := by
  show (((BitVec.ofNat 32 j.val).toInt : ℝ) : EReal) = _
  have hj := j.isLt
  have e : (BitVec.ofNat 32 j.val).toInt = (j.val : ℤ) := by
    rw [BitVec.toInt_eq_toNat_of_lt (by rw [BitVec.toNat_ofNat]; omega), BitVec.toNat_ofNat]
    omega
  rw [e, Int.cast_natCast]

/-! ## The arrays -/

theorem ofBits_top : Ideal.ofBits .f32 0x7F800000#32 = ⊤ := by simp [Ideal.ofBits, Ideal.ieee]

/-- A row of a two-axis array. -/
def rowOf {n U : Nat} (v : (⟨2, ![n, U]⟩ : Shape).Idx → EReal) (i : Fin n) (j : Fin U) : EReal := v (ix2 i j)

/-- The positions of a row's keys, least key first, equal keys in the order of their positions. -/
noncomputable def order {n U : Nat} (x : (⟨2, ![n, U]⟩ : Shape).Idx → EReal) (i : Fin n) (r : Fin U) : Fin U :=
  sortedFrom (fun k k' => decide (rowOf x i k < rowOf x i k')) r

/-- A stable sort along the rows of keys with their positions leaves the positions in that order. -/
theorem argsort_apply {n U : Nat} (cmp : EReal × BitVec 32 → EReal × BitVec 32 → BitVec 1)
    (hcmp : ∀ a b : EReal × BitVec 32, (cmp a b == 1#1) = decide (a.1 < b.1)) (x : (⟨2, ![n, U]⟩ : Shape).Idx → EReal) (i : Fin n) (r : Fin U) :
    (Host.sort2 ⟨2, ![n, U]⟩ 1 cmp x (iotaInDim ⟨2, ![n, U]⟩ 32 1)).2 (ix2 i r) = BitVec.ofNat 32 (order x i r).val := by
  have hal : ∀ k : Fin U, (ix2 i r : (⟨2, ![n, U]⟩ : Shape).Idx).along 1 k = ix2 i k := fun k => by
    funext a
    fin_cases a <;> rfl
  unfold Host.sort2
  rw [dif_pos (show 1 < (⟨2, ![n, U]⟩ : Shape).rank from Nat.one_lt_two)]
  simp only [hcmp]
  show BitVec.ofNat 32 (((ix2 i r : (⟨2, ![n, U]⟩ : Shape).Idx).along 1
      (sortedFrom (fun k k' : Fin U => decide (x ((ix2 i r : (⟨2, ![n, U]⟩ : Shape).Idx).along 1 k)
        < x ((ix2 i r : (⟨2, ![n, U]⟩ : Shape).Idx).along 1 k'))) r)) 1).val = _
  simp only [hal]
  rfl

/-- The sort's comparison, which makes every zero and every undefined key alike first, is the order of the numbers. -/
theorem compare_keys (a b z u : EReal) (hz : z = 0) :
    (FloatOps.cmpfTotal (F := Ideal) (φ := .f32) .lt
        (Scalar.select (FloatOps.cmpf (F := Ideal) (φ := .f32) .une a a) u (Scalar.select (FloatOps.cmpf (F := Ideal) (φ := .f32) .oeq a z) z a))
        (Scalar.select (FloatOps.cmpf (F := Ideal) (φ := .f32) .une b b) u (Scalar.select (FloatOps.cmpf (F := Ideal) (φ := .f32) .oeq b z) z b)) == 1#1)
      = decide (a < b) := by
  have h1 : ∀ a : EReal, FloatOps.cmpf (F := Ideal) (φ := .f32) .une a a = BitVec.ofBool false := fun a => by
    show BitVec.ofBool _ = _
    refine congrArg BitVec.ofBool ?_
    simp
  have h2 : ∀ a : EReal, Scalar.select (FloatOps.cmpf (F := Ideal) (φ := .f32) .oeq a z) z a = a := fun a => by
    rw [show FloatOps.cmpf (F := Ideal) (φ := .f32) .oeq a z = BitVec.ofBool (decide (a = z)) from rfl, select_ofBool]
    by_cases h : a = z
    · rw [if_pos (decide_eq_true h), h]
    · rw [if_neg (by simpa using h)]
  rw [h1, h1, select_ofBool, select_ofBool, h2, h2]
  show (BitVec.ofBool (decide (a < b)) == 1#1) = _
  cases decide (a < b) <;> rfl

/-- What the loop leaves on a row whose first `U` lanes held the keys and the others the greatest value. -/
theorem loop_order {n U N : Nat} (hU : U ≤ 512) (hn : N = 45)
    (f g : BitVec 32 → BitVec 32 → ((⟨2, ![n, 512]⟩ : Shape).Idx → EReal) → ((⟨2, ![n, 512]⟩ : Shape).Idx → EReal) → ((⟨2, ![n, 512]⟩ : Shape).Idx → EReal))
    (hf : ∀ z t a b i, rowOf (f z t a b) i = keyStep z t (rowOf a i) (rowOf b i))
    (hg : ∀ z t a b i, rowOf (g z t a b) i = posStep z t (rowOf a i) (rowOf b i))
    (x : (⟨2, ![n, U]⟩ : Shape).Idx → EReal) (k q : (⟨2, ![n, 512]⟩ : Shape).Idx → EReal)
    (hk : ∀ (i : Fin n) (a : Fin U), rowOf k i (a.castLE hU) = rowOf x i a) (hpad : ∀ (i : Fin n) (j : Fin 512), U ≤ j.val → rowOf k i j = ⊤)
    (hq : ∀ (i : Fin n) (j : Fin 512), rowOf q i j = ((j.val : ℝ) : EReal)) (i : Fin n) (r : Fin U) :
    FloatOps.fptosi (F := Ideal) (φ := .f32) 32
        (rowOf (Scf.fold (fun (_ : Fin N) st => trip f g st) (2#32, 1#32, k, q)).2.2.2 i (r.castLE hU))
      = BitVec.ofNat 32 (order x i r).val := by
  rw [positions hU (rowOf x i) (rowOf k i) (rowOf q i) _ _ (hk i) (hpad i) (hq i) (fold_trip rowOf f g hf hg hn k q i) r]
  exact fptosi_nat _ (lt_of_lt_of_le (order x i r).isLt hU)

end Cert.Net
-- ==== Proof.RefStage3.lean ====
module

public import proofs.«01_k».proof.Proof.Net
public import proofs.«01_k».proof.Proof.Gen.StageRef3Ideal
public import Idealize.ShloMosaic.Lib.StableHlo.Run

@[expose] public section

noncomputable section

namespace Cert.RefStage3

open Cert.StageRef3Ideal Cert.StageRef3Ideal.Gen Idealize.ShloMosaic Idealize.ShloMosaic.TcCoe Idealize.SL.Sem Idealize.ShloMosaic.StableHlo

variable {F : FTy → Type} [FloatOps F]

/-- The operations of the reference, in order (a called function's operations stand in its call's place). -/
abbrev ops : List (HloOp τ sig (Elt F)) :=
  [ TRef.binary (.of main_arg0 : TRef sig ⟨S64x288x768, .f32⟩) (.of main_arg0 : TRef sig ⟨S64x288x768, .f32⟩) (.of main_call0_v0 : TRef sig ⟨S64x288x768, .f32⟩) mulf,
    TRef.nullary (.of main_call0_cst : TRef sig ⟨S_, .f32⟩) (constant S_ .f32 0x00000000#32),
    TRef.binary (.of main_call0_v0 : TRef sig ⟨S64x288x768, .f32⟩) (.of main_call0_cst : TRef sig ⟨S_, .f32⟩) (.of main_call0_v1 : TRef sig ⟨S64x288, .f32⟩) (fun x v => Host.reduceAdd x v reducesTo_S64x288x768_S64x288_d2 h_S_),
    TRef.unary (.of main_call0_v1 : TRef sig ⟨S64x288, .f32⟩) (.of main_call0_v2 : TRef sig ⟨S64x288x1, .f32⟩) (broadcastInDim S64x288x1 ![0, 1] bcast_S64x288_S64x288x1_0_1),
    TRef.unary (.of main_call0_v2 : TRef sig ⟨S64x288x1, .f32⟩) (.of main_v0 : TRef sig ⟨S64x288x1, .f32⟩) Host.sqrt,
    unary main_v0 main_v1 (broadcastInDim S64x288x768 ![0, 1, 2] bcast_S64x288x1_S64x288x768_0_1_2 : (⟨S64x288x1, .f32⟩ : BufTy).Contents (Elt F) → (⟨S64x288x768, .f32⟩ : BufTy).Contents (Elt F)),
    binary main_arg0 main_v1 main_v2 (Host.divf : (⟨S64x288x768, .f32⟩ : BufTy).Contents (Elt F) → (⟨S64x288x768, .f32⟩ : BufTy).Contents (Elt F) → (⟨S64x288x768, .f32⟩ : BufTy).Contents (Elt F)),
    TRef.binary (.of main_arg1 : TRef sig ⟨S64x288x768, .f32⟩) (.of main_arg1 : TRef sig ⟨S64x288x768, .f32⟩) (.of main_call1_v0 : TRef sig ⟨S64x288x768, .f32⟩) mulf,
    TRef.nullary (.of main_call1_cst : TRef sig ⟨S_, .f32⟩) (constant S_ .f32 0x00000000#32),
    TRef.binary (.of main_call1_v0 : TRef sig ⟨S64x288x768, .f32⟩) (.of main_call1_cst : TRef sig ⟨S_, .f32⟩) (.of main_call1_v1 : TRef sig ⟨S64x288, .f32⟩) (fun x v => Host.reduceAdd x v reducesTo_S64x288x768_S64x288_d2 h_S_),
    TRef.unary (.of main_call1_v1 : TRef sig ⟨S64x288, .f32⟩) (.of main_call1_v2 : TRef sig ⟨S64x288x1, .f32⟩) (broadcastInDim S64x288x1 ![0, 1] bcast_S64x288_S64x288x1_0_1),
    TRef.unary (.of main_call1_v2 : TRef sig ⟨S64x288x1, .f32⟩) (.of main_v3 : TRef sig ⟨S64x288x1, .f32⟩) Host.sqrt,
    unary main_v3 main_v4 (broadcastInDim S64x288x768 ![0, 1, 2] bcast_S64x288x1_S64x288x768_0_1_2 : (⟨S64x288x1, .f32⟩ : BufTy).Contents (Elt F) → (⟨S64x288x768, .f32⟩ : BufTy).Contents (Elt F)),
    binary main_arg1 main_v4 main_v5 (Host.divf : (⟨S64x288x768, .f32⟩ : BufTy).Contents (Elt F) → (⟨S64x288x768, .f32⟩ : BufTy).Contents (Elt F) → (⟨S64x288x768, .f32⟩ : BufTy).Contents (Elt F)),
    binary main_v5 main_v2 main_v6 ((fun l r => Host.dotGeneral dot_S64x288x768_S64x288x768_S64x288x288_2_2_1_1_0_0 none l r) : (⟨S64x288x768, .f32⟩ : BufTy).Contents (Elt F) → (⟨S64x288x768, .f32⟩ : BufTy).Contents (Elt F) → (⟨S64x288x288, .f32⟩ : BufTy).Contents (Elt F)),
    nullary main_cst (constant S_ .f32 0xFF800000#32),
    binary main_v6 main_cst main_v7 ((fun x v => Host.reduce FloatOps.maximumf x v reducesTo_S64x288x288_S64x288_d2 h_S_) : (⟨S64x288x288, .f32⟩ : BufTy).Contents (Elt F) → (⟨S_, .f32⟩ : BufTy).Contents (Elt F) → (⟨S64x288, .f32⟩ : BufTy).Contents (Elt F)),
    TRef.nullary (.of main_call2_v0 : TRef sig ⟨S64x288, .i32⟩) (iotaInDim S64x288 32 1),
    TRef.binary (.of main_v7 : TRef sig ⟨S64x288, .f32⟩) (.of main_call2_v0 : TRef sig ⟨S64x288, .i32⟩) (.of main_call2_v1_0 : TRef sig ⟨S64x288, .f32⟩) (fun x y => (Host.sort2 S64x288 1 comparator_f32_i32_d1 x y).1),
    TRef.binary (.of main_v7 : TRef sig ⟨S64x288, .f32⟩) (.of main_call2_v0 : TRef sig ⟨S64x288, .i32⟩) (.of main_v8 : TRef sig ⟨S64x288, .i32⟩) (fun x y => (Host.sort2 S64x288 1 comparator_f32_i32_d1 x y).2) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub ..,
    binary_bufs_sub .., nullary_bufs_sub .., binary_bufs_sub .., unary_bufs_sub .., unary_bufs_sub .., unary_bufs_sub .., binary_bufs_sub ..,
    binary_bufs_sub .., nullary_bufs_sub .., binary_bufs_sub .., nullary_bufs_sub .., binary_bufs_sub .., binary_bufs_sub ..⟩

/-- The tokens over their lengths. -/
def unit (x : FVec F S64x288x768 .f32) : FVec F S64x288x768 .f32 :=
  Host.divf x (broadcastInDim S64x288x768 ![0, 1, 2] bcast_S64x288x1_S64x288x768_0_1_2
    (Host.sqrt (broadcastInDim S64x288x1 ![0, 1] bcast_S64x288_S64x288x1_0_1
      (Host.reduceAdd (mulf x x) (constant S_ .f32 0x00000000#32) reducesTo_S64x288x768_S64x288_d2 h_S_))))

/-- The cosines between the tokens not selected and the selected ones. -/
def cosines (x y : FVec F S64x288x768 .f32) : FVec F S64x288x288 .f32 :=
  Host.dotGeneral dot_S64x288x768_S64x288x768_S64x288x288_2_2_1_1_0_0 none (unit y) (unit x)

/-- The greatest cosine of each token not selected. -/
def best (s : FVec F S64x288x288 .f32) : FVec F S64x288 .f32 :=
  Host.reduce FloatOps.maximumf s (constant S_ .f32 0xFF800000#32) reducesTo_S64x288x288_S64x288_d2 h_S_

/-- The result: the positions of those tokens by their greatest cosine. -/
def out (x y : FVec F S64x288x768 .f32) : IVec S64x288 32 :=
  (Host.sort2 S64x288 1 comparator_f32_i32_d1 (best (cosines x y)) (iotaInDim S64x288 32 1)).2

set_option maxRecDepth 8192 in
/-- The run of the reference: from any memory it ends with its result at `out` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v8).trans (by simp only [ops, TRef.binary, TRef.nullary, TRef.unary, TRef.toBuf, TRef.ofBuf, cast_eq]; after_results_simp <;> rfl),
      (h c main_arg0).trans (by simp only [ops, TRef.binary, TRef.nullary, TRef.unary, TRef.toBuf, TRef.ofBuf, cast_eq]; after_results_simp <;> rfl),
      (h c main_arg1).trans (by simp only [ops, TRef.binary, TRef.nullary, TRef.unary, TRef.toBuf, TRef.ofBuf, cast_eq]; after_results_simp <;> rfl)⟩)
    (run_seq scopedRefs_eq scopedSems_eq defs main (fun _ => ops) main_eq (fun _ => ops_sub) m ρ)

/-- At the ideal numbers the greatest cosine is the greatest entry of a row. -/
theorem best_row (s : FVec Ideal S64x288x288 .f32) (i : Fin 64) (j : Fin 288) :
    best s (ix2 i j) = Finset.univ.fold max (Ideal.ofBits .f32 0xFF800000#32) (fun k : Fin 288 => s (ix3 i j k)) := by
  have hr : S64x288x288.Reduces [2] S64x288 := by decide
  have h := Host.reduce_eq_fold_single (FloatOps.maximumf (F := Ideal) (φ := .f32)) s (constant S_ .f32 0xFF800000#32) reducesTo_S64x288x288_S64x288_d2 hr h_S_ (ix2 i j)
  refine (show best s (ix2 i j) = _ from h).trans ?_
  refine congrArg (fun f => Finset.univ.fold max (Ideal.ofBits .f32 0xFF800000#32) f) (funext fun k => congrArg s (funext fun a => ?_))
  fin_cases a <;> rfl

/-- The sort compares the keys. -/
theorem compare (a b : EReal × BitVec 32) : (comparator_f32_i32_d1 (F := Ideal) a b == 1#1) = decide (a.1 < b.1) :=
  Net.compare_keys a.1 b.1 (Ideal.ofBits .f32 0x00000000#32) (Ideal.ofBits .f32 0x7FC00000#32) (Ideal.ofBits_zero .f32)

/-- The sort's positions at a place. -/
theorem sorted_apply (b : FVec Ideal S64x288 .f32) (i : Fin 64) (r : Fin 288) :
    (Host.sort2 S64x288 1 (comparator_f32_i32_d1 (F := Ideal)) b (iotaInDim S64x288 32 1)).2 (ix2 i r) = BitVec.ofNat 32 (Net.order b i r).val :=
  Net.argsort_apply (n := 64) (U := 288) (comparator_f32_i32_d1 (F := Ideal)) compare b i r

/-- The result at a place. -/
theorem out_apply (x y : FVec Ideal S64x288x768 .f32) (i : Fin 64) (r : Fin 288) :
    out x y (ix2 i r) = BitVec.ofNat 32 (Net.order (best (cosines x y)) i r).val := by
  unfold out
  exact sorted_apply _ i r

end Cert.RefStage3

end
-- ==== Proof.KernStage3.lean ====
module

public import proofs.«01_k».proof.Proof.Net
public import proofs.«01_k».proof.Proof.RefStage3
public import proofs.«01_k».proof.Proof.Gen.Stage3Ideal.Frame
public import Idealize.ShloMosaic.Lib.Pointwise
public import Idealize.ShloMosaic.Lib.IdealHost
public import Idealize.ShloMosaic.Lib.Quiescent

@[expose] public section

noncomputable section

namespace Cert.KernStage3

open Cert.Stage3Ideal Cert.Stage3Ideal.Gen Idealize.ShloMosaic Idealize.ShloMosaic.TcCoe Idealize.SL.Sem Cert.Net

/-! ## The payloads, row by row -/

theorem partnerKey_row (t : BitVec 32) (a : FVec Ideal S64x512 .f32) (i : Fin 64) (j : Fin 512) :
    k0_pay4 t a (ix2 i j) = fetch t (rowOf a i) j := by
  pointwise [k0_pay4, k0_pay3]
  rfl

theorem partnerPos_row (t : BitVec 32) (a : FVec Ideal S64x512 .f32) (i : Fin 64) (j : Fin 512) :
    k0_pay5 t a (ix2 i j) = fetch t (rowOf a i) j := by
  pointwise [k0_pay5, k0_pay3]
  rfl

theorem keep_row (z t : BitVec 32) (a b : FVec Ideal S64x512 .f32) (i : Fin 64) (j : Fin 512) :
    k0_pay6 z t a b (ix2 i j) = keepBit z t (rowOf a i) (rowOf b i) j := by
  unfold k0_pay6
  pointwise [k0_pay3]
  rw [partnerKey_row, partnerPos_row]
  rfl

theorem key_row (z t : BitVec 32) (a b : FVec Ideal S64x512 .f32) (i : Fin 64) :
    rowOf (k0_pay7 z t a b) i = keyStep z t (rowOf a i) (rowOf b i) := by
  funext j
  show Scalar.select (k0_pay6 z t a b (ix2 i j)) (a (ix2 i j)) (k0_pay4 t a (ix2 i j)) = _
  rw [keep_row, partnerKey_row]
  rfl

theorem pos_row (z t : BitVec 32) (a b : FVec Ideal S64x512 .f32) (i : Fin 64) :
    rowOf (k0_pay8 z t a b) i = posStep z t (rowOf a i) (rowOf b i) := by
  funext j
  show Scalar.select (k0_pay6 z t a b (ix2 i j)) (b (ix2 i j)) (k0_pay5 t b (ix2 i j)) = _
  rw [keep_row, partnerPos_row]
  rfl

theorem lane_row (i : Fin 64) (j : Fin 512) : rowOf (k0_pay2 : FVec Ideal S64x512 .f32) i j = ((j.val : ℝ) : EReal) := by
  refine Eq.trans ?_ (sitofp_lane j)
  show (k0_pay2 : FVec Ideal S64x512 .f32) (ix2 i j) = _
  pointwise [k0_pay2]
  try rfl

theorem start_row (s : FVec Ideal S64x288x288 .f32) (i : Fin 64) (j : Fin 512) :
    rowOf (k0_pay1 (F := Ideal) s) i j = if h : j.val < 288 then RefStage3.best s (ix2 i ⟨j.val, h⟩) else ⊤ := by
  show k0_pay1 (F := Ideal) s (ix2 i j) = _
  pointwise [k0_pay1]
  simp only [RefStage3.best_row]
  rw [ofBits_top]

/-- What the loop starts from and goes through. -/
def loop (s : FVec Ideal S64x288x288 .f32) : BitVec 32 × BitVec 32 × FVec Ideal S64x512 .f32 × FVec Ideal S64x512 .f32 :=
  Scf.fold (fun (_ : Fin k0_t1_loop.trips) st => trip k0_pay7 k0_pay8 st) (2#32, 1#32, k0_pay1 s, k0_pay2)

/-- What the kernel stores, place by place. -/
theorem stored (s : FVec Ideal S64x288x288 .f32) (i : Fin 64) (r : Fin 288) :
    k0_pay9 (loop s).2.2.2 (ix2 i r) = BitVec.ofNat 32 (order (RefStage3.best s) i r).val := by
  have h := loop_order (n := 64) (U := 288) (by decide) (show k0_t1_loop.trips = 45 by decide) (k0_pay7 (F := Ideal)) (k0_pay8 (F := Ideal)) key_row pos_row
    (RefStage3.best s) (k0_pay1 (F := Ideal) s) (k0_pay2 (F := Ideal))
    (fun i a => by rw [start_row, dif_pos (show (a.castLE (by decide : 288 ≤ 512)).val < 288 from a.isLt)]; rfl)
    (fun i j hj => by rw [start_row, dif_neg (by omega)]) lane_row i r
  rw [← h]
  pointwise [k0_pay9]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The body leaves the stored array in its output's buffer. -/
theorem out_eq (c : Dev nD) (a0 : Memref sig .tc .vmem S64x288x288 .f32) (h0 : a0.IsWhole) (a1 : Memref sig .tc .vmem S64x288 .i32) (h1 : a1.IsWhole)
    (s : Vec Ideal S64x288x288 .f32) : out0_A_1 c a0 h0 a1 h1 s = k0_pay9 (loop s).2.2.2 := by
  unfold out0_A_1
  rw [View.read_writes_eq_canon _ _ _ (cover0_A_1 c a0 h0 a1 h1 s)]
  unfold kernelRun0_A
  dsimp only
  sl_unfold_words
  rw [View.canon_unit_zero hz2]
  simp only [View.readAt_eq_ld, h0.read_unread, View.ld_unit_zero (S := S64x288x288) hz3]
  rfl

variable (m : (ℓ : Loc nD τ sig) → Buf (Elt Ideal) ℓ) (ρ : Dev nD → PrngReg)

/-- The region finds the cosines of the arguments. -/
theorem V_main_v6 (c : Dev nD) : V m c main_v6
    = RefStage3.cosines (F := Ideal) (m ((c : Thread nD τ).loc main_arg0)) (m ((c : Thread nD τ).loc main_arg1)) := by
  unfold V hostOps0 hostOps0_1 hostOps0_2 hostOps0_3
  after_results_simp
  all_goals rfl

theorem off0 (t : Fin cfg0.N) : (fun a => (cfg0.win 0).kind.off ((cfg0.win 0).index t a) ((cfg0.win 0).size a)) = fun _ => 0 :=
  funext fun a => by fin_cases a <;> rfl

theorem off1 (t : Fin cfg0.N) : (fun a => (cfg0.win 1).kind.off ((cfg0.win 1).index t a) ((cfg0.win 1).size a)) = fun _ => 0 :=
  funext fun a => by fin_cases a <;> rfl

/-- Its input's block is all of them. -/
theorem iblk_eq (c : Dev nD) (t : Fin cfg0.N) : (iblk m c 0 t : Vec Ideal S64x288x288 .f32)
    = RefStage3.cosines (F := Ideal) (m ((c : Thread nD τ).loc main_arg0)) (m ((c : Thread nD τ).loc main_arg1)) := by
  rw [← V_main_v6]
  exact Memref.read_access_unit_zero (Elt Ideal) main_v6 (off0 t) (fun a => by rw [congrFun (off0 t) a]; simp) _

/-- The result. -/
def result (c : Dev nD) : IVec S64x288 32 :=
  k0_pay9 (loop (RefStage3.cosines (F := Ideal) (m ((c : Thread nD τ).loc main_arg0)) (m ((c : Thread nD τ).loc main_arg1)))).2.2.2

/-- The one write-back writes it whole. -/
theorem final_o (c : Dev nD) : (dats m 0 c).arrAt 1 cfg0.N = result m c :=
  (dats m 0 c).arrAt_eq_of_cover 1 (result m c) (fun t _ => by
    show (cfg0.win 1).cut (grid0.coords t) ((dats m 0 c).after 1 t) = _
    rw [after0_1]
    unfold outsAt0
    rw [out_eq, iblk_eq]
    exact (Memref.read_access_unit_zero (Elt Ideal) main_v7 (off1 t) (fun a => by rw [congrFun (off1 t) a]; simp) _).symm) fun i =>
    ⟨t0_0, flush0_1 t0_0, by
      have hm : i ∈ ((View.whole main_v7).slice (win0_1.rect t0_0)).set := by
        rw [View.set_slice_whole, Rect.mem_set_unit]
        intro a
        have h0 : (cfg0.win 1).kind.off ((cfg0.win 1).index t0_0 a) ((cfg0.win 1).size a) = 0 := congrFun (off1 t0_0) a
        exact ⟨h0.le.trans (Nat.zero_le _), lt_of_lt_of_eq (i a).isLt (by fin_cases a <;> rfl)⟩
      exact hm⟩

/-- The run: the result array as stored, the arguments unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_and ((θ_run defs _ _).mono (fun _ h c => ((h c).1 1).trans (final_o m c)) (run_main m ρ)) (unchanged m ρ) |> fun h =>
    (θ_run defs _ _).mono (fun _ h c => ⟨h.1 c, h.2 c⟩) h

/-- The result is the reference's of the same arguments. -/
theorem result_eq (c : Dev nD) : result m c
    = RefStage3.out (F := Ideal) (m ((c : Thread nD τ).loc main_arg0)) (m ((c : Thread nD τ).loc main_arg1)) := by
  funext j
  rw [eq_ix2 j]
  exact (stored _ _ _).trans (RefStage3.out_apply _ _ _ _).symm

/-- The reference runs, leaves its arguments alone and ends with every semaphore counter at zero. -/
theorem referenceFrame (m : (ℓ : Loc Cert.StageRef3Ideal.nD Cert.StageRef3Ideal.τ Cert.StageRef3Ideal.sig) → Buf (Elt Ideal) ℓ) (ρ : Dev Cert.StageRef3Ideal.nD → PrngReg) :
    θ_run Cert.StageRef3Ideal.defs (onTc (τ := Cert.StageRef3Ideal.τ) (Cert.StageRef3Ideal.main (F := Ideal))) ⟨m, fun _ => 0, ρ⟩ (fun r =>
      (∀ c : Dev Cert.StageRef3Ideal.nD,
        r.2.mem ((c.tc : Thread Cert.StageRef3Ideal.nD Cert.StageRef3Ideal.τ).loc Cert.StageRef3Ideal.main_arg0) = m ((c.tc : Thread Cert.StageRef3Ideal.nD Cert.StageRef3Ideal.τ).loc Cert.StageRef3Ideal.main_arg0)
        ∧ r.2.mem ((c.tc : Thread Cert.StageRef3Ideal.nD Cert.StageRef3Ideal.τ).loc Cert.StageRef3Ideal.main_arg1) = m ((c.tc : Thread Cert.StageRef3Ideal.nD Cert.StageRef3Ideal.τ).loc Cert.StageRef3Ideal.main_arg1))
      ∧ r.2.sem = fun _ => 0) :=
  (θ_run _ _ _).mono (fun r h => ⟨fun c => (h c).2, Idealize.ShloMosaic.sem_eq_zero_of_no_sems (by decide) r.2⟩) (RefStage3.run m ρ)

end Cert.KernStage3

end
-- ==== Proof.Order.lean ====
module

public import proofs.«01_k».proof.Proof.Net
public import proofs.«01_k».proof.Proof.KernStage3
public import proofs.«01_k».proof.Proof.Gen.SelectRefIdeal

@[expose] public section

/-! What both sides of a stage of the selection sort by, for any number of tokens. -/

noncomputable section

namespace Cert.Order

open Idealize.ShloMosaic Idealize.ShloMosaic.TcCoe Idealize.SL.Sem Cert.Net

/-- The greatest entry of each row. -/
def top {U S : Nat} (s : (⟨3, ![64, U, S]⟩ : Shape).Idx → EReal) (j : (⟨2, ![64, U]⟩ : Shape).Idx) : EReal :=
  Finset.univ.fold max (Ideal.ofBits .f32 0xFF800000#32) (fun k : Fin S => s (ix3 (j 0) (j 1) k))

/-- The positions in the order of those. -/
def positions {U S : Nat} (s : (⟨3, ![64, U, S]⟩ : Shape).Idx → EReal) : IVec ⟨2, ![64, U]⟩ 32 :=
  fun j => BitVec.ofNat 32 (order (top s) (j 0) (j 1)).val

theorem reduce_top {U S : Nat} (s : FVec Ideal ⟨3, ![64, U, S]⟩ .f32) (h : (⟨3, ![64, U, S]⟩ : Shape).ReducesTo [2] ⟨2, ![64, U]⟩)
    (hr : (⟨3, ![64, U, S]⟩ : Shape).Reduces [2] ⟨2, ![64, U]⟩) (h0 : 0 < (⟨0, ![]⟩ : Shape).numel) :
    (Host.reduce FloatOps.maximumf s (constant (F := Ideal) ⟨0, ![]⟩ .f32 0xFF800000#32) h h0 : FVec Ideal ⟨2, ![64, U]⟩ .f32) = top s := by
  funext j
  have e := Host.reduce_eq_fold_single (FloatOps.maximumf (F := Ideal) (φ := .f32)) s (constant ⟨0, ![]⟩ .f32 0xFF800000#32) h hr h0 j
  refine e.trans ?_
  refine congrArg (fun f => Finset.univ.fold max (Ideal.ofBits .f32 0xFF800000#32) f) (funext fun k => congrArg s (funext fun a => ?_))
  fin_cases a <;> rfl

/-- The reference's sort. -/
theorem sort_positions {U S : Nat} (s : FVec Ideal ⟨3, ![64, U, S]⟩ .f32) :
    (Host.sort2 ⟨2, ![64, U]⟩ 1 (Cert.SelectRefIdeal.comparator_f32_i32_d1 (F := Ideal)) (top s) (iotaInDim ⟨2, ![64, U]⟩ 32 1)).2 = positions s := by
  funext j
  rw [eq_ix2 j]
  exact Net.argsort_apply (n := 64) (U := U) _
    (fun a b => Net.compare_keys a.1 b.1 (Ideal.ofBits .f32 0x00000000#32) (Ideal.ofBits .f32 0x7FC00000#32) (Ideal.ofBits_zero .f32)) (top s) (j 0) (j 1)

/-- The kernel's loop from some keys. -/
def loop (k : FVec Ideal Cert.Stage3Ideal.S64x512 .f32) :
    BitVec 32 × BitVec 32 × FVec Ideal Cert.Stage3Ideal.S64x512 .f32 × FVec Ideal Cert.Stage3Ideal.S64x512 .f32 :=
  Scf.fold (fun (_ : Fin 45) st => trip Cert.Stage3Ideal.Gen.k0_pay7 Cert.Stage3Ideal.Gen.k0_pay8 st) (2#32, 1#32, k, Cert.Stage3Ideal.Gen.k0_pay2)

/-- It sorts the positions, where the keys are the greatest entries and then `⊤`. -/
theorem loop_positions {U S : Nat} (hU : U ≤ 512) (s : (⟨3, ![64, U, S]⟩ : Shape).Idx → EReal) (k : FVec Ideal Cert.Stage3Ideal.S64x512 .f32)
    (hk : ∀ (i : Fin 64) (j : Fin 512), rowOf k i j = if h : j.val < U then top s (ix2 i ⟨j.val, h⟩) else ⊤) (i : Fin 64) (r : Fin U) :
    FloatOps.fptosi (F := Ideal) (φ := .f32) 32 ((loop k).2.2.2 (ix2 i (r.castLE hU))) = positions s (ix2 i r) :=
  loop_order (n := 64) (U := U) hU rfl (Cert.Stage3Ideal.Gen.k0_pay7 (F := Ideal)) (Cert.Stage3Ideal.Gen.k0_pay8 (F := Ideal)) KernStage3.key_row KernStage3.pos_row
    (top s) k (Cert.Stage3Ideal.Gen.k0_pay2 (F := Ideal))
    (fun i a => by rw [hk, dif_pos (show (a.castLE hU).val < U from a.isLt)]; rfl)
    (fun i j hj => by rw [hk, dif_neg (by omega)]) KernStage3.lane_row i r

end Cert.Order

end
-- ==== Proof.Sort1.lean ====
module

public import proofs.«01_k».proof.Proof.Order
public import proofs.«01_k».proof.Proof.RefSelect
public import proofs.«01_k».proof.Proof.Gen.SelectIdeal.Frame
public import Idealize.ShloMosaic.Lib.Pointwise

@[expose] public section

/-! The sort of stage 1, of 432 tokens against 144. -/

noncomputable section

namespace Cert.Sort1

open Cert.SelectIdeal Cert.SelectIdeal.Gen Idealize.ShloMosaic Idealize.ShloMosaic.TcCoe Idealize.SL.Sem Cert.Net

theorem start_row (s : FVec Ideal S64x432x144 .f32) (i : Fin 64) (j : Fin 512) :
    rowOf (k0_pay1 (F := Ideal) s) i j = if h : j.val < 432 then Order.top (U := 432) (S := 144) s (ix2 i ⟨j.val, h⟩) else ⊤ := by
  show k0_pay1 (F := Ideal) s (ix2 i j) = _
  pointwise [k0_pay1]
  rw [ofBits_top]
  rfl

/-- What the kernel stores. -/
theorem stored (s : FVec Ideal S64x432x144 .f32) : k0_pay9 (Order.loop (k0_pay1 s)).2.2.2 = Order.positions (U := 432) (S := 144) s := by
  funext j
  rw [eq_ix2 j]
  refine Eq.trans ?_ (Order.loop_positions (U := 432) (S := 144) (by decide) s (k0_pay1 (F := Ideal) s) (start_row s) (j 0) (j 1))
  pointwise [k0_pay9]
  rfl

theorem out_eq (c : Dev nD) (a0 : Memref sig .tc .vmem S64x432x144 .f32) (h0 : a0.IsWhole) (a1 : Memref sig .tc .vmem S64x432 .i32) (h1 : a1.IsWhole)
    (s : Vec Ideal S64x432x144 .f32) : out0_A_1 c a0 h0 a1 h1 s = k0_pay9 (Order.loop (k0_pay1 s)).2.2.2 := by
  unfold out0_A_1
  rw [View.read_writes_eq_canon _ _ _ (cover0_A_1 c a0 h0 a1 h1 s)]
  unfold kernelRun0_A
  dsimp only
  sl_unfold_words
  rw [View.canon_unit_zero KernStage3.hz2]
  simp only [View.readAt_eq_ld, h0.read_unread, View.ld_unit_zero (S := S64x432x144) KernStage3.hz3]
  rfl

theorem off0 (t : Fin cfg0.N) : (fun a => (cfg0.win 0).kind.off ((cfg0.win 0).index t a) ((cfg0.win 0).size a)) = fun _ => 0 :=
  funext fun a => by fin_cases a <;> rfl

theorem off1 (t : Fin cfg0.N) : (fun a => (cfg0.win 1).kind.off ((cfg0.win 1).index t a) ((cfg0.win 1).size a)) = fun _ => 0 :=
  funext fun a => by fin_cases a <;> rfl

section
variable (V : (c : Dev nD) → (b : Ref sig .tc) → Buf (Elt Ideal) ((c : Thread nD τ).loc b))

/-- The result. -/
def result (c : Dev nD) : IVec S64x432 32 := Order.positions (U := 432) (S := 144) (V c main_v15)

theorem final (c : Dev nD) : (dat0 V c).arrAt 1 cfg0.N = result V c :=
  (dat0 V c).arrAt_eq_of_cover 1 (result V c) (fun t _ => by
    show (cfg0.win 1).cut (grid0.coords t) ((dat0 V c).after 1 t) = _
    rw [after0_1]
    unfold outsAt0
    rw [out_eq, stored, show (iblk0 V c 0 t : Vec Ideal S64x432x144 .f32) = V c main_v15 from
      Memref.read_access_unit_zero (Elt Ideal) main_v15 (off0 t) (fun a => by rw [congrFun (off0 t) a]; simp) _]
    exact (Memref.read_access_unit_zero (Elt Ideal) main_v16 (off1 t) (fun a => by rw [congrFun (off1 t) a]; simp) _).symm) fun i =>
    ⟨t0_0, flush0_1 t0_0, by
      have hm : i ∈ ((View.whole main_v16).slice (win0_1.rect t0_0)).set := by
        rw [View.set_slice_whole, Rect.mem_set_unit]
        intro a
        have h0 : (cfg0.win 1).kind.off ((cfg0.win 1).index t0_0 a) ((cfg0.win 1).size a) = 0 := congrFun (off1 t0_0) a
        exact ⟨h0.le.trans (Nat.zero_le _), lt_of_lt_of_eq (i a).isLt (by fin_cases a <;> rfl)⟩
      exact hm⟩
end

open Idealize.ShloMosaic.StableHlo in
/-- The reference's sort. -/
theorem ref (W' : Valuation Cert.SelectRefIdeal.τ Cert.SelectRefIdeal.sig (Elt Ideal)) :
    (after RefSelect.sort1 (after RefSelect.max1 W') (Proc.devRef .tc Cert.SelectRefIdeal.main_v17) : IVec ⟨2, ![64, 432]⟩ 32)
      = Order.positions (U := 432) (S := 144) (W' (Proc.devRef .tc Cert.SelectRefIdeal.main_v15)) := by
  refine Eq.trans ?_ (Order.sort_positions (U := 432) (S := 144) _)
  rw [← Order.reduce_top (U := 432) (S := 144) _ Cert.SelectRefIdeal.Gen.reducesTo_S64x432x144_S64x432_d2 (by decide) Cert.SelectRefIdeal.Gen.h_S_]
  simp only [RefSelect.sort1, RefSelect.max1, TRef.binary, TRef.nullary, TRef.toBuf, TRef.ofBuf, cast_eq]
  after_results_simp <;> rfl

variable (m : (ℓ : Loc nD τ sig) → Buf (Elt Ideal) ℓ) (ρ : Dev nD → PrngReg)

/-- From equal cosines both end with equal positions. -/
theorem orders (c : Dev nD) (W' : Valuation Cert.SelectRefIdeal.τ Cert.SelectRefIdeal.sig (Elt Ideal))
    (h : HEq (W8 m ρ c (Proc.devRef .tc main_v15)) (W' (Proc.devRef .tc Cert.SelectRefIdeal.main_v15))) :
    HEq (W9 m ρ c (Proc.devRef .tc main_v16))
      (StableHlo.after RefSelect.sort1 (StableHlo.after RefSelect.max1 W') (Proc.devRef .tc Cert.SelectRefIdeal.main_v17)) := by
  have e : (W8 m ρ c (Proc.devRef .tc main_v15) : (⟨3, ![64, 432, 144]⟩ : Shape).Idx → EReal) = W' (Proc.devRef .tc Cert.SelectRefIdeal.main_v15) := eq_of_heq h
  have k : (W9 m ρ c (Proc.devRef .tc main_v16) : IVec ⟨2, ![64, 432]⟩ 32) = Order.positions (U := 432) (S := 144) (W8 m ρ c (Proc.devRef .tc main_v15)) :=
    (W9_arr m ρ c 1).trans (final (V8 m ρ) c)
  exact heq_of_eq (k.trans ((congrArg (Order.positions (U := 432) (S := 144)) e).trans (ref W').symm))

end Cert.Sort1

end
-- ==== Proof.Sort2.lean ====
module

public import proofs.«01_k».proof.Proof.Order
public import proofs.«01_k».proof.Proof.RefSelect
public import proofs.«01_k».proof.Proof.Gen.SelectIdeal.Frame
public import Idealize.ShloMosaic.Lib.Pointwise

@[expose] public section

/-! The sort of stage 2, of 360 tokens against 216. -/

noncomputable section

namespace Cert.Sort2

open Cert.SelectIdeal Cert.SelectIdeal.Gen Idealize.ShloMosaic Idealize.ShloMosaic.TcCoe Idealize.SL.Sem Cert.Net

theorem start_row (s : FVec Ideal S64x360x216 .f32) (i : Fin 64) (j : Fin 512) :
    rowOf (k1_pay1 (F := Ideal) s) i j = if h : j.val < 360 then Order.top (U := 360) (S := 216) s (ix2 i ⟨j.val, h⟩) else ⊤ := by
  show k1_pay1 (F := Ideal) s (ix2 i j) = _
  pointwise [k1_pay1]
  rw [ofBits_top]
  rfl

/-- What the kernel stores. -/
theorem stored (s : FVec Ideal S64x360x216 .f32) : k1_pay9 (Order.loop (k1_pay1 s)).2.2.2 = Order.positions (U := 360) (S := 216) s := by
  funext j
  rw [eq_ix2 j]
  refine Eq.trans ?_ (Order.loop_positions (U := 360) (S := 216) (by decide) s (k1_pay1 (F := Ideal) s) (start_row s) (j 0) (j 1))
  pointwise [k1_pay9]
  rfl

theorem out_eq (c : Dev nD) (a0 : Memref sig .tc .vmem S64x360x216 .f32) (h0 : a0.IsWhole) (a1 : Memref sig .tc .vmem S64x360 .i32) (h1 : a1.IsWhole)
    (s : Vec Ideal S64x360x216 .f32) : out1_A_1 c a0 h0 a1 h1 s = k1_pay9 (Order.loop (k1_pay1 s)).2.2.2 := by
  unfold out1_A_1
  rw [View.read_writes_eq_canon _ _ _ (cover1_A_1 c a0 h0 a1 h1 s)]
  unfold kernelRun1_A
  dsimp only
  sl_unfold_words
  rw [View.canon_unit_zero KernStage3.hz2]
  simp only [View.readAt_eq_ld, h0.read_unread, View.ld_unit_zero (S := S64x360x216) KernStage3.hz3]
  rfl

theorem off0 (t : Fin cfg1.N) : (fun a => (cfg1.win 0).kind.off ((cfg1.win 0).index t a) ((cfg1.win 0).size a)) = fun _ => 0 :=
  funext fun a => by fin_cases a <;> rfl

theorem off1 (t : Fin cfg1.N) : (fun a => (cfg1.win 1).kind.off ((cfg1.win 1).index t a) ((cfg1.win 1).size a)) = fun _ => 0 :=
  funext fun a => by fin_cases a <;> rfl

section
variable (V : (c : Dev nD) → (b : Ref sig .tc) → Buf (Elt Ideal) ((c : Thread nD τ).loc b))

/-- The result. -/
def result (c : Dev nD) : IVec S64x360 32 := Order.positions (U := 360) (S := 216) (V c main_v33)

theorem final (c : Dev nD) : (dat1 V c).arrAt 1 cfg1.N = result V c :=
  (dat1 V c).arrAt_eq_of_cover 1 (result V c) (fun t _ => by
    show (cfg1.win 1).cut (grid1.coords t) ((dat1 V c).after 1 t) = _
    rw [after1_1]
    unfold outsAt1
    rw [out_eq, stored, show (iblk1 V c 0 t : Vec Ideal S64x360x216 .f32) = V c main_v33 from
      Memref.read_access_unit_zero (Elt Ideal) main_v33 (off0 t) (fun a => by rw [congrFun (off0 t) a]; simp) _]
    exact (Memref.read_access_unit_zero (Elt Ideal) main_v34 (off1 t) (fun a => by rw [congrFun (off1 t) a]; simp) _).symm) fun i =>
    ⟨t1_0, flush1_1 t1_0, by
      have hm : i ∈ ((View.whole main_v34).slice (win1_1.rect t1_0)).set := by
        rw [View.set_slice_whole, Rect.mem_set_unit]
        intro a
        have h0 : (cfg1.win 1).kind.off ((cfg1.win 1).index t1_0 a) ((cfg1.win 1).size a) = 0 := congrFun (off1 t1_0) a
        exact ⟨h0.le.trans (Nat.zero_le _), lt_of_lt_of_eq (i a).isLt (by fin_cases a <;> rfl)⟩
      exact hm⟩
end

open Idealize.ShloMosaic.StableHlo in
/-- The reference's sort. -/
theorem ref (W' : Valuation Cert.SelectRefIdeal.τ Cert.SelectRefIdeal.sig (Elt Ideal)) :
    (after RefSelect.sort2 (after RefSelect.max2 W') (Proc.devRef .tc Cert.SelectRefIdeal.main_v36) : IVec ⟨2, ![64, 360]⟩ 32)
      = Order.positions (U := 360) (S := 216) (W' (Proc.devRef .tc Cert.SelectRefIdeal.main_v34)) := by
  refine Eq.trans ?_ (Order.sort_positions (U := 360) (S := 216) _)
  rw [← Order.reduce_top (U := 360) (S := 216) _ Cert.SelectRefIdeal.Gen.reducesTo_S64x360x216_S64x360_d2 (by decide) Cert.SelectRefIdeal.Gen.h_S_]
  simp only [RefSelect.sort2, RefSelect.max2, TRef.binary, TRef.nullary, TRef.toBuf, TRef.ofBuf, cast_eq]
  after_results_simp <;> rfl

variable (m : (ℓ : Loc nD τ sig) → Buf (Elt Ideal) ℓ) (ρ : Dev nD → PrngReg)

/-- From equal cosines both end with equal positions. -/
theorem orders (c : Dev nD) (W' : Valuation Cert.SelectRefIdeal.τ Cert.SelectRefIdeal.sig (Elt Ideal))
    (h : HEq (W21 m ρ c (Proc.devRef .tc main_v33)) (W' (Proc.devRef .tc Cert.SelectRefIdeal.main_v34))) :
    HEq (W22 m ρ c (Proc.devRef .tc main_v34))
      (StableHlo.after RefSelect.sort2 (StableHlo.after RefSelect.max2 W') (Proc.devRef .tc Cert.SelectRefIdeal.main_v36)) := by
  have e : (W21 m ρ c (Proc.devRef .tc main_v33) : (⟨3, ![64, 360, 216]⟩ : Shape).Idx → EReal) = W' (Proc.devRef .tc Cert.SelectRefIdeal.main_v34) := eq_of_heq h
  have k : (W22 m ρ c (Proc.devRef .tc main_v34) : IVec ⟨2, ![64, 360]⟩ 32) = Order.positions (U := 360) (S := 216) (W21 m ρ c (Proc.devRef .tc main_v33)) :=
    (W22_arr m ρ c 1).trans (final (V21 m ρ) c)
  exact heq_of_eq (k.trans ((congrArg (Order.positions (U := 360) (S := 216)) e).trans (ref W').symm))

end Cert.Sort2

end
-- ==== Proof.Sort3.lean ====
module

public import proofs.«01_k».proof.Proof.Order
public import proofs.«01_k».proof.Proof.RefSelect
public import proofs.«01_k».proof.Proof.Gen.SelectIdeal.Frame
public import Idealize.ShloMosaic.Lib.Pointwise

@[expose] public section

/-! The sort of stage 3, of 288 tokens against 288. -/

noncomputable section

namespace Cert.Sort3

open Cert.SelectIdeal Cert.SelectIdeal.Gen Idealize.ShloMosaic Idealize.ShloMosaic.TcCoe Idealize.SL.Sem Cert.Net

theorem start_row (s : FVec Ideal S64x288x288 .f32) (i : Fin 64) (j : Fin 512) :
    rowOf (k2_pay1 (F := Ideal) s) i j = if h : j.val < 288 then Order.top (U := 288) (S := 288) s (ix2 i ⟨j.val, h⟩) else ⊤ := by
  show k2_pay1 (F := Ideal) s (ix2 i j) = _
  pointwise [k2_pay1]
  rw [ofBits_top]
  rfl

/-- What the kernel stores. -/
theorem stored (s : FVec Ideal S64x288x288 .f32) : k2_pay9 (Order.loop (k2_pay1 s)).2.2.2 = Order.positions (U := 288) (S := 288) s := by
  funext j
  rw [eq_ix2 j]
  refine Eq.trans ?_ (Order.loop_positions (U := 288) (S := 288) (by decide) s (k2_pay1 (F := Ideal) s) (start_row s) (j 0) (j 1))
  pointwise [k2_pay9]
  rfl

theorem out_eq (c : Dev nD) (a0 : Memref sig .tc .vmem S64x288x288 .f32) (h0 : a0.IsWhole) (a1 : Memref sig .tc .vmem S64x288 .i32) (h1 : a1.IsWhole)
    (s : Vec Ideal S64x288x288 .f32) : out2_A_1 c a0 h0 a1 h1 s = k2_pay9 (Order.loop (k2_pay1 s)).2.2.2 := by
  unfold out2_A_1
  rw [View.read_writes_eq_canon _ _ _ (cover2_A_1 c a0 h0 a1 h1 s)]
  unfold kernelRun2_A
  dsimp only
  sl_unfold_words
  rw [View.canon_unit_zero KernStage3.hz2]
  simp only [View.readAt_eq_ld, h0.read_unread, View.ld_unit_zero (S := S64x288x288) KernStage3.hz3]
  rfl

theorem off0 (t : Fin cfg2.N) : (fun a => (cfg2.win 0).kind.off ((cfg2.win 0).index t a) ((cfg2.win 0).size a)) = fun _ => 0 :=
  funext fun a => by fin_cases a <;> rfl

theorem off1 (t : Fin cfg2.N) : (fun a => (cfg2.win 1).kind.off ((cfg2.win 1).index t a) ((cfg2.win 1).size a)) = fun _ => 0 :=
  funext fun a => by fin_cases a <;> rfl

section
variable (V : (c : Dev nD) → (b : Ref sig .tc) → Buf (Elt Ideal) ((c : Thread nD τ).loc b))

/-- The result. -/
def result (c : Dev nD) : IVec S64x288 32 := Order.positions (U := 288) (S := 288) (V c main_v51)

theorem final (c : Dev nD) : (dat2 V c).arrAt 1 cfg2.N = result V c :=
  (dat2 V c).arrAt_eq_of_cover 1 (result V c) (fun t _ => by
    show (cfg2.win 1).cut (grid2.coords t) ((dat2 V c).after 1 t) = _
    rw [after2_1]
    unfold outsAt2
    rw [out_eq, stored, show (iblk2 V c 0 t : Vec Ideal S64x288x288 .f32) = V c main_v51 from
      Memref.read_access_unit_zero (Elt Ideal) main_v51 (off0 t) (fun a => by rw [congrFun (off0 t) a]; simp) _]
    exact (Memref.read_access_unit_zero (Elt Ideal) main_v52 (off1 t) (fun a => by rw [congrFun (off1 t) a]; simp) _).symm) fun i =>
    ⟨t2_0, flush2_1 t2_0, by
      have hm : i ∈ ((View.whole main_v52).slice (win2_1.rect t2_0)).set := by
        rw [View.set_slice_whole, Rect.mem_set_unit]
        intro a
        have h0 : (cfg2.win 1).kind.off ((cfg2.win 1).index t2_0 a) ((cfg2.win 1).size a) = 0 := congrFun (off1 t2_0) a
        exact ⟨h0.le.trans (Nat.zero_le _), lt_of_lt_of_eq (i a).isLt (by fin_cases a <;> rfl)⟩
      exact hm⟩
end

open Idealize.ShloMosaic.StableHlo in
/-- The reference's sort. -/
theorem ref (W' : Valuation Cert.SelectRefIdeal.τ Cert.SelectRefIdeal.sig (Elt Ideal)) :
    (after RefSelect.sort3 (after RefSelect.max3 W') (Proc.devRef .tc Cert.SelectRefIdeal.main_v55) : IVec ⟨2, ![64, 288]⟩ 32)
      = Order.positions (U := 288) (S := 288) (W' (Proc.devRef .tc Cert.SelectRefIdeal.main_v53)) := by
  refine Eq.trans ?_ (Order.sort_positions (U := 288) (S := 288) _)
  rw [← Order.reduce_top (U := 288) (S := 288) _ Cert.SelectRefIdeal.Gen.reducesTo_S64x288x288_S64x288_d2 (by decide) Cert.SelectRefIdeal.Gen.h_S_]
  simp only [RefSelect.sort3, RefSelect.max3, TRef.binary, TRef.nullary, TRef.toBuf, TRef.ofBuf, cast_eq]
  after_results_simp <;> rfl

variable (m : (ℓ : Loc nD τ sig) → Buf (Elt Ideal) ℓ) (ρ : Dev nD → PrngReg)

/-- From equal cosines both end with equal positions. -/
theorem orders (c : Dev nD) (W' : Valuation Cert.SelectRefIdeal.τ Cert.SelectRefIdeal.sig (Elt Ideal))
    (h : HEq (W34 m ρ c (Proc.devRef .tc main_v51)) (W' (Proc.devRef .tc Cert.SelectRefIdeal.main_v53))) :
    HEq (W35 m ρ c (Proc.devRef .tc main_v52))
      (StableHlo.after RefSelect.sort3 (StableHlo.after RefSelect.max3 W') (Proc.devRef .tc Cert.SelectRefIdeal.main_v55)) := by
  have e : (W34 m ρ c (Proc.devRef .tc main_v51) : (⟨3, ![64, 288, 288]⟩ : Shape).Idx → EReal) = W' (Proc.devRef .tc Cert.SelectRefIdeal.main_v53) := eq_of_heq h
  have k : (W35 m ρ c (Proc.devRef .tc main_v52) : IVec ⟨2, ![64, 288]⟩ 32) = Order.positions (U := 288) (S := 288) (W34 m ρ c (Proc.devRef .tc main_v51)) :=
    (W35_arr m ρ c 1).trans (final (V34 m ρ) c)
  exact heq_of_eq (k.trans ((congrArg (Order.positions (U := 288) (S := 288)) e).trans (ref W').symm))

end Cert.Sort3

end
-- ==== Proof.Sort4.lean ====
module

public import proofs.«01_k».proof.Proof.Order
public import proofs.«01_k».proof.Proof.RefSelect
public import proofs.«01_k».proof.Proof.Gen.SelectIdeal.Frame
public import Idealize.ShloMosaic.Lib.Pointwise

@[expose] public section

/-! The sort of stage 4, of 216 tokens against 360. -/

noncomputable section

namespace Cert.Sort4

open Cert.SelectIdeal Cert.SelectIdeal.Gen Idealize.ShloMosaic Idealize.ShloMosaic.TcCoe Idealize.SL.Sem Cert.Net

theorem start_row (s : FVec Ideal S64x216x360 .f32) (i : Fin 64) (j : Fin 512) :
    rowOf (k3_pay1 (F := Ideal) s) i j = if h : j.val < 216 then Order.top (U := 216) (S := 360) s (ix2 i ⟨j.val, h⟩) else ⊤ := by
  show k3_pay1 (F := Ideal) s (ix2 i j) = _
  pointwise [k3_pay1]
  rw [ofBits_top]
  rfl

/-- What the kernel stores. -/
theorem stored (s : FVec Ideal S64x216x360 .f32) : k3_pay9 (Order.loop (k3_pay1 s)).2.2.2 = Order.positions (U := 216) (S := 360) s := by
  funext j
  rw [eq_ix2 j]
  refine Eq.trans ?_ (Order.loop_positions (U := 216) (S := 360) (by decide) s (k3_pay1 (F := Ideal) s) (start_row s) (j 0) (j 1))
  pointwise [k3_pay9]
  rfl

theorem out_eq (c : Dev nD) (a0 : Memref sig .tc .vmem S64x216x360 .f32) (h0 : a0.IsWhole) (a1 : Memref sig .tc .vmem S64x216 .i32) (h1 : a1.IsWhole)
    (s : Vec Ideal S64x216x360 .f32) : out3_A_1 c a0 h0 a1 h1 s = k3_pay9 (Order.loop (k3_pay1 s)).2.2.2 := by
  unfold out3_A_1
  rw [View.read_writes_eq_canon _ _ _ (cover3_A_1 c a0 h0 a1 h1 s)]
  unfold kernelRun3_A
  dsimp only
  sl_unfold_words
  rw [View.canon_unit_zero KernStage3.hz2]
  simp only [View.readAt_eq_ld, h0.read_unread, View.ld_unit_zero (S := S64x216x360) KernStage3.hz3]
  rfl

theorem off0 (t : Fin cfg3.N) : (fun a => (cfg3.win 0).kind.off ((cfg3.win 0).index t a) ((cfg3.win 0).size a)) = fun _ => 0 :=
  funext fun a => by fin_cases a <;> rfl

theorem off1 (t : Fin cfg3.N) : (fun a => (cfg3.win 1).kind.off ((cfg3.win 1).index t a) ((cfg3.win 1).size a)) = fun _ => 0 :=
  funext fun a => by fin_cases a <;> rfl

section
variable (V : (c : Dev nD) → (b : Ref sig .tc) → Buf (Elt Ideal) ((c : Thread nD τ).loc b))

/-- The result. -/
def result (c : Dev nD) : IVec S64x216 32 := Order.positions (U := 216) (S := 360) (V c main_v69)

theorem final (c : Dev nD) : (dat3 V c).arrAt 1 cfg3.N = result V c :=
  (dat3 V c).arrAt_eq_of_cover 1 (result V c) (fun t _ => by
    show (cfg3.win 1).cut (grid3.coords t) ((dat3 V c).after 1 t) = _
    rw [after3_1]
    unfold outsAt3
    rw [out_eq, stored, show (iblk3 V c 0 t : Vec Ideal S64x216x360 .f32) = V c main_v69 from
      Memref.read_access_unit_zero (Elt Ideal) main_v69 (off0 t) (fun a => by rw [congrFun (off0 t) a]; simp) _]
    exact (Memref.read_access_unit_zero (Elt Ideal) main_v70 (off1 t) (fun a => by rw [congrFun (off1 t) a]; simp) _).symm) fun i =>
    ⟨t3_0, flush3_1 t3_0, by
      have hm : i ∈ ((View.whole main_v70).slice (win3_1.rect t3_0)).set := by
        rw [View.set_slice_whole, Rect.mem_set_unit]
        intro a
        have h0 : (cfg3.win 1).kind.off ((cfg3.win 1).index t3_0 a) ((cfg3.win 1).size a) = 0 := congrFun (off1 t3_0) a
        exact ⟨h0.le.trans (Nat.zero_le _), lt_of_lt_of_eq (i a).isLt (by fin_cases a <;> rfl)⟩
      exact hm⟩
end

open Idealize.ShloMosaic.StableHlo in
/-- The reference's sort. -/
theorem ref (W' : Valuation Cert.SelectRefIdeal.τ Cert.SelectRefIdeal.sig (Elt Ideal)) :
    (after RefSelect.sort4 (after RefSelect.max4 W') (Proc.devRef .tc Cert.SelectRefIdeal.main_v74) : IVec ⟨2, ![64, 216]⟩ 32)
      = Order.positions (U := 216) (S := 360) (W' (Proc.devRef .tc Cert.SelectRefIdeal.main_v72)) := by
  refine Eq.trans ?_ (Order.sort_positions (U := 216) (S := 360) _)
  rw [← Order.reduce_top (U := 216) (S := 360) _ Cert.SelectRefIdeal.Gen.reducesTo_S64x216x360_S64x216_d2 (by decide) Cert.SelectRefIdeal.Gen.h_S_]
  simp only [RefSelect.sort4, RefSelect.max4, TRef.binary, TRef.nullary, TRef.toBuf, TRef.ofBuf, cast_eq]
  after_results_simp <;> rfl

variable (m : (ℓ : Loc nD τ sig) → Buf (Elt Ideal) ℓ) (ρ : Dev nD → PrngReg)

/-- From equal cosines both end with equal positions. -/
theorem orders (c : Dev nD) (W' : Valuation Cert.SelectRefIdeal.τ Cert.SelectRefIdeal.sig (Elt Ideal))
    (h : HEq (W47 m ρ c (Proc.devRef .tc main_v69)) (W' (Proc.devRef .tc Cert.SelectRefIdeal.main_v72))) :
    HEq (W48 m ρ c (Proc.devRef .tc main_v70))
      (StableHlo.after RefSelect.sort4 (StableHlo.after RefSelect.max4 W') (Proc.devRef .tc Cert.SelectRefIdeal.main_v74)) := by
  have e : (W47 m ρ c (Proc.devRef .tc main_v69) : (⟨3, ![64, 216, 360]⟩ : Shape).Idx → EReal) = W' (Proc.devRef .tc Cert.SelectRefIdeal.main_v72) := eq_of_heq h
  have k : (W48 m ρ c (Proc.devRef .tc main_v70) : IVec ⟨2, ![64, 216]⟩ 32) = Order.positions (U := 216) (S := 360) (W47 m ρ c (Proc.devRef .tc main_v69)) :=
    (W48_arr m ρ c 1).trans (final (V47 m ρ) c)
  exact heq_of_eq (k.trans ((congrArg (Order.positions (U := 216) (S := 360)) e).trans (ref W').symm))

end Cert.Sort4

end
-- ==== Proof.Sort5.lean ====
module

public import proofs.«01_k».proof.Proof.Order
public import proofs.«01_k».proof.Proof.RefSelect
public import proofs.«01_k».proof.Proof.Gen.SelectIdeal.Frame
public import Idealize.ShloMosaic.Lib.Pointwise

@[expose] public section

/-! The sort of stage 5, of 144 tokens against 432. -/

noncomputable section

namespace Cert.Sort5

open Cert.SelectIdeal Cert.SelectIdeal.Gen Idealize.ShloMosaic Idealize.ShloMosaic.TcCoe Idealize.SL.Sem Cert.Net

theorem start_row (s : FVec Ideal S64x144x432 .f32) (i : Fin 64) (j : Fin 512) :
    rowOf (k4_pay1 (F := Ideal) s) i j = if h : j.val < 144 then Order.top (U := 144) (S := 432) s (ix2 i ⟨j.val, h⟩) else ⊤ := by
  show k4_pay1 (F := Ideal) s (ix2 i j) = _
  pointwise [k4_pay1]
  rw [ofBits_top]
  rfl

/-- What the kernel stores. -/
theorem stored (s : FVec Ideal S64x144x432 .f32) : k4_pay9 (Order.loop (k4_pay1 s)).2.2.2 = Order.positions (U := 144) (S := 432) s := by
  funext j
  rw [eq_ix2 j]
  refine Eq.trans ?_ (Order.loop_positions (U := 144) (S := 432) (by decide) s (k4_pay1 (F := Ideal) s) (start_row s) (j 0) (j 1))
  pointwise [k4_pay9]
  rfl

theorem out_eq (c : Dev nD) (a0 : Memref sig .tc .vmem S64x144x432 .f32) (h0 : a0.IsWhole) (a1 : Memref sig .tc .vmem S64x144 .i32) (h1 : a1.IsWhole)
    (s : Vec Ideal S64x144x432 .f32) : out4_A_1 c a0 h0 a1 h1 s = k4_pay9 (Order.loop (k4_pay1 s)).2.2.2 := by
  unfold out4_A_1
  rw [View.read_writes_eq_canon _ _ _ (cover4_A_1 c a0 h0 a1 h1 s)]
  unfold kernelRun4_A
  dsimp only
  sl_unfold_words
  rw [View.canon_unit_zero KernStage3.hz2]
  simp only [View.readAt_eq_ld, h0.read_unread, View.ld_unit_zero (S := S64x144x432) KernStage3.hz3]
  rfl

theorem off0 (t : Fin cfg4.N) : (fun a => (cfg4.win 0).kind.off ((cfg4.win 0).index t a) ((cfg4.win 0).size a)) = fun _ => 0 :=
  funext fun a => by fin_cases a <;> rfl

theorem off1 (t : Fin cfg4.N) : (fun a => (cfg4.win 1).kind.off ((cfg4.win 1).index t a) ((cfg4.win 1).size a)) = fun _ => 0 :=
  funext fun a => by fin_cases a <;> rfl

section
variable (V : (c : Dev nD) → (b : Ref sig .tc) → Buf (Elt Ideal) ((c : Thread nD τ).loc b))

/-- The result. -/
def result (c : Dev nD) : IVec S64x144 32 := Order.positions (U := 144) (S := 432) (V c main_v87)

theorem final (c : Dev nD) : (dat4 V c).arrAt 1 cfg4.N = result V c :=
  (dat4 V c).arrAt_eq_of_cover 1 (result V c) (fun t _ => by
    show (cfg4.win 1).cut (grid4.coords t) ((dat4 V c).after 1 t) = _
    rw [after4_1]
    unfold outsAt4
    rw [out_eq, stored, show (iblk4 V c 0 t : Vec Ideal S64x144x432 .f32) = V c main_v87 from
      Memref.read_access_unit_zero (Elt Ideal) main_v87 (off0 t) (fun a => by rw [congrFun (off0 t) a]; simp) _]
    exact (Memref.read_access_unit_zero (Elt Ideal) main_v88 (off1 t) (fun a => by rw [congrFun (off1 t) a]; simp) _).symm) fun i =>
    ⟨t4_0, flush4_1 t4_0, by
      have hm : i ∈ ((View.whole main_v88).slice (win4_1.rect t4_0)).set := by
        rw [View.set_slice_whole, Rect.mem_set_unit]
        intro a
        have h0 : (cfg4.win 1).kind.off ((cfg4.win 1).index t4_0 a) ((cfg4.win 1).size a) = 0 := congrFun (off1 t4_0) a
        exact ⟨h0.le.trans (Nat.zero_le _), lt_of_lt_of_eq (i a).isLt (by fin_cases a <;> rfl)⟩
      exact hm⟩
end

open Idealize.ShloMosaic.StableHlo in
/-- The reference's sort. -/
theorem ref (W' : Valuation Cert.SelectRefIdeal.τ Cert.SelectRefIdeal.sig (Elt Ideal)) :
    (after RefSelect.sort5 (after RefSelect.max5 W') (Proc.devRef .tc Cert.SelectRefIdeal.main_v93) : IVec ⟨2, ![64, 144]⟩ 32)
      = Order.positions (U := 144) (S := 432) (W' (Proc.devRef .tc Cert.SelectRefIdeal.main_v91)) := by
  refine Eq.trans ?_ (Order.sort_positions (U := 144) (S := 432) _)
  rw [← Order.reduce_top (U := 144) (S := 432) _ Cert.SelectRefIdeal.Gen.reducesTo_S64x144x432_S64x144_d2 (by decide) Cert.SelectRefIdeal.Gen.h_S_]
  simp only [RefSelect.sort5, RefSelect.max5, TRef.binary, TRef.nullary, TRef.toBuf, TRef.ofBuf, cast_eq]
  after_results_simp <;> rfl

variable (m : (ℓ : Loc nD τ sig) → Buf (Elt Ideal) ℓ) (ρ : Dev nD → PrngReg)

/-- From equal cosines both end with equal positions. -/
theorem orders (c : Dev nD) (W' : Valuation Cert.SelectRefIdeal.τ Cert.SelectRefIdeal.sig (Elt Ideal))
    (h : HEq (W60 m ρ c (Proc.devRef .tc main_v87)) (W' (Proc.devRef .tc Cert.SelectRefIdeal.main_v91))) :
    HEq (W61 m ρ c (Proc.devRef .tc main_v88))
      (StableHlo.after RefSelect.sort5 (StableHlo.after RefSelect.max5 W') (Proc.devRef .tc Cert.SelectRefIdeal.main_v93)) := by
  have e : (W60 m ρ c (Proc.devRef .tc main_v87) : (⟨3, ![64, 144, 432]⟩ : Shape).Idx → EReal) = W' (Proc.devRef .tc Cert.SelectRefIdeal.main_v91) := eq_of_heq h
  have k : (W61 m ρ c (Proc.devRef .tc main_v88) : IVec ⟨2, ![64, 144]⟩ 32) = Order.positions (U := 144) (S := 432) (W60 m ρ c (Proc.devRef .tc main_v87)) :=
    (W61_arr m ρ c 1).trans (final (V60 m ρ) c)
  exact heq_of_eq (k.trans ((congrArg (Order.positions (U := 144) (S := 432)) e).trans (ref W').symm))

end Cert.Sort5

end
-- ==== Proof.Sort6.lean ====
module

public import proofs.«01_k».proof.Proof.Order
public import proofs.«01_k».proof.Proof.RefSelect
public import proofs.«01_k».proof.Proof.Gen.SelectIdeal.Frame
public import Idealize.ShloMosaic.Lib.Pointwise

@[expose] public section

/-! The sort of stage 6, of 101 tokens against 475. -/

noncomputable section

namespace Cert.Sort6

open Cert.SelectIdeal Cert.SelectIdeal.Gen Idealize.ShloMosaic Idealize.ShloMosaic.TcCoe Idealize.SL.Sem Cert.Net

theorem start_row (s : FVec Ideal S64x101x475 .f32) (i : Fin 64) (j : Fin 512) :
    rowOf (k5_pay1 (F := Ideal) s) i j = if h : j.val < 101 then Order.top (U := 101) (S := 475) s (ix2 i ⟨j.val, h⟩) else ⊤ := by
  show k5_pay1 (F := Ideal) s (ix2 i j) = _
  pointwise [k5_pay1]
  rw [ofBits_top]
  rfl

/-- What the kernel stores. -/
theorem stored (s : FVec Ideal S64x101x475 .f32) : k5_pay9 (Order.loop (k5_pay1 s)).2.2.2 = Order.positions (U := 101) (S := 475) s := by
  funext j
  rw [eq_ix2 j]
  refine Eq.trans ?_ (Order.loop_positions (U := 101) (S := 475) (by decide) s (k5_pay1 (F := Ideal) s) (start_row s) (j 0) (j 1))
  pointwise [k5_pay9]
  rfl

theorem out_eq (c : Dev nD) (a0 : Memref sig .tc .vmem S64x101x475 .f32) (h0 : a0.IsWhole) (a1 : Memref sig .tc .vmem S64x101 .i32) (h1 : a1.IsWhole)
    (s : Vec Ideal S64x101x475 .f32) : out5_A_1 c a0 h0 a1 h1 s = k5_pay9 (Order.loop (k5_pay1 s)).2.2.2 := by
  unfold out5_A_1
  rw [View.read_writes_eq_canon _ _ _ (cover5_A_1 c a0 h0 a1 h1 s)]
  unfold kernelRun5_A
  dsimp only
  sl_unfold_words
  rw [View.canon_unit_zero KernStage3.hz2]
  simp only [View.readAt_eq_ld, h0.read_unread, View.ld_unit_zero (S := S64x101x475) KernStage3.hz3]
  rfl

theorem off0 (t : Fin cfg5.N) : (fun a => (cfg5.win 0).kind.off ((cfg5.win 0).index t a) ((cfg5.win 0).size a)) = fun _ => 0 :=
  funext fun a => by fin_cases a <;> rfl

theorem off1 (t : Fin cfg5.N) : (fun a => (cfg5.win 1).kind.off ((cfg5.win 1).index t a) ((cfg5.win 1).size a)) = fun _ => 0 :=
  funext fun a => by fin_cases a <;> rfl

section
variable (V : (c : Dev nD) → (b : Ref sig .tc) → Buf (Elt Ideal) ((c : Thread nD τ).loc b))

/-- The result. -/
def result (c : Dev nD) : IVec S64x101 32 := Order.positions (U := 101) (S := 475) (V c main_v105)

theorem final (c : Dev nD) : (dat5 V c).arrAt 1 cfg5.N = result V c :=
  (dat5 V c).arrAt_eq_of_cover 1 (result V c) (fun t _ => by
    show (cfg5.win 1).cut (grid5.coords t) ((dat5 V c).after 1 t) = _
    rw [after5_1]
    unfold outsAt5
    rw [out_eq, stored, show (iblk5 V c 0 t : Vec Ideal S64x101x475 .f32) = V c main_v105 from
      Memref.read_access_unit_zero (Elt Ideal) main_v105 (off0 t) (fun a => by rw [congrFun (off0 t) a]; simp) _]
    exact (Memref.read_access_unit_zero (Elt Ideal) main_v106 (off1 t) (fun a => by rw [congrFun (off1 t) a]; simp) _).symm) fun i =>
    ⟨t5_0, flush5_1 t5_0, by
      have hm : i ∈ ((View.whole main_v106).slice (win5_1.rect t5_0)).set := by
        rw [View.set_slice_whole, Rect.mem_set_unit]
        intro a
        have h0 : (cfg5.win 1).kind.off ((cfg5.win 1).index t5_0 a) ((cfg5.win 1).size a) = 0 := congrFun (off1 t5_0) a
        exact ⟨h0.le.trans (Nat.zero_le _), lt_of_lt_of_eq (i a).isLt (by fin_cases a <;> rfl)⟩
      exact hm⟩
end

open Idealize.ShloMosaic.StableHlo in
/-- The reference's sort. -/
theorem ref (W' : Valuation Cert.SelectRefIdeal.τ Cert.SelectRefIdeal.sig (Elt Ideal)) :
    (after RefSelect.sort6 (after RefSelect.max6 W') (Proc.devRef .tc Cert.SelectRefIdeal.main_v112) : IVec ⟨2, ![64, 101]⟩ 32)
      = Order.positions (U := 101) (S := 475) (W' (Proc.devRef .tc Cert.SelectRefIdeal.main_v110)) := by
  refine Eq.trans ?_ (Order.sort_positions (U := 101) (S := 475) _)
  rw [← Order.reduce_top (U := 101) (S := 475) _ Cert.SelectRefIdeal.Gen.reducesTo_S64x101x475_S64x101_d2 (by decide) Cert.SelectRefIdeal.Gen.h_S_]
  simp only [RefSelect.sort6, RefSelect.max6, TRef.binary, TRef.nullary, TRef.toBuf, TRef.ofBuf, cast_eq]
  after_results_simp <;> rfl

variable (m : (ℓ : Loc nD τ sig) → Buf (Elt Ideal) ℓ) (ρ : Dev nD → PrngReg)

/-- From equal cosines both end with equal positions. -/
theorem orders (c : Dev nD) (W' : Valuation Cert.SelectRefIdeal.τ Cert.SelectRefIdeal.sig (Elt Ideal))
    (h : HEq (W73 m ρ c (Proc.devRef .tc main_v105)) (W' (Proc.devRef .tc Cert.SelectRefIdeal.main_v110))) :
    HEq (W74 m ρ c (Proc.devRef .tc main_v106))
      (StableHlo.after RefSelect.sort6 (StableHlo.after RefSelect.max6 W') (Proc.devRef .tc Cert.SelectRefIdeal.main_v112)) := by
  have e : (W73 m ρ c (Proc.devRef .tc main_v105) : (⟨3, ![64, 101, 475]⟩ : Shape).Idx → EReal) = W' (Proc.devRef .tc Cert.SelectRefIdeal.main_v110) := eq_of_heq h
  have k : (W74 m ρ c (Proc.devRef .tc main_v106) : IVec ⟨2, ![64, 101]⟩ 32) = Order.positions (U := 101) (S := 475) (W73 m ρ c (Proc.devRef .tc main_v105)) :=
    (W74_arr m ρ c 1).trans (final (V73 m ρ) c)
  exact heq_of_eq (k.trans ((congrArg (Order.positions (U := 101) (S := 475)) e).trans (ref W').symm))

end Cert.Sort6

end
-- ==== Proof.MeetSelect.lean ====
module

public import proofs.«01_k».proof.Proof.SimSelect
public import proofs.«01_k».proof.Proof.SelectRun
public import proofs.«01_k».proof.Proof.Sort1
public import proofs.«01_k».proof.Proof.Sort2
public import proofs.«01_k».proof.Proof.Sort3
public import proofs.«01_k».proof.Proof.Sort4
public import proofs.«01_k».proof.Proof.Sort5
public import proofs.«01_k».proof.Proof.Sort6

@[expose] public section

/-! The kernel from the input to the last cosines, against the reference. -/

noncomputable section

namespace Cert.MeetSelect

open Cert.SelectIdeal Cert.SelectIdeal.Gen Idealize.ShloMosaic Idealize.ShloMosaic.TcCoe Idealize.SL.Sem Idealize.ShloMosaic.StableHlo Cert.Agree Cert.SimSelect

/-- The reference's buffers. -/
abbrev RefVal : Type := Valuation Cert.SelectRefIdeal.τ Cert.SelectRefIdeal.sig (Elt Ideal)

/-! What the reference's sorts leave alone. -/

/-- Two lines leave alone what neither writes. -/
theorem kept {l l' : List (HloOp Cert.SelectRefIdeal.τ Cert.SelectRefIdeal.sig (Elt Ideal))} {w w' : List (Ref Cert.SelectRefIdeal.sig .tc)}
    (h : l.map HloOp.writes = w.map fun r => {Proc.devRef (τ := Cert.SelectRefIdeal.τ) .tc r})
    (h' : l'.map HloOp.writes = w'.map fun r => {Proc.devRef (τ := Cert.SelectRefIdeal.τ) .tc r})
    (W' : RefVal) (r : Ref Cert.SelectRefIdeal.sig .tc) (hr : r ∉ w ∧ r ∉ w') :
    after l' (after l W') (Proc.devRef .tc r) = W' (Proc.devRef .tc r) :=
  (after_of_writes_sub l' _ (forall_writes_sub_of_map h') hr.2).trans (after_of_writes_sub l W' (forall_writes_sub_of_map h) hr.1)

variable (m : (ℓ : Loc nD τ sig) → Buf (Elt Ideal) ℓ) (ρ : Dev nD → PrngReg) (c : Dev nD) (W' : RefVal)

/-- Over sort 1. -/
theorem over1 (h : Agree pairs0 (W8 m ρ c) W') : Agree sorted1 (W9 m ρ c) (after RefSelect.sort1 (after RefSelect.max1 W')) :=
  agree_join h
    (fun p hp => W9_of m ρ c p.1 ((ListAll.forall_mem_of_all_decide (by decide +kernel) :
      ∀ r ∈ pairs0.map Prod.fst, ∀ w : Fin cfg0.W, Pipeline.arrRef spec0 w = r → (cfg0.win w).isOut = false) p.1 (List.mem_map_of_mem hp)))
    (fun p hp => kept (w := [Cert.SelectRefIdeal.main_cst, Cert.SelectRefIdeal.main_v16]) (w' := [Cert.SelectRefIdeal.main_call4_v0, Cert.SelectRefIdeal.main_call4_v1_0, Cert.SelectRefIdeal.main_v17]) rfl rfl W' p.2
      ((ListAll.forall_mem_of_all_decide (by decide +kernel) :
        ∀ r ∈ pairs0.map Prod.snd, r ∉ [Cert.SelectRefIdeal.main_cst, Cert.SelectRefIdeal.main_v16]
          ∧ r ∉ [Cert.SelectRefIdeal.main_call4_v0, Cert.SelectRefIdeal.main_call4_v1_0, Cert.SelectRefIdeal.main_v17]) p.2 (List.mem_map_of_mem hp)))
    (Sort1.orders m ρ c W' (h (main_v15, Cert.SelectRefIdeal.main_v15) List.mem_cons_self))

/-- Over sort 2. -/
theorem over2 (h : Agree pairs1 (W21 m ρ c) W') : Agree sorted2 (W22 m ρ c) (after RefSelect.sort2 (after RefSelect.max2 W')) :=
  agree_join h
    (fun p hp => W22_of m ρ c p.1 ((ListAll.forall_mem_of_all_decide (by decide +kernel) :
      ∀ r ∈ pairs1.map Prod.fst, ∀ w : Fin cfg1.W, Pipeline.arrRef spec1 w = r → (cfg1.win w).isOut = false) p.1 (List.mem_map_of_mem hp)))
    (fun p hp => kept (w := [Cert.SelectRefIdeal.main_cst_1, Cert.SelectRefIdeal.main_v35]) (w' := [Cert.SelectRefIdeal.main_call11_v0, Cert.SelectRefIdeal.main_call11_v1_0, Cert.SelectRefIdeal.main_v36]) rfl rfl W' p.2
      ((ListAll.forall_mem_of_all_decide (by decide +kernel) :
        ∀ r ∈ pairs1.map Prod.snd, r ∉ [Cert.SelectRefIdeal.main_cst_1, Cert.SelectRefIdeal.main_v35]
          ∧ r ∉ [Cert.SelectRefIdeal.main_call11_v0, Cert.SelectRefIdeal.main_call11_v1_0, Cert.SelectRefIdeal.main_v36]) p.2 (List.mem_map_of_mem hp)))
    (Sort2.orders m ρ c W' (h (main_v33, Cert.SelectRefIdeal.main_v34) List.mem_cons_self))

/-- Over sort 3. -/
theorem over3 (h : Agree pairs2 (W34 m ρ c) W') : Agree sorted3 (W35 m ρ c) (after RefSelect.sort3 (after RefSelect.max3 W')) :=
  agree_join h
    (fun p hp => W35_of m ρ c p.1 ((ListAll.forall_mem_of_all_decide (by decide +kernel) :
      ∀ r ∈ pairs2.map Prod.fst, ∀ w : Fin cfg2.W, Pipeline.arrRef spec2 w = r → (cfg2.win w).isOut = false) p.1 (List.mem_map_of_mem hp)))
    (fun p hp => kept (w := [Cert.SelectRefIdeal.main_cst_2, Cert.SelectRefIdeal.main_v54]) (w' := [Cert.SelectRefIdeal.main_call18_v0, Cert.SelectRefIdeal.main_call18_v1_0, Cert.SelectRefIdeal.main_v55]) rfl rfl W' p.2
      ((ListAll.forall_mem_of_all_decide (by decide +kernel) :
        ∀ r ∈ pairs2.map Prod.snd, r ∉ [Cert.SelectRefIdeal.main_cst_2, Cert.SelectRefIdeal.main_v54]
          ∧ r ∉ [Cert.SelectRefIdeal.main_call18_v0, Cert.SelectRefIdeal.main_call18_v1_0, Cert.SelectRefIdeal.main_v55]) p.2 (List.mem_map_of_mem hp)))
    (Sort3.orders m ρ c W' (h (main_v51, Cert.SelectRefIdeal.main_v53) List.mem_cons_self))

/-- Over sort 4. -/
theorem over4 (h : Agree pairs3 (W47 m ρ c) W') : Agree sorted4 (W48 m ρ c) (after RefSelect.sort4 (after RefSelect.max4 W')) :=
  agree_join h
    (fun p hp => W48_of m ρ c p.1 ((ListAll.forall_mem_of_all_decide (by decide +kernel) :
      ∀ r ∈ pairs3.map Prod.fst, ∀ w : Fin cfg3.W, Pipeline.arrRef spec3 w = r → (cfg3.win w).isOut = false) p.1 (List.mem_map_of_mem hp)))
    (fun p hp => kept (w := [Cert.SelectRefIdeal.main_cst_3, Cert.SelectRefIdeal.main_v73]) (w' := [Cert.SelectRefIdeal.main_call25_v0, Cert.SelectRefIdeal.main_call25_v1_0, Cert.SelectRefIdeal.main_v74]) rfl rfl W' p.2
      ((ListAll.forall_mem_of_all_decide (by decide +kernel) :
        ∀ r ∈ pairs3.map Prod.snd, r ∉ [Cert.SelectRefIdeal.main_cst_3, Cert.SelectRefIdeal.main_v73]
          ∧ r ∉ [Cert.SelectRefIdeal.main_call25_v0, Cert.SelectRefIdeal.main_call25_v1_0, Cert.SelectRefIdeal.main_v74]) p.2 (List.mem_map_of_mem hp)))
    (Sort4.orders m ρ c W' (h (main_v69, Cert.SelectRefIdeal.main_v72) List.mem_cons_self))

/-- Over sort 5. -/
theorem over5 (h : Agree pairs4 (W60 m ρ c) W') : Agree sorted5 (W61 m ρ c) (after RefSelect.sort5 (after RefSelect.max5 W')) :=
  agree_join h
    (fun p hp => W61_of m ρ c p.1 ((ListAll.forall_mem_of_all_decide (by decide +kernel) :
      ∀ r ∈ pairs4.map Prod.fst, ∀ w : Fin cfg4.W, Pipeline.arrRef spec4 w = r → (cfg4.win w).isOut = false) p.1 (List.mem_map_of_mem hp)))
    (fun p hp => kept (w := [Cert.SelectRefIdeal.main_cst_4, Cert.SelectRefIdeal.main_v92]) (w' := [Cert.SelectRefIdeal.main_call32_v0, Cert.SelectRefIdeal.main_call32_v1_0, Cert.SelectRefIdeal.main_v93]) rfl rfl W' p.2
      ((ListAll.forall_mem_of_all_decide (by decide +kernel) :
        ∀ r ∈ pairs4.map Prod.snd, r ∉ [Cert.SelectRefIdeal.main_cst_4, Cert.SelectRefIdeal.main_v92]
          ∧ r ∉ [Cert.SelectRefIdeal.main_call32_v0, Cert.SelectRefIdeal.main_call32_v1_0, Cert.SelectRefIdeal.main_v93]) p.2 (List.mem_map_of_mem hp)))
    (Sort5.orders m ρ c W' (h (main_v87, Cert.SelectRefIdeal.main_v91) List.mem_cons_self))

/-- Over sort 6. -/
theorem over6 (h : Agree pairs5 (W73 m ρ c) W') : Agree sorted6 (W74 m ρ c) (after RefSelect.sort6 (after RefSelect.max6 W')) :=
  agree_join h
    (fun p hp => W74_of m ρ c p.1 ((ListAll.forall_mem_of_all_decide (by decide +kernel) :
      ∀ r ∈ pairs5.map Prod.fst, ∀ w : Fin cfg5.W, Pipeline.arrRef spec5 w = r → (cfg5.win w).isOut = false) p.1 (List.mem_map_of_mem hp)))
    (fun p hp => kept (w := [Cert.SelectRefIdeal.main_cst_5, Cert.SelectRefIdeal.main_v111]) (w' := [Cert.SelectRefIdeal.main_call39_v0, Cert.SelectRefIdeal.main_call39_v1_0, Cert.SelectRefIdeal.main_v112]) rfl rfl W' p.2
      ((ListAll.forall_mem_of_all_decide (by decide +kernel) :
        ∀ r ∈ pairs5.map Prod.snd, r ∉ [Cert.SelectRefIdeal.main_cst_5, Cert.SelectRefIdeal.main_v111]
          ∧ r ∉ [Cert.SelectRefIdeal.main_call39_v0, Cert.SelectRefIdeal.main_call39_v1_0, Cert.SelectRefIdeal.main_v112]) p.2 (List.mem_map_of_mem hp)))
    (Sort6.orders m ρ c W' (h (main_v105, Cert.SelectRefIdeal.main_v110) List.mem_cons_self))

/-- From equal inputs the results agree. -/
theorem whole (h : Agree start (W0 m ρ c) W') : Agree pairs6 (W86 m ρ c) (after RefSelect.ops W') := by
  obtain ⟨s0, s1, s2, s3, s4, s5, s6⟩ := stages (F := Ideal)
  rw [← KernSelect.stretches0_eq] at s0
  rw [← KernSelect.stretches1_eq] at s1
  rw [← KernSelect.stretches2_eq] at s2
  rw [← KernSelect.stretches3_eq] at s3
  rw [← KernSelect.stretches4_eq] at s4
  rw [← KernSelect.stretches5_eq] at s5
  rw [← KernSelect.stretches6_eq] at s6
  rw [after_flatten]
  have a0 : Agree pairs0 (W8 m ρ c) (afters ref0 W') := s0 _ _ h
  have a1 : Agree pairs1 (W21 m ρ c) _ := s1 _ _ (over1 m ρ c _ a0)
  have a2 : Agree pairs2 (W34 m ρ c) _ := s2 _ _ (over2 m ρ c _ a1)
  have a3 : Agree pairs3 (W47 m ρ c) _ := s3 _ _ (over3 m ρ c _ a2)
  have a4 : Agree pairs4 (W60 m ρ c) _ := s4 _ _ (over4 m ρ c _ a3)
  have a5 : Agree pairs5 (W73 m ρ c) _ := s5 _ _ (over5 m ρ c _ a4)
  have a6 := s6 _ _ (over6 m ρ c _ a5)
  exact a6

/-- No operation of the reference allocates. -/
theorem ops_fresh : ∀ op ∈ (RefSelect.ops : List (HloOp Cert.SelectRefIdeal.τ Cert.SelectRefIdeal.sig (Elt Ideal))), op.fresh = ∅ := by
  refine List.forall_iff_forall_mem.mp (RefSelect.forall_flatten ?_)
  repeat' first
    | with_reducible refine List.forall_append.mpr ⟨?_, ?_⟩
    | with_reducible refine (List.forall_cons _ _ _).mpr ⟨?_, ?_⟩
    | with_reducible exact trivial
    | exact rfl
    | exact trivial

/-- No operation of the reference writes the input. -/
theorem arg_kept (W' : RefVal) : after RefSelect.ops W' (Proc.devRef .tc Cert.SelectRefIdeal.main_arg0) = W' (Proc.devRef .tc Cert.SelectRefIdeal.main_arg0) := by
  refine after_of_forall_not_mem _ _ (List.forall_iff_forall_mem.mp (RefSelect.forall_flatten ?_))
  repeat' first
    | with_reducible refine List.forall_append.mpr ⟨?_, ?_⟩
    | with_reducible refine (List.forall_cons _ _ _).mpr ⟨?_, ?_⟩
    | with_reducible exact trivial
    | exact fun h => absurd (Proc.devRef_injective _ (Finset.mem_singleton.mp h)) (by decide +kernel)
    | exact trivial

end Cert.MeetSelect

end
-- ==== Proof.RefRun.lean ====
module

public import proofs.«01_k».proof.Proof.Gen.ReferenceIdeal
public import Idealize.ShloMosaic.Lib.StableHlo.Run

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The concatenation that writes `main_v22`, named. -/
def fn_main_v22 : (⟨S64x58x1, .i32⟩ : BufTy).Contents (Elt F) → (⟨S64x58x1, .i32⟩ : BufTy).Contents (Elt F) → (⟨S64x58x2, .i32⟩ : BufTy).Contents (Elt F) :=
  (fun a b => concatenate S64x58x2 2 [⟨S64x58x1, a⟩, ⟨S64x58x1, b⟩] concatenates_S64x58x1_S64x58x1_S64x58x2_d2)

/-- The concatenation that writes `main_v38`, named. -/
def fn_main_v38 : (⟨S64x58x1, .i32⟩ : BufTy).Contents (Elt F) → (⟨S64x58x1, .i32⟩ : BufTy).Contents (Elt F) → (⟨S64x58x2, .i32⟩ : BufTy).Contents (Elt F) :=
  (fun a b => concatenate S64x58x2 2 [⟨S64x58x1, a⟩, ⟨S64x58x1, b⟩] concatenates_S64x58x1_S64x58x1_S64x58x2_d2)

/-- The concatenation that writes `main_v43`, named. -/
def fn_main_v43 : (⟨S64x1x768, .f32⟩ : BufTy).Contents (Elt F) → (⟨S64x518x768, .f32⟩ : BufTy).Contents (Elt F) → (⟨S64x519x768, .f32⟩ : BufTy).Contents (Elt F) :=
  (fun a b => concatenate S64x519x768 1 [⟨S64x1x768, a⟩, ⟨S64x518x768, b⟩] concatenates_S64x1x768_S64x518x768_S64x519x768_d1)

/-- The concatenation that writes `main_v47`, named. -/
def fn_main_v47 : (⟨S64x1, .i32⟩ : BufTy).Contents (Elt F) → (⟨S64x518, .i32⟩ : BufTy).Contents (Elt F) → (⟨S64x519, .i32⟩ : BufTy).Contents (Elt F) :=
  (fun a b => concatenate S64x519 1 [⟨S64x1, a⟩, ⟨S64x518, b⟩] concatenates_S64x1_S64x518_S64x519_d1)

/-- The operations of the reference, in order (a called function's operations stand in its call's place). -/
abbrev ops : List (HloOp τ sig (Elt F)) :=
  [ unary main_arg0 main_v0 ((extractStridedSlice S64x1x768 ![0, 0, 0] · slices_S64x577x768_S64x1x768_0_0_0) : (⟨S64x577x768, .f32⟩ : BufTy).Contents (Elt F) → (⟨S64x1x768, .f32⟩ : BufTy).Contents (Elt F)),
    unary main_arg0 main_v1 ((extractStridedSlice S64x576x768 ![0, 1, 0] · slices_S64x577x768_S64x576x768_0_1_0) : (⟨S64x577x768, .f32⟩ : BufTy).Contents (Elt F) → (⟨S64x576x768, .f32⟩ : BufTy).Contents (Elt F)),
    unary main_arg2 main_v2 (broadcastInDim S64x518x1 ![0, 1] bcast_S64x518_S64x518x1_0_1 : (⟨S64x518, .i32⟩ : BufTy).Contents (Elt F) → (⟨S64x518x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S64x518x1, .i32⟩) main_call0_v0) (broadcastInDim S64x518x1 ![] bcast_S_S64x518x1),
    TRef.binary (TRef.of (T := ⟨S64x518x1, .i32⟩) main_v2) (TRef.of (T := ⟨S64x518x1, .i32⟩) main_call0_v0) (TRef.of (T := ⟨S64x518x1, .i1⟩) main_call0_v1) (cmpi .slt),
    TRef.nullary (TRef.of (T := ⟨S_, .i32⟩) main_call0_c_0) (constantI S_ 32 576#32),
    TRef.unary (TRef.of (T := ⟨S_, .i32⟩) main_call0_c_0) (TRef.of (T := ⟨S64x518x1, .i32⟩) main_call0_v2) (broadcastInDim S64x518x1 ![] bcast_S_S64x518x1),
    TRef.binary (TRef.of (T := ⟨S64x518x1, .i32⟩) main_v2) (TRef.of (T := ⟨S64x518x1, .i32⟩) main_call0_v2) (TRef.of (T := ⟨S64x518x1, .i32⟩) main_call0_v3) addi,
    TRef.ternary (TRef.of (T := ⟨S64x518x1, .i1⟩) main_call0_v1) (TRef.of (T := ⟨S64x518x1, .i32⟩) main_call0_v3) (TRef.of (T := ⟨S64x518x1, .i32⟩) main_v2) (TRef.of (T := ⟨S64x518x1, .i32⟩) main_call0_v4) select,
    TRef.nullary (TRef.of (T := ⟨S1, .i32⟩) main_call0_c_1) (constantI S1 32 575#32),
    TRef.nullary (TRef.of (T := ⟨S_, .i32⟩) main_call0_c_2) (constantI S_ 32 0#32),
    TRef.unary (TRef.of (T := ⟨S_, .i32⟩) main_call0_c_2) (TRef.of (T := ⟨S64x518x1, .i32⟩) main_call0_v5) (broadcastInDim S64x518x1 ![] bcast_S_S64x518x1),
    TRef.binary (TRef.of (T := ⟨S64x518x1, .i32⟩) main_call0_v4) (TRef.of (T := ⟨S64x518x1, .i32⟩) main_call0_v5) (TRef.of (T := ⟨S64x518x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S64x518x1, .i32⟩) main_call0_v8) (broadcastInDim S64x518x1 ![0, 1, 2] bcast_S1x1x1_S64x518x1_0_1_2),
    TRef.binary (TRef.of (T := ⟨S64x518x1, .i32⟩) main_call0_v4) (TRef.of (T := ⟨S64x518x1, .i32⟩) main_call0_v8) (TRef.of (T := ⟨S64x518x1, .i1⟩) main_call0_v9) (cmpi .sle),
    TRef.binary (TRef.of (T := ⟨S64x518x1, .i1⟩) main_call0_v6) (TRef.of (T := ⟨S64x518x1, .i1⟩) main_call0_v9) (TRef.of (T := ⟨S64x518x1, .i1⟩) main_call0_v10) andi,
    TRef.nullary (TRef.of (T := ⟨S_, .i1⟩) main_call0_c_3) (constantI S_ 1 1#1),
    TRef.binary (TRef.of (T := ⟨S64x518x1, .i1⟩) main_call0_v10) (TRef.of (T := ⟨S_, .i1⟩) main_call0_c_3) (TRef.of (T := ⟨S64x518, .i1⟩) main_call0_v11) (fun x v => Host.reduce IntOp.andi x v reducesTo_S64x518x1_S64x518_d2 h_S_),
    TRef.binary (TRef.of (T := ⟨S64x576x768, .f32⟩) main_v1) (TRef.of (T := ⟨S64x518x1, .i32⟩) main_call0_v4) (TRef.of (T := ⟨S64x518x768, .f32⟩) main_call0_v12) (fun x i => Host.gather gather_S64x576x768_S64x518x1_S64x518x768_2_1_0_0_1_2_11768 x i),
    TRef.unary (TRef.of (T := ⟨S64x518, .i1⟩) main_call0_v11) (TRef.of (T := ⟨S64x518x768, .i1⟩) main_call0_v13) (broadcastInDim S64x518x768 ![0, 1] bcast_S64x518_S64x518x768_0_1),
    TRef.nullary (TRef.of (T := ⟨S_, .f32⟩) main_call0_cst) (constant S_ .f32 0x7FC00000#32),
    TRef.unary (TRef.of (T := ⟨S_, .f32⟩) main_call0_cst) (TRef.of (T := ⟨S64x518x768, .f32⟩) main_call0_v14) (broadcastInDim S64x518x768 ![] bcast_S_S64x518x768),
    TRef.ternary (TRef.of (T := ⟨S64x518x768, .i1⟩) main_call0_v13) (TRef.of (T := ⟨S64x518x768, .f32⟩) main_call0_v12) (TRef.of (T := ⟨S64x518x768, .f32⟩) main_call0_v14) (TRef.of (T := ⟨S64x518x768, .f32⟩) main_v3) select,
    unary main_arg3 main_v4 (broadcastInDim S64x58x1 ![0, 1] bcast_S64x58_S64x58x1_0_1 : (⟨S64x58, .i32⟩ : BufTy).Contents (Elt F) → (⟨S64x58x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S64x58x1, .i32⟩) main_call1_v0) (broadcastInDim S64x58x1 ![] bcast_S_S64x58x1),
    TRef.binary (TRef.of (T := ⟨S64x58x1, .i32⟩) main_v4) (TRef.of (T := ⟨S64x58x1, .i32⟩) main_call1_v0) (TRef.of (T := ⟨S64x58x1, .i1⟩) main_call1_v1) (cmpi .slt),
    TRef.nullary (TRef.of (T := ⟨S_, .i32⟩) main_call1_c_0) (constantI S_ 32 576#32),
    TRef.unary (TRef.of (T := ⟨S_, .i32⟩) main_call1_c_0) (TRef.of (T := ⟨S64x58x1, .i32⟩) main_call1_v2) (broadcastInDim S64x58x1 ![] bcast_S_S64x58x1),
    TRef.binary (TRef.of (T := ⟨S64x58x1, .i32⟩) main_v4) (TRef.of (T := ⟨S64x58x1, .i32⟩) main_call1_v2) (TRef.of (T := ⟨S64x58x1, .i32⟩) main_call1_v3) addi,
    TRef.ternary (TRef.of (T := ⟨S64x58x1, .i1⟩) main_call1_v1) (TRef.of (T := ⟨S64x58x1, .i32⟩) main_call1_v3) (TRef.of (T := ⟨S64x58x1, .i32⟩) main_v4) (TRef.of (T := ⟨S64x58x1, .i32⟩) main_call1_v4) select,
    TRef.nullary (TRef.of (T := ⟨S1, .i32⟩) main_call1_c_1) (constantI S1 32 575#32),
    TRef.nullary (TRef.of (T := ⟨S_, .i32⟩) main_call1_c_2) (constantI S_ 32 0#32),
    TRef.unary (TRef.of (T := ⟨S_, .i32⟩) main_call1_c_2) (TRef.of (T := ⟨S64x58x1, .i32⟩) main_call1_v5) (broadcastInDim S64x58x1 ![] bcast_S_S64x58x1),
    TRef.binary (TRef.of (T := ⟨S64x58x1, .i32⟩) main_call1_v4) (TRef.of (T := ⟨S64x58x1, .i32⟩) main_call1_v5) (TRef.of (T := ⟨S64x58x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S64x58x1, .i32⟩) main_call1_v8) (broadcastInDim S64x58x1 ![0, 1, 2] bcast_S1x1x1_S64x58x1_0_1_2),
    TRef.binary (TRef.of (T := ⟨S64x58x1, .i32⟩) main_call1_v4) (TRef.of (T := ⟨S64x58x1, .i32⟩) main_call1_v8) (TRef.of (T := ⟨S64x58x1, .i1⟩) main_call1_v9) (cmpi .sle),
    TRef.binary (TRef.of (T := ⟨S64x58x1, .i1⟩) main_call1_v6) (TRef.of (T := ⟨S64x58x1, .i1⟩) main_call1_v9) (TRef.of (T := ⟨S64x58x1, .i1⟩) main_call1_v10) andi,
    TRef.nullary (TRef.of (T := ⟨S_, .i1⟩) main_call1_c_3) (constantI S_ 1 1#1),
    TRef.binary (TRef.of (T := ⟨S64x58x1, .i1⟩) main_call1_v10) (TRef.of (T := ⟨S_, .i1⟩) main_call1_c_3) (TRef.of (T := ⟨S64x58, .i1⟩) main_call1_v11) (fun x v => Host.reduce IntOp.andi x v reducesTo_S64x58x1_S64x58_d2 h_S_),
    TRef.binary (TRef.of (T := ⟨S64x576x768, .f32⟩) main_v1) (TRef.of (T := ⟨S64x58x1, .i32⟩) main_call1_v4) (TRef.of (T := ⟨S64x58x768, .f32⟩) main_call1_v12) (fun x i => Host.gather gather_S64x576x768_S64x58x1_S64x58x768_2_1_0_0_1_2_11768 x i),
    TRef.unary (TRef.of (T := ⟨S64x58, .i1⟩) main_call1_v11) (TRef.of (T := ⟨S64x58x768, .i1⟩) main_call1_v13) (broadcastInDim S64x58x768 ![0, 1] bcast_S64x58_S64x58x768_0_1),
    TRef.nullary (TRef.of (T := ⟨S_, .f32⟩) main_call1_cst) (constant S_ .f32 0x7FC00000#32),
    TRef.unary (TRef.of (T := ⟨S_, .f32⟩) main_call1_cst) (TRef.of (T := ⟨S64x58x768, .f32⟩) main_call1_v14) (broadcastInDim S64x58x768 ![] bcast_S_S64x58x768),
    TRef.ternary (TRef.of (T := ⟨S64x58x768, .i1⟩) main_call1_v13) (TRef.of (T := ⟨S64x58x768, .f32⟩) main_call1_v12) (TRef.of (T := ⟨S64x58x768, .f32⟩) main_call1_v14) (TRef.of (T := ⟨S64x58x768, .f32⟩) main_v5) select,
    TRef.nullary (TRef.of (T := ⟨S64x58x518, .i32⟩) main_call2_v0) (iotaInDim S64x58x518 32 2),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S64x58x518, .f32⟩) main_arg1) (TRef.of (T := ⟨S64x58x518, .i32⟩) main_call2_v0) (TRef.of (T := ⟨S_, .f32⟩) main_call2_cst) (TRef.of (T := ⟨S_, .i32⟩) main_call2_c) (TRef.of (T := ⟨S64x58, .f32⟩) main_call2_v1_0) (fun x y u v j => (Host.argReduce reducer_argmax_f32_i32 x y u v reducesTo_S64x58x518_S64x58_d2 h_S_ j).1),
    TRef.quaternary (TRef.of (T := ⟨S64x58x518, .f32⟩) main_arg1) (TRef.of (T := ⟨S64x58x518, .i32⟩) main_call2_v0) (TRef.of (T := ⟨S_, .f32⟩) main_call2_cst) (TRef.of (T := ⟨S_, .i32⟩) main_call2_c) (TRef.of (T := ⟨S64x58, .i32⟩) main_v6) (fun x y u v j => (Host.argReduce reducer_argmax_f32_i32 x y u v reducesTo_S64x58x518_S64x58_d2 h_S_ j).2),
    nullary main_v7 (iotaInDim S64 32 0),
    unary main_v7 main_v8 (broadcastInDim S64x1 ![0] bcast_S64_S64x1_0 : (⟨S64, .i32⟩ : BufTy).Contents (Elt F) → (⟨S64x1, .i32⟩ : BufTy).Contents (Elt F)),
    unary main_v8 main_v9 (broadcastInDim S64x58 ![0, 1] bcast_S64x1_S64x58_0_1 : (⟨S64x1, .i32⟩ : BufTy).Contents (Elt F) → (⟨S64x58, .i32⟩ : BufTy).Contents (Elt F)),
    nullary main_c (constantI S_ 32 0#32),
    unary main_c main_v10 (broadcastInDim S64x58 ![] bcast_S_S64x58 : (⟨S_, .i32⟩ : BufTy).Contents (Elt F) → (⟨S64x58, .i32⟩ : BufTy).Contents (Elt F)),
    binary main_v9 main_v10 main_v11 (cmpi .slt : (⟨S64x58, .i32⟩ : BufTy).Contents (Elt F) → (⟨S64x58, .i32⟩ : BufTy).Contents (Elt F) → (⟨S64x58, .i1⟩ : BufTy).Contents (Elt F)),
    nullary main_c_0 (constantI S_ 32 64#32),
    unary main_c_0 main_v12 (broadcastInDim S64x58 ![] bcast_S_S64x58 : (⟨S_, .i32⟩ : BufTy).Contents (Elt F) → (⟨S64x58, .i32⟩ : BufTy).Contents (Elt F)),
    binary main_v9 main_v12 main_v13 (addi : (⟨S64x58, .i32⟩ : BufTy).Contents (Elt F) → (⟨S64x58, .i32⟩ : BufTy).Contents (Elt F) → (⟨S64x58, .i32⟩ : BufTy).Contents (Elt F)),
    ternary main_v11 main_v13 main_v9 main_v14 (select : (⟨S64x58, .i1⟩ : BufTy).Contents (Elt F) → (⟨S64x58, .i32⟩ : BufTy).Contents (Elt F) → (⟨S64x58, .i32⟩ : BufTy).Contents (Elt F) → (⟨S64x58, .i32⟩ : BufTy).Contents (Elt F)),
    nullary main_c_1 (constantI S_ 32 0#32),
    unary main_c_1 main_v15 (broadcastInDim S64x58 ![] bcast_S_S64x58 : (⟨S_, .i32⟩ : BufTy).Contents (Elt F) → (⟨S64x58, .i32⟩ : BufTy).Contents (Elt F)),
    binary main_v6 main_v15 main_v16 (cmpi .slt : (⟨S64x58, .i32⟩ : BufTy).Contents (Elt F) → (⟨S64x58, .i32⟩ : BufTy).Contents (Elt F) → (⟨S64x58, .i1⟩ : BufTy).Contents (Elt F)),
    nullary main_c_2 (constantI S_ 32 518#32),
    unary main_c_2 main_v17 (broadcastInDim S64x58 ![] bcast_S_S64x58 : (⟨S_, .i32⟩ : BufTy).Contents (Elt F) → (⟨S64x58, .i32⟩ : BufTy).Contents (Elt F)),
    binary main_v6 main_v17 main_v18 (addi : (⟨S64x58, .i32⟩ : BufTy).Contents (Elt F) → (⟨S64x58, .i32⟩ : BufTy).Contents (Elt F) → (⟨S64x58, .i32⟩ : BufTy).Contents (Elt F)),
    ternary main_v16 main_v18 main_v6 main_v19 (select : (⟨S64x58, .i1⟩ : BufTy).Contents (Elt F) → (⟨S64x58, .i32⟩ : BufTy).Contents (Elt F) → (⟨S64x58, .i32⟩ : BufTy).Contents (Elt F) → (⟨S64x58, .i32⟩ : BufTy).Contents (Elt F)),
    unary main_v14 main_v20 (broadcastInDim S64x58x1 ![0, 1] bcast_S64x58_S64x58x1_0_1 : (⟨S64x58, .i32⟩ : BufTy).Contents (Elt F) → (⟨S64x58x1, .i32⟩ : BufTy).Contents (Elt F)),
    unary main_v19 main_v21 (broadcastInDim S64x58x1 ![0, 1] bcast_S64x58_S64x58x1_0_1 : (⟨S64x58, .i32⟩ : BufTy).Contents (Elt F) → (⟨S64x58x1, .i32⟩ : BufTy).Contents (Elt F)),
    binary main_v20 main_v21 main_v22 (fn_main_v22 (F := F)),
    ternary main_v3 main_v22 main_v5 main_v23 ((fun x i u => Host.scatterAdd scatter_S64x518x768_S64x58x2_S64x58x768_2_01_01_2 x i u) : (⟨S64x518x768, .f32⟩ : BufTy).Contents (Elt F) → (⟨S64x58x2, .i32⟩ : BufTy).Contents (Elt F) → (⟨S64x58x768, .f32⟩ : BufTy).Contents (Elt F) → (⟨S64x518x768, .f32⟩ : BufTy).Contents (Elt F)),
    nullary main_cst (constant S_ .f32 0x3F800000#32),
    unary main_cst main_v24 (broadcastInDim S64x518 ![] bcast_S_S64x518 : (⟨S_, .f32⟩ : BufTy).Contents (Elt F) → (⟨S64x518, .f32⟩ : BufTy).Contents (Elt F)),
    nullary main_cst_3 (constant S_ .f32 0x3F800000#32),
    unary main_cst_3 main_v25 (broadcastInDim S64x58 ![] bcast_S_S64x58 : (⟨S_, .f32⟩ : BufTy).Contents (Elt F) → (⟨S64x58, .f32⟩ : BufTy).Contents (Elt F)),
    nullary main_c_4 (constantI S_ 32 0#32),
    unary main_c_4 main_v26 (broadcastInDim S64x58 ![] bcast_S_S64x58 : (⟨S_, .i32⟩ : BufTy).Contents (Elt F) → (⟨S64x58, .i32⟩ : BufTy).Contents (Elt F)),
    binary main_v9 main_v26 main_v27 (cmpi .slt : (⟨S64x58, .i32⟩ : BufTy).Contents (Elt F) → (⟨S64x58, .i32⟩ : BufTy).Contents (Elt F) → (⟨S64x58, .i1⟩ : BufTy).Contents (Elt F)),
    nullary main_c_5 (constantI S_ 32 64#32),
    unary main_c_5 main_v28 (broadcastInDim S64x58 ![] bcast_S_S64x58 : (⟨S_, .i32⟩ : BufTy).Contents (Elt F) → (⟨S64x58, .i32⟩ : BufTy).Contents (Elt F)),
    binary main_v9 main_v28 main_v29 (addi : (⟨S64x58, .i32⟩ : BufTy).Contents (Elt F) → (⟨S64x58, .i32⟩ : BufTy).Contents (Elt F) → (⟨S64x58, .i32⟩ : BufTy).Contents (Elt F)),
    ternary main_v27 main_v29 main_v9 main_v30 (select : (⟨S64x58, .i1⟩ : BufTy).Contents (Elt F) → (⟨S64x58, .i32⟩ : BufTy).Contents (Elt F) → (⟨S64x58, .i32⟩ : BufTy).Contents (Elt F) → (⟨S64x58, .i32⟩ : BufTy).Contents (Elt F)),
    nullary main_c_6 (constantI S_ 32 0#32),
    unary main_c_6 main_v31 (broadcastInDim S64x58 ![] bcast_S_S64x58 : (⟨S_, .i32⟩ : BufTy).Contents (Elt F) → (⟨S64x58, .i32⟩ : BufTy).Contents (Elt F)),
    binary main_v6 main_v31 main_v32 (cmpi .slt : (⟨S64x58, .i32⟩ : BufTy).Contents (Elt F) → (⟨S64x58, .i32⟩ : BufTy).Contents (Elt F) → (⟨S64x58, .i1⟩ : BufTy).Contents (Elt F)),
    nullary main_c_7 (constantI S_ 32 518#32),
    unary main_c_7 main_v33 (broadcastInDim S64x58 ![] bcast_S_S64x58 : (⟨S_, .i32⟩ : BufTy).Contents (Elt F) → (⟨S64x58, .i32⟩ : BufTy).Contents (Elt F)),
    binary main_v6 main_v33 main_v34 (addi : (⟨S64x58, .i32⟩ : BufTy).Contents (Elt F) → (⟨S64x58, .i32⟩ : BufTy).Contents (Elt F) → (⟨S64x58, .i32⟩ : BufTy).Contents (Elt F)),
    ternary main_v32 main_v34 main_v6 main_v35 (select : (⟨S64x58, .i1⟩ : BufTy).Contents (Elt F) → (⟨S64x58, .i32⟩ : BufTy).Contents (Elt F) → (⟨S64x58, .i32⟩ : BufTy).Contents (Elt F) → (⟨S64x58, .i32⟩ : BufTy).Contents (Elt F)),
    unary main_v30 main_v36 (broadcastInDim S64x58x1 ![0, 1] bcast_S64x58_S64x58x1_0_1 : (⟨S64x58, .i32⟩ : BufTy).Contents (Elt F) → (⟨S64x58x1, .i32⟩ : BufTy).Contents (Elt F)),
    unary main_v35 main_v37 (broadcastInDim S64x58x1 ![0, 1] bcast_S64x58_S64x58x1_0_1 : (⟨S64x58, .i32⟩ : BufTy).Contents (Elt F) → (⟨S64x58x1, .i32⟩ : BufTy).Contents (Elt F)),
    binary main_v36 main_v37 main_v38 (fn_main_v38 (F := F)),
    ternary main_v24 main_v38 main_v25 main_v39 ((fun x i u => Host.scatterAdd scatter_S64x518_S64x58x2_S64x58_n_01_01_2 x i u) : (⟨S64x518, .f32⟩ : BufTy).Contents (Elt F) → (⟨S64x58x2, .i32⟩ : BufTy).Contents (Elt F) → (⟨S64x58, .f32⟩ : BufTy).Contents (Elt F) → (⟨S64x518, .f32⟩ : BufTy).Contents (Elt F)),
    unary main_v39 main_v40 (broadcastInDim S64x518x1 ![0, 1] bcast_S64x518_S64x518x1_0_1 : (⟨S64x518, .f32⟩ : BufTy).Contents (Elt F) → (⟨S64x518x1, .f32⟩ : BufTy).Contents (Elt F)),
    unary main_v40 main_v41 (broadcastInDim S64x518x768 ![0, 1, 2] bcast_S64x518x1_S64x518x768_0_1_2 : (⟨S64x518x1, .f32⟩ : BufTy).Contents (Elt F) → (⟨S64x518x768, .f32⟩ : BufTy).Contents (Elt F)),
    binary main_v23 main_v41 main_v42 (Host.divf : (⟨S64x518x768, .f32⟩ : BufTy).Contents (Elt F) → (⟨S64x518x768, .f32⟩ : BufTy).Contents (Elt F) → (⟨S64x518x768, .f32⟩ : BufTy).Contents (Elt F)),
    binary main_v0 main_v42 main_v43 (fn_main_v43 (F := F)),
    nullary main_c_8 (constantI S_ 32 0#32),
    unary main_c_8 main_v44 (broadcastInDim S64x1 ![] bcast_S_S64x1 : (⟨S_, .i32⟩ : BufTy).Contents (Elt F) → (⟨S64x1, .i32⟩ : BufTy).Contents (Elt F)),
    nullary main_c_9 (constantI S_ 32 1#32),
    unary main_c_9 main_v45 (broadcastInDim S64x518 ![] bcast_S_S64x518 : (⟨S_, .i32⟩ : BufTy).Contents (Elt F) → (⟨S64x518, .i32⟩ : BufTy).Contents (Elt F)),
    binary main_arg2 main_v45 main_v46 (addi : (⟨S64x518, .i32⟩ : BufTy).Contents (Elt F) → (⟨S64x518, .i32⟩ : BufTy).Contents (Elt F) → (⟨S64x518, .i32⟩ : BufTy).Contents (Elt F)),
    binary main_v44 main_v46 main_v47 (fn_main_v47 (F := F)),
    unary main_v47 main_v48 (broadcastInDim S64x519x1 ![0, 1] bcast_S64x519_S64x519x1_0_1 : (⟨S64x519, .i32⟩ : BufTy).Contents (Elt F) → (⟨S64x519x1, .i32⟩ : BufTy).Contents (Elt F)),
    unary main_v48 main_v49 (broadcastInDim S64x519x768 ![0, 1, 2] bcast_S64x519x1_S64x519x768_0_1_2 : (⟨S64x519x1, .i32⟩ : BufTy).Contents (Elt F) → (⟨S64x519x768, .i32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., nullary_bufs_sub .., quaternary_bufs_sub .., quaternary_bufs_sub .., nullary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., unary_bufs_sub .., binary_bufs_sub .., binary_bufs_sub .., nullary_bufs_sub .., unary_bufs_sub .., nullary_bufs_sub .., unary_bufs_sub .., binary_bufs_sub .., binary_bufs_sub .., unary_bufs_sub .., unary_bufs_sub ..⟩

/-- The selected indices as a column, a negative one counted from the end of the 576 tokens. -/
def wrapSel (s : IVec S64x518 32) : IVec S64x518x1 32 :=
  select (cmpi .slt (broadcastInDim S64x518x1 ![0, 1] bcast_S64x518_S64x518x1_0_1 s) (broadcastInDim S64x518x1 ![] bcast_S_S64x518x1 (constantI S_ 32 0#32)))
    (addi (broadcastInDim S64x518x1 ![0, 1] bcast_S64x518_S64x518x1_0_1 s) (broadcastInDim S64x518x1 ![] bcast_S_S64x518x1 (constantI S_ 32 576#32)))
    (broadcastInDim S64x518x1 ![0, 1] bcast_S64x518_S64x518x1_0_1 s)

/-- Which of those indices name a token. -/
def okSel (w : IVec S64x518x1 32) : IVec S64x518 1 :=
  Host.reduce IntOp.andi (andi (cmpi .sge w (broadcastInDim S64x518x1 ![] bcast_S_S64x518x1 (constantI S_ 32 0#32)))
    (cmpi .sle w (broadcastInDim S64x518x1 ![0, 1, 2] bcast_S1x1x1_S64x518x1_0_1_2 (broadcastInDim S1x1x1 ![2] bcast_S1_S1x1x1_2 (constantI S1 32 575#32)))))
    (constantI S_ 1 1#1) reducesTo_S64x518x1_S64x518_d2 h_S_

/-- The selected tokens: the rows of `x` behind the class token that the indices name, a NaN where one names none. -/
def takeSel (x : FVec F S64x577x768 .f32) (s : IVec S64x518 32) : FVec F S64x518x768 .f32 :=
  select (broadcastInDim S64x518x768 ![0, 1] bcast_S64x518_S64x518x768_0_1 (okSel (wrapSel s)))
    (Host.gather gather_S64x576x768_S64x518x1_S64x518x768_2_1_0_0_1_2_11768 (extractStridedSlice S64x576x768 ![0, 1, 0] x slices_S64x577x768_S64x576x768_0_1_0) (wrapSel s))
    (broadcastInDim S64x518x768 ![] bcast_S_S64x518x768 (constant S_ .f32 0x7FC00000#32))

/-- The indices of the rest as a column, a negative one counted from the end of the 576 tokens. -/
def wrapRem (s : IVec S64x58 32) : IVec S64x58x1 32 :=
  select (cmpi .slt (broadcastInDim S64x58x1 ![0, 1] bcast_S64x58_S64x58x1_0_1 s) (broadcastInDim S64x58x1 ![] bcast_S_S64x58x1 (constantI S_ 32 0#32)))
    (addi (broadcastInDim S64x58x1 ![0, 1] bcast_S64x58_S64x58x1_0_1 s) (broadcastInDim S64x58x1 ![] bcast_S_S64x58x1 (constantI S_ 32 576#32)))
    (broadcastInDim S64x58x1 ![0, 1] bcast_S64x58_S64x58x1_0_1 s)

/-- Which of those indices name a token. -/
def okRem (w : IVec S64x58x1 32) : IVec S64x58 1 :=
  Host.reduce IntOp.andi (andi (cmpi .sge w (broadcastInDim S64x58x1 ![] bcast_S_S64x58x1 (constantI S_ 32 0#32)))
    (cmpi .sle w (broadcastInDim S64x58x1 ![0, 1, 2] bcast_S1x1x1_S64x58x1_0_1_2 (broadcastInDim S1x1x1 ![2] bcast_S1_S1x1x1_2 (constantI S1 32 575#32)))))
    (constantI S_ 1 1#1) reducesTo_S64x58x1_S64x58_d2 h_S_

/-- The remaining tokens: the rows of `x` behind the class token that the indices name, a NaN where one names none. -/
def takeRem (x : FVec F S64x577x768 .f32) (s : IVec S64x58 32) : FVec F S64x58x768 .f32 :=
  select (broadcastInDim S64x58x768 ![0, 1] bcast_S64x58_S64x58x768_0_1 (okRem (wrapRem s)))
    (Host.gather gather_S64x576x768_S64x58x1_S64x58x768_2_1_0_0_1_2_11768 (extractStridedSlice S64x576x768 ![0, 1, 0] x slices_S64x577x768_S64x576x768_0_1_0) (wrapRem s))
    (broadcastInDim S64x58x768 ![] bcast_S_S64x58x768 (constant S_ .f32 0x7FC00000#32))

/-- The arg-max of each row of scores. -/
def nodeIdx (sc : FVec F S64x58x518 .f32) : IVec S64x58 32 :=
  fun j => (Host.argReduce reducer_argmax_f32_i32 sc (iotaInDim S64x58x518 32 2) (constant S_ .f32 0xFF800000#32) (constantI S_ 32 0#32) reducesTo_S64x58x518_S64x58_d2 h_S_ j).2

/-- The batch coordinates. -/
def batchIdx : IVec S64x58 32 := broadcastInDim S64x58 ![0, 1] bcast_S64x1_S64x58_0_1 (broadcastInDim S64x1 ![0] bcast_S64_S64x1_0 (iotaInDim S64 32 0))

/-- The pairs (batch, row) the remaining tokens are added to. -/
def pairIdx (n : IVec S64x58 32) : IVec S64x58x2 32 :=
  concatenate S64x58x2 2 [⟨S64x58x1, (broadcastInDim S64x58x1 ![0, 1] bcast_S64x58_S64x58x1_0_1 (select (cmpi .slt batchIdx (broadcastInDim S64x58 ![] bcast_S_S64x58 (constantI S_ 32 0#32))) (addi batchIdx (broadcastInDim S64x58 ![] bcast_S_S64x58 (constantI S_ 32 64#32))) batchIdx))⟩,
    ⟨S64x58x1, (broadcastInDim S64x58x1 ![0, 1] bcast_S64x58_S64x58x1_0_1 (select (cmpi .slt n (broadcastInDim S64x58 ![] bcast_S_S64x58 (constantI S_ 32 0#32))) (addi n (broadcastInDim S64x58 ![] bcast_S_S64x58 (constantI S_ 32 518#32))) n))⟩] concatenates_S64x58x1_S64x58x1_S64x58x2_d2

/-- The sums: each selected token with the remaining tokens of its group added. -/
def sums (x : FVec F S64x577x768 .f32) (n : IVec S64x58 32) (s : IVec S64x518 32) (u : IVec S64x58 32) : FVec F S64x518x768 .f32 :=
  Host.scatterAdd scatter_S64x518x768_S64x58x2_S64x58x768_2_01_01_2 (takeSel x s) (pairIdx n) (takeRem x u)

/-- The group sizes. -/
def counts (n : IVec S64x58 32) : FVec F S64x518 .f32 :=
  Host.scatterAdd scatter_S64x518_S64x58x2_S64x58_n_01_01_2 (broadcastInDim S64x518 ![] bcast_S_S64x518 (constant S_ .f32 0x3F800000#32)) (pairIdx n) (broadcastInDim S64x58 ![] bcast_S_S64x58 (constant S_ .f32 0x3F800000#32))

/-- The first result: the class token, then each group's sum over its size. -/
def out0 (x : FVec F S64x577x768 .f32) (sc : FVec F S64x58x518 .f32) (s : IVec S64x518 32) (u : IVec S64x58 32) : FVec F S64x519x768 .f32 :=
  concatenate S64x519x768 1 [⟨S64x1x768, (extractStridedSlice S64x1x768 ![0, 0, 0] x slices_S64x577x768_S64x1x768_0_0_0)⟩, ⟨S64x518x768, (Host.divf (sums x (nodeIdx sc) s u) (broadcastInDim S64x518x768 ![0, 1, 2] bcast_S64x518x1_S64x518x768_0_1_2 (broadcastInDim S64x518x1 ![0, 1] bcast_S64x518_S64x518x1_0_1 (counts (nodeIdx sc)))))⟩] concatenates_S64x1x768_S64x518x768_S64x519x768_d1

/-- The second result: 0, then each selected index plus one, along the 768 lanes. -/
def out1 (s : IVec S64x518 32) : IVec S64x519x768 32 :=
  broadcastInDim S64x519x768 ![0, 1, 2] bcast_S64x519x1_S64x519x768_0_1_2 (broadcastInDim S64x519x1 ![0, 1] bcast_S64x519_S64x519x1_0_1 (concatenate S64x519 1 [⟨S64x1, (broadcastInDim S64x1 ![] bcast_S_S64x1 (constantI S_ 32 0#32))⟩, ⟨S64x518, (addi s (broadcastInDim S64x518 ![] bcast_S_S64x518 (constantI S_ 32 1#32)))⟩] concatenates_S64x1_S64x518_S64x519_d1))

set_option maxRecDepth 8192 in
set_option maxHeartbeats 42400000 in
/-- The run of the reference: from any memory it ends with the two results at `out0` and `out1` of the arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = out0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v49) = out1 (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v43).trans (by simp only [ops, TRef.quaternary, TRef.binary, TRef.nullary, TRef.ternary, TRef.unary, TRef.toBuf, TRef.ofBuf, cast_eq]; after_results_simp <;> rfl),
      (h c main_v49).trans (by simp only [ops, TRef.quaternary, TRef.binary, TRef.nullary, TRef.ternary, TRef.unary, TRef.toBuf, TRef.ofBuf, cast_eq]; after_results_simp <;> rfl),
      (h c main_arg0).trans (by simp only [ops, TRef.quaternary, TRef.binary, TRef.nullary, TRef.ternary, TRef.unary, TRef.toBuf, TRef.ofBuf, cast_eq]; after_results_simp <;> rfl),
      (h c main_arg1).trans (by simp only [ops, TRef.quaternary, TRef.binary, TRef.nullary, TRef.ternary, TRef.unary, TRef.toBuf, TRef.ofBuf, cast_eq]; after_results_simp <;> rfl),
      (h c main_arg2).trans (by simp only [ops, TRef.quaternary, TRef.binary, TRef.nullary, TRef.ternary, TRef.unary, TRef.toBuf, TRef.ofBuf, cast_eq]; after_results_simp <;> rfl),
      (h c main_arg3).trans (by simp only [ops, TRef.quaternary, TRef.binary, TRef.nullary, TRef.ternary, TRef.unary, TRef.toBuf, TRef.ofBuf, cast_eq]; after_results_simp <;> rfl)⟩)
    (run_seq scopedRefs_eq scopedSems_eq defs main (fun _ => ops) main_eq (fun _ => ops_sub) m ρ)

end Cert.RefRun

end
-- ==== Proof.Spec.lean ====
module

public import Idealize.ShloMosaic.Lib.ValueIdx

@[expose] public section

noncomputable section

namespace Cert.Spec

open Idealize.ShloMosaic

/-- `k` is the first place at which `f` is greatest. -/
def IsFirst {n : ℕ} (f : Fin n → EReal) (k : Fin n) : Prop := ∀ j, f j < f k ∨ (f j = f k ∧ k ≤ j)

theorem IsFirst.unique {n : ℕ} {f : Fin n → EReal} {k k' : Fin n} (h : IsFirst f k) (h' : IsFirst f k') : k = k' := by
  rcases h k' with a | ⟨a, b⟩
  · rcases h' k with c | ⟨c, d⟩
    · exact absurd (a.trans c) (lt_irrefl _)
    · exact absurd a (by rw [c]; exact lt_irrefl _)
  · rcases h' k with c | ⟨c, d⟩
    · exact absurd c (by rw [a]; exact lt_irrefl _)
    · exact le_antisymm b d

theorem IsFirst.le {n : ℕ} {f : Fin n → EReal} {k : Fin n} (h : IsFirst f k) (j : Fin n) : f j ≤ f k := by
  rcases h j with a | ⟨a, _⟩
  · exact a.le
  · exact a.le

theorem exists_isFirst {n : ℕ} (hn : 0 < n) (f : Fin n → EReal) : ∃ k, IsFirst f k := by
  haveI : Nonempty (Fin n) := ⟨⟨0, hn⟩⟩
  obtain ⟨m, hm⟩ := Finite.exists_max f
  have hne : (Finset.univ.filter fun j => f j = f m).Nonempty := ⟨m, by simp⟩
  refine ⟨(Finset.univ.filter fun j => f j = f m).min' hne, fun j => ?_⟩
  have hk := Finset.min'_mem _ hne
  rw [Finset.mem_filter] at hk
  rcases lt_or_eq_of_le (hm j) with h | h
  · exact Or.inl (by rw [hk.2]; exact h)
  · exact Or.inr ⟨by rw [hk.2]; exact h, Finset.min'_le _ _ (by simpa using h)⟩

/-- The first place at which a row of 518 scores is greatest. -/
def firstMax (f : Fin 518 → EReal) : Fin 518 := Classical.choose (exists_isFirst (by decide) f)

theorem firstMax_isFirst (f : Fin 518 → EReal) : IsFirst f (firstMax f) := Classical.choose_spec (exists_isFirst (by decide) f)

theorem firstMax_eq {f : Fin 518 → EReal} {k : Fin 518} (h : IsFirst f k) : firstMax f = k := (firstMax_isFirst f).unique h

end Cert.Spec

end
-- ==== Proof.RefArg.lean ====
module

public import proofs.«01_k».proof.Proof.RefRun
public import proofs.«01_k».proof.Proof.Spec
public import Idealize.ShloMosaic.Lib.Pointwise
public import Idealize.ShloMosaic.Lib.ValueIdx

@[expose] public section

set_option maxRecDepth 16384

noncomputable section

namespace Cert.RefArg

open Idealize.ShloMosaic Cert.ReferenceIdeal Cert.ReferenceIdeal.Gen Cert.RefRun Cert.Spec

/-! ## The arg-max of a row -/

/-- The first of two pairs (value, place) is at most the second: a smaller value, or the same at no earlier place. -/
def Le (q p : Ideal .f32 × BitVec 32) : Prop := (q.1 : EReal) < p.1 ∨ ((q.1 : EReal) = p.1 ∧ p.2.toInt ≤ q.2.toInt)

theorem Le.refl (p : Ideal .f32 × BitVec 32) : Le p p := Or.inr ⟨rfl, le_refl _⟩

theorem Le.trans {p q r : Ideal .f32 × BitVec 32} (h : Le p q) (h' : Le q r) : Le p r := by
  rcases h with a | ⟨a, b⟩
  · rcases h' with c | ⟨c, d⟩
    · exact Or.inl (a.trans c)
    · exact Or.inl (by rw [← c]; exact a)
  · rcases h' with c | ⟨c, d⟩
    · exact Or.inl (by rw [a]; exact c)
    · exact Or.inr ⟨a.trans c, d.trans b⟩

/-- The reducer's result is one of its two pairs and at least both. -/
theorem reducer_spec (a b : Ideal .f32 × BitVec 32) :
    (reducer_argmax_f32_i32 (F := Ideal) a b = a ∨ reducer_argmax_f32_i32 (F := Ideal) a b = b)
      ∧ Le a (reducer_argmax_f32_i32 (F := Ideal) a b) ∧ Le b (reducer_argmax_f32_i32 (F := Ideal) a b) := by
  obtain ⟨av, ai⟩ := a
  obtain ⟨bv, bi⟩ := b
  have h4 : IntOp.ori (FloatOps.cmpf (F := Ideal) (φ := .f32) .ogt av bv) (FloatOps.cmpf (F := Ideal) (φ := .f32) .une av av) = BitVec.ofBool (decide ((bv : EReal) < av)) := by
    simp [Ideal.cmpf_def, Ideal.cmp, IntOp.ori]
  have h5 : FloatOps.cmpf (F := Ideal) (φ := .f32) .oeq av bv = BitVec.ofBool (decide ((av : EReal) = bv)) := by
    simp [Ideal.cmpf_def, Ideal.cmp]
  have h6 : IntOp.cmpi .slt ai bi = BitVec.ofBool (decide (ai.toInt < bi.toInt)) := by
    simp [IntOp.cmpi, BitVec.slt]
  unfold reducer_argmax_f32_i32
  simp only [h4, h5, h6]
  by_cases hlt : (bv : EReal) < av
  · have hne : ¬ ((av : EReal) = bv) := hlt.ne'
    simp [hlt, hne, IntOp.ori, IntOp.andi, Scalar.select, Le]
  · rcases lt_or_eq_of_le (not_lt.mp hlt) with h | h
    · have hne : ¬ ((av : EReal) = bv) := h.ne
      simp [hlt, hne, IntOp.ori, IntOp.andi, Scalar.select, Le, h]
    · subst h
      by_cases hi : ai.toInt < bi.toInt
      · simp [hi, IntOp.ori, IntOp.andi, Scalar.select, Le, hi.le]
      · simp [hi, IntOp.ori, IntOp.andi, Scalar.select, Le, not_lt.mp hi]

/-- The fold of the reducer over a list is the initial pair or a member of the list, and at least all of them. -/
theorem foldl_spec (l : List (Ideal .f32 × BitVec 32)) (i : Ideal .f32 × BitVec 32) :
    (l.foldl (reducer_argmax_f32_i32 (F := Ideal)) i = i ∨ l.foldl (reducer_argmax_f32_i32 (F := Ideal)) i ∈ l)
      ∧ Le i (l.foldl (reducer_argmax_f32_i32 (F := Ideal)) i)
      ∧ ∀ q ∈ l, Le q (l.foldl (reducer_argmax_f32_i32 (F := Ideal)) i) := by
  induction l generalizing i with
  | nil => exact ⟨Or.inl rfl, Le.refl _, by simp⟩
  | cons x l ih =>
    obtain ⟨m, hi, hq⟩ := ih (reducer_argmax_f32_i32 (F := Ideal) i x)
    obtain ⟨r, ha, hb⟩ := reducer_spec i x
    rw [List.foldl_cons]
    refine ⟨?_, ha.trans hi, ?_⟩
    · rcases m with m | m
      · rcases r with r | r
        · left; rw [m, r]
        · right; rw [m, r]; exact List.mem_cons_self
      · right; exact List.mem_cons_of_mem _ m
    · intro q hq'
      rcases List.mem_cons.mp hq' with rfl | h
      · exact hb.trans hi
      · exact hq q h

/-- The row of scores of batch `b` and remaining token `u`. -/
def scoreRow (sc : FVec Ideal S64x58x518 .f32) (b : Fin 64) (u : Fin 58) : Fin 518 → EReal := fun k => sc (ix3 b u k)

theorem toInt_ofNat_small (k : ℕ) (hk : k < 2 ^ 31) : (BitVec.ofNat 32 k).toInt = k := by
  rw [BitVec.toInt_eq_toNat_cond, BitVec.toNat_ofNat]
  omega

/-- A reduction of pairs read at an index, its second component: the reducer folded over the pairs of that index. -/
theorem argReduce_snd {s t u : Shape} {axes : List (Fin s.rank)} {φ : FTy} {β : Type}
    (f : Ideal φ × β → Ideal φ × β → Ideal φ × β) (x : FVec Ideal s φ) (y : s.Idx → β) (ix : u.Idx → Ideal φ)
    (iy : u.Idx → β) (h : s.ReducesTo axes t) (hu : 0 < u.numel) (j : t.Idx) :
    (Host.argReduce f x y ix iy h hu j).2
      = ((Host.argReduceFiber x y h j).foldl f (ix (Shape.Idx.first hu), iy (Shape.Idx.first hu))).2 := by
  rw [Ideal.argReduce_eq_reduce2, Host.reduce2_eq_foldl_fiber]

/-- `nodeIdx` as a function of the scores. -/
theorem nodeIdx_def : nodeIdx (F := Ideal) = fun sc j => (Host.argReduce reducer_argmax_f32_i32 sc (iotaInDim S64x58x518 32 2)
    (constant S_ .f32 0xFF800000#32) (constantI S_ 32 0#32) reducesTo_S64x58x518_S64x58_d2 h_S_ j).2 := rfl

/-- `nodeIdx` read at an index: the reducer folded over the pairs (score, column) of its row. -/
theorem nodeIdx_eq (sc : FVec Ideal S64x58x518 .f32) (j : S64x58.Idx) :
    nodeIdx (F := Ideal) sc j = ((Host.argReduceFiber sc (iotaInDim S64x58x518 32 2) reducesTo_S64x58x518_S64x58_d2 j).foldl (reducer_argmax_f32_i32 (F := Ideal))
      ((constant S_ .f32 0xFF800000#32 : FVec Ideal S_ .f32) (Shape.Idx.first h_S_), (constantI S_ 32 0#32) (Shape.Idx.first h_S_))).2 :=
  (congrFun (congrFun nodeIdx_def sc) j).trans (argReduce_snd _ _ _ _ _ _ _ _)

/-- The reference's arg-max of a row of scores is the first place at which the row is greatest. -/
theorem nodeIdx_apply (sc : FVec Ideal S64x58x518 .f32) (b : Fin 64) (u : Fin 58) :
    nodeIdx (F := Ideal) sc (ix2 b u) = BitVec.ofNat 32 (firstMax (scoreRow sc b u)).val := by
  rw [nodeIdx_eq]
  generalize hl : Host.argReduceFiber sc (iotaInDim S64x58x518 32 2) reducesTo_S64x58x518_S64x58_d2 (ix2 b u) = l
  have hmem : ∀ q : Ideal .f32 × BitVec 32, q ∈ l ↔ ∃ k : Fin 518, q = (sc (ix3 b u k), BitVec.ofNat 32 k.val) := by
    intro q
    rw [← hl]
    unfold Host.argReduceFiber
    simp only [List.mem_map, List.mem_filter, List.mem_finRange, true_and, decide_eq_true_eq]
    constructor
    · rintro ⟨n, hn, rfl⟩
      generalize S64x58x518.rowMajor.symm n = i at hn ⊢
      have h0 := congrArg (fun j => (j 0).val) hn
      have h1 := congrArg (fun j => (j 1).val) hn
      simp only [Shape.ReducesTo.drop_apply_val_of_eq reducesTo_S64x58x518_S64x58_d2 i 0 0,
        Shape.ReducesTo.drop_apply_val_of_eq reducesTo_S64x58x518_S64x58_d2 i 1 1] at h0 h1
      idx_vars i
      have e0 : i0 = b := Fin.ext h0
      have e1 : i1 = u := Fin.ext h1
      subst e0 e1
      exact ⟨i2, rfl⟩
    · rintro ⟨k, rfl⟩
      refine ⟨S64x58x518.rowMajor (ix3 b u k), ?_, ?_⟩
      · rw [Equiv.symm_apply_apply]
        funext a
        match a with
        | ⟨0, _⟩ => exact Fin.ext (Shape.ReducesTo.drop_apply_val_of_eq reducesTo_S64x58x518_S64x58_d2 (ix3 b u k) 0 0)
        | ⟨1, _⟩ => exact Fin.ext (Shape.ReducesTo.drop_apply_val_of_eq reducesTo_S64x58x518_S64x58_d2 (ix3 b u k) 1 1)
      · rw [Equiv.symm_apply_apply]
        rfl
  have hinit : ((constant S_ .f32 0xFF800000#32 : FVec Ideal S_ .f32) (Shape.Idx.first h_S_), (constantI S_ 32 0#32) (Shape.Idx.first h_S_))
      = ((⊥ : EReal), 0#32) := by
    refine Prod.ext ?_ rfl
    show Ideal.ofBits .f32 0xFF800000#32 = ⊥
    simp [Ideal.ofBits, Ideal.ieee]
  rw [hinit]
  obtain ⟨hm, hi, hq⟩ := foldl_spec l ((⊥ : EReal), 0#32)
  generalize l.foldl (reducer_argmax_f32_i32 (F := Ideal)) ((⊥ : EReal), 0#32) = p at hm hi hq ⊢
  have hp : p ∈ l := by
    rcases hm with rfl | h
    · have hz := hq _ ((hmem _).mpr ⟨0, rfl⟩)
      rw [hmem]
      refine ⟨0, Prod.ext ?_ rfl⟩
      rcases hz with h | ⟨h, _⟩
      · exact absurd h not_lt_bot
      · exact h.symm
    · exact h
  obtain ⟨k, rfl⟩ := (hmem p).mp hp
  have hfirst : IsFirst (scoreRow sc b u) k := by
    intro j
    rcases hq _ ((hmem _).mpr ⟨j, rfl⟩) with h | ⟨h, h'⟩
    · exact Or.inl h
    · refine Or.inr ⟨h, ?_⟩
      have hk := k.isLt
      have hj := j.isLt
      simp only [toInt_ofNat_small k.val (by omega), toInt_ofNat_small j.val (by omega)] at h'
      exact_mod_cast h'
  rw [firstMax_eq hfirst]

end Cert.RefArg

end
-- ==== Proof.RefGather.lean ====
module

public import proofs.«01_k».proof.Proof.RefRun
public import proofs.«01_k».proof.Proof.Spec
public import Idealize.ShloMosaic.Lib.Pointwise
public import Idealize.ShloMosaic.Lib.ValueIdx

@[expose] public section

set_option maxRecDepth 16384

noncomputable section

namespace Cert.RefGather

open Idealize.ShloMosaic Cert.ReferenceIdeal Cert.ReferenceIdeal.Gen Cert.RefRun Cert.Spec

/-! ## Rows taken along the token axis -/

/-- The dimension numbers of rows taken along axis 1, one index per batch and row. -/
abbrev takeDims3 (n : ℕ) (wf : GatherDims.WF ⟨3, ![64, 576, 768]⟩ ⟨3, ![64, n, 1]⟩ ⟨3, ![64, n, 768]⟩ [2] [1] [0] [1] [0] 2 ![1, 1, 768]) :
    GatherDims ⟨3, ![64, 576, 768]⟩ ⟨3, ![64, n, 1]⟩ ⟨3, ![64, n, 768]⟩ where
  offsetDims := [2]
  collapsedSliceDims := [1]
  operandBatchingDims := [0]
  startIndicesBatchingDims := [0]
  startIndexMap := [1]
  indexVectorDim := 2
  sliceSizes := ![1, 1, 768]
  wf := wf

/-- Row `r` of batch `b` of the rows taken is the row the index of `(b, r)` names, clamped into the array. -/
theorem gather_apply {α : Type} (n : ℕ)
    (wf : GatherDims.WF ⟨3, ![64, 576, 768]⟩ ⟨3, ![64, n, 1]⟩ ⟨3, ![64, n, 768]⟩ [2] [1] [0] [1] [0] 2 ![1, 1, 768])
    (x : (⟨3, ![64, 576, 768]⟩ : Shape).Idx → α) (idx : IVec ⟨3, ![64, n, 1]⟩ 32) (b : Fin 64) (r : Fin n) (d : Fin 768) :
    Host.gather (takeDims3 n wf) x idx (ix3 b r d) = x (ix3 b ⟨min (idx (ix3 b r 0)).toInt.toNat 575, by omega⟩ d) := by
  unfold Host.gather
  congr 1
  funext a
  refine Fin.ext ?_
  show (takeDims3 n wf).start (ix3 b r d) idx a + (takeDims3 n wf).batchCoord (ix3 b r d) a
      + (takeDims3 n wf).offCoord (ix3 b r d) a = _
  match a with
  | ⟨0, _⟩ =>
    rw [GatherDims.offCoord_eq_zero _ _ _ (fun h => ((GatherDims.mem_sKept _ _).mp h).2 (List.mem_singleton.mpr rfl)),
      GatherDims.start_batching _ _ _ _ (List.mem_singleton.mpr rfl)]
    unfold GatherDims.batchCoord
    rw [dif_pos (show (⟨0, by decide⟩ : Fin 3) ∈ (takeDims3 n wf).operandBatchingDims from List.mem_singleton.mpr rfl)]
    rw [Nat.zero_add, Nat.add_zero]
    rfl
  | ⟨1, _⟩ =>
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 3) ∈ (takeDims3 n wf).startIndexMap from List.mem_singleton.mpr rfl)]
    have hsi : (takeDims3 n wf).siIdx (ix3 b r d) ⟨List.idxOf (⟨1, by decide⟩ : Fin 3) (takeDims3 n wf).startIndexMap,
        List.idxOf_lt_length_iff.2 (List.mem_singleton.mpr rfl)⟩ = ix3 b r 0 := by
      funext c; refine Fin.ext ?_
      match c with
      | ⟨0, _⟩ => rfl
      | ⟨1, _⟩ => rfl
      | ⟨2, _⟩ => rfl
    rw [hsi]
    rfl
  | ⟨2, _⟩ =>
    rw [GatherDims.batchCoord_eq_zero _ _ _ (fun h => by simp at h)]
    unfold GatherDims.start GatherDims.offCoord
    rw [dif_neg (fun h => by simp at h), dif_pos ((GatherDims.mem_sKept _ _).mpr ⟨fun h => by simp at h, fun h => by simp at h⟩)]
    simp only [Nat.zero_add, Nat.add_zero]
    rfl

/-! ## Rows added at pairs of coordinates -/

/-- An update lands at `i` exactly when its start plus its window coordinate is `i` on every axis. -/
theorem resultIdx?_eq_some {s si u : Shape} (dn : ScatterDims s si u) {w : ℕ} (j : u.Idx) (idx : IVec si w) (i : s.Idx) :
    dn.resultIdx? j idx = some i ↔ ∀ a, dn.start j idx a + dn.window j a = ((i a).val : ℤ) := by
  unfold ScatterDims.resultIdx?
  split
  · rename_i h
    rw [Option.some.injEq]
    constructor
    · rintro rfl a
      have := (h a).1
      simp only
      omega
    · intro hi
      funext a
      refine Fin.ext ?_
      have := hi a
      have := (h a).1
      simp only
      omega
  · rename_i h
    constructor
    · intro h'; cases h'
    · intro hi
      exact absurd (fun a => ⟨by have := hi a; omega, by have := hi a; have := (i a).isLt; omega⟩) h

/-- The rows added at pairs (batch, row): at `(b, r, d)` the operand plus the updates `(b, u, d)` whose row is `r`, when the
    pairs' first coordinates are the batch. -/
theorem scatter3_apply (x : FVec Ideal S64x518x768 .f32) (idx : IVec S64x58x2 32) (upd : FVec Ideal S64x58x768 .f32)
    (hb : ∀ (b : Fin 64) (u : Fin 58), (idx (ix3 b u 0)).toInt = b.val) (b : Fin 64) (r : Fin 518) (d : Fin 768) :
    Host.scatterAdd (F := Ideal) scatter_S64x518x768_S64x58x2_S64x58x768_2_01_01_2 x idx upd (ix3 b r d)
      = (x (ix3 b r d) : EReal) + ∑ u : Fin 58, if (idx (ix3 b u 1)).toInt = r.val then (upd (ix3 b u d) : EReal) else 0 := by
  show (x (ix3 b r d) : EReal) + ∑ j ∈ Finset.univ.filter _, (upd j : EReal) = _
  congr 1
  rw [← Finset.sum_filter]
  have hiff : ∀ (b' : Fin 64) (u : Fin 58) (d' : Fin 768),
      scatter_S64x518x768_S64x58x2_S64x58x768_2_01_01_2.resultIdx? (ix3 b' u d') idx = some (ix3 b r d)
        ↔ b' = b ∧ (idx (ix3 b' u 1)).toInt = r.val ∧ d' = d := by
    intro b' u d'
    rw [resultIdx?_eq_some]
    have h0 : scatter_S64x518x768_S64x58x2_S64x58x768_2_01_01_2.start (ix3 b' u d') idx 0 = (idx (ix3 b' u 0)).toInt := by
      unfold ScatterDims.start
      rw [dif_pos (by decide)]
      congr 2
      funext c; refine Fin.ext ?_
      match c with
      | ⟨0, _⟩ => rfl
      | ⟨1, _⟩ => rfl
      | ⟨2, _⟩ => rfl
    have h1 : scatter_S64x518x768_S64x58x2_S64x58x768_2_01_01_2.start (ix3 b' u d') idx 1 = (idx (ix3 b' u 1)).toInt := by
      unfold ScatterDims.start
      rw [dif_pos (by decide)]
      congr 2
      funext c; refine Fin.ext ?_
      match c with
      | ⟨0, _⟩ => rfl
      | ⟨1, _⟩ => rfl
      | ⟨2, _⟩ => rfl
    have h2 : scatter_S64x518x768_S64x58x2_S64x58x768_2_01_01_2.start (ix3 b' u d') idx 2 = 0 := by
      unfold ScatterDims.start
      rw [dif_neg (by decide)]
    have w0 : scatter_S64x518x768_S64x58x2_S64x58x768_2_01_01_2.window (ix3 b' u d') 0 = 0 := by
      unfold ScatterDims.window
      rw [dif_neg (by decide)]
    have w1 : scatter_S64x518x768_S64x58x2_S64x58x768_2_01_01_2.window (ix3 b' u d') 1 = 0 := by
      unfold ScatterDims.window
      rw [dif_neg (by decide)]
    have w2 : scatter_S64x518x768_S64x58x2_S64x58x768_2_01_01_2.window (ix3 b' u d') 2 = d'.val := by
      unfold ScatterDims.window
      rw [dif_pos (by decide)]
      rfl
    constructor
    · intro h
      have a0 := h 0
      have a1 := h 1
      have a2 := h 2
      rw [h0, w0, hb] at a0
      rw [h1, w1] at a1
      rw [h2, w2] at a2
      have e0 : (b'.val : ℤ) + ((0 : ℕ) : ℤ) = b.val := a0
      have e1 : (idx (ix3 b' u 1)).toInt + ((0 : ℕ) : ℤ) = r.val := a1
      have e2 : (0 : ℤ) + d'.val = d.val := a2
      exact ⟨Fin.ext (by omega), by omega, Fin.ext (by omega)⟩
    · rintro ⟨rfl, h, rfl⟩ a
      match a with
      | ⟨0, _⟩ => exact (congrArg₂ (fun p q => p + ((q : ℕ) : ℤ)) h0 w0).trans (by rw [hb]; simp)
      | ⟨1, _⟩ => exact (congrArg₂ (fun p q => p + ((q : ℕ) : ℤ)) h1 w1).trans (by rw [h]; simp)
      | ⟨2, _⟩ => exact (congrArg₂ (fun p q => p + ((q : ℕ) : ℤ)) h2 w2).trans (by simp)
  refine Finset.sum_nbij' (fun j => j 1) (fun u => ix3 b u d) ?_ ?_ ?_ ?_ ?_
  · intro j hj
    idx_vars j
    rw [Finset.mem_filter, hiff] at hj
    obtain ⟨_, rfl, h, _⟩ := hj
    exact Finset.mem_filter.mpr ⟨Finset.mem_univ _, h⟩
  · intro u hu
    rw [Finset.mem_filter] at hu ⊢
    exact ⟨Finset.mem_univ _, (hiff b u d).mpr ⟨rfl, hu.2, rfl⟩⟩
  · intro j hj
    idx_vars j
    rw [Finset.mem_filter, hiff] at hj
    obtain ⟨_, rfl, _, rfl⟩ := hj
    rfl
  · intro u hu
    rfl
  · intro j hj
    idx_vars j
    rw [Finset.mem_filter, hiff] at hj
    obtain ⟨_, rfl, _, rfl⟩ := hj
    rfl

/-- The same for one number per row. -/
theorem scatter2_apply (x : FVec Ideal S64x518 .f32) (idx : IVec S64x58x2 32) (upd : FVec Ideal S64x58 .f32)
    (hb : ∀ (b : Fin 64) (u : Fin 58), (idx (ix3 b u 0)).toInt = b.val) (b : Fin 64) (r : Fin 518) :
    Host.scatterAdd (F := Ideal) scatter_S64x518_S64x58x2_S64x58_n_01_01_2 x idx upd (ix2 b r)
      = (x (ix2 b r) : EReal) + ∑ u : Fin 58, if (idx (ix3 b u 1)).toInt = r.val then (upd (ix2 b u) : EReal) else 0 := by
  show (x (ix2 b r) : EReal) + ∑ j ∈ Finset.univ.filter _, (upd j : EReal) = _
  congr 1
  rw [← Finset.sum_filter]
  have hiff : ∀ (b' : Fin 64) (u : Fin 58),
      scatter_S64x518_S64x58x2_S64x58_n_01_01_2.resultIdx? (ix2 b' u) idx = some (ix2 b r)
        ↔ b' = b ∧ (idx (ix3 b' u 1)).toInt = r.val := by
    intro b' u
    rw [resultIdx?_eq_some]
    have h0 : scatter_S64x518_S64x58x2_S64x58_n_01_01_2.start (ix2 b' u) idx 0 = (idx (ix3 b' u 0)).toInt := by
      unfold ScatterDims.start
      rw [dif_pos (by decide)]
      congr 2
      funext c; refine Fin.ext ?_
      match c with
      | ⟨0, _⟩ => rfl
      | ⟨1, _⟩ => rfl
      | ⟨2, _⟩ => rfl
    have h1 : scatter_S64x518_S64x58x2_S64x58_n_01_01_2.start (ix2 b' u) idx 1 = (idx (ix3 b' u 1)).toInt := by
      unfold ScatterDims.start
      rw [dif_pos (by decide)]
      congr 2
      funext c; refine Fin.ext ?_
      match c with
      | ⟨0, _⟩ => rfl
      | ⟨1, _⟩ => rfl
      | ⟨2, _⟩ => rfl
    have w0 : scatter_S64x518_S64x58x2_S64x58_n_01_01_2.window (ix2 b' u) 0 = 0 := by
      unfold ScatterDims.window
      rw [dif_neg (by decide)]
    have w1 : scatter_S64x518_S64x58x2_S64x58_n_01_01_2.window (ix2 b' u) 1 = 0 := by
      unfold ScatterDims.window
      rw [dif_neg (by decide)]
    constructor
    · intro h
      have a0 := h 0
      have a1 := h 1
      rw [h0, w0, hb] at a0
      rw [h1, w1] at a1
      have e0 : (b'.val : ℤ) + ((0 : ℕ) : ℤ) = b.val := a0
      have e1 : (idx (ix3 b' u 1)).toInt + ((0 : ℕ) : ℤ) = r.val := a1
      exact ⟨Fin.ext (by omega), by omega⟩
    · rintro ⟨rfl, h⟩ a
      match a with
      | ⟨0, _⟩ => exact (congrArg₂ (fun p q => p + ((q : ℕ) : ℤ)) h0 w0).trans (by rw [hb]; simp)
      | ⟨1, _⟩ => exact (congrArg₂ (fun p q => p + ((q : ℕ) : ℤ)) h1 w1).trans (by rw [h]; simp)
  refine Finset.sum_nbij' (fun j => j 1) (fun u => ix2 b u) ?_ ?_ ?_ ?_ ?_
  · intro j hj
    idx_vars j
    rw [Finset.mem_filter, hiff] at hj
    obtain ⟨_, rfl, h⟩ := hj
    exact Finset.mem_filter.mpr ⟨Finset.mem_univ _, h⟩
  · intro u hu
    rw [Finset.mem_filter] at hu ⊢
    exact ⟨Finset.mem_univ _, (hiff b u).mpr ⟨rfl, hu.2⟩⟩
  · intro j hj
    idx_vars j
    rw [Finset.mem_filter, hiff] at hj
    obtain ⟨_, rfl, _⟩ := hj
    rfl
  · intro u hu
    rfl
  · intro j hj
    idx_vars j
    rw [Finset.mem_filter, hiff] at hj
    obtain ⟨_, rfl, _⟩ := hj
    rfl

end Cert.RefGather

end
-- ==== Proof.RefValue.lean ====
module

public import proofs.«01_k».proof.Proof.RefArg
public import proofs.«01_k».proof.Proof.RefGather
public import Idealize.ShloMosaic.Lib.IdealHost

@[expose] public section

set_option maxRecDepth 16384

noncomputable section

namespace Cert.RefValue

open Idealize.ShloMosaic Cert.ReferenceIdeal Cert.ReferenceIdeal.Gen Cert.RefRun Cert.Spec Cert.RefArg Cert.RefGather

/-! ## Indices in range -/

theorem toInt_of_small (w : BitVec 32) (h : w.toNat < 2 ^ 31) : w.toInt = w.toNat := by
  rw [BitVec.toInt_eq_toNat_cond]
  omega

/-- An index that is not negative is not wrapped. -/
theorem select_slt_zero (w a : BitVec 32) (h : w.toNat < 2 ^ 31) : Scalar.select (IntOp.cmpi .slt w 0#32) a w = w := by
  have : IntOp.cmpi .slt w 0#32 = 0#1 := by
    have hn : ¬ (w.toInt < 0) := by rw [toInt_of_small w h]; omega
    simp [IntOp.cmpi, BitVec.slt, hn]
  rw [this]
  rfl

theorem select_true {α : Type} (a b : α) : Scalar.select 1#1 a b = a := rfl

theorem inRange (w : BitVec 32) (h : w.toNat < 576) :
    IntOp.andi (IntOp.cmpi .sge w 0#32) (IntOp.cmpi .sle w 575#32) = 1#1 := by
  have h0 : (0 : ℤ) ≤ w.toInt := by rw [toInt_of_small w (by omega)]; omega
  have h1 : w.toInt ≤ 575 := by rw [toInt_of_small w (by omega)]; omega
  simp [IntOp.cmpi, IntOp.andi, BitVec.sle, h0, h1]

/-! ## The selected tokens -/

theorem wrapSel_apply (s : IVec S64x518 32) (b : Fin 64) (r : Fin 518) (c : Fin 1) (h : (s (ix2 b r)).toNat < 576) :
    wrapSel s (ix3 b r c) = s (ix2 b r) := by
  pointwise [wrapSel]
  exact select_slt_zero _ _ (by omega)

theorem okSel_apply (w : IVec S64x518x1 32) (b : Fin 64) (r : Fin 518) (h : (w (ix3 b r 0)).toNat < 576) :
    okSel w (ix2 b r) = 1#1 := by
  pointwise [okSel]
  rw [Finset.univ_unique, Finset.fold_singleton]
  rw [show (default : Fin 1) = 0 from rfl, inRange _ h]
  rfl

/-- Row `r` of the selected tokens is the row of `x` its index names, counted behind the class token. -/
theorem takeSel_apply (x : FVec Ideal S64x577x768 .f32) (s : IVec S64x518 32) (b : Fin 64) (r : Fin 518) (d : Fin 768)
    (h : (s (ix2 b r)).toNat < 576) :
    takeSel x s (ix3 b r d) = x (ix3 b ⟨(s (ix2 b r)).toNat + 1, by omega⟩ d) := by
  pointwise [takeSel]
  have hw : wrapSel s (ix3 b r 0) = s (ix2 b r) := wrapSel_apply s b r 0 h
  rw [okSel_apply _ b r (by rw [hw]; exact h), select_true]
  refine (gather_apply 518 _ _ _ b r d).trans ?_
  pointwise
  congr 2
  refine Fin.ext ?_
  simp only [hw, toInt_of_small (s (ix2 b r)) (by omega)]
  simp
  omega

/-! ## The remaining tokens -/

theorem wrapRem_apply (s : IVec S64x58 32) (b : Fin 64) (r : Fin 58) (c : Fin 1) (h : (s (ix2 b r)).toNat < 576) :
    wrapRem s (ix3 b r c) = s (ix2 b r) := by
  pointwise [wrapRem]
  exact select_slt_zero _ _ (by omega)

theorem okRem_apply (w : IVec S64x58x1 32) (b : Fin 64) (r : Fin 58) (h : (w (ix3 b r 0)).toNat < 576) :
    okRem w (ix2 b r) = 1#1 := by
  pointwise [okRem]
  rw [Finset.univ_unique, Finset.fold_singleton]
  rw [show (default : Fin 1) = 0 from rfl, inRange _ h]
  rfl

/-- Row `r` of the remaining tokens is the row of `x` its index names, counted behind the class token. -/
theorem takeRem_apply (x : FVec Ideal S64x577x768 .f32) (s : IVec S64x58 32) (b : Fin 64) (r : Fin 58) (d : Fin 768)
    (h : (s (ix2 b r)).toNat < 576) :
    takeRem x s (ix3 b r d) = x (ix3 b ⟨(s (ix2 b r)).toNat + 1, by omega⟩ d) := by
  pointwise [takeRem]
  have hw : wrapRem s (ix3 b r 0) = s (ix2 b r) := wrapRem_apply s b r 0 h
  rw [okRem_apply _ b r (by rw [hw]; exact h), select_true]
  refine (gather_apply 58 _ _ _ b r d).trans ?_
  pointwise
  congr 2
  refine Fin.ext ?_
  simp only [hw, toInt_of_small (s (ix2 b r)) (by omega)]
  simp
  omega

/-! ## The pairs (batch, row) and the results -/

theorem pairIdx_batch (n : IVec S64x58 32) (b : Fin 64) (u : Fin 58) : (pairIdx n (ix3 b u 0)).toInt = b.val := by
  have h : pairIdx n (ix3 b u 0) = BitVec.ofNat 32 b.val := by
    pointwise [pairIdx, batchIdx]
    exact select_slt_zero _ _ (by rw [BitVec.toNat_ofNat]; have := b.isLt; omega)
  rw [h, toInt_ofNat_small _ (by have := b.isLt; omega)]

theorem pairIdx_row (n : IVec S64x58 32) (b : Fin 64) (u : Fin 58) (h : (n (ix2 b u)).toNat < 518) :
    (pairIdx n (ix3 b u 1)).toInt = (n (ix2 b u)).toNat := by
  have h' : pairIdx n (ix3 b u 1) = n (ix2 b u) := by
    pointwise [pairIdx, batchIdx]
    exact select_slt_zero _ _ (by omega)
  rw [h', toInt_of_small _ (by omega)]

theorem out1_zero (s : IVec S64x518 32) (b : Fin 64) (d : Fin 768) : out1 s (ix3 b 0 d) = 0#32 := by
  pointwise [out1]

theorem out1_succ (s : IVec S64x518 32) (b : Fin 64) (r : Fin 519) (d : Fin 768) (h : 1 ≤ r.val) :
    out1 s (ix3 b r d) = s (ix2 b ⟨r.val - 1, by omega⟩) + 1#32 := by
  pointwise [out1]
  rw [dif_neg (by omega)]
  rfl

theorem out0_zero (x : FVec Ideal S64x577x768 .f32) (sc : FVec Ideal S64x58x518 .f32) (s : IVec S64x518 32) (u : IVec S64x58 32)
    (b : Fin 64) (d : Fin 768) : out0 x sc s u (ix3 b 0 d) = x (ix3 b 0 d) := by
  pointwise [out0]

/-- The first result of the reference, of the columns at which the remaining tokens are added. -/
def outOf (x : FVec Ideal S64x577x768 .f32) (n : IVec S64x58 32) (s : IVec S64x518 32) (u : IVec S64x58 32) : FVec Ideal S64x519x768 .f32 :=
  concatenate S64x519x768 1 [⟨S64x1x768, (extractStridedSlice S64x1x768 ![0, 0, 0] x slices_S64x577x768_S64x1x768_0_0_0)⟩, ⟨S64x518x768, (Host.divf (sums x n s u) (broadcastInDim S64x518x768 ![0, 1, 2] bcast_S64x518x1_S64x518x768_0_1_2 (broadcastInDim S64x518x1 ![0, 1] bcast_S64x518_S64x518x1_0_1 (counts n))))⟩] concatenates_S64x1x768_S64x518x768_S64x519x768_d1

/-- Behind the class token that result is the selected token plus the remaining tokens added at its column, over one plus their number. -/
theorem outOf_succ (x : FVec Ideal S64x577x768 .f32) (n : IVec S64x58 32) (s : IVec S64x518 32) (u : IVec S64x58 32)
    (hs : ∀ (b : Fin 64) (r : Fin 518), (s (ix2 b r)).toNat < 576) (hu : ∀ (b : Fin 64) (r : Fin 58), (u (ix2 b r)).toNat < 576)
    (b : Fin 64) (f : Fin 58 → Fin 518) (hn : ∀ v : Fin 58, (n (ix2 b v)).toNat = (f v).val) (r : Fin 519) (d : Fin 768) (h : 1 ≤ r.val) :
    outOf x n s u (ix3 b r d)
      = Ideal.div
          ((x (ix3 b ⟨(s (ix2 b ⟨r.val - 1, by omega⟩)).toNat + 1, by have := hs b ⟨r.val - 1, by omega⟩; omega⟩ d) : EReal)
            + ∑ v : Fin 58, if (f v).val = r.val - 1
                then (x (ix3 b ⟨(u (ix2 b v)).toNat + 1, by have := hu b v; omega⟩ d) : EReal) else 0)
          (1 + ∑ v : Fin 58, if (f v).val = r.val - 1 then (1 : EReal) else 0) := by
  have hrow : ∀ v : Fin 58, (pairIdx n (ix3 b v 1)).toInt = ((f v).val : ℤ) := by
    intro v
    rw [pairIdx_row _ b v (by rw [hn]; exact (f v).isLt), hn]
  have hone : Ideal.ofBits .f32 0x3F800000#32 = (1 : EReal) := by
    simp
  pointwise [outOf]
  rw [dif_neg (by omega)]
  unfold sums counts
  rw [scatter3_apply _ _ _ (pairIdx_batch _), scatter2_apply _ _ _ (pairIdx_batch _)]
  simp only [hrow, takeSel_apply x s b _ d (hs b _), takeRem_apply x u b _ d (hu b _), Nat.cast_inj]
  pointwise

/-- The first result of the reference behind the class token: the selected token plus the remaining tokens whose scores are
    greatest at it first, over one plus their number. -/
theorem out0_succ (x : FVec Ideal S64x577x768 .f32) (sc : FVec Ideal S64x58x518 .f32) (s : IVec S64x518 32) (u : IVec S64x58 32)
    (hs : ∀ (b : Fin 64) (r : Fin 518), (s (ix2 b r)).toNat < 576) (hu : ∀ (b : Fin 64) (r : Fin 58), (u (ix2 b r)).toNat < 576)
    (b : Fin 64) (r : Fin 519) (d : Fin 768) (h : 1 ≤ r.val) :
    out0 x sc s u (ix3 b r d)
      = Ideal.div
          ((x (ix3 b ⟨(s (ix2 b ⟨r.val - 1, by omega⟩)).toNat + 1, by have := hs b ⟨r.val - 1, by omega⟩; omega⟩ d) : EReal)
            + ∑ v : Fin 58, if (firstMax (scoreRow sc b v)).val = r.val - 1
                then (x (ix3 b ⟨(u (ix2 b v)).toNat + 1, by have := hu b v; omega⟩ d) : EReal) else 0)
          (1 + ∑ v : Fin 58, if (firstMax (scoreRow sc b v)).val = r.val - 1 then (1 : EReal) else 0) := by
  have hn : ∀ v : Fin 58, (nodeIdx (F := Ideal) sc (ix2 b v)).toNat = (firstMax (scoreRow sc b v)).val := by
    intro v
    rw [nodeIdx_apply, BitVec.toNat_ofNat]
    have := (firstMax (scoreRow sc b v)).isLt
    omega
  have e : out0 (F := Ideal) x sc s u = outOf x (nodeIdx (F := Ideal) sc) s u := rfl
  rw [e]
  exact outOf_succ x (nodeIdx (F := Ideal) sc) s u hs hu b (fun v => firstMax (scoreRow sc b v)) hn r d h

end Cert.RefValue

end
-- ==== Proof.KernValue.lean ====
module

public import proofs.«01_k».proof.Proof.Spec
public import proofs.«01_k».proof.Proof.Gen.KernelIdeal.Value
public import Idealize.ShloMosaic.Lib.Pointwise
public import Idealize.ShloMosaic.Lib.IdealHost

@[expose] public section

set_option maxRecDepth 16384

noncomputable section

namespace Cert.KernVal

open Idealize.ShloMosaic Cert.KernelIdeal Cert.KernelIdeal.Gen Cert.Spec

/-! ## Numbers -/

/-- A truth value widened to 32 bits and read as a number is one or zero. -/
theorem sitofp_ofBool (p : Prop) [Decidable p] :
    FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p
  · simp [h]
  · simp [h]

theorem sitofp_small (w : BitVec 32) (h : w.toNat < 2 ^ 31) :
    FloatOps.sitofp (F := Ideal) .f32 w = ((w.toNat : ℝ) : EReal) := by
  show ((w.toInt : ℝ) : EReal) = _
  rw [BitVec.toInt_eq_toNat_cond, if_pos (by omega)]
  simp

theorem sitofp_ofNat (n : ℕ) (h : n < 2 ^ 31) :
    FloatOps.sitofp (F := Ideal) .f32 (BitVec.ofNat 32 n) = ((n : ℝ) : EReal) := by
  rw [sitofp_small _ (by rw [BitVec.toNat_ofNat]; omega), BitVec.toNat_ofNat, Nat.mod_eq_of_lt (by omega)]

/-- Two small numbers compared as words. -/
theorem cmpi_eq_ofNat (a b : ℕ) (ha : a < 2 ^ 32) (hb : b < 2 ^ 32) :
    IntOp.cmpi .eq (BitVec.ofNat 32 a) (BitVec.ofNat 32 b) = BitVec.ofBool (decide (a = b)) := by
  unfold IntOp.cmpi
  congr 1
  rw [Bool.eq_iff_iff]
  simp only [beq_iff_eq, decide_eq_true_eq]
  constructor
  · intro h
    have := congrArg BitVec.toNat h
    rwa [BitVec.toNat_ofNat, BitVec.toNat_ofNat, Nat.mod_eq_of_lt ha, Nat.mod_eq_of_lt hb] at this
  · rintro rfl; rfl

theorem coe_nat_eq (a b : ℕ) : (((a : ℝ) : EReal) = ((b : ℝ) : EReal)) ↔ a = b := by
  rw [EReal.coe_eq_coe_iff]; exact Nat.cast_inj

theorem coe_nat_succ (a : ℕ) : ((a : ℝ) : EReal) + 1 = (((a + 1 : ℕ) : ℝ) : EReal) := by
  push_cast; rfl

theorem coe_nat_succ' (a : ℕ) : 1 + ((a : ℝ) : EReal) = (((a + 1 : ℕ) : ℝ) : EReal) := by
  rw [add_comm, coe_nat_succ]

theorem div_one' (x : EReal) : Ideal.div x 1 = x := by
  have h := Ideal.div_coe (y := 1) one_ne_zero x
  simpa using h

theorem ofBits_million : Ideal.ofBits .f32 0x49742400#32 = ((1000000 : ℝ) : EReal) := by
  simp [Ideal.ofBits, Ideal.ieee, -EReal.coe_mul]; norm_num

theorem ofBits_top : Ideal.ofBits .f32 0x7F800000#32 = ⊤ := by simp [Ideal.ofBits, Ideal.ieee]

theorem ofBits_bot : Ideal.ofBits .f32 0xFF800000#32 = ⊥ := by simp [Ideal.ofBits, Ideal.ieee]

/-- A small number converted to a word and back. -/
theorem fptosi_nat (n : ℕ) (h : n < 2 ^ 31) : FloatOps.fptosi (F := Ideal) (φ := .f32) 32 ((n : ℝ) : EReal) = BitVec.ofNat 32 n := by
  show Ideal.fptosi 32 ((n : ℝ) : EReal) = _
  have e : Ideal.toIntClamped (-(2 ^ (32 - 1) : Nat)) ((2 ^ (32 - 1) : Nat) - 1) ((n : ℝ) : EReal) = (n : ℤ) := by
    show max _ (min _ (if (0 : ℝ) ≤ (n : ℝ) then ⌊(n : ℝ)⌋ else ⌈(n : ℝ)⌉)) = _
    rw [if_pos (Nat.cast_nonneg n), Int.floor_natCast]
    omega
  unfold Ideal.fptosi
  rw [e, BitVec.ofInt_natCast]

/-! ## Sums against a choice -/

/-- A sum against the indicator of one index. -/
theorem sum_pick {n : ℕ} (p : Fin n → Prop) [DecidablePred p] (f : Fin n → EReal) (k0 : Fin n) (h : ∀ k, p k ↔ k = k0) :
    (∑ k, (if p k then (1 : EReal) else 0) * f k) = f k0 := by
  rw [Finset.sum_eq_single k0]
  · rw [if_pos ((h k0).mpr rfl), one_mul]
  · intro b _ hb
    rw [if_neg (fun hp => hb ((h b).mp hp)), zero_mul]
  · intro h'; exact absurd (Finset.mem_univ _) h'

theorem sum_none {n : ℕ} (p : Fin n → Prop) [DecidablePred p] (f : Fin n → EReal) (h : ∀ k, ¬ p k) :
    (∑ k, (if p k then (1 : EReal) else 0) * f k) = 0 :=
  Finset.sum_eq_zero fun k _ => by rw [if_neg (h k), zero_mul]

/-- A sum of nonnegative numbers times any number distributes. -/
theorem sum_mul_of_nonneg {n : ℕ} (g : Fin n → EReal) (hg : ∀ k, 0 ≤ g k) (x : EReal) :
    (∑ k, g k) * x = ∑ k, g k * x := by
  have key : ∀ s : Finset (Fin n), (∑ k ∈ s, g k) * x = ∑ k ∈ s, g k * x := by
    intro s
    induction s using Finset.induction_on with
    | empty => simp
    | insert a s ha ih =>
      rw [Finset.sum_insert ha, Finset.sum_insert ha,
        EReal.right_distrib_of_nonneg (hg a) (Finset.sum_nonneg fun k _ => hg k), ih]
  exact key _

theorem ind_nonneg (p : Prop) [Decidable p] : (0 : EReal) ≤ if p then (1 : EReal) else 0 := by
  split
  · exact zero_le_one
  · exact le_refl 0

/-- The kernel's product: the row picked by `sel`, plus the rows `w u` of the `u` with `t u`. -/
theorem combine (sel : Fin 577) (t : Fin 58 → Prop) [DecidablePred t] (w : Fin 58 → Fin 577) (X : Fin 577 → EReal) :
    (∑ c, ((if c = sel then (1 : EReal) else 0) + ∑ u, (if t u then (1 : EReal) else 0) * (if c = w u then (1 : EReal) else 0)) * X c)
      = X sel + ∑ u, if t u then X (w u) else 0 := by
  have hn : ∀ (c : Fin 577) (u : Fin 58), (0 : EReal) ≤ (if t u then (1 : EReal) else 0) * (if c = w u then (1 : EReal) else 0) :=
    fun c u => mul_nonneg (ind_nonneg _) (ind_nonneg _)
  have h1 : ∀ c : Fin 577, ((if c = sel then (1 : EReal) else 0) + ∑ u, (if t u then (1 : EReal) else 0) * (if c = w u then (1 : EReal) else 0)) * X c
      = (if c = sel then (1 : EReal) else 0) * X c + ∑ u, (if t u then (1 : EReal) else 0) * (if c = w u then (1 : EReal) else 0) * X c := by
    intro c
    rw [EReal.right_distrib_of_nonneg (ind_nonneg _) (Finset.sum_nonneg fun u _ => hn c u), sum_mul_of_nonneg _ (hn c)]
  rw [Finset.sum_congr rfl fun c _ => h1 c, Finset.sum_add_distrib, sum_pick (fun c => c = sel) X sel (fun _ => Iff.rfl), Finset.sum_comm]
  congr 1
  refine Finset.sum_congr rfl fun u _ => ?_
  by_cases h : t u
  · simp only [if_pos h, one_mul]
    exact sum_pick (fun c => c = w u) X (w u) (fun _ => Iff.rfl)
  · simp only [if_neg h, zero_mul, Finset.sum_const_zero]

/-! ## The arg-max as the kernel takes it -/

theorem fold_max_eq (f : Fin 518 → EReal) : Finset.fold max ⊥ f Finset.univ = f (firstMax f) := by
  apply le_antisymm
  · rw [Finset.fold_max_le]
    exact ⟨bot_le, fun j _ => IsFirst.le (firstMax_isFirst f) j⟩
  · rw [Finset.le_fold_max]
    exact Or.inr ⟨firstMax f, Finset.mem_univ _, le_refl _⟩

/-- The least column whose score is the row's greatest is the first such column. -/
theorem fold_min_eq (f : Fin 518 → EReal) :
    Finset.fold min ⊤ (fun k : Fin 518 => if f k = Finset.fold max ⊥ f Finset.univ then ((k.val : ℝ) : EReal) else ((1000000 : ℝ) : EReal)) Finset.univ
      = (((firstMax f).val : ℝ) : EReal) := by
  rw [fold_max_eq]
  have hk := (firstMax f).isLt
  apply le_antisymm
  · rw [Finset.fold_min_le]
    exact Or.inr ⟨firstMax f, Finset.mem_univ _, by rw [if_pos rfl]⟩
  · rw [Finset.le_fold_min]
    refine ⟨le_top, fun j _ => ?_⟩
    split
    · rename_i hj
      rcases firstMax_isFirst f j with h | ⟨_, h⟩
      · exact absurd h (by rw [hj]; exact lt_irrefl _)
      · exact EReal.coe_le_coe_iff.mpr (by exact_mod_cast h)
    · refine EReal.coe_le_coe_iff.mpr ?_
      have : ((firstMax f).val : ℝ) ≤ 518 := by exact_mod_cast hk.le
      linarith

/-- The scores of one row of a block. -/
def blockRow (x1 : Vec Ideal S1x58x518 .f32) (u : Fin 58) : Fin 518 → EReal := fun k => x1 (ix3 0 u k)

/-- The kernel's arg-max of row `u` of a block of scores. -/
theorem pay4_apply (x1 : Vec Ideal S1x58x518 .f32) (u : Fin 58) :
    k0_pay4 (F := Ideal) x1 (ix2 0 u) = (((firstMax (blockRow x1 u)).val : ℝ) : EReal) := by
  unfold k0_pay4
  pointwise
  have hA : ∀ x : Fin 58, FloatOps.sitofp (F := Ideal) FTy.f32
      (BitVec.setWidth 32 (IntOp.cmpi CmpIPredicate.eq (BitVec.ofNat 32 x.val) (BitVec.ofNat 32 u.val))) = if x = u then (1 : EReal) else 0 := by
    intro x
    rw [cmpi_eq_ofNat _ _ (by omega) (by omega), sitofp_ofBool]
    simp only [Fin.ext_iff]
  have hB : ∀ k : Fin 518, FloatOps.sitofp (F := Ideal) FTy.f32 (BitVec.ofNat 32 k.val) = ((k.val : ℝ) : EReal) :=
    fun k => sitofp_ofNat _ (by omega)
  simp only [hA, hB, ofBits_million, ofBits_top, ofBits_bot]
  refine (sum_pick (fun x => x = u) _ u (fun _ => Iff.rfl)).trans ?_
  exact fold_min_eq (blockRow x1 u)

/-! ## The selected column -/

theorem pay8_apply (r : Fin 519) (k : Fin 518) : k0_pay8 (F := Ideal) (ix2 r k) = if r.val = k.val + 1 then (1 : EReal) else 0 := by
  unfold k0_pay8
  pointwise
  have e : IntOp.addi (BitVec.ofNat 32 k.val) 1#32 = BitVec.ofNat 32 (k.val + 1) := by
    unfold IntOp.addi
    rw [BitVec.ofNat_add]
  rw [e, cmpi_eq_ofNat _ _ (by omega) (by omega), sitofp_ofBool]

theorem pay7_apply (x2 : Vec Ideal S1x1x518 .i32) (k : Fin 518) (h : (x2 (ix3 0 0 k)).toNat < 576) :
    k0_pay7 (F := Ideal) x2 (ix2 0 k) = (((x2 (ix3 0 0 k)).toNat : ℝ) : EReal) := by
  unfold k0_pay7
  pointwise
  exact sitofp_small _ (by omega)

theorem pay9_apply (k : Fin 518) : k0_pay9 (F := Ideal) (ix2 0 k) = 1 := by
  unfold k0_pay9
  pointwise

/-- Row 0 of the selected columns names token 0. -/
theorem pay10_zero (x2 : Vec Ideal S1x1x518 .i32) :
    k0_pay10 (F := Ideal) (k0_pay7 x2) k0_pay8 k0_pay9 (ix2 0 0) = 0 := by
  unfold k0_pay10
  pointwise
  simp only [pay8_apply]
  exact sum_none _ _ (fun k h => by simp at h)

/-- Row `r` of the selected columns names the token of index `r - 1` of the selection, counted behind the class token. -/
theorem pay10_succ (x2 : Vec Ideal S1x1x518 .i32) (hs : ∀ k : Fin 518, (x2 (ix3 0 0 k)).toNat < 576) (r : Fin 519) (h : 1 ≤ r.val) :
    k0_pay10 (F := Ideal) (k0_pay7 x2) k0_pay8 k0_pay9 (ix2 r 0)
      = ((((x2 (ix3 0 0 ⟨r.val - 1, by omega⟩)).toNat + 1 : ℕ) : ℝ) : EReal) := by
  unfold k0_pay10
  pointwise
  simp only [pay8_apply, pay7_apply _ _ (hs _), pay9_apply, coe_nat_succ]
  exact sum_pick (fun k : Fin 518 => r.val = k.val + 1) _ ⟨r.val - 1, by omega⟩ (fun k => by simp only [Fin.ext_iff]; omega)

/-! ## The blocks of the results -/

/-- The kernel's quotient at row `r`: with `sel` the row its selected column names, the row `sel` of the block plus the rows of
    the remaining tokens whose arg-max is `r - 1`, over one plus their number. -/
theorem pay11_apply (x0 : Vec Ideal S1x577x768 .f32) (x1 : Vec Ideal S1x58x518 .f32) (x2 : Vec Ideal S1x1x518 .i32) (x3 : Vec Ideal S1x1x58 .i32)
    (hu : ∀ v : Fin 58, (x3 (ix3 0 0 v)).toNat < 576) (r : Fin 519) (d : Fin 768) (sel : Fin 577)
    (hsel : k0_pay10 (F := Ideal) (k0_pay7 x2) k0_pay8 k0_pay9 (ix2 r 0) = ((sel.val : ℝ) : EReal)) :
    k0_pay11 (F := Ideal) (k0_pay3 x0) (k0_pay4 x1) k0_pay5 k0_pay6 (iota .tc S1x58 32 [1] iota_S1x58_d1_w32) (k0_pay7 x2) k0_pay8 k0_pay9 x3 (ix2 r d)
      = Ideal.div
          ((x0 (ix3 0 sel d) : EReal) + ∑ v : Fin 58, if r.val = (firstMax (blockRow x1 v)).val + 1
            then (x0 (ix3 0 ⟨(x3 (ix3 0 0 v)).toNat + 1, by have := hu v; omega⟩ d) : EReal) else 0)
          (1 + ∑ v : Fin 58, if r.val = (firstMax (blockRow x1 v)).val + 1 then (1 : EReal) else 0) := by
  unfold k0_pay11
  pointwise
  have h5 : k0_pay5 (F := Ideal) (ix2 r 0) = ((r.val : ℝ) : EReal) := by
    unfold k0_pay5
    pointwise
    exact sitofp_ofNat _ (by omega)
  have h6 : ∀ c : Fin 577, k0_pay6 (F := Ideal) (ix2 0 c) = ((c.val : ℝ) : EReal) := by
    intro c
    unfold k0_pay6
    pointwise
    exact sitofp_ofNat _ (by omega)
  have h3 : ∀ c : Fin 577, k0_pay3 (F := Ideal) x0 (ix2 c d) = x0 (ix3 0 c d) := by
    intro c
    unfold k0_pay3
    pointwise
  have hun : ∀ u : Fin 58, (∑ x : Fin 58, FloatOps.sitofp (F := Ideal) FTy.f32
        (BitVec.setWidth 32 (IntOp.cmpi CmpIPredicate.eq (BitVec.ofNat 32 u.val) (BitVec.ofNat 32 x.val)))
          * FloatOps.sitofp (F := Ideal) FTy.f32 (x3 (ix3 0 0 x))) = (((x3 (ix3 0 0 u)).toNat : ℝ) : EReal) := by
    intro u
    have hA : ∀ x : Fin 58, FloatOps.sitofp (F := Ideal) FTy.f32
        (BitVec.setWidth 32 (IntOp.cmpi CmpIPredicate.eq (BitVec.ofNat 32 u.val) (BitVec.ofNat 32 x.val))) = if x = u then (1 : EReal) else 0 := by
      intro x
      rw [cmpi_eq_ofNat _ _ (by omega) (by omega), sitofp_ofBool]
      simp only [Fin.ext_iff, eq_comm]
    simp only [hA]
    refine (sum_pick (fun x => x = u) _ u (fun _ => Iff.rfl)).trans ?_
    exact sitofp_small _ (by have := hu u; omega)
  simp only [hsel, h5, h6, h3, pay4_apply, hun, coe_nat_succ, coe_nat_succ', coe_nat_eq, sitofp_ofBool]
  congr 1
  refine Eq.trans ?_ (combine sel (fun v => r.val = (firstMax (blockRow x1 v)).val + 1)
    (fun v => ⟨(x3 (ix3 0 0 v)).toNat + 1, by have := hu v; omega⟩) (fun c => x0 (ix3 0 c d)))
  simp only [Fin.ext_iff]

end Cert.KernVal

end
-- ==== Proof.Whole.lean ====
module

public import proofs.«01_k».proof.Proof.KernValue
public import Idealize.ShloMosaic.Lib.Pipeline.ValueKit

@[expose] public section

set_option maxRecDepth 16384

noncomputable section

namespace Cert.KernWhole

open Idealize.ShloMosaic Idealize.ShloMosaic.TcCoe Idealize.SL.Sem
open Idealize.ShloMosaic.Pipeline (Dat)
open Cert.KernelIdeal Cert.KernelIdeal.Gen Cert.Spec Cert.KernVal

variable (m : (ℓ : Loc nD τ sig) → Buf (Elt Ideal) ℓ) (ρ : Dev nD → PrngReg)

/-- Every window moves with the grid point on its leading axis. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] :=
  (by decide +kernel : ∀ t : Fin grid0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0])

/-- The region finds the selected indices with an axis of one put in. -/
theorem V_main_v0 (c : Dev nD) : V m c main_v0
    = broadcastInDim S64x1x518 ![0, 2] bcast_S64x518_S64x1x518_0_2 (m ((c : Thread nD τ).loc main_arg2) : IVec S64x518 32) := by
  unfold V hostOps0
  after_results_simp
  try rfl

/-- The region finds the remaining indices with an axis of one put in. -/
theorem V_main_v1 (c : Dev nD) : V m c main_v1
    = broadcastInDim S64x1x58 ![0, 2] bcast_S64x58_S64x1x58_0_2 (m ((c : Thread nD τ).loc main_arg3) : IVec S64x58 32) := by
  unfold V hostOps0
  after_results_simp
  try rfl

theorem iblk0_apply (c : Dev nD) (t : Fin cfg0.N) (k : Fin 577) (d : Fin 768) :
    iblk m c 0 t (ix3 0 k d) = m ((c : Thread nD τ).loc main_arg0) (ix3 (t : Fin 64) k d) := by
  blk_simp [iblk]
  rw [V_main_arg0 m c]
  blk_ext [(idx t).1]

theorem iblk1_apply (c : Dev nD) (t : Fin cfg0.N) (u : Fin 58) (k : Fin 518) :
    iblk m c 1 t (ix3 0 u k) = m ((c : Thread nD τ).loc main_arg1) (ix3 (t : Fin 64) u k) := by
  blk_simp [iblk]
  rw [V_main_arg1 m c]
  blk_ext [(idx t).2.1]

theorem iblk2_apply (c : Dev nD) (t : Fin cfg0.N) (k : Fin 518) :
    iblk m c 2 t (ix3 0 0 k) = m ((c : Thread nD τ).loc main_arg2) (ix2 (t : Fin 64) k) := by
  blk_simp [iblk]
  rw [V_main_v0 m c]
  have e : (win0_2.blk t).view.emb (ix3 0 0 k) = (ix3 (t : Fin 64) (0 : Fin 1) k : S64x1x518.Idx) := by
    blk_ext [(idx t).2.2.1]
  rw [e]
  pointwise

theorem iblk3_apply (c : Dev nD) (t : Fin cfg0.N) (k : Fin 58) :
    iblk m c 3 t (ix3 0 0 k) = m ((c : Thread nD τ).loc main_arg3) (ix2 (t : Fin 64) k) := by
  blk_simp [iblk]
  rw [V_main_v1 m c]
  have e : (win0_3.blk t).view.emb (ix3 0 0 k) = (ix3 (t : Fin 64) (0 : Fin 1) k : S64x1x58.Idx) := by
    blk_ext [(idx t).2.2.2.1]
  rw [e]
  pointwise

/-! ## The results as functions of the arguments -/

/-- Row `n` of image `b` at column `d`, zero where there is no such row. -/
def tok (x : FVec Ideal S64x577x768 .f32) (b : Fin 64) (n : ℕ) (d : Fin 768) : EReal :=
  if h : n < 577 then x (ix3 b ⟨n, h⟩ d) else 0

/-- The scores of the remaining token `u` of image `b`. -/
def scores (sc : FVec Ideal S64x58x518 .f32) (b : Fin 64) (u : Fin 58) : Fin 518 → EReal := fun k => sc (ix3 b u k)

/-- The second result: zero in row 0, in row `r` the selected index `r - 1` plus one. -/
def res1 (s : IVec S64x518 32) (b : Fin 64) (r : Fin 519) : BitVec 32 :=
  if h : 1 ≤ r.val then s (ix2 b ⟨r.val - 1, by omega⟩) + 1#32 else 0#32

/-- The first result: the class token in row 0, in row `r` the selected token plus the remaining tokens whose scores are greatest
    at column `r - 1` first, over one plus their number. -/
def res0 (x : FVec Ideal S64x577x768 .f32) (sc : FVec Ideal S64x58x518 .f32) (s : IVec S64x518 32) (u : IVec S64x58 32)
    (b : Fin 64) (r : Fin 519) (d : Fin 768) : EReal :=
  if h : 1 ≤ r.val then
    Ideal.div
      (tok x b ((s (ix2 b ⟨r.val - 1, by omega⟩)).toNat + 1) d
        + ∑ v : Fin 58, if (firstMax (scores sc b v)).val = r.val - 1 then tok x b ((u (ix2 b v)).toNat + 1) d else 0)
      (1 + ∑ v : Fin 58, if (firstMax (scores sc b v)).val = r.val - 1 then (1 : EReal) else 0)
  else tok x b 0 d

/-- What a point leaves of the second result, from its block of selected indices. -/
theorem block5 (x2 : Vec Ideal S1x1x518 .i32) (s : IVec S64x518 32) (b : Fin 64) (h2 : ∀ k : Fin 518, x2 (ix3 0 0 k) = s (ix2 b k))
    (hs : ∀ k : Fin 518, (s (ix2 b k)).toNat < 576) (r : Fin 519) (d : Fin 768) :
    k0_pay2 (k0_pay10 (F := Ideal) (k0_pay7 x2) k0_pay8 k0_pay9) (ix3 0 r d) = res1 s b r := by
  have hb : ∀ k : Fin 518, (x2 (ix3 0 0 k)).toNat < 576 := fun k => by rw [h2]; exact hs k
  unfold k0_pay2 res1
  pointwise
  by_cases h : 1 ≤ r.val
  · rw [dif_pos h, pay10_succ _ hb _ h, fptosi_nat _ (by have := hb ⟨r.val - 1, by omega⟩; omega), h2]
    rw [BitVec.ofNat_add, BitVec.ofNat_toNat, BitVec.setWidth_eq]
  · obtain rfl : r = 0 := Fin.ext (by simp; omega)
    rw [dif_neg h, pay10_zero]
    have := fptosi_nat 0 (by omega)
    simpa using this

/-- What a point leaves of the first result, from its blocks. -/
theorem block4 (x0 : Vec Ideal S1x577x768 .f32) (x1 : Vec Ideal S1x58x518 .f32) (x2 : Vec Ideal S1x1x518 .i32) (x3 : Vec Ideal S1x1x58 .i32)
    (x : FVec Ideal S64x577x768 .f32) (sc : FVec Ideal S64x58x518 .f32) (s : IVec S64x518 32) (u : IVec S64x58 32) (b : Fin 64)
    (h0 : ∀ (k : Fin 577) (d : Fin 768), x0 (ix3 0 k d) = x (ix3 b k d)) (h1 : ∀ (v : Fin 58) (k : Fin 518), x1 (ix3 0 v k) = sc (ix3 b v k))
    (h2 : ∀ k : Fin 518, x2 (ix3 0 0 k) = s (ix2 b k)) (h3 : ∀ k : Fin 58, x3 (ix3 0 0 k) = u (ix2 b k))
    (hs : ∀ k : Fin 518, (s (ix2 b k)).toNat < 576) (hu : ∀ k : Fin 58, (u (ix2 b k)).toNat < 576) (r : Fin 519) (d : Fin 768) :
    k0_pay1 (k0_pay11 (k0_pay3 x0) (k0_pay4 x1) k0_pay5 k0_pay6 (iota .tc S1x58 32 [1] iota_S1x58_d1_w32)
      (k0_pay7 x2) k0_pay8 k0_pay9 x3) (ix3 0 r d) = res0 x sc s u b r d := by
  have hb : ∀ k : Fin 518, (x2 (ix3 0 0 k)).toNat < 576 := fun k => by rw [h2]; exact hs k
  have hv : ∀ k : Fin 58, (x3 (ix3 0 0 k)).toNat < 576 := fun k => by rw [h3]; exact hu k
  have hr : ∀ v : Fin 58, blockRow x1 v = scores sc b v := fun v => funext fun k => h1 v k
  unfold k0_pay1 res0
  pointwise
  by_cases h : 1 ≤ r.val
  · rw [dif_pos h]
    have hx : (x2 (ix3 0 0 ⟨r.val - 1, by omega⟩)).toNat + 1 < 577 := by have := hb ⟨r.val - 1, by omega⟩; omega
    rw [pay11_apply x0 x1 x2 x3 hv r d ⟨_, hx⟩ (pay10_succ _ hb _ h)]
    have hc : ∀ v : Fin 58, (r.val = (firstMax (blockRow x1 v)).val + 1) = ((firstMax (scores sc b v)).val = r.val - 1) := by
      intro v
      rw [hr]
      apply propext
      omega
    have ht : ∀ (n : ℕ) (hn : n < 577), x0 (ix3 0 ⟨n, hn⟩ d) = tok x b n d := by
      intro n hn
      rw [h0, tok, dif_pos hn]
    simp only [hc, ht, h2, h3]
  · obtain rfl : r = 0 := Fin.ext (by simp; omega)
    rw [dif_neg h]
    rw [pay11_apply x0 x1 x2 x3 hv 0 d 0 (by rw [pay10_zero]; simp)]
    have hc : ∀ v : Fin 58, ((0 : Fin 519).val = (firstMax (blockRow x1 v)).val + 1) = False := by
      intro v
      apply propext
      simp
    simp only [hc, if_false, Finset.sum_const_zero, add_zero]
    rw [div_one', h0, tok, dif_pos (by omega)]
    rfl

/-- An index of a block of one image. -/
theorem eq_zero_ix3 (y : S1x519x768.Idx) : y = ix3 0 (y 1) (y 2) := by
  idx_vars y
  obtain rfl : y0 = 0 := Subsingleton.elim _ _
  rfl

theorem emb5 (t : Fin cfg0.N) (y : S1x519x768.Idx) :
    ((View.whole main_v2_1).slice (win0_5.rect t)).emb y = (ix3 (t : Fin 64) (y 1) (y 2) : S64x519x768.Idx) := by
  blk_ext [(idx t).2.2.2.2.2]

theorem emb4 (t : Fin cfg0.N) (y : S1x519x768.Idx) :
    ((View.whole main_v2_0).slice (win0_4.rect t)).emb y = (ix3 (t : Fin 64) (y 1) (y 2) : S64x519x768.Idx) := by
  blk_ext [(idx t).2.2.2.2.1]

/-- The second result of arguments, as an array. -/
def arr1 (s : IVec S64x518 32) : IVec S64x519x768 32 := fun j => res1 s (j 0) (j 1)

/-- The first result of arguments, as an array. -/
def arr0 (x : FVec Ideal S64x577x768 .f32) (sc : FVec Ideal S64x58x518 .f32) (s : IVec S64x518 32) (u : IVec S64x58 32) : FVec Ideal S64x519x768 .f32 :=
  fun j => res0 x sc s u (j 0) (j 1) (j 2)

/-- The kernel's second result. -/
theorem final5 (c : Dev nD) (hs : ∀ (b : Fin 64) (k : Fin 518), ((m ((c : Thread nD τ).loc main_arg2) : IVec S64x518 32) (ix2 b k)).toNat < 576) :
    (dats m 0 c).arrAt 5 cfg0.N = arr1 (m ((c : Thread nD τ).loc main_arg2)) := by
  refine (dats m 0 c).arrAt_eq_of_covers 5 _ (by decide +kernel) fun t hf y => ?_
  blk_simp; rw [after0_5]; unfold_out out0_5; frame_out
  rw [eq_zero_ix3 y]
  refine (block5 (iblk m c 2 t) _ (t : Fin 64) (iblk2_apply m c t) (hs t) (y 1) (y 2)).trans ?_
  exact congrArg (arr1 (m ((c : Thread nD τ).loc main_arg2))) (emb5 t (ix3 0 (y 1) (y 2))).symm

/-- The kernel's first result. -/
theorem final4 (c : Dev nD) (hs : ∀ (b : Fin 64) (k : Fin 518), ((m ((c : Thread nD τ).loc main_arg2) : IVec S64x518 32) (ix2 b k)).toNat < 576)
    (hu : ∀ (b : Fin 64) (k : Fin 58), ((m ((c : Thread nD τ).loc main_arg3) : IVec S64x58 32) (ix2 b k)).toNat < 576) :
    (dats m 0 c).arrAt 4 cfg0.N = arr0 (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp; rw [after0_4]; unfold_out out0_4; frame_out
  rw [eq_zero_ix3 y]
  refine (block4 (iblk m c 0 t) (iblk m c 1 t) (iblk m c 2 t) (iblk m c 3 t) _ _ _ _ (t : Fin 64) (iblk0_apply m c t) (iblk1_apply m c t)
    (iblk2_apply m c t) (iblk3_apply m c t) (hs t) (hu t) (y 1) (y 2)).trans ?_
  exact congrArg (arr0 (m ((c : Thread nD τ).loc main_arg0)) (m ((c : Thread nD τ).loc main_arg1))
      (m ((c : Thread nD τ).loc main_arg2)) (m ((c : Thread nD τ).loc main_arg3))) (emb4 t (ix3 0 (y 1) (y 2))).symm

end Cert.KernWhole

end
-- ==== Proof.Meet.lean ====
module

public import proofs.«01_k».proof.Proof.RefValue
public import proofs.«01_k».proof.Proof.Whole

@[expose] public section

set_option maxRecDepth 16384

noncomputable section

namespace Cert.Meet

open Idealize.ShloMosaic
open Cert.ReferenceIdeal Cert.RefRun Cert.RefArg Cert.RefValue Cert.KernWhole Cert.Spec

/-- The reference's second result is the kernel's. -/
theorem out1_eq (s : IVec S64x518 32) : out1 s = arr1 s := by
  funext j
  idx_vars j
  show out1 s (ix3 j0 j1 j2) = res1 s j0 j1
  unfold res1
  by_cases h : 1 ≤ j1.val
  · rw [dif_pos h, out1_succ s j0 j1 j2 h]
  · obtain rfl : j1 = 0 := Fin.ext (by simp; omega)
    rw [dif_neg h, out1_zero]

/-- The reference's first result is the kernel's, when every index names a token. -/
theorem out0_eq (x : FVec Ideal S64x577x768 .f32) (sc : FVec Ideal S64x58x518 .f32) (s : IVec S64x518 32) (u : IVec S64x58 32)
    (hs : ∀ (b : Fin 64) (r : Fin 518), (s (ix2 b r)).toNat < 576) (hu : ∀ (b : Fin 64) (r : Fin 58), (u (ix2 b r)).toNat < 576) :
    out0 (F := Ideal) x sc s u = arr0 x sc s u := by
  have ht : ∀ (b : Fin 64) (n : ℕ) (hn : n < 577) (d : Fin 768), tok x b n d = x (ix3 b ⟨n, hn⟩ d) := by
    intro b n hn d
    rw [tok, dif_pos hn]
  funext j
  idx_vars j
  show out0 (F := Ideal) x sc s u (ix3 j0 j1 j2) = res0 x sc s u j0 j1 j2
  unfold res0
  by_cases h : 1 ≤ j1.val
  · rw [dif_pos h, out0_succ x sc s u hs hu j0 j1 j2 h]
    have e1 : ∀ v : Fin 58, tok x j0 ((u (ix2 j0 v)).toNat + 1) j2 = x (ix3 j0 ⟨(u (ix2 j0 v)).toNat + 1, by have := hu j0 v; omega⟩ j2) :=
      fun v => ht _ _ _ _
    have e2 : ∀ v : Fin 58, scores sc j0 v = scoreRow sc j0 v := fun v => rfl
    have hk : j1.val - 1 < 518 := by omega
    rw [ht j0 ((s (ix2 j0 ⟨j1.val - 1, hk⟩)).toNat + 1) (by have := hs j0 ⟨j1.val - 1, hk⟩; omega) j2]
    simp only [e1, e2]
  · obtain rfl : j1 = 0 := Fin.ext (by simp; omega)
    rw [dif_neg h, out0_zero, ht j0 0 (by omega) j2]
    rfl

end Cert.Meet

end
-- ==== Proof.PreRead.lean ====
module

public import proofs.«01_k».proof.Defs
public import Idealize.ShloMosaic.Lib.Pointwise
public import Idealize.ShloMosaic.Lib.ValueIdx

@[expose] public section

set_option maxRecDepth 16384

noncomputable section

namespace Cert.PreRead

open Idealize.ShloMosaic
open Cert.Pre_indices_name_tokens

/-- The precondition's shape relations hold. -/
instance facts : Cert.Pre_indices_name_tokens.Facts := ⟨by decide, by decide, by decide⟩

/-- A word that is at least 0 and below 576 as a signed number is below 576. -/
theorem below (a : BitVec 32) (h : IntOp.andi (IntOp.cmpi .sge a 0#32) (IntOp.cmpi .slt a 576#32) = 1#1) : a.toNat < 576 := by
  have hA : ∀ p q : Bool, BitVec.ofBool p &&& BitVec.ofBool q = 1#1 → p = true ∧ q = true := by decide
  obtain ⟨h1, h2⟩ := hA (BitVec.sle 0#32 a) (BitVec.slt a 576#32) h
  rw [BitVec.sle_eq_decide, decide_eq_true_eq, BitVec.toInt_eq_toNat_cond, BitVec.toInt_eq_toNat_cond] at h1
  rw [BitVec.slt_eq_decide, decide_eq_true_eq, BitVec.toInt_eq_toNat_cond, BitVec.toInt_eq_toNat_cond] at h2
  simp at h1 h2
  have := a.isLt
  split at h1 <;> split at h2 <;> omega

/-- Where the precondition holds every selected index is below 576. -/
theorem sel (x : FVec Ideal S64x577x768 .f32) (sc : FVec Ideal S64x58x518 .f32) (s : IVec S64x518 32) (u : IVec S64x58 32)
    (h : fn (F := Ideal) x sc s u = fun _ => 1#1) (b : Fin 64) (k : Fin 518) : (s (ix2 b k)).toNat < 576 := by
  have e := congrFun h (ix2 b ⟨k.val, by omega⟩)
  apply below
  rw [← e]
  symm
  pointwise [fn]

/-- Where the precondition holds every remaining index is below 576. -/
theorem rem (x : FVec Ideal S64x577x768 .f32) (sc : FVec Ideal S64x58x518 .f32) (s : IVec S64x518 32) (u : IVec S64x58 32)
    (h : fn (F := Ideal) x sc s u = fun _ => 1#1) (b : Fin 64) (k : Fin 58) : (u (ix2 b k)).toNat < 576 := by
  have e := congrFun h (ix2 b ⟨518 + k.val, by omega⟩)
  apply below
  rw [← e]
  symm
  pointwise [fn]

end Cert.PreRead

end
-- ==== Proof.lean ====
/- The claim: the programs run and leave their arguments alone, the kernel at the ideal numbers is the kernel itself, and its two results are
   the reference's wherever every index names a token; and from the input to that call's arguments it is the reference everywhere. -/
module

public import proofs.«01_k».proof.Proof.Gen.Select.Frame
public import proofs.«01_k».proof.Proof.Gen.SelectIdeal.Frame
public import proofs.«01_k».proof.Proof.Gen.SelectRefIdeal
public import proofs.«01_k».proof.Proof.MeetSelect
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Stage3
public import proofs.«01_k».proof.Proof.Gen.Stage3.Skeleton
public import proofs.«01_k».proof.Proof.Gen.Stage3.Loops
public import proofs.«01_k».proof.Proof.Gen.Stage3.Launch
public import proofs.«01_k».proof.Proof.Gen.Stage3.Points
public import proofs.«01_k».proof.Proof.Gen.Stage3.Frame
public import proofs.«01_k».proof.Proof.Gen.Stage3Ideal
public import proofs.«01_k».proof.Proof.Gen.Stage3Ideal.Skeleton
public import proofs.«01_k».proof.Proof.Gen.Stage3Ideal.Loops
public import proofs.«01_k».proof.Proof.Gen.Stage3Ideal.Launch
public import proofs.«01_k».proof.Proof.Gen.Stage3Ideal.Points
public import proofs.«01_k».proof.Proof.Gen.Stage3Ideal.Frame
public import proofs.«01_k».proof.Proof.Gen.StageRef3Ideal
public import proofs.«01_k».proof.Proof.KernStage3
public import proofs.«01_k».proof.Proof.Meet
public import proofs.«01_k».proof.Proof.PreRead
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel ends with its two results as functions of its arguments, where every index names a token. -/
theorem kernelRun (m : (ℓ : Loc Cert.KernelIdeal.nD Cert.KernelIdeal.τ Cert.KernelIdeal.sig) → Buf (Elt Ideal) ℓ)
    (ρ : Dev Cert.KernelIdeal.nD → PrngReg) (hpre : Cert.Pre_KernelIdeal_indices_name_tokens m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v2_0)
          = Cert.KernWhole.arr0 (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_v2_1)
          = Cert.KernWhole.arr1 (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run _ _ _).mono (fun r h c => ?_) (Cert.KernelIdeal.Value.run_blocks m ρ)
  obtain ⟨h0, h1, h2⟩ := h c
  exact ⟨h0.trans (Cert.KernWhole.final4 m c (Cert.PreRead.sel _ _ _ _ (hpre c)) (Cert.PreRead.rem _ _ _ _ (hpre c))),
    h1.trans (Cert.KernWhole.final5 m c (Cert.PreRead.sel _ _ _ _ (hpre c))), h2⟩

/-- The reference runs, leaves its arguments alone and ends with every semaphore counter at zero. -/
theorem referenceFrame : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.RefRun.run m ρ)

/-- The kernel's two results are the reference's, where every index names a token. -/
theorem results : Cert.algebraic_KernelIdeal_ReferenceIdeal_pre_indices_name_tokens := by
  intro m ρ m' ρ' hpre hag
  refine ⟨fun c => Cert.KernWhole.arr0 _ _ _ _, fun c => Cert.KernWhole.arr1 _, kernelRun m ρ hpre, ?_⟩
  refine (θ_run _ _ _).mono (fun r h c => ?_) (Cert.RefRun.run m' ρ')
  obtain ⟨h0, h1, h2⟩ := h c
  obtain ⟨a0, a1, a2, a3⟩ := hag c
  refine ⟨h0.trans ?_, h1.trans ?_, h2⟩
  · rw [a0, a1, a2, a3]
    exact Cert.Meet.out0_eq _ _ _ _ (Cert.PreRead.sel _ _ _ _ (hpre c)) (Cert.PreRead.rem _ _ _ _ (hpre c))
  · rw [a2]
    exact Cert.Meet.out1_eq _

/-- The stage's order is the reference's. -/
theorem stage3 : Cert.algebraic_Stage3Ideal_StageRef3Ideal := by
  intro m ρ m' ρ' _ hag
  refine ⟨fun c => Cert.KernStage3.result m c, Cert.KernStage3.run m ρ, ?_⟩
  refine (θ_run _ _ _).mono (fun r h c => ?_) (Cert.RefStage3.run m' ρ')
  obtain ⟨h0, h1⟩ := h c
  obtain ⟨a0, a1⟩ := hag c
  refine ⟨h0.trans ?_, h1⟩
  rw [a0, a1]
  exact (Cert.KernStage3.result_eq m c).symm

/-- The reference from the input to the last cosines runs: its buffers end as its operations leave them. -/
theorem selectRefRun (m : (ℓ : Loc Cert.SelectRefIdeal.nD Cert.SelectRefIdeal.τ Cert.SelectRefIdeal.sig) → Buf (Elt Ideal) ℓ) (ρ : Dev Cert.SelectRefIdeal.nD → PrngReg) :
    θ_run (Cert.SelectRefIdeal.defs (F := Ideal)) (onTc (τ := Cert.SelectRefIdeal.τ) (Cert.SelectRefIdeal.main (F := Ideal))) ⟨m, fun _ => 0, ρ⟩
      (fun r => ∀ c : Dev Cert.SelectRefIdeal.nD, ∀ b : Ref Cert.SelectRefIdeal.sig .tc,
        r.2.mem ((c.tc : Thread Cert.SelectRefIdeal.nD Cert.SelectRefIdeal.τ).loc b)
          = StableHlo.after Cert.RefSelect.ops (fun b => m (c, b)) (Proc.devRef .tc b)) :=
  StableHlo.run_seq Cert.RefSelect.scopedRefs_eq Cert.RefSelect.scopedSems_eq Cert.SelectRefIdeal.defs Cert.SelectRefIdeal.main (fun _ => Cert.RefSelect.ops)
    Cert.RefSelect.main_eq (fun _ => Cert.RefSelect.ops_sub) m ρ (fun _ => Cert.MeetSelect.ops_fresh)

/-- It leaves the input alone. -/
theorem selectRefArg (m : (ℓ : Loc Cert.SelectRefIdeal.nD Cert.SelectRefIdeal.τ Cert.SelectRefIdeal.sig) → Buf (Elt Ideal) ℓ) (c : Dev Cert.SelectRefIdeal.nD) :
    StableHlo.after Cert.RefSelect.ops (fun b => m (c, b)) (Proc.devRef .tc Cert.SelectRefIdeal.main_arg0)
      = m ((c.tc : Thread Cert.SelectRefIdeal.nD Cert.SelectRefIdeal.τ).loc Cert.SelectRefIdeal.main_arg0) :=
  Cert.MeetSelect.arg_kept _

theorem selectRefFrame : Cert.quiescent_SelectRefIdeal := fun m ρ _ =>
  (θ_run Cert.SelectRefIdeal.defs _ _).mono (fun r h => ⟨fun c => (h c _).trans (selectRefArg m c), Idealize.ShloMosaic.sem_eq_zero_of_no_sems (by decide) r.2⟩)
    (selectRefRun m ρ)

/-- From the input to the last cosines the kernel's results are the reference's. -/
theorem select : Cert.algebraic_SelectIdeal_SelectRefIdeal := by
  intro m ρ m' ρ' _ hag
  have h : ∀ c : Dev Cert.SelectIdeal.nD, Cert.Agree.Agree Cert.SimSelect.pairs6 (Cert.SelectIdeal.Gen.W86 m ρ c)
      (StableHlo.after Cert.RefSelect.ops (fun b => m' (c, b))) := fun c =>
    Cert.MeetSelect.whole m ρ c _ fun p hp => by
      obtain rfl := List.mem_singleton.mp hp
      exact heq_of_eq (hag c).symm
  refine ⟨_, _, _, Cert.SelectRun.run m ρ, ?_⟩
  refine (θ_run _ _ _).mono (fun r hr c => ⟨?_, ?_, ?_, (hr c _).trans (selectRefArg m' c)⟩) (selectRefRun m' ρ')
  · exact (hr c _).trans (eq_of_heq (h c (Cert.SelectIdeal.main_v123, Cert.SelectRefIdeal.main_v129) (by with_reducible exact List.mem_cons_self))).symm
  · exact (hr c _).trans (eq_of_heq (h c (Cert.SelectIdeal.main_v112, Cert.SelectRefIdeal.main_v118) (by decide +kernel))).symm
  · exact (hr c _).trans (eq_of_heq (h c (Cert.SelectIdeal.main_v114, Cert.SelectRefIdeal.main_v120) (by decide +kernel))).symm

theorem claim : Cert.Claim :=
  ⟨Cert.Kernel.Gen.facts, Cert.KernelIdeal.Gen.facts, Cert.ReferenceIdeal.Gen.facts,
    Cert.Stage3.Gen.facts, Cert.Stage3Ideal.Gen.facts, Cert.StageRef3Ideal.Gen.facts,
    Cert.Select.Gen.facts, Cert.SelectIdeal.Gen.facts, Cert.SelectRefIdeal.Gen.facts, Cert.PreRead.facts,
    fun m ρ _ => Cert.Kernel.Gen.frame m ρ, fun m ρ _ => Cert.KernelIdeal.Gen.frame m ρ, fun m ρ _ => Cert.KernelIdeal.Gen.frame m ρ,
    referenceFrame, fun m ρ _ => referenceFrame m ρ trivial,
    fun m ρ _ => Cert.Stage3.Gen.frame m ρ, fun m ρ _ => Cert.Stage3Ideal.Gen.frame m ρ, fun m ρ _ => Cert.KernStage3.referenceFrame m ρ,
    fun m ρ _ => Cert.Select.Gen.frame m ρ, fun m ρ _ => Cert.SelectIdeal.Gen.frame m ρ, selectRefFrame,
    trivial, results, trivial, stage3, trivial, select⟩

end Cert.Proof

end
